-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_v19) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v18) = v0 c
          ∧ r.2.mem ((c.tc : Thread Cert.Reference17Ideal.nD Cert.Reference17Ideal.τ).loc Cert.Reference17Ideal.main_v19) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg0) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg0) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg0) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg0) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg0) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v5_0)) (v1 : (c : Dev Cert.Kernel23Ideal.nD) → Buf (Elt Ideal) ((c.tc : Thread Cert.Kernel23Ideal.nD Cert.Kernel23Ideal.τ).loc Cert.Kernel23Ideal.main_v5_1)) (v2 : (c : Dev Cert.Kernel23Ideal.nD) → Buf (Elt Ideal) ((c.tc : Thread Cert.Kernel23Ideal.nD Cert.Kernel23Ideal.τ).loc Cert.Kernel23Ideal.main_v5_2)) (v3 : (c : Dev Cert.Kernel23Ideal.nD) → Buf (Elt Ideal) ((c.tc : Thread Cert.Kernel23Ideal.nD Cert.Kernel23Ideal.τ).loc Cert.Kernel23Ideal.main_v5_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5_0) = v0 c
          ∧ r.2.mem ((c.tc : Thread Cert.Kernel23Ideal.nD Cert.Kernel23Ideal.τ).loc Cert.Kernel23Ideal.main_v5_1) = v1 c
          ∧ r.2.mem ((c.tc : Thread Cert.Kernel23Ideal.nD Cert.Kernel23Ideal.τ).loc Cert.Kernel23Ideal.main_v5_2) = v2 c
          ∧ r.2.mem ((c.tc : Thread Cert.Kernel23Ideal.nD Cert.Kernel23Ideal.τ).loc Cert.Kernel23Ideal.main_v5_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_v27) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v5_0)) (v1 : (c : Dev Cert.Kernel24Ideal.nD) → Buf (Elt Ideal) ((c.tc : Thread Cert.Kernel24Ideal.nD Cert.Kernel24Ideal.τ).loc Cert.Kernel24Ideal.main_v5_1)) (v2 : (c : Dev Cert.Kernel24Ideal.nD) → Buf (Elt Ideal) ((c.tc : Thread Cert.Kernel24Ideal.nD Cert.Kernel24Ideal.τ).loc Cert.Kernel24Ideal.main_v5_2)) (v3 : (c : Dev Cert.Kernel24Ideal.nD) → Buf (Elt Ideal) ((c.tc : Thread Cert.Kernel24Ideal.nD Cert.Kernel24Ideal.τ).loc Cert.Kernel24Ideal.main_v5_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5_0) = v0 c
          ∧ r.2.mem ((c.tc : Thread Cert.Kernel24Ideal.nD Cert.Kernel24Ideal.τ).loc Cert.Kernel24Ideal.main_v5_1) = v1 c
          ∧ r.2.mem ((c.tc : Thread Cert.Kernel24Ideal.nD Cert.Kernel24Ideal.τ).loc Cert.Kernel24Ideal.main_v5_2) = v2 c
          ∧ r.2.mem ((c.tc : Thread Cert.Kernel24Ideal.nD Cert.Kernel24Ideal.τ).loc Cert.Kernel24Ideal.main_v5_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_v27) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v5_0)) (v1 : (c : Dev Cert.Kernel25Ideal.nD) → Buf (Elt Ideal) ((c.tc : Thread Cert.Kernel25Ideal.nD Cert.Kernel25Ideal.τ).loc Cert.Kernel25Ideal.main_v5_1)) (v2 : (c : Dev Cert.Kernel25Ideal.nD) → Buf (Elt Ideal) ((c.tc : Thread Cert.Kernel25Ideal.nD Cert.Kernel25Ideal.τ).loc Cert.Kernel25Ideal.main_v5_2)) (v3 : (c : Dev Cert.Kernel25Ideal.nD) → Buf (Elt Ideal) ((c.tc : Thread Cert.Kernel25Ideal.nD Cert.Kernel25Ideal.τ).loc Cert.Kernel25Ideal.main_v5_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v5_0) = v0 c
          ∧ r.2.mem ((c.tc : Thread Cert.Kernel25Ideal.nD Cert.Kernel25Ideal.τ).loc Cert.Kernel25Ideal.main_v5_1) = v1 c
          ∧ r.2.mem ((c.tc : Thread Cert.Kernel25Ideal.nD Cert.Kernel25Ideal.τ).loc Cert.Kernel25Ideal.main_v5_2) = v2 c
          ∧ r.2.mem ((c.tc : Thread Cert.Kernel25Ideal.nD Cert.Kernel25Ideal.τ).loc Cert.Kernel25Ideal.main_v5_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_v27) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v5_0)) (v1 : (c : Dev Cert.Kernel26Ideal.nD) → Buf (Elt Ideal) ((c.tc : Thread Cert.Kernel26Ideal.nD Cert.Kernel26Ideal.τ).loc Cert.Kernel26Ideal.main_v5_1)) (v2 : (c : Dev Cert.Kernel26Ideal.nD) → Buf (Elt Ideal) ((c.tc : Thread Cert.Kernel26Ideal.nD Cert.Kernel26Ideal.τ).loc Cert.Kernel26Ideal.main_v5_2)) (v3 : (c : Dev Cert.Kernel26Ideal.nD) → Buf (Elt Ideal) ((c.tc : Thread Cert.Kernel26Ideal.nD Cert.Kernel26Ideal.τ).loc Cert.Kernel26Ideal.main_v5_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v5_0) = v0 c
          ∧ r.2.mem ((c.tc : Thread Cert.Kernel26Ideal.nD Cert.Kernel26Ideal.τ).loc Cert.Kernel26Ideal.main_v5_1) = v1 c
          ∧ r.2.mem ((c.tc : Thread Cert.Kernel26Ideal.nD Cert.Kernel26Ideal.τ).loc Cert.Kernel26Ideal.main_v5_2) = v2 c
          ∧ r.2.mem ((c.tc : Thread Cert.Kernel26Ideal.nD Cert.Kernel26Ideal.τ).loc Cert.Kernel26Ideal.main_v5_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_v27) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v5_0)) (v1 : (c : Dev Cert.Kernel27Ideal.nD) → Buf (Elt Ideal) ((c.tc : Thread Cert.Kernel27Ideal.nD Cert.Kernel27Ideal.τ).loc Cert.Kernel27Ideal.main_v5_1)) (v2 : (c : Dev Cert.Kernel27Ideal.nD) → Buf (Elt Ideal) ((c.tc : Thread Cert.Kernel27Ideal.nD Cert.Kernel27Ideal.τ).loc Cert.Kernel27Ideal.main_v5_2)) (v3 : (c : Dev Cert.Kernel27Ideal.nD) → Buf (Elt Ideal) ((c.tc : Thread Cert.Kernel27Ideal.nD Cert.Kernel27Ideal.τ).loc Cert.Kernel27Ideal.main_v5_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v5_0) = v0 c
          ∧ r.2.mem ((c.tc : Thread Cert.Kernel27Ideal.nD Cert.Kernel27Ideal.τ).loc Cert.Kernel27Ideal.main_v5_1) = v1 c
          ∧ r.2.mem ((c.tc : Thread Cert.Kernel27Ideal.nD Cert.Kernel27Ideal.τ).loc Cert.Kernel27Ideal.main_v5_2) = v2 c
          ∧ r.2.mem ((c.tc : Thread Cert.Kernel27Ideal.nD Cert.Kernel27Ideal.τ).loc Cert.Kernel27Ideal.main_v5_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_v27) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v5_0)) (v1 : (c : Dev Cert.Kernel28Ideal.nD) → Buf (Elt Ideal) ((c.tc : Thread Cert.Kernel28Ideal.nD Cert.Kernel28Ideal.τ).loc Cert.Kernel28Ideal.main_v5_1)) (v2 : (c : Dev Cert.Kernel28Ideal.nD) → Buf (Elt Ideal) ((c.tc : Thread Cert.Kernel28Ideal.nD Cert.Kernel28Ideal.τ).loc Cert.Kernel28Ideal.main_v5_2)) (v3 : (c : Dev Cert.Kernel28Ideal.nD) → Buf (Elt Ideal) ((c.tc : Thread Cert.Kernel28Ideal.nD Cert.Kernel28Ideal.τ).loc Cert.Kernel28Ideal.main_v5_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v5_0) = v0 c
          ∧ r.2.mem ((c.tc : Thread Cert.Kernel28Ideal.nD Cert.Kernel28Ideal.τ).loc Cert.Kernel28Ideal.main_v5_1) = v1 c
          ∧ r.2.mem ((c.tc : Thread Cert.Kernel28Ideal.nD Cert.Kernel28Ideal.τ).loc Cert.Kernel28Ideal.main_v5_2) = v2 c
          ∧ r.2.mem ((c.tc : Thread Cert.Kernel28Ideal.nD Cert.Kernel28Ideal.τ).loc Cert.Kernel28Ideal.main_v5_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_v27) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v5_0)) (v1 : (c : Dev Cert.Kernel29Ideal.nD) → Buf (Elt Ideal) ((c.tc : Thread Cert.Kernel29Ideal.nD Cert.Kernel29Ideal.τ).loc Cert.Kernel29Ideal.main_v5_1)) (v2 : (c : Dev Cert.Kernel29Ideal.nD) → Buf (Elt Ideal) ((c.tc : Thread Cert.Kernel29Ideal.nD Cert.Kernel29Ideal.τ).loc Cert.Kernel29Ideal.main_v5_2)) (v3 : (c : Dev Cert.Kernel29Ideal.nD) → Buf (Elt Ideal) ((c.tc : Thread Cert.Kernel29Ideal.nD Cert.Kernel29Ideal.τ).loc Cert.Kernel29Ideal.main_v5_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v5_0) = v0 c
          ∧ r.2.mem ((c.tc : Thread Cert.Kernel29Ideal.nD Cert.Kernel29Ideal.τ).loc Cert.Kernel29Ideal.main_v5_1) = v1 c
          ∧ r.2.mem ((c.tc : Thread Cert.Kernel29Ideal.nD Cert.Kernel29Ideal.τ).loc Cert.Kernel29Ideal.main_v5_2) = v2 c
          ∧ r.2.mem ((c.tc : Thread Cert.Kernel29Ideal.nD Cert.Kernel29Ideal.τ).loc Cert.Kernel29Ideal.main_v5_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_v27) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v63) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v47) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v47) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v11) = v0 c
          ∧ r.2.mem ((c.tc : Thread Cert.Reference33Ideal.nD Cert.Reference33Ideal.τ).loc Cert.Reference33Ideal.main_v35) = v1 c
          ∧ r.2.mem ((c.tc : Thread Cert.Reference33Ideal.nD Cert.Reference33Ideal.τ).loc Cert.Reference33Ideal.main_v16) = v2 c
          ∧ r.2.mem ((c.tc : Thread Cert.Reference33Ideal.nD Cert.Reference33Ideal.τ).loc Cert.Reference33Ideal.main_v22) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v8) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v3) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v80) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v5) = v0 c
          ∧ r.2.mem ((c.tc : Thread Cert.Reference38Ideal.nD Cert.Reference38Ideal.τ).loc Cert.Reference38Ideal.main_v19) = v1 c
          ∧ r.2.mem ((c.tc : Thread Cert.Reference38Ideal.nD Cert.Reference38Ideal.τ).loc Cert.Reference38Ideal.main_v36) = v2 c
          ∧ r.2.mem ((c.tc : Thread Cert.Reference38Ideal.nD Cert.Reference38Ideal.τ).loc Cert.Reference38Ideal.main_v41) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel38 : Cert.Kernel38.Facts) (hKernel38Ideal : Cert.Kernel38Ideal.Facts) (hReference38Ideal : Cert.Reference38Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel38_Kernel38Ideal
    ∧ algebraic_Kernel38Ideal_Reference38Ideal (hKernel38Ideal := hKernel38Ideal) (hReference38Ideal := hReference38Ideal)
-- ==== Kernel.lean ====
abbrev S8448x6144 : Shape := ⟨2, ![8448, 6144]⟩
abbrev S8448x2048 : Shape := ⟨2, ![8448, 2048]⟩
abbrev S3x2048 : Shape := ⟨2, ![3, 2048]⟩
abbrev S_ : Shape := ⟨0, ![]⟩
abbrev S8x2048 : Shape := ⟨2, ![8, 2048]⟩
abbrev S256x6144 : Shape := ⟨2, ![256, 6144]⟩
abbrev S16x6144 : Shape := ⟨2, ![16, 6144]⟩
abbrev S256x2048 : Shape := ⟨2, ![256, 2048]⟩
abbrev S16x2048 : Shape := ⟨2, ![16, 2048]⟩
abbrev S256x512 : Shape := ⟨2, ![256, 512]⟩
abbrev S16x512 : Shape := ⟨2, ![16, 512]⟩
abbrev S512 : Shape := ⟨1, ![512]⟩
abbrev S1x512 : Shape := ⟨2, ![1, 512]⟩
abbrev S256x1 : Shape := ⟨2, ![256, 1]⟩
abbrev S8x512 : Shape := ⟨2, ![8, 512]⟩

abbrev nBuf : Space → Nat
  | .hbm => 8
  | .vmem => 16
  | .smem => 0
  | _ => 0

abbrev bufTy : (tb : Table) → Fin (tcTables nBuf tb) → BufTy
  | .hbm, ⟨0, _⟩ => ⟨S8448x6144, .bf16⟩
  | .hbm, ⟨1, _⟩ => ⟨S8448x2048, .bf16⟩
  | .hbm, ⟨2, _⟩ => ⟨S3x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8448x6144, .bf16⟩
  | .hbm, ⟨7, _⟩ => ⟨S8x2048, .f32⟩
  | .local _ .vmem, ⟨0, _⟩ => ⟨S256x6144, .bf16⟩
  | .local _ .vmem, ⟨1, _⟩ => ⟨S256x6144, .bf16⟩
  | .local _ .vmem, ⟨2, _⟩ => ⟨S16x6144, .bf16⟩
  | .local _ .vmem, ⟨3, _⟩ => ⟨S16x6144, .bf16⟩
  | .local _ .vmem, ⟨4, _⟩ => ⟨S16x6144, .bf16⟩
  | .local _ .vmem, ⟨5, _⟩ => ⟨S16x6144, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S8x2048, .f32⟩
  | .local _ .vmem, ⟨13, _⟩ => ⟨S256x6144, .bf16⟩
  | .local _ .vmem, ⟨14, _⟩ => ⟨S256x6144, .bf16⟩
  | .local _ .vmem, ⟨15, _⟩ => ⟨S8x2048, .f32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8448x6144 : Shape := ⟨2, ![8448, 6144]⟩
abbrev S8448x2048 : Shape := ⟨2, ![8448, 2048]⟩
abbrev S3x2048 : Shape := ⟨2, ![3, 2048]⟩
abbrev S256x6144 : Shape := ⟨2, ![256, 6144]⟩
abbrev S1x256x6144 : Shape := ⟨3, ![1, 256, 6144]⟩
abbrev S8192x6144 : Shape := ⟨2, ![8192, 6144]⟩
abbrev S1x8192x6144 : Shape := ⟨3, ![1, 8192, 6144]⟩
abbrev S1x256x2048 : Shape := ⟨3, ![1, 256, 2048]⟩
abbrev S1x1x2048 : Shape := ⟨3, ![1, 1, 2048]⟩
abbrev S_ : Shape := ⟨0, ![]⟩
abbrev S1x258x2048 : Shape := ⟨3, ![1, 258, 2048]⟩
abbrev S1x2048 : Shape := ⟨2, ![1, 2048]⟩
abbrev S2048 : Shape := ⟨1, ![2048]⟩
abbrev S1x8192x2048 : Shape := ⟨3, ![1, 8192, 2048]⟩
abbrev S1x8194x2048 : Shape := ⟨3, ![1, 8194, 2048]⟩
abbrev S1x8448x2048 : Shape := ⟨3, ![1, 8448, 2048]⟩
abbrev S8x2048 : Shape := ⟨2, ![8, 2048]⟩

abbrev nBuf : Space → Nat
  | .hbm => 196
  | .vmem => 0
  | .smem => 0
  | _ => 0

abbrev hbmTy0_0 (i : Nat) : BufTy := match i % 128 with
  | 0 => ⟨S8448x6144, .bf16⟩
  | 1 => ⟨S8448x2048, .bf16⟩
  | 2 => ⟨S3x2048, .f32⟩
  | 3 => ⟨S8448x6144, .f32⟩
  | 4 => ⟨S256x6144, .f32⟩
  | 5 => ⟨S1x256x6144, .f32⟩
  | 6 => ⟨S8192x6144, .f32⟩
  | 7 => ⟨S1x8192x6144, .f32⟩
  | 8 => ⟨S1x256x2048, .f32⟩
  | 9 => ⟨S1x256x2048, .f32⟩
  | 10 => ⟨S1x256x2048, .f32⟩
  | 11 => ⟨S1x256x2048, .f32⟩
  | 12 => ⟨S1x1x2048, .f32⟩
  | 13 => ⟨S_, .f32⟩
  | 14 => ⟨S1x1x2048, .f32⟩
  | 15 => ⟨S1x258x2048, .f32⟩
  | 16 => ⟨S_, .f32⟩
  | 17 => ⟨S1x1x2048, .f32⟩
  | 18 => ⟨S_, .f32⟩
  | 19 => ⟨S1x1x2048, .f32⟩
  | 20 => ⟨S1x256x2048, .f32⟩
  | 21 => ⟨S1x2048, .f32⟩
  | 22 => ⟨S2048, .f32⟩
  | 23 => ⟨S1x1x2048, .f32⟩
  | 24 => ⟨S1x256x2048, .f32⟩
  | 25 => ⟨S1x256x2048, .f32⟩
  | 26 => ⟨S1x256x2048, .f32⟩
  | 27 => ⟨S1x2048, .f32⟩
  | 28 => ⟨S2048, .f32⟩
  | 29 => ⟨S1x1x2048, .f32⟩
  | 30 => ⟨S1x256x2048, .f32⟩
  | 31 => ⟨S1x256x2048, .f32⟩
  | 32 => ⟨S1x256x2048, .f32⟩
  | 33 => ⟨S1x256x2048, .f32⟩
  | 34 => ⟨S1x2048, .f32⟩
  | 35 => ⟨S2048, .f32⟩
  | 36 => ⟨S1x1x2048, .f32⟩
  | 37 => ⟨S1x256x2048, .f32⟩
  | 38 => ⟨S1x256x2048, .f32⟩
  | 39 => ⟨S1x256x2048, .f32⟩
  | 40 => ⟨S1x256x2048, .f32⟩
  | 41 => ⟨S1x8192x2048, .f32⟩
  | 42 => ⟨S1x8192x2048, .f32⟩
  | 43 => ⟨S1x8192x2048, .f32⟩
  | 44 => ⟨S1x8192x2048, .f32⟩
  | 45 => ⟨S1x1x2048, .f32⟩
  | 46 => ⟨S_, .f32⟩
  | 47 => ⟨S1x1x2048, .f32⟩
  | 48 => ⟨S1x8194x2048, .f32⟩
  | 49 => ⟨S_, .f32⟩
  | 50 => ⟨S1x1x2048, .f32⟩
  | 51 => ⟨S_, .f32⟩
  | 52 => ⟨S1x1x2048, .f32⟩
  | 53 => ⟨S1x8192x2048, .f32⟩
  | 54 => ⟨S1x2048, .f32⟩
  | 55 => ⟨S2048, .f32⟩
  | 56 => ⟨S1x1x2048, .f32⟩
  | 57 => ⟨S1x8192x2048, .f32⟩
  | 58 => ⟨S1x8192x2048, .f32⟩
  | 59 => ⟨S1x8192x2048, .f32⟩
  | 60 => ⟨S1x2048, .f32⟩
  | 61 => ⟨S2048, .f32⟩
  | 62 => ⟨S1x1x2048, .f32⟩
  | 63 => ⟨S1x8192x2048, .f32⟩
  | 64 => ⟨S1x8192x2048, .f32⟩
  | 65 => ⟨S1x8192x2048, .f32⟩
  | 66 => ⟨S1x8192x2048, .f32⟩
  | 67 => ⟨S1x2048, .f32⟩
  | 68 => ⟨S2048, .f32⟩
  | 69 => ⟨S1x1x2048, .f32⟩
  | 70 => ⟨S1x8192x2048, .f32⟩
  | 71 => ⟨S1x8192x2048, .f32⟩
  | 72 => ⟨S1x8192x2048, .f32⟩
  | 73 => ⟨S1x8192x2048, .f32⟩
  | 74 => ⟨S1x8448x2048, .f32⟩
  | 75 => ⟨S8448x2048, .f32⟩
  | 76 => ⟨S8448x2048, .f32⟩
  | 77 => ⟨S1x8448x2048, .f32⟩
  | 78 => ⟨S1x256x2048, .f32⟩
  | 79 => ⟨S1x8192x2048, .f32⟩
  | 80 => ⟨S1x8192x2048, .f32⟩
  | 81 => ⟨S1x8192x2048, .f32⟩
  | 82 => ⟨S1x8192x2048, .f32⟩
  | 83 => ⟨S_, .f32⟩
  | 84 => ⟨S1x2048, .f32⟩
  | 85 => ⟨S1x1x2048, .f32⟩
  | 86 => ⟨S1x8192x2048, .f32⟩
  | 87 => ⟨S1x8192x2048, .f32⟩
  | 88 => ⟨S_, .f32⟩
  | 89 => ⟨S2048, .f32⟩
  | 90 => ⟨S1x2048, .f32⟩
  | 91 => ⟨S_, .f32⟩
  | 92 => ⟨S3x2048, .f32⟩
  | 93 => ⟨S_, .f32⟩
  | 94 => ⟨S1x8194x2048, .f32⟩
  | 95 => ⟨S1x8192x2048, .f32⟩
  | 96 => ⟨S_, .f32⟩
  | 97 => ⟨S1x2048, .f32⟩
  | 98 => ⟨S1x1x2048, .f32⟩
  | 99 => ⟨S1x8192x2048, .f32⟩
  | 100 => ⟨S1x8192x2048, .f32⟩
  | 101 => ⟨S_, .f32⟩
  | 102 => ⟨S2048, .f32⟩
  | 103 => ⟨S1x2048, .f32⟩
  | 104 => ⟨S_, .f32⟩
  | 105 => ⟨S3x2048, .f32⟩
  | 106 => ⟨S3x2048, .f32⟩
  | 107 => ⟨S_, .f32⟩
  | 108 => ⟨S1x8194x2048, .f32⟩
  | 109 => ⟨S1x8194x2048, .f32⟩
  | 110 => ⟨S1x8192x2048, .f32⟩
  | 111 => ⟨S_, .f32⟩
  | 112 => ⟨S1x2048, .f32⟩
  | 113 => ⟨S1x1x2048, .f32⟩
  | 114 => ⟨S1x8192x2048, .f32⟩
  | 115 => ⟨S1x8192x2048, .f32⟩
  | 116 => ⟨S_, .f32⟩
  | 117 => ⟨S2048, .f32⟩
  | 118 => ⟨S1x2048, .f32⟩
  | 119 => ⟨S_, .f32⟩
  | 120 => ⟨S3x2048, .f32⟩
  | 121 => ⟨S3x2048, .f32⟩
  | 122 => ⟨S_, .f32⟩
  | 123 => ⟨S1x8194x2048, .f32⟩
  | 124 => ⟨S1x8194x2048, .f32⟩
  | 125 => ⟨S1x1x2048, .f32⟩
  | 126 => ⟨S1x8192x2048, .f32⟩
  | 127 => ⟨S1x1x2048, .f32⟩
  | _ => ⟨S8448x6144, .bf16⟩

abbrev hbmTy0_1 (i : Nat) : BufTy := match i % 128 with
  | 0 => ⟨S1x8192x2048, .f32⟩
  | 1 => ⟨S1x8192x2048, .f32⟩
  | 2 => ⟨S1x8192x6144, .f32⟩
  | 3 => ⟨S1x256x2048, .f32⟩
  | 4 => ⟨S1x256x2048, .f32⟩
  | 5 => ⟨S1x256x2048, .f32⟩
  | 6 => ⟨S_, .f32⟩
  | 7 => ⟨S1x2048, .f32⟩
  | 8 => ⟨S1x1x2048, .f32⟩
  | 9 => ⟨S1x256x2048, .f32⟩
  | 10 => ⟨S1x256x2048, .f32⟩
  | 11 => ⟨S_, .f32⟩
  | 12 => ⟨S2048, .f32⟩
  | 13 => ⟨S1x2048, .f32⟩
  | 14 => ⟨S_, .f32⟩
  | 15 => ⟨S3x2048, .f32⟩
  | 16 => ⟨S3x2048, .f32⟩
  | 17 => ⟨S_, .f32⟩
  | 18 => ⟨S1x258x2048, .f32⟩
  | 19 => ⟨S1x256x2048, .f32⟩
  | 20 => ⟨S_, .f32⟩
  | 21 => ⟨S1x2048, .f32⟩
  | 22 => ⟨S1x1x2048, .f32⟩
  | 23 => ⟨S1x256x2048, .f32⟩
  | 24 => ⟨S1x256x2048, .f32⟩
  | 25 => ⟨S_, .f32⟩
  | 26 => ⟨S2048, .f32⟩
  | 27 => ⟨S1x2048, .f32⟩
  | 28 => ⟨S_, .f32⟩
  | 29 => ⟨S3x2048, .f32⟩
  | 30 => ⟨S3x2048, .f32⟩
  | 31 => ⟨S_, .f32⟩
  | 32 => ⟨S1x258x2048, .f32⟩
  | 33 => ⟨S1x258x2048, .f32⟩
  | 34 => ⟨S1x256x2048, .f32⟩
  | 35 => ⟨S_, .f32⟩
  | 36 => ⟨S1x2048, .f32⟩
  | 37 => ⟨S1x1x2048, .f32⟩
  | 38 => ⟨S1x256x2048, .f32⟩
  | 39 => ⟨S1x256x2048, .f32⟩
  | 40 => ⟨S_, .f32⟩
  | 41 => ⟨S2048, .f32⟩
  | 42 => ⟨S1x2048, .f32⟩
  | 43 => ⟨S_, .f32⟩
  | 44 => ⟨S3x2048, .f32⟩
  | 45 => ⟨S3x2048, .f32⟩
  | 46 => ⟨S_, .f32⟩
  | 47 => ⟨S1x258x2048, .f32⟩
  | 48 => ⟨S1x258x2048, .f32⟩
  | 49 => ⟨S1x1x2048, .f32⟩
  | 50 => ⟨S1x256x2048, .f32⟩
  | 51 => ⟨S1x1x2048, .f32⟩
  | 52 => ⟨S1x256x2048, .f32⟩
  | 53 => ⟨S1x256x2048, .f32⟩
  | 54 => ⟨S1x256x6144, .f32⟩
  | 55 => ⟨S_, .f32⟩
  | 56 => ⟨S8192x6144, .f32⟩
  | 57 => ⟨S_, .f32⟩
  | 58 => ⟨S8448x6144, .f32⟩
  | 59 => ⟨S_, .f32⟩
  | 60 => ⟨S256x6144, .f32⟩
  | 61 => ⟨S_, .f32⟩
  | 62 => ⟨S8448x6144, .f32⟩
  | 63 => ⟨S8448x6144, .f32⟩
  | 64 => ⟨S8448x6144, .bf16⟩
  | 65 => ⟨S_, .i32⟩
  | 66 => ⟨S_, .f32⟩
  | 67 => ⟨S8x2048, .f32⟩
  | _ => ⟨S8448x6144, .bf16⟩

abbrev hbmTy (i : Nat) : BufTy := match i / 128 with
  | 0 => hbmTy0_0 i
  | 1 => hbmTy0_1 i
  | _ => ⟨S8448x6144, .bf16⟩

abbrev bufTy : (tb : Table) → Fin (tcTables nBuf tb) → BufTy
  | .hbm, ⟨i, _⟩ => hbmTy i
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_v78 : Ref sig .tc := ⟨.hbm, 89, rfl⟩
abbrev main_v79 : Ref sig .tc := ⟨.hbm, 90, rfl⟩
abbrev main_cst_7 : Ref sig .tc := ⟨.hbm, 91, rfl⟩
abbrev main_v80 : Ref sig .tc := ⟨.hbm, 92, rfl⟩
abbrev main_cst_8 : Ref sig .tc := ⟨.hbm, 93, rfl⟩
abbrev main_v81 : Ref sig .tc := ⟨.hbm, 94, rfl⟩
abbrev main_v82 : Ref sig .tc := ⟨.hbm, 95, rfl⟩
abbrev main_cst_9 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_cst_10 : Ref sig .tc := ⟨.hbm, 101, rfl⟩
abbrev main_v87 : Ref sig .tc := ⟨.hbm, 102, rfl⟩
abbrev main_v88 : Ref sig .tc := ⟨.hbm, 103, rfl⟩
abbrev main_cst_11 : Ref sig .tc := ⟨.hbm, 104, rfl⟩
abbrev main_v89 : Ref sig .tc := ⟨.hbm, 105, rfl⟩
abbrev main_v90 : Ref sig .tc := ⟨.hbm, 106, rfl⟩
abbrev main_cst_12 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_13 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_14 : Ref sig .tc := ⟨.hbm, 116, rfl⟩
abbrev main_v98 : Ref sig .tc := ⟨.hbm, 117, rfl⟩
abbrev main_v99 : Ref sig .tc := ⟨.hbm, 118, rfl⟩
abbrev main_cst_15 : Ref sig .tc := ⟨.hbm, 119, rfl⟩
abbrev main_v100 : Ref sig .tc := ⟨.hbm, 120, rfl⟩
abbrev main_v101 : Ref sig .tc := ⟨.hbm, 121, rfl⟩
abbrev main_cst_16 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_17 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_18 : Ref sig .tc := ⟨.hbm, 139, rfl⟩
abbrev main_v117 : Ref sig .tc := ⟨.hbm, 140, rfl⟩
abbrev main_v118 : Ref sig .tc := ⟨.hbm, 141, rfl⟩
abbrev main_cst_19 : Ref sig .tc := ⟨.hbm, 142, rfl⟩
abbrev main_v119 : Ref sig .tc := ⟨.hbm, 143, rfl⟩
abbrev main_v120 : Ref sig .tc := ⟨.hbm, 144, rfl⟩
abbrev main_cst_20 : Ref sig .tc := ⟨.hbm, 145, rfl⟩
abbrev main_v121 : Ref sig .tc := ⟨.hbm, 146, rfl⟩
abbrev main_v122 : Ref sig .tc := ⟨.hbm, 147, rfl⟩
abbrev main_cst_21 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_22 : Ref sig .tc := ⟨.hbm, 153, rfl⟩
abbrev main_v127 : Ref sig .tc := ⟨.hbm, 154, rfl⟩
abbrev main_v128 : Ref sig .tc := ⟨.hbm, 155, rfl⟩
abbrev main_cst_23 : Ref sig .tc := ⟨.hbm, 156, rfl⟩
abbrev main_v129 : Ref sig .tc := ⟨.hbm, 157, rfl⟩
abbrev main_v130 : Ref sig .tc := ⟨.hbm, 158, rfl⟩
abbrev main_cst_24 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_25 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_26 : Ref sig .tc := ⟨.hbm, 168, rfl⟩
abbrev main_v138 : Ref sig .tc := ⟨.hbm, 169, rfl⟩
abbrev main_v139 : Ref sig .tc := ⟨.hbm, 170, rfl⟩
abbrev main_cst_27 : Ref sig .tc := ⟨.hbm, 171, rfl⟩
abbrev main_v140 : Ref sig .tc := ⟨.hbm, 172, rfl⟩
abbrev main_v141 : Ref sig .tc := ⟨.hbm, 173, rfl⟩
abbrev main_cst_28 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_29 : Ref sig .tc := ⟨.hbm, 183, rfl⟩
abbrev main_v150 : Ref sig .tc := ⟨.hbm, 184, rfl⟩
abbrev main_cst_30 : Ref sig .tc := ⟨.hbm, 185, rfl⟩
abbrev main_v151 : Ref sig .tc := ⟨.hbm, 186, rfl⟩
abbrev main_cst_31 : Ref sig .tc := ⟨.hbm, 187, rfl⟩
abbrev main_v152 : Ref sig .tc := ⟨.hbm, 188, rfl⟩
abbrev main_cst_32 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_c : Ref sig .tc := ⟨.hbm, 193, rfl⟩
abbrev main_call0_v0 : Ref sig .tc := ⟨.hbm, 194, rfl⟩
abbrev main_v156 : Ref sig .tc := ⟨.hbm, 195, rfl⟩

abbrev nD : Nat := 1
abbrev τ : Topo := Topo.v7x

variable {F : FTy → Type} [FloatOps F]
-- ==== Kernel2.lean ====
abbrev S8448x11264 : Shape := ⟨2, ![8448, 11264]⟩
abbrev S2048x11264 : Shape := ⟨2, ![2048, 11264]⟩
abbrev S2048x6144 : Shape := ⟨2, ![2048, 6144]⟩
abbrev S_ : Shape := ⟨0, ![]⟩
abbrev S4x2048x256 : Shape := ⟨3, ![4, 2048, 256]⟩
abbrev S2048x4x2816 : Shape := ⟨3, ![2048, 4, 2816]⟩
abbrev S4x2048x2816 : Shape := ⟨3, ![4, 2048, 2816]⟩
abbrev S2048x4x1536 : Shape := ⟨3, ![2048, 4, 1536]⟩
abbrev S4x2048x1536 : Shape := ⟨3, ![4, 2048, 1536]⟩
abbrev S4x2048x4608 : Shape := ⟨3, ![4, 2048, 4608]⟩
abbrev S8448x2048 : Shape := ⟨2, ![8448, 2048]⟩
abbrev S528x2816 : Shape := ⟨2, ![528, 2816]⟩
abbrev S1x2048x2816 : Shape := ⟨3, ![1, 2048, 2816]⟩
abbrev S528x2048 : Shape := ⟨2, ![528, 2048]⟩
abbrev S2048x2816 : Shape := ⟨2, ![2048, 2816]⟩

abbrev nBuf : Space → Nat
  | .hbm => 12
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S2048x11264, .f32⟩
  | .hbm, ⟨2, _⟩ => ⟨S2048x6144, .f32⟩
  | .hbm, ⟨3, _⟩ => ⟨S_, .f32⟩
  | .hbm, ⟨4, _⟩ => ⟨S4x2048x256, .f32⟩
  | .hbm, ⟨5, _⟩ => ⟨S2048x4x2816, .f32⟩
  | .hbm, ⟨6, _⟩ => ⟨S4x2048x2816, .f32⟩
  | .hbm, ⟨7, _⟩ => ⟨S2048x4x1536, .f32⟩
  | .hbm, ⟨8, _⟩ => ⟨S4x2048x1536, .f32⟩
  | .hbm, ⟨9, _⟩ => ⟨S4x2048x4608, .f32⟩
  | .hbm, ⟨10, _⟩ => ⟨S4x2048x4608, .bf16⟩
  | .hbm, ⟨11, _⟩ => ⟨S8448x2048, .f32⟩
  | .local _ .vmem, ⟨0, _⟩ => ⟨S528x2816, .bf16⟩
  | .local _ .vmem, ⟨1, _⟩ => ⟨S528x2816, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S528x2048, .f32⟩
  | .local _ .vmem, ⟨5, _⟩ => ⟨S528x2048, .f32⟩
  | .local _ .vmem, ⟨6, _⟩ => ⟨S528x2048, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S528x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference2Ideal.lean ====
abbrev S8448x11264 : Shape := ⟨2, ![8448, 11264]⟩
abbrev S2048x11264 : Shape := ⟨2, ![2048, 11264]⟩
abbrev S2048x6144 : Shape := ⟨2, ![2048, 6144]⟩
abbrev S_ : Shape := ⟨0, ![]⟩
abbrev S8448x2048 : Shape := ⟨2, ![8448, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S2048x11264, .f32⟩
  | .hbm, ⟨2, _⟩ => ⟨S2048x6144, .f32⟩
  | .hbm, ⟨3, _⟩ => ⟨S_, .f32⟩
  | .hbm, ⟨4, _⟩ => ⟨S8448x2048, .f32⟩
  | .hbm, ⟨5, _⟩ => ⟨S8448x11264, .f32⟩
  | .hbm, ⟨6, _⟩ => ⟨S8448x11264, .f32⟩
  | .hbm, ⟨7, _⟩ => ⟨S8448x2048, .f32⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel3.lean ====
abbrev S8448x2048 : Shape := ⟨2, ![8448, 2048]⟩
abbrev S5632x2048 : Shape := ⟨2, ![5632, 2048]⟩
abbrev S2048x2048 : Shape := ⟨2, ![2048, 2048]⟩
abbrev S_ : Shape := ⟨0, ![]⟩
abbrev S4x128x2048 : Shape := ⟨3, ![4, 128, 2048]⟩
abbrev S4x1408x2048 : Shape := ⟨3, ![4, 1408, 2048]⟩
abbrev S4x512x2048 : Shape := ⟨3, ![4, 512, 2048]⟩
abbrev S4x2048x2048 : Shape := ⟨3, ![4, 2048, 2048]⟩
abbrev S8448x5632 : Shape := ⟨2, ![8448, 5632]⟩
abbrev S528x2048 : Shape := ⟨2, ![528, 2048]⟩
abbrev S2x1408x2048 : Shape := ⟨3, ![2, 1408, 2048]⟩
abbrev S528x2816 : Shape := ⟨2, ![528, 2816]⟩
abbrev S2816x2048 : Shape := ⟨2, ![2816, 2048]⟩

abbrev nBuf : Space → Nat
  | .hbm => 10
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .f32⟩
  | .hbm, ⟨2, _⟩ => ⟨S2048x2048, .f32⟩
  | .hbm, ⟨3, _⟩ => ⟨S_, .f32⟩
  | .hbm, ⟨4, _⟩ => ⟨S4x128x2048, .f32⟩
  | .hbm, ⟨5, _⟩ => ⟨S4x1408x2048, .f32⟩
  | .hbm, ⟨6, _⟩ => ⟨S4x512x2048, .f32⟩
  | .hbm, ⟨7, _⟩ => ⟨S4x2048x2048, .f32⟩
  | .hbm, ⟨8, _⟩ => ⟨S4x2048x2048, .bf16⟩
  | .hbm, ⟨9, _⟩ => ⟨S8448x5632, .bf16⟩
  | .local _ .vmem, ⟨0, _⟩ => ⟨S528x2048, .bf16⟩
  | .local _ .vmem, ⟨1, _⟩ => ⟨S528x2048, .bf16⟩
  | .local _ .vmem, ⟨2, _⟩ => ⟨S2x1408x2048, .bf16⟩
  | .local _ .vmem, ⟨3, _⟩ => ⟨S2x1408x2048, .bf16⟩
  | .local _ .vmem, ⟨4, _⟩ => ⟨S528x2816, .bf16⟩
  | .local _ .vmem, ⟨5, _⟩ => ⟨S528x2816, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S528x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x2048 : Shape := ⟨2, ![8448, 2048]⟩
abbrev S5632x2048 : Shape := ⟨2, ![5632, 2048]⟩
abbrev S2048x2048 : Shape := ⟨2, ![2048, 2048]⟩
abbrev S_ : Shape := ⟨0, ![]⟩
abbrev S8448x5632 : Shape := ⟨2, ![8448, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .f32⟩
  | .hbm, ⟨2, _⟩ => ⟨S2048x2048, .f32⟩
  | .hbm, ⟨3, _⟩ => ⟨S_, .f32⟩
  | .hbm, ⟨4, _⟩ => ⟨S8448x5632, .f32⟩
  | .hbm, ⟨5, _⟩ => ⟨S8448x2048, .f32⟩
  | .hbm, ⟨6, _⟩ => ⟨S8448x2048, .f32⟩
  | .hbm, ⟨7, _⟩ => ⟨S8448x5632, .f32⟩
  | .hbm, ⟨8, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S8448x11264 : Shape := ⟨2, ![8448, 11264]⟩
abbrev S2048x11264 : Shape := ⟨2, ![2048, 11264]⟩
abbrev S2048x3072 : Shape := ⟨2, ![2048, 3072]⟩
abbrev S_ : Shape := ⟨0, ![]⟩
abbrev S4x2048x256 : Shape := ⟨3, ![4, 2048, 256]⟩
abbrev S2048x4x2816 : Shape := ⟨3, ![2048, 4, 2816]⟩
abbrev S4x2048x2816 : Shape := ⟨3, ![4, 2048, 2816]⟩
abbrev S2048x4x768 : Shape := ⟨3, ![2048, 4, 768]⟩
abbrev S4x2048x768 : Shape := ⟨3, ![4, 2048, 768]⟩
abbrev S4x2048x3840 : Shape := ⟨3, ![4, 2048, 3840]⟩
abbrev S8448x2048 : Shape := ⟨2, ![8448, 2048]⟩
abbrev S528x2816 : Shape := ⟨2, ![528, 2816]⟩
abbrev S1x2048x2816 : Shape := ⟨3, ![1, 2048, 2816]⟩
abbrev S528x2048 : Shape := ⟨2, ![528, 2048]⟩
abbrev S2048x2816 : Shape := ⟨2, ![2048, 2816]⟩

abbrev nBuf : Space → Nat
  | .hbm => 12
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S2048x11264, .f32⟩
  | .hbm, ⟨2, _⟩ => ⟨S2048x3072, .f32⟩
  | .hbm, ⟨3, _⟩ => ⟨S_, .f32⟩
  | .hbm, ⟨4, _⟩ => ⟨S4x2048x256, .f32⟩
  | .hbm, ⟨5, _⟩ => ⟨S2048x4x2816, .f32⟩
  | .hbm, ⟨6, _⟩ => ⟨S4x2048x2816, .f32⟩
  | .hbm, ⟨7, _⟩ => ⟨S2048x4x768, .f32⟩
  | .hbm, ⟨8, _⟩ => ⟨S4x2048x768, .f32⟩
  | .hbm, ⟨9, _⟩ => ⟨S4x2048x3840, .f32⟩
  | .hbm, ⟨10, _⟩ => ⟨S4x2048x3840, .bf16⟩
  | .hbm, ⟨11, _⟩ => ⟨S8448x2048, .f32⟩
  | .local _ .vmem, ⟨0, _⟩ => ⟨S528x2816, .bf16⟩
  | .local _ .vmem, ⟨1, _⟩ => ⟨S528x2816, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S528x2048, .f32⟩
  | .local _ .vmem, ⟨5, _⟩ => ⟨S528x2048, .f32⟩
  | .local _ .vmem, ⟨6, _⟩ => ⟨S528x2048, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S528x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S8448x11264 : Shape := ⟨2, ![8448, 11264]⟩
abbrev S2048x11264 : Shape := ⟨2, ![2048, 11264]⟩
abbrev S2048x3072 : Shape := ⟨2, ![2048, 3072]⟩
abbrev S_ : Shape := ⟨0, ![]⟩
abbrev S8448x2048 : Shape := ⟨2, ![8448, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S2048x11264, .f32⟩
  | .hbm, ⟨2, _⟩ => ⟨S2048x3072, .f32⟩
  | .hbm, ⟨3, _⟩ => ⟨S_, .f32⟩
  | .hbm, ⟨4, _⟩ => ⟨S8448x2048, .f32⟩
  | .hbm, ⟨5, _⟩ => ⟨S8448x11264, .f32⟩
  | .hbm, ⟨6, _⟩ => ⟨S8448x11264, .f32⟩
  | .hbm, ⟨7, _⟩ => ⟨S8448x2048, .f32⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S8448x6144 : Shape := ⟨2, ![8448, 6144]⟩
abbrev S2048x11264 : Shape := ⟨2, ![2048, 11264]⟩
abbrev S2048x6144 : Shape := ⟨2, ![2048, 6144]⟩
abbrev S_ : Shape := ⟨0, ![]⟩
abbrev S4x2048x256 : Shape := ⟨3, ![4, 2048, 256]⟩
abbrev S2048x4x2816 : Shape := ⟨3, ![2048, 4, 2816]⟩
abbrev S4x2048x2816 : Shape := ⟨3, ![4, 2048, 2816]⟩
abbrev S2048x4x1536 : Shape := ⟨3, ![2048, 4, 1536]⟩
abbrev S4x2048x1536 : Shape := ⟨3, ![4, 2048, 1536]⟩
abbrev S4x2048x4608 : Shape := ⟨3, ![4, 2048, 4608]⟩
abbrev S8448x2048 : Shape := ⟨2, ![8448, 2048]⟩
abbrev S768x1536 : Shape := ⟨2, ![768, 1536]⟩
abbrev S1x2048x1536 : Shape := ⟨3, ![1, 2048, 1536]⟩
abbrev S768x2048 : Shape := ⟨2, ![768, 2048]⟩
abbrev S2048x1536 : Shape := ⟨2, ![2048, 1536]⟩

abbrev nBuf : Space → Nat
  | .hbm => 12
  | .vmem => 7
  | .smem => 0
  | _ => 0

abbrev bufTy : (tb : Table) → Fin (tcTables nBuf tb) → BufTy
  | .hbm, ⟨0, _⟩ => ⟨S8448x6144, .bf16⟩
  | .hbm, ⟨1, _⟩ => ⟨S2048x11264, .f32⟩
  | .hbm, ⟨2, _⟩ => ⟨S2048x6144, .f32⟩
  | .hbm, ⟨3, _⟩ => ⟨S_, .f32⟩
  | .hbm, ⟨4, _⟩ => ⟨S4x2048x256, .f32⟩
  | .hbm, ⟨5, _⟩ => ⟨S2048x4x2816, .f32⟩
  | .hbm, ⟨6, _⟩ => ⟨S4x2048x2816, .f32⟩
  | .hbm, ⟨7, _⟩ => ⟨S2048x4x1536, .f32⟩
  | .hbm, ⟨8, _⟩ => ⟨S4x2048x1536, .f32⟩
  | .hbm, ⟨9, _⟩ => ⟨S4x2048x4608, .f32⟩
  | .hbm, ⟨10, _⟩ => ⟨S4x2048x4608, .bf16⟩
  | .hbm, ⟨11, _⟩ => ⟨S8448x2048, .f32⟩
  | .local _ .vmem, ⟨0, _⟩ => ⟨S768x1536, .bf16⟩
  | .local _ .vmem, ⟨1, _⟩ => ⟨S768x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_11 : BitVec 32 := 0#32
  let c0_i32_12 : BitVec 32 := 0#32
  ![v16.toNat, c0_i32_11.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S8448x6144 : Shape := ⟨2, ![8448, 6144]⟩
abbrev S2048x11264 : Shape := ⟨2, ![2048, 11264]⟩
abbrev S2048x6144 : Shape := ⟨2, ![2048, 6144]⟩
abbrev S_ : Shape := ⟨0, ![]⟩
abbrev S8448x2048 : Shape := ⟨2, ![8448, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S2048x11264, .f32⟩
  | .hbm, ⟨2, _⟩ => ⟨S2048x6144, .f32⟩
  | .hbm, ⟨3, _⟩ => ⟨S_, .f32⟩
  | .hbm, ⟨4, _⟩ => ⟨S8448x2048, .f32⟩
  | .hbm, ⟨5, _⟩ => ⟨S8448x6144, .f32⟩
  | .hbm, ⟨6, _⟩ => ⟨S8448x6144, .f32⟩
  | .hbm, ⟨7, _⟩ => ⟨S8448x2048, .f32⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S8448x2048 : Shape := ⟨2, ![8448, 2048]⟩
abbrev S5632x2048 : Shape := ⟨2, ![5632, 2048]⟩
abbrev S2048x2048 : Shape := ⟨2, ![2048, 2048]⟩
abbrev S_ : Shape := ⟨0, ![]⟩
abbrev S4x128x2048 : Shape := ⟨3, ![4, 128, 2048]⟩
abbrev S4x1408x2048 : Shape := ⟨3, ![4, 1408, 2048]⟩
abbrev S4x512x2048 : Shape := ⟨3, ![4, 512, 2048]⟩
abbrev S4x2048x2048 : Shape := ⟨3, ![4, 2048, 2048]⟩
abbrev S1056x2048 : Shape := ⟨2, ![1056, 2048]⟩

abbrev nBuf : Space → Nat
  | .hbm => 10
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .f32⟩
  | .hbm, ⟨2, _⟩ => ⟨S2048x2048, .f32⟩
  | .hbm, ⟨3, _⟩ => ⟨S_, .f32⟩
  | .hbm, ⟨4, _⟩ => ⟨S4x128x2048, .f32⟩
  | .hbm, ⟨5, _⟩ => ⟨S4x1408x2048, .f32⟩
  | .hbm, ⟨6, _⟩ => ⟨S4x512x2048, .f32⟩
  | .hbm, ⟨7, _⟩ => ⟨S4x2048x2048, .f32⟩
  | .hbm, ⟨8, _⟩ => ⟨S4x2048x2048, .bf16⟩
  | .hbm, ⟨9, _⟩ => ⟨S8448x2048, .bf16⟩
  | .local _ .vmem, ⟨0, _⟩ => ⟨S1056x2048, .bf16⟩
  | .local _ .vmem, ⟨1, _⟩ => ⟨S1056x2048, .bf16⟩
  | .local _ .vmem, ⟨2, _⟩ => ⟨S4x512x2048, .bf16⟩
  | .local _ .vmem, ⟨3, _⟩ => ⟨S1056x2048, .bf16⟩
  | .local _ .vmem, ⟨4, _⟩ => ⟨S1056x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![arg0.toNat, c3_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1056x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x2048 : Shape := ⟨2, ![8448, 2048]⟩
abbrev S5632x2048 : Shape := ⟨2, ![5632, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .f32⟩
  | .hbm, ⟨2, _⟩ => ⟨S2048x2048, .f32⟩
  | .hbm, ⟨3, _⟩ => ⟨S_, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S8448x2048 : Shape := ⟨2, ![8448, 2048]⟩
abbrev S8448x11264 : Shape := ⟨2, ![8448, 11264]⟩
abbrev S4x2048x4608 : Shape := ⟨3, ![4, 2048, 4608]⟩
abbrev S768x1024 : Shape := ⟨2, ![768, 1024]⟩
abbrev S768x2816 : Shape := ⟨2, ![768, 2816]⟩
abbrev S1x1024x2816 : Shape := ⟨3, ![1, 1024, 2816]⟩
abbrev S1024x2816 : Shape := ⟨2, ![1024, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x11264, .bf16⟩
  | .hbm, ⟨2, _⟩ => ⟨S4x2048x4608, .bf16⟩
  | .hbm, ⟨3, _⟩ => ⟨S4x2048x4608, .bf16⟩
  | .local _ .vmem, ⟨0, _⟩ => ⟨S768x1024, .bf16⟩
  | .local _ .vmem, ⟨1, _⟩ => ⟨S768x1024, .bf16⟩
  | .local _ .vmem, ⟨2, _⟩ => ⟨S768x2816, .bf16⟩
  | .local _ .vmem, ⟨3, _⟩ => ⟨S768x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1024x2816, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg0.toNat, v27.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x2048 : Shape := ⟨2, ![8448, 2048]⟩
abbrev S8448x11264 : Shape := ⟨2, ![8448, 11264]⟩
abbrev S4x2048x4608 : Shape := ⟨3, ![4, 2048, 4608]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S4x2048x1792 : Shape := ⟨3, ![4, 2048, 1792]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x11264, .bf16⟩
  | .hbm, ⟨2, _⟩ => ⟨S4x2048x4608, .bf16⟩
  | .hbm, ⟨3, _⟩ => ⟨S_, .f32⟩
  | .hbm, ⟨4, _⟩ => ⟨S2048x11264, .f32⟩
  | .hbm, ⟨5, _⟩ => ⟨S8448x2048, .f32⟩
  | .hbm, ⟨6, _⟩ => ⟨S8448x11264, .f32⟩
  | .hbm, ⟨7, _⟩ => ⟨S8448x11264, .f32⟩
  | .hbm, ⟨8, _⟩ => ⟨S11264x2048, .f32⟩
  | .hbm, ⟨9, _⟩ => ⟨S2048x11264, .f32⟩
  | .hbm, ⟨10, _⟩ => ⟨S2048x11264, .bf16⟩
  | .hbm, ⟨11, _⟩ => ⟨S2048x4x2816, .bf16⟩
  | .hbm, ⟨12, _⟩ => ⟨S4x2048x2816, .bf16⟩
  | .hbm, ⟨13, _⟩ => ⟨S4x2048x1792, .bf16⟩
  | .hbm, ⟨14, _⟩ => ⟨S4x2048x4608, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel8.lean ====
abbrev S8448x2048 : Shape := ⟨2, ![8448, 2048]⟩
abbrev S8448x6144 : Shape := ⟨2, ![8448, 6144]⟩
abbrev S4x2048x4608 : Shape := ⟨3, ![4, 2048, 4608]⟩
abbrev S768x2048 : Shape := ⟨2, ![768, 2048]⟩
abbrev S768x1536 : Shape := ⟨2, ![768, 1536]⟩
abbrev S1x2048x1536 : Shape := ⟨3, ![1, 2048, 1536]⟩
abbrev S2048x1536 : Shape := ⟨2, ![2048, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x6144, .bf16⟩
  | .hbm, ⟨2, _⟩ => ⟨S4x2048x4608, .bf16⟩
  | .hbm, ⟨3, _⟩ => ⟨S4x2048x4608, .bf16⟩
  | .local _ .vmem, ⟨0, _⟩ => ⟨S768x2048, .bf16⟩
  | .local _ .vmem, ⟨1, _⟩ => ⟨S768x2048, .bf16⟩
  | .local _ .vmem, ⟨2, _⟩ => ⟨S768x1536, .bf16⟩
  | .local _ .vmem, ⟨3, _⟩ => ⟨S768x1536, .bf16⟩
  | .local _ .vmem, ⟨4, _⟩ => ⟨S1x2048x1536, .bf16⟩
  | .local _ .vmem, ⟨5, _⟩ => ⟨S1x2048x1536, .bf16⟩
  | .local _ .vmem, ⟨6, _⟩ => ⟨S2048x1536, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_11 : BitVec 32 := 0#32
  ![v16.toNat, arg0.toNat, v27.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x2048 : Shape := ⟨2, ![8448, 2048]⟩
abbrev S8448x6144 : Shape := ⟨2, ![8448, 6144]⟩
abbrev S4x2048x4608 : Shape := ⟨3, ![4, 2048, 4608]⟩
abbrev S_ : Shape := ⟨0, ![]⟩
abbrev S2048x6144 : Shape := ⟨2, ![2048, 6144]⟩
abbrev S6144x2048 : Shape := ⟨2, ![6144, 2048]⟩
abbrev S2048x4x1536 : Shape := ⟨3, ![2048, 4, 1536]⟩
abbrev S4x2048x1536 : Shape := ⟨3, ![4, 2048, 1536]⟩
abbrev S4x2048x3072 : Shape := ⟨3, ![4, 2048, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x6144, .bf16⟩
  | .hbm, ⟨2, _⟩ => ⟨S4x2048x4608, .bf16⟩
  | .hbm, ⟨3, _⟩ => ⟨S_, .f32⟩
  | .hbm, ⟨4, _⟩ => ⟨S2048x6144, .f32⟩
  | .hbm, ⟨5, _⟩ => ⟨S8448x2048, .f32⟩
  | .hbm, ⟨6, _⟩ => ⟨S8448x6144, .f32⟩
  | .hbm, ⟨7, _⟩ => ⟨S8448x6144, .f32⟩
  | .hbm, ⟨8, _⟩ => ⟨S6144x2048, .f32⟩
  | .hbm, ⟨9, _⟩ => ⟨S2048x6144, .f32⟩
  | .hbm, ⟨10, _⟩ => ⟨S2048x6144, .bf16⟩
  | .hbm, ⟨11, _⟩ => ⟨S2048x4x1536, .bf16⟩
  | .hbm, ⟨12, _⟩ => ⟨S4x2048x1536, .bf16⟩
  | .hbm, ⟨13, _⟩ => ⟨S4x2048x3072, .bf16⟩
  | .hbm, ⟨14, _⟩ => ⟨S4x2048x4608, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S8448x2048 : Shape := ⟨2, ![8448, 2048]⟩
abbrev S4x2048x2048 : Shape := ⟨3, ![4, 2048, 2048]⟩
abbrev S768x512 : Shape := ⟨2, ![768, 512]⟩
abbrev S768x2048 : Shape := ⟨2, ![768, 2048]⟩
abbrev S1x512x2048 : Shape := ⟨3, ![1, 512, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S4x2048x2048, .bf16⟩
  | .hbm, ⟨3, _⟩ => ⟨S4x2048x2048, .bf16⟩
  | .local _ .vmem, ⟨0, _⟩ => ⟨S768x512, .bf16⟩
  | .local _ .vmem, ⟨1, _⟩ => ⟨S768x512, .bf16⟩
  | .local _ .vmem, ⟨2, _⟩ => ⟨S768x2048, .bf16⟩
  | .local _ .vmem, ⟨3, _⟩ => ⟨S768x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![arg0.toNat, c3_i32.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference9Ideal.lean ====
abbrev S8448x2048 : Shape := ⟨2, ![8448, 2048]⟩
abbrev S4x2048x2048 : Shape := ⟨3, ![4, 2048, 2048]⟩
abbrev S_ : Shape := ⟨0, ![]⟩
abbrev S2048x2048 : Shape := ⟨2, ![2048, 2048]⟩
abbrev S4x512x2048 : Shape := ⟨3, ![4, 512, 2048]⟩
abbrev S4x1536x2048 : Shape := ⟨3, ![4, 1536, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S4x2048x2048, .bf16⟩
  | .hbm, ⟨3, _⟩ => ⟨S_, .f32⟩
  | .hbm, ⟨4, _⟩ => ⟨S2048x2048, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S4x512x2048, .bf16⟩
  | .hbm, ⟨12, _⟩ => ⟨S4x1536x2048, .bf16⟩
  | .hbm, ⟨13, _⟩ => ⟨S4x2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel10.lean ====
abbrev S8448x5632 : Shape := ⟨2, ![8448, 5632]⟩
abbrev S8448x2048 : Shape := ⟨2, ![8448, 2048]⟩
abbrev S4x2048x2048 : Shape := ⟨3, ![4, 2048, 2048]⟩
abbrev S768x1408 : Shape := ⟨2, ![768, 1408]⟩
abbrev S768x2048 : Shape := ⟨2, ![768, 2048]⟩
abbrev S1x1408x2048 : Shape := ⟨3, ![1, 1408, 2048]⟩
abbrev S1408x2048 : Shape := ⟨2, ![1408, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S4x2048x2048, .bf16⟩
  | .hbm, ⟨3, _⟩ => ⟨S4x2048x2048, .bf16⟩
  | .local _ .vmem, ⟨0, _⟩ => ⟨S768x1408, .bf16⟩
  | .local _ .vmem, ⟨1, _⟩ => ⟨S768x1408, .bf16⟩
  | .local _ .vmem, ⟨2, _⟩ => ⟨S768x2048, .bf16⟩
  | .local _ .vmem, ⟨3, _⟩ => ⟨S768x2048, .bf16⟩
  | .local _ .vmem, ⟨4, _⟩ => ⟨S1x1408x2048, .bf16⟩
  | .local _ .vmem, ⟨5, _⟩ => ⟨S1x1408x2048, .bf16⟩
  | .local _ .vmem, ⟨6, _⟩ => ⟨S1408x2048, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference10Ideal.lean ====
abbrev S8448x5632 : Shape := ⟨2, ![8448, 5632]⟩
abbrev S8448x2048 : Shape := ⟨2, ![8448, 2048]⟩
abbrev S4x2048x2048 : Shape := ⟨3, ![4, 2048, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩
abbrev S4x640x2048 : Shape := ⟨3, ![4, 640, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S4x2048x2048, .bf16⟩
  | .hbm, ⟨3, _⟩ => ⟨S_, .f32⟩
  | .hbm, ⟨4, _⟩ => ⟨S5632x2048, .f32⟩
  | .hbm, ⟨5, _⟩ => ⟨S8448x5632, .f32⟩
  | .hbm, ⟨6, _⟩ => ⟨S8448x2048, .f32⟩
  | .hbm, ⟨7, _⟩ => ⟨S8448x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | .hbm, ⟨11, _⟩ => ⟨S4x1408x2048, .bf16⟩
  | .hbm, ⟨12, _⟩ => ⟨S4x640x2048, .bf16⟩
  | .hbm, ⟨13, _⟩ => ⟨S4x2048x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel11.lean ====
abbrev S8448x3072 : Shape := ⟨2, ![8448, 3072]⟩
abbrev S2048x11264 : Shape := ⟨2, ![2048, 11264]⟩
abbrev S2048x3072 : Shape := ⟨2, ![2048, 3072]⟩
abbrev S_ : Shape := ⟨0, ![]⟩
abbrev S4x2048x256 : Shape := ⟨3, ![4, 2048, 256]⟩
abbrev S2048x4x2816 : Shape := ⟨3, ![2048, 4, 2816]⟩
abbrev S4x2048x2816 : Shape := ⟨3, ![4, 2048, 2816]⟩
abbrev S2048x4x768 : Shape := ⟨3, ![2048, 4, 768]⟩
abbrev S4x2048x768 : Shape := ⟨3, ![4, 2048, 768]⟩
abbrev S4x2048x3840 : Shape := ⟨3, ![4, 2048, 3840]⟩
abbrev S8448x2048 : Shape := ⟨2, ![8448, 2048]⟩
abbrev S768x768 : Shape := ⟨2, ![768, 768]⟩
abbrev S1x2048x768 : Shape := ⟨3, ![1, 2048, 768]⟩
abbrev S768x2048 : Shape := ⟨2, ![768, 2048]⟩
abbrev S2048x768 : Shape := ⟨2, ![2048, 768]⟩

abbrev nBuf : Space → Nat
  | .hbm => 12
  | .vmem => 7
  | .smem => 0
  | _ => 0

abbrev bufTy : (tb : Table) → Fin (tcTables nBuf tb) → BufTy
  | .hbm, ⟨0, _⟩ => ⟨S8448x3072, .bf16⟩
  | .hbm, ⟨1, _⟩ => ⟨S2048x11264, .f32⟩
  | .hbm, ⟨2, _⟩ => ⟨S2048x3072, .f32⟩
  | .hbm, ⟨3, _⟩ => ⟨S_, .f32⟩
  | .hbm, ⟨4, _⟩ => ⟨S4x2048x256, .f32⟩
  | .hbm, ⟨5, _⟩ => ⟨S2048x4x2816, .f32⟩
  | .hbm, ⟨6, _⟩ => ⟨S4x2048x2816, .f32⟩
  | .hbm, ⟨7, _⟩ => ⟨S2048x4x768, .f32⟩
  | .hbm, ⟨8, _⟩ => ⟨S4x2048x768, .f32⟩
  | .hbm, ⟨9, _⟩ => ⟨S4x2048x3840, .f32⟩
  | .hbm, ⟨10, _⟩ => ⟨S4x2048x3840, .bf16⟩
  | .hbm, ⟨11, _⟩ => ⟨S8448x2048, .f32⟩
  | .local _ .vmem, ⟨0, _⟩ => ⟨S768x768, .bf16⟩
  | .local _ .vmem, ⟨1, _⟩ => ⟨S768x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_11 : BitVec 32 := 0#32
  let c0_i32_12 : BitVec 32 := 0#32
  ![v16.toNat, c0_i32_11.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S768x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S8448x3072 : Shape := ⟨2, ![8448, 3072]⟩
abbrev S2048x11264 : Shape := ⟨2, ![2048, 11264]⟩
abbrev S2048x3072 : Shape := ⟨2, ![2048, 3072]⟩
abbrev S_ : Shape := ⟨0, ![]⟩
abbrev S8448x2048 : Shape := ⟨2, ![8448, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x3072, .bf16⟩
  | .hbm, ⟨1, _⟩ => ⟨S2048x11264, .f32⟩
  | .hbm, ⟨2, _⟩ => ⟨S2048x3072, .f32⟩
  | .hbm, ⟨3, _⟩ => ⟨S_, .f32⟩
  | .hbm, ⟨4, _⟩ => ⟨S8448x2048, .f32⟩
  | .hbm, ⟨5, _⟩ => ⟨S8448x3072, .f32⟩
  | .hbm, ⟨6, _⟩ => ⟨S8448x3072, .f32⟩
  | .hbm, ⟨7, _⟩ => ⟨S8448x2048, .f32⟩
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel12.lean ====
abbrev S8448x2048 : Shape := ⟨2, ![8448, 2048]⟩
abbrev S8448x3072 : Shape := ⟨2, ![8448, 3072]⟩
abbrev S4x2048x3840 : Shape := ⟨3, ![4, 2048, 3840]⟩
abbrev S768x2048 : Shape := ⟨2, ![768, 2048]⟩
abbrev S768x768 : Shape := ⟨2, ![768, 768]⟩
abbrev S1x2048x768 : Shape := ⟨3, ![1, 2048, 768]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x3072, .bf16⟩
  | .hbm, ⟨2, _⟩ => ⟨S4x2048x3840, .bf16⟩
  | .hbm, ⟨3, _⟩ => ⟨S4x2048x3840, .bf16⟩
  | .local _ .vmem, ⟨0, _⟩ => ⟨S768x2048, .bf16⟩
  | .local _ .vmem, ⟨1, _⟩ => ⟨S768x2048, .bf16⟩
  | .local _ .vmem, ⟨2, _⟩ => ⟨S768x768, .bf16⟩
  | .local _ .vmem, ⟨3, _⟩ => ⟨S768x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_11 : BitVec 32 := 0#32
  ![v16.toNat, arg0.toNat, v27.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8448x2048 : Shape := ⟨2, ![8448, 2048]⟩
abbrev S8448x3072 : Shape := ⟨2, ![8448, 3072]⟩
abbrev S4x2048x3840 : Shape := ⟨3, ![4, 2048, 3840]⟩
abbrev S_ : Shape := ⟨0, ![]⟩
abbrev S2048x3072 : Shape := ⟨2, ![2048, 3072]⟩
abbrev S3072x2048 : Shape := ⟨2, ![3072, 2048]⟩
abbrev S2048x4x768 : Shape := ⟨3, ![2048, 4, 768]⟩
abbrev S4x2048x768 : Shape := ⟨3, ![4, 2048, 768]⟩
abbrev S4x2048x3072 : Shape := ⟨3, ![4, 2048, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x3072, .bf16⟩
  | .hbm, ⟨2, _⟩ => ⟨S4x2048x3840, .bf16⟩
  | .hbm, ⟨3, _⟩ => ⟨S_, .f32⟩
  | .hbm, ⟨4, _⟩ => ⟨S2048x3072, .f32⟩
  | .hbm, ⟨5, _⟩ => ⟨S8448x2048, .f32⟩
  | .hbm, ⟨6, _⟩ => ⟨S8448x3072, .f32⟩
  | .hbm, ⟨7, _⟩ => ⟨S8448x3072, .f32⟩
  | .hbm, ⟨8, _⟩ => ⟨S3072x2048, .f32⟩
  | .hbm, ⟨9, _⟩ => ⟨S2048x3072, .f32⟩
  | .hbm, ⟨10, _⟩ => ⟨S2048x3072, .bf16⟩
  | .hbm, ⟨11, _⟩ => ⟨S2048x4x768, .bf16⟩
  | .hbm, ⟨12, _⟩ => ⟨S4x2048x768, .bf16⟩
  | .hbm, ⟨13, _⟩ => ⟨S4x2048x3072, .bf16⟩
  | .hbm, ⟨14, _⟩ => ⟨S4x2048x3840, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel13.lean ====
abbrev S8448x2048 : Shape := ⟨2, ![8448, 2048]⟩
abbrev S2048x11264 : Shape := ⟨2, ![2048, 11264]⟩
abbrev S2048x6144 : Shape := ⟨2, ![2048, 6144]⟩
abbrev S_ : Shape := ⟨0, ![]⟩
abbrev S4x2048x256 : Shape := ⟨3, ![4, 2048, 256]⟩
abbrev S2048x4x2816 : Shape := ⟨3, ![2048, 4, 2816]⟩
abbrev S4x2048x2816 : Shape := ⟨3, ![4, 2048, 2816]⟩
abbrev S2048x4x1536 : Shape := ⟨3, ![2048, 4, 1536]⟩
abbrev S4x2048x1536 : Shape := ⟨3, ![4, 2048, 1536]⟩
abbrev S4x2048x4608 : Shape := ⟨3, ![4, 2048, 4608]⟩
abbrev S8448x6144 : Shape := ⟨2, ![8448, 6144]⟩
abbrev S1056x2048 : Shape := ⟨2, ![1056, 2048]⟩
abbrev S1x2048x1536 : Shape := ⟨3, ![1, 2048, 1536]⟩
abbrev S1056x1536 : Shape := ⟨2, ![1056, 1536]⟩
abbrev S2048x1536 : Shape := ⟨2, ![2048, 1536]⟩

abbrev nBuf : Space → Nat
  | .hbm => 12
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .f32⟩
  | .hbm, ⟨2, _⟩ => ⟨S2048x6144, .f32⟩
  | .hbm, ⟨3, _⟩ => ⟨S_, .f32⟩
  | .hbm, ⟨4, _⟩ => ⟨S4x2048x256, .f32⟩
  | .hbm, ⟨5, _⟩ => ⟨S2048x4x2816, .f32⟩
  | .hbm, ⟨6, _⟩ => ⟨S4x2048x2816, .f32⟩
  | .hbm, ⟨7, _⟩ => ⟨S2048x4x1536, .f32⟩
  | .hbm, ⟨8, _⟩ => ⟨S4x2048x1536, .f32⟩
  | .hbm, ⟨9, _⟩ => ⟨S4x2048x4608, .f32⟩
  | .hbm, ⟨10, _⟩ => ⟨S4x2048x4608, .bf16⟩
  | .hbm, ⟨11, _⟩ => ⟨S8448x6144, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1056x1536, .bf16⟩
  | .local _ .vmem, ⟨5, _⟩ => ⟨S1056x1536, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_11 : BitVec 32 := 0#32
  let c0_i32_12 : BitVec 32 := 0#32
  ![v16.toNat, c0_i32_11.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1056x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8448x2048 : Shape := ⟨2, ![8448, 2048]⟩
abbrev S2048x11264 : Shape := ⟨2, ![2048, 11264]⟩
abbrev S2048x6144 : Shape := ⟨2, ![2048, 6144]⟩
abbrev S8448x6144 : Shape := ⟨2, ![8448, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .f32⟩
  | .hbm, ⟨2, _⟩ => ⟨S2048x6144, .f32⟩
  | .hbm, ⟨3, _⟩ => ⟨S8448x2048, .f32⟩
  | .hbm, ⟨4, _⟩ => ⟨S8448x6144, .f32⟩
  | .hbm, ⟨5, _⟩ => ⟨S8448x6144, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8448x2048 : Shape := ⟨2, ![8448, 2048]⟩
abbrev S2048x11264 : Shape := ⟨2, ![2048, 11264]⟩
abbrev S2048x6144 : Shape := ⟨2, ![2048, 6144]⟩
abbrev S_ : Shape := ⟨0, ![]⟩
abbrev S4x2048x256 : Shape := ⟨3, ![4, 2048, 256]⟩
abbrev S2048x4x2816 : Shape := ⟨3, ![2048, 4, 2816]⟩
abbrev S4x2048x2816 : Shape := ⟨3, ![4, 2048, 2816]⟩
abbrev S2048x4x1536 : Shape := ⟨3, ![2048, 4, 1536]⟩
abbrev S4x2048x1536 : Shape := ⟨3, ![4, 2048, 1536]⟩
abbrev S4x2048x4608 : Shape := ⟨3, ![4, 2048, 4608]⟩
abbrev S8448x11264 : Shape := ⟨2, ![8448, 11264]⟩
abbrev S528x2048 : Shape := ⟨2, ![528, 2048]⟩
abbrev S1x2048x2816 : Shape := ⟨3, ![1, 2048, 2816]⟩
abbrev S528x2816 : Shape := ⟨2, ![528, 2816]⟩
abbrev S2048x2816 : Shape := ⟨2, ![2048, 2816]⟩

abbrev nBuf : Space → Nat
  | .hbm => 12
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .f32⟩
  | .hbm, ⟨2, _⟩ => ⟨S2048x6144, .f32⟩
  | .hbm, ⟨3, _⟩ => ⟨S_, .f32⟩
  | .hbm, ⟨4, _⟩ => ⟨S4x2048x256, .f32⟩
  | .hbm, ⟨5, _⟩ => ⟨S2048x4x2816, .f32⟩
  | .hbm, ⟨6, _⟩ => ⟨S4x2048x2816, .f32⟩
  | .hbm, ⟨7, _⟩ => ⟨S2048x4x1536, .f32⟩
  | .hbm, ⟨8, _⟩ => ⟨S4x2048x1536, .f32⟩
  | .hbm, ⟨9, _⟩ => ⟨S4x2048x4608, .f32⟩
  | .hbm, ⟨10, _⟩ => ⟨S4x2048x4608, .bf16⟩
  | .hbm, ⟨11, _⟩ => ⟨S8448x11264, .bf16⟩
  | .local _ .vmem, ⟨0, _⟩ => ⟨S528x2048, .bf16⟩
  | .local _ .vmem, ⟨1, _⟩ => ⟨S528x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S528x2816, .bf16⟩
  | .local _ .vmem, ⟨5, _⟩ => ⟨S528x2816, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S528x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8448x2048 : Shape := ⟨2, ![8448, 2048]⟩
abbrev S2048x11264 : Shape := ⟨2, ![2048, 11264]⟩
abbrev S2048x6144 : Shape := ⟨2, ![2048, 6144]⟩
abbrev S8448x11264 : Shape := ⟨2, ![8448, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .f32⟩
  | .hbm, ⟨2, _⟩ => ⟨S2048x6144, .f32⟩
  | .hbm, ⟨3, _⟩ => ⟨S8448x2048, .f32⟩
  | .hbm, ⟨4, _⟩ => ⟨S8448x11264, .f32⟩
  | .hbm, ⟨5, _⟩ => ⟨S8448x11264, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S8448x2048 : Shape := ⟨2, ![8448, 2048]⟩
abbrev S2048x11264 : Shape := ⟨2, ![2048, 11264]⟩
abbrev S2048x3072 : Shape := ⟨2, ![2048, 3072]⟩
abbrev S_ : Shape := ⟨0, ![]⟩
abbrev S4x2048x256 : Shape := ⟨3, ![4, 2048, 256]⟩
abbrev S2048x4x2816 : Shape := ⟨3, ![2048, 4, 2816]⟩
abbrev S4x2048x2816 : Shape := ⟨3, ![4, 2048, 2816]⟩
abbrev S2048x4x768 : Shape := ⟨3, ![2048, 4, 768]⟩
abbrev S4x2048x768 : Shape := ⟨3, ![4, 2048, 768]⟩
abbrev S4x2048x3840 : Shape := ⟨3, ![4, 2048, 3840]⟩
abbrev S8448x3072 : Shape := ⟨2, ![8448, 3072]⟩
abbrev S1056x2048 : Shape := ⟨2, ![1056, 2048]⟩
abbrev S1x2048x768 : Shape := ⟨3, ![1, 2048, 768]⟩
abbrev S1056x768 : Shape := ⟨2, ![1056, 768]⟩
abbrev S2048x768 : Shape := ⟨2, ![2048, 768]⟩

abbrev nBuf : Space → Nat
  | .hbm => 12
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .f32⟩
  | .hbm, ⟨2, _⟩ => ⟨S2048x3072, .f32⟩
  | .hbm, ⟨3, _⟩ => ⟨S_, .f32⟩
  | .hbm, ⟨4, _⟩ => ⟨S4x2048x256, .f32⟩
  | .hbm, ⟨5, _⟩ => ⟨S2048x4x2816, .f32⟩
  | .hbm, ⟨6, _⟩ => ⟨S4x2048x2816, .f32⟩
  | .hbm, ⟨7, _⟩ => ⟨S2048x4x768, .f32⟩
  | .hbm, ⟨8, _⟩ => ⟨S4x2048x768, .f32⟩
  | .hbm, ⟨9, _⟩ => ⟨S4x2048x3840, .f32⟩
  | .hbm, ⟨10, _⟩ => ⟨S4x2048x3840, .bf16⟩
  | .hbm, ⟨11, _⟩ => ⟨S8448x3072, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1056x768, .bf16⟩
  | .local _ .vmem, ⟨5, _⟩ => ⟨S1056x768, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_11 : BitVec 32 := 0#32
  let c0_i32_12 : BitVec 32 := 0#32
  ![v16.toNat, c0_i32_11.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1056x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8448x2048 : Shape := ⟨2, ![8448, 2048]⟩
abbrev S2048x11264 : Shape := ⟨2, ![2048, 11264]⟩
abbrev S2048x3072 : Shape := ⟨2, ![2048, 3072]⟩
abbrev S8448x3072 : Shape := ⟨2, ![8448, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .f32⟩
  | .hbm, ⟨2, _⟩ => ⟨S2048x3072, .f32⟩
  | .hbm, ⟨3, _⟩ => ⟨S8448x2048, .f32⟩
  | .hbm, ⟨4, _⟩ => ⟨S8448x3072, .f32⟩
  | .hbm, ⟨5, _⟩ => ⟨S8448x3072, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S8448x2048 : Shape := ⟨2, ![8448, 2048]⟩
abbrev S5632x2048 : Shape := ⟨2, ![5632, 2048]⟩
abbrev S2048x2048 : Shape := ⟨2, ![2048, 2048]⟩
abbrev S2x8x2048 : Shape := ⟨3, ![2, 8, 2048]⟩
abbrev S_ : Shape := ⟨0, ![]⟩
abbrev S4x128x2048 : Shape := ⟨3, ![4, 128, 2048]⟩
abbrev S4x1408x2048 : Shape := ⟨3, ![4, 1408, 2048]⟩
abbrev S4x512x2048 : Shape := ⟨3, ![4, 512, 2048]⟩
abbrev S4x2048x2048 : Shape := ⟨3, ![4, 2048, 2048]⟩
abbrev S1056x2048 : Shape := ⟨2, ![1056, 2048]⟩
abbrev S4x512x1024 : Shape := ⟨3, ![4, 512, 1024]⟩
abbrev S1056x1024 : Shape := ⟨2, ![1056, 1024]⟩
abbrev S2x8x1024 : Shape := ⟨3, ![2, 8, 1024]⟩
abbrev S2048x1024 : Shape := ⟨2, ![2048, 1024]⟩
abbrev S1056x1 : Shape := ⟨2, ![1056, 1]⟩
abbrev S1x1x1024 : Shape := ⟨3, ![1, 1, 1024]⟩
abbrev S1x1024 : Shape := ⟨2, ![1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .f32⟩
  | .hbm, ⟨2, _⟩ => ⟨S2048x2048, .f32⟩
  | .hbm, ⟨3, _⟩ => ⟨S8448x2048, .f32⟩
  | .hbm, ⟨4, _⟩ => ⟨S2x8x2048, .f32⟩
  | .hbm, ⟨5, _⟩ => ⟨S_, .f32⟩
  | .hbm, ⟨6, _⟩ => ⟨S4x128x2048, .f32⟩
  | .hbm, ⟨7, _⟩ => ⟨S4x1408x2048, .f32⟩
  | .hbm, ⟨8, _⟩ => ⟨S4x512x2048, .f32⟩
  | .hbm, ⟨9, _⟩ => ⟨S4x2048x2048, .f32⟩
  | .hbm, ⟨10, _⟩ => ⟨S4x2048x2048, .bf16⟩
  | .hbm, ⟨11, _⟩ => ⟨S8448x2048, .f32⟩
  | .hbm, ⟨12, _⟩ => ⟨S8448x2048, .bf16⟩
  | .local _ .vmem, ⟨0, _⟩ => ⟨S1056x2048, .bf16⟩
  | .local _ .vmem, ⟨1, _⟩ => ⟨S1056x2048, .bf16⟩
  | .local _ .vmem, ⟨2, _⟩ => ⟨S4x512x1024, .bf16⟩
  | .local _ .vmem, ⟨3, _⟩ => ⟨S4x512x1024, .bf16⟩
  | .local _ .vmem, ⟨4, _⟩ => ⟨S1056x1024, .f32⟩
  | .local _ .vmem, ⟨5, _⟩ => ⟨S1056x1024, .f32⟩
  | .local _ .vmem, ⟨6, _⟩ => ⟨S2x8x1024, .f32⟩
  | .local _ .vmem, ⟨7, _⟩ => ⟨S2x8x1024, .f32⟩
  | .local _ .vmem, ⟨8, _⟩ => ⟨S1056x1024, .f32⟩
  | .local _ .vmem, ⟨9, _⟩ => ⟨S1056x1024, .f32⟩
  | .local _ .vmem, ⟨10, _⟩ => ⟨S1056x1024, .bf16⟩
  | .local _ .vmem, ⟨11, _⟩ => ⟨S1056x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg2.toNat, c3_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference16Ideal.lean ====
abbrev S8448x2048 : Shape := ⟨2, ![8448, 2048]⟩
abbrev S5632x2048 : Shape := ⟨2, ![5632, 2048]⟩
abbrev S2048x2048 : Shape := ⟨2, ![2048, 2048]⟩
abbrev S2x8x2048 : Shape := ⟨3, ![2, 8, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .f32⟩
  | .hbm, ⟨2, _⟩ => ⟨S2048x2048, .f32⟩
  | .hbm, ⟨3, _⟩ => ⟨S8448x2048, .f32⟩
  | .hbm, ⟨4, _⟩ => ⟨S2x8x2048, .f32⟩
  | .hbm, ⟨5, _⟩ => ⟨S8448x2048, .f32⟩
  | .hbm, ⟨6, _⟩ => ⟨S8448x2048, .f32⟩
  | .hbm, ⟨7, _⟩ => ⟨S256x2048, .f32⟩
  | .hbm, ⟨8, _⟩ => ⟨S1x1x2048, .f32⟩
  | .hbm, ⟨9, _⟩ => ⟨S2048, .f32⟩
  | .hbm, ⟨10, _⟩ => ⟨S256x2048, .f32⟩
  | .hbm, ⟨11, _⟩ => ⟨S1x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S8192x2048, .f32⟩
  | .hbm, ⟨16, _⟩ => ⟨S1x1x2048, .f32⟩
  | .hbm, ⟨17, _⟩ => ⟨S2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | .hbm, ⟨24, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel17.lean ====
abbrev S8448x5632 : Shape := ⟨2, ![8448, 5632]⟩
abbrev S5632x2048 : Shape := ⟨2, ![5632, 2048]⟩
abbrev S2048x2048 : Shape := ⟨2, ![2048, 2048]⟩
abbrev S8448x2048 : Shape := ⟨2, ![8448, 2048]⟩
abbrev S2x8x2048 : Shape := ⟨3, ![2, 8, 2048]⟩
abbrev S_ : Shape := ⟨0, ![]⟩
abbrev S4x128x2048 : Shape := ⟨3, ![4, 128, 2048]⟩
abbrev S4x1408x2048 : Shape := ⟨3, ![4, 1408, 2048]⟩
abbrev S4x512x2048 : Shape := ⟨3, ![4, 512, 2048]⟩
abbrev S4x2048x2048 : Shape := ⟨3, ![4, 2048, 2048]⟩
abbrev S1056x2816 : Shape := ⟨2, ![1056, 2816]⟩
abbrev S2x1408x1024 : Shape := ⟨3, ![2, 1408, 1024]⟩
abbrev S1056x1024 : Shape := ⟨2, ![1056, 1024]⟩
abbrev S2x8x1024 : Shape := ⟨3, ![2, 8, 1024]⟩
abbrev S2816x1024 : Shape := ⟨2, ![2816, 1024]⟩
abbrev S1056x1 : Shape := ⟨2, ![1056, 1]⟩
abbrev S1x1x1024 : Shape := ⟨3, ![1, 1, 1024]⟩
abbrev S1x1024 : Shape := ⟨2, ![1, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .f32⟩
  | .hbm, ⟨2, _⟩ => ⟨S2048x2048, .f32⟩
  | .hbm, ⟨3, _⟩ => ⟨S8448x2048, .f32⟩
  | .hbm, ⟨4, _⟩ => ⟨S2x8x2048, .f32⟩
  | .hbm, ⟨5, _⟩ => ⟨S_, .f32⟩
  | .hbm, ⟨6, _⟩ => ⟨S4x128x2048, .f32⟩
  | .hbm, ⟨7, _⟩ => ⟨S4x1408x2048, .f32⟩
  | .hbm, ⟨8, _⟩ => ⟨S4x512x2048, .f32⟩
  | .hbm, ⟨9, _⟩ => ⟨S4x2048x2048, .f32⟩
  | .hbm, ⟨10, _⟩ => ⟨S4x2048x2048, .bf16⟩
  | .hbm, ⟨11, _⟩ => ⟨S8448x2048, .f32⟩
  | .hbm, ⟨12, _⟩ => ⟨S8448x2048, .bf16⟩
  | .local _ .vmem, ⟨0, _⟩ => ⟨S1056x2816, .bf16⟩
  | .local _ .vmem, ⟨1, _⟩ => ⟨S1056x2816, .bf16⟩
  | .local _ .vmem, ⟨2, _⟩ => ⟨S2x1408x1024, .bf16⟩
  | .local _ .vmem, ⟨3, _⟩ => ⟨S2x1408x1024, .bf16⟩
  | .local _ .vmem, ⟨4, _⟩ => ⟨S1056x1024, .f32⟩
  | .local _ .vmem, ⟨5, _⟩ => ⟨S1056x1024, .f32⟩
  | .local _ .vmem, ⟨6, _⟩ => ⟨S2x8x1024, .f32⟩
  | .local _ .vmem, ⟨7, _⟩ => ⟨S2x8x1024, .f32⟩
  | .local _ .vmem, ⟨8, _⟩ => ⟨S1056x1024, .f32⟩
  | .local _ .vmem, ⟨9, _⟩ => ⟨S1056x1024, .f32⟩
  | .local _ .vmem, ⟨10, _⟩ => ⟨S1056x1024, .bf16⟩
  | .local _ .vmem, ⟨11, _⟩ => ⟨S1056x1024, .bf16⟩
  | .local _ .vmem, ⟨12, _⟩ => ⟨S1056x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference17Ideal.lean ====
abbrev S8448x5632 : Shape := ⟨2, ![8448, 5632]⟩
abbrev S5632x2048 : Shape := ⟨2, ![5632, 2048]⟩
abbrev S2048x2048 : Shape := ⟨2, ![2048, 2048]⟩
abbrev S8448x2048 : Shape := ⟨2, ![8448, 2048]⟩
abbrev S2x8x2048 : Shape := ⟨3, ![2, 8, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .f32⟩
  | .hbm, ⟨2, _⟩ => ⟨S2048x2048, .f32⟩
  | .hbm, ⟨3, _⟩ => ⟨S8448x2048, .f32⟩
  | .hbm, ⟨4, _⟩ => ⟨S2x8x2048, .f32⟩
  | .hbm, ⟨5, _⟩ => ⟨S8448x5632, .f32⟩
  | .hbm, ⟨6, _⟩ => ⟨S8448x2048, .f32⟩
  | .hbm, ⟨7, _⟩ => ⟨S256x2048, .f32⟩
  | .hbm, ⟨8, _⟩ => ⟨S1x1x2048, .f32⟩
  | .hbm, ⟨9, _⟩ => ⟨S2048, .f32⟩
  | .hbm, ⟨10, _⟩ => ⟨S256x2048, .f32⟩
  | .hbm, ⟨11, _⟩ => ⟨S1x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S8192x2048, .f32⟩
  | .hbm, ⟨16, _⟩ => ⟨S1x1x2048, .f32⟩
  | .hbm, ⟨17, _⟩ => ⟨S2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | .hbm, ⟨24, _⟩ => ⟨S8448x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel18.lean ====
abbrev S2x2048x768 : Shape := ⟨3, ![2, 2048, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S2x2048x768 : Shape := ⟨3, ![2, 2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x768, .f32⟩
  | .hbm, ⟨4, _⟩ => ⟨S_, .f32⟩
  | .hbm, ⟨5, _⟩ => ⟨S2x2048x768, .f32⟩
  | .hbm, ⟨6, _⟩ => ⟨S2x2048x768, .f32⟩
  | .hbm, ⟨7, _⟩ => ⟨S_, .f32⟩
  | .hbm, ⟨8, _⟩ => ⟨S2x2048x768, .f32⟩
  | .hbm, ⟨9, _⟩ => ⟨S2x2048x768, .f32⟩
  | .hbm, ⟨10, _⟩ => ⟨S2x2048x768, .f32⟩
  | .hbm, ⟨11, _⟩ => ⟨S_, .f32⟩
  | .hbm, ⟨12, _⟩ => ⟨S2x2048x768, .f32⟩
  | .hbm, ⟨13, _⟩ => ⟨S2x2048x768, .f32⟩
  | .hbm, ⟨14, _⟩ => ⟨S2x2048x768, .f32⟩
  | .hbm, ⟨15, _⟩ => ⟨S_, .f32⟩
  | .hbm, ⟨16, _⟩ => ⟨S2x2048x768, .f32⟩
  | .hbm, ⟨17, _⟩ => ⟨S2x2048x768, .f32⟩
  | .hbm, ⟨18, _⟩ => ⟨S2x2048x768, .f32⟩
  | .hbm, ⟨19, _⟩ => ⟨S_, .f32⟩
  | .hbm, ⟨20, _⟩ => ⟨S2x2048x768, .f32⟩
  | .hbm, ⟨21, _⟩ => ⟨S2x2048x768, .f32⟩
  | .hbm, ⟨22, _⟩ => ⟨S_, .f32⟩
  | .hbm, ⟨23, _⟩ => ⟨S2x2048x768, .f32⟩
  | .hbm, ⟨24, _⟩ => ⟨S2x2048x768, .f32⟩
  | .hbm, ⟨25, _⟩ => ⟨S2x2048x768, .f32⟩
  | .hbm, ⟨26, _⟩ => ⟨S_, .f32⟩
  | .hbm, ⟨27, _⟩ => ⟨S2x2048x768, .f32⟩
  | .hbm, ⟨28, _⟩ => ⟨S2x2048x768, .f32⟩
  | .hbm, ⟨29, _⟩ => ⟨S2x2048x768, .f32⟩
  | .hbm, ⟨30, _⟩ => ⟨S_, .f32⟩
  | .hbm, ⟨31, _⟩ => ⟨S2x2048x768, .f32⟩
  | .hbm, ⟨32, _⟩ => ⟨S2x2048x768, .f32⟩
  | .hbm, ⟨33, _⟩ => ⟨S2x2048x768, .f32⟩
  | .hbm, ⟨34, _⟩ => ⟨S_, .f32⟩
  | .hbm, ⟨35, _⟩ => ⟨S2x2048x768, .f32⟩
  | .hbm, ⟨36, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x512x2048 : Shape := ⟨3, ![2, 512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x2048x1536 : Shape := ⟨3, ![2, 2048, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S2x2048x1536 : Shape := ⟨3, ![2, 2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S_, .f32⟩
  | .hbm, ⟨5, _⟩ => ⟨S2x2048x1536, .f32⟩
  | .hbm, ⟨6, _⟩ => ⟨S2x2048x1536, .f32⟩
  | .hbm, ⟨7, _⟩ => ⟨S_, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S_, .f32⟩
  | .hbm, ⟨12, _⟩ => ⟨S2x2048x1536, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S_, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S_, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4x2048x2816 : Shape := ⟨3, ![4, 2048, 2816]⟩
abbrev S1x128x2816 : Shape := ⟨3, ![1, 128, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .local _ .vmem, ⟨0, _⟩ => ⟨S1x128x2816, .f32⟩
  | .local _ .vmem, ⟨1, _⟩ => ⟨S1x128x2816, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .f32⟩
  | .local _ .vmem, ⟨5, _⟩ => ⟨S1x128x2816, .f32⟩
  | .local _ .vmem, ⟨6, _⟩ => ⟨S1x128x2816, .f32⟩
  | .local _ .vmem, ⟨7, _⟩ => ⟨S1x128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference21Ideal.lean ====
abbrev S4x2048x2816 : Shape := ⟨3, ![4, 2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S_, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S4x2048x2816, .f32⟩
  | .hbm, ⟨11, _⟩ => ⟨S_, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S_, .f32⟩
  | .hbm, ⟨20, _⟩ => ⟨S4x2048x2816, .f32⟩
  | .hbm, ⟨21, _⟩ => ⟨S4x2048x2816, .f32⟩
  | .hbm, ⟨22, _⟩ => ⟨S_, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S_, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S_, .f32⟩
  | .hbm, ⟨35, _⟩ => ⟨S4x2048x2816, .f32⟩
  | .hbm, ⟨36, _⟩ => ⟨S4x2048x2816, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x1408x2048 : Shape := ⟨3, ![4, 1408, 2048]⟩
abbrev S1x176x2048 : Shape := ⟨3, ![1, 176, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference22Ideal.lean ====
abbrev S4x1408x2048 : Shape := ⟨3, ![4, 1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S_, .f32⟩
  | .hbm, ⟨5, _⟩ => ⟨S4x1408x2048, .f32⟩
  | .hbm, ⟨6, _⟩ => ⟨S4x1408x2048, .f32⟩
  | .hbm, ⟨7, _⟩ => ⟨S_, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S_, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S_, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S4x1408x2048, .f32⟩
  | .hbm, ⟨34, _⟩ => ⟨S_, .f32⟩
  | .hbm, ⟨35, _⟩ => ⟨S4x1408x2048, .f32⟩
  | .hbm, ⟨36, _⟩ => ⟨S4x1408x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048 : Shape := ⟨1, ![2048]⟩
abbrev S1x1x2048 : Shape := ⟨3, ![1, 1, 2048]⟩
abbrev S1x2048 : Shape := ⟨2, ![1, 2048]⟩

abbrev nBuf : Space → Nat
  | .hbm => 13
  | .vmem => 8
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference23Ideal.lean ====
abbrev S2048 : Shape := ⟨1, ![2048]⟩
abbrev S_ : Shape := ⟨0, ![]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S1x1x2048, .f32⟩
  | .hbm, ⟨38, _⟩ => ⟨S1x1x2048, .f32⟩
  | .hbm, ⟨39, _⟩ => ⟨S1x1x2048, .f32⟩
  | .hbm, ⟨40, _⟩ => ⟨S1x1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel24.lean ====
abbrev S4x12288 : Shape := ⟨2, ![4, 12288]⟩
abbrev S1x4x12288 : Shape := ⟨3, ![1, 4, 12288]⟩

abbrev nBuf : Space → Nat
  | .hbm => 13
  | .vmem => 8
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S1x4x12288, .f32⟩
  | .hbm, ⟨5, _⟩ => ⟨S1x4x12288, .f32⟩
  | .hbm, ⟨6, _⟩ => ⟨S1x4x12288, .f32⟩
  | .hbm, ⟨7, _⟩ => ⟨S1x4x12288, .f32⟩
  | .hbm, ⟨8, _⟩ => ⟨S1x4x12288, .f32⟩
  | .hbm, ⟨9, _⟩ => ⟨S1x4x12288, .f32⟩
  | .hbm, ⟨10, _⟩ => ⟨S1x4x12288, .f32⟩
  | .hbm, ⟨11, _⟩ => ⟨S1x4x12288, .f32⟩
  | .hbm, ⟨12, _⟩ => ⟨S1x4x12288, .f32⟩
  | .local _ .vmem, ⟨0, _⟩ => ⟨S1x4x12288, .f32⟩
  | .local _ .vmem, ⟨1, _⟩ => ⟨S1x4x12288, .f32⟩
  | .local _ .vmem, ⟨2, _⟩ => ⟨S1x4x12288, .f32⟩
  | .local _ .vmem, ⟨3, _⟩ => ⟨S1x4x12288, .f32⟩
  | .local _ .vmem, ⟨4, _⟩ => ⟨S1x4x12288, .f32⟩
  | .local _ .vmem, ⟨5, _⟩ => ⟨S1x4x12288, .f32⟩
  | .local _ .vmem, ⟨6, _⟩ => ⟨S1x4x12288, .f32⟩
  | .local _ .vmem, ⟨7, _⟩ => ⟨S1x4x12288, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference24Ideal.lean ====
abbrev S4x12288 : Shape := ⟨2, ![4, 12288]⟩
abbrev S_ : Shape := ⟨0, ![]⟩
abbrev S1x4x12288 : Shape := ⟨3, ![1, 4, 12288]⟩

abbrev nBuf : Space → Nat
  | .hbm => 41
  | .vmem => 0
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S_, .f32⟩
  | .hbm, ⟨5, _⟩ => ⟨S4x12288, .f32⟩
  | .hbm, ⟨6, _⟩ => ⟨S4x12288, .f32⟩
  | .hbm, ⟨7, _⟩ => ⟨S_, .f32⟩
  | .hbm, ⟨8, _⟩ => ⟨S4x12288, .f32⟩
  | .hbm, ⟨9, _⟩ => ⟨S4x12288, .f32⟩
  | .hbm, ⟨10, _⟩ => ⟨S4x12288, .f32⟩
  | .hbm, ⟨11, _⟩ => ⟨S_, .f32⟩
  | .hbm, ⟨12, _⟩ => ⟨S4x12288, .f32⟩
  | .hbm, ⟨13, _⟩ => ⟨S4x12288, .f32⟩
  | .hbm, ⟨14, _⟩ => ⟨S4x12288, .f32⟩
  | .hbm, ⟨15, _⟩ => ⟨S_, .f32⟩
  | .hbm, ⟨16, _⟩ => ⟨S4x12288, .f32⟩
  | .hbm, ⟨17, _⟩ => ⟨S4x12288, .f32⟩
  | .hbm, ⟨18, _⟩ => ⟨S4x12288, .f32⟩
  | .hbm, ⟨19, _⟩ => ⟨S_, .f32⟩
  | .hbm, ⟨20, _⟩ => ⟨S4x12288, .f32⟩
  | .hbm, ⟨21, _⟩ => ⟨S4x12288, .f32⟩
  | .hbm, ⟨22, _⟩ => ⟨S_, .f32⟩
  | .hbm, ⟨23, _⟩ => ⟨S4x12288, .f32⟩
  | .hbm, ⟨24, _⟩ => ⟨S4x12288, .f32⟩
  | .hbm, ⟨25, _⟩ => ⟨S4x12288, .f32⟩
  | .hbm, ⟨26, _⟩ => ⟨S_, .f32⟩
  | .hbm, ⟨27, _⟩ => ⟨S4x12288, .f32⟩
  | .hbm, ⟨28, _⟩ => ⟨S4x12288, .f32⟩
  | .hbm, ⟨29, _⟩ => ⟨S4x12288, .f32⟩
  | .hbm, ⟨30, _⟩ => ⟨S_, .f32⟩
  | .hbm, ⟨31, _⟩ => ⟨S4x12288, .f32⟩
  | .hbm, ⟨32, _⟩ => ⟨S4x12288, .f32⟩
  | .hbm, ⟨33, _⟩ => ⟨S4x12288, .f32⟩
  | .hbm, ⟨34, _⟩ => ⟨S_, .f32⟩
  | .hbm, ⟨35, _⟩ => ⟨S4x12288, .f32⟩
  | .hbm, ⟨36, _⟩ => ⟨S4x12288, .f32⟩
  | .hbm, ⟨37, _⟩ => ⟨S1x4x12288, .f32⟩
  | .hbm, ⟨38, _⟩ => ⟨S1x4x12288, .f32⟩
  | .hbm, ⟨39, _⟩ => ⟨S1x4x12288, .f32⟩
  | .hbm, ⟨40, _⟩ => ⟨S1x4x12288, .f32⟩
  | _, _ => ⟨S4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel25.lean ====
abbrev S2x128 : Shape := ⟨2, ![2, 128]⟩
abbrev S1x2x128 : Shape := ⟨3, ![1, 2, 128]⟩

abbrev nBuf : Space → Nat
  | .hbm => 13
  | .vmem => 8
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .hbm, ⟨7, _⟩ => ⟨S1x2x128, .f32⟩
  | .hbm, ⟨8, _⟩ => ⟨S1x2x128, .f32⟩
  | .hbm, ⟨9, _⟩ => ⟨S1x2x128, .f32⟩
  | .hbm, ⟨10, _⟩ => ⟨S1x2x128, .f32⟩
  | .hbm, ⟨11, _⟩ => ⟨S1x2x128, .f32⟩
  | .hbm, ⟨12, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference25Ideal.lean ====
abbrev S2x128 : Shape := ⟨2, ![2, 128]⟩
abbrev S_ : Shape := ⟨0, ![]⟩
abbrev S1x2x128 : Shape := ⟨3, ![1, 2, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | .hbm, ⟨37, _⟩ => ⟨S1x2x128, .f32⟩
  | .hbm, ⟨38, _⟩ => ⟨S1x2x128, .f32⟩
  | .hbm, ⟨39, _⟩ => ⟨S1x2x128, .f32⟩
  | .hbm, ⟨40, _⟩ => ⟨S1x2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel26.lean ====
abbrev S2x16 : Shape := ⟨2, ![2, 16]⟩
abbrev S1x2x16 : Shape := ⟨3, ![1, 2, 16]⟩

abbrev nBuf : Space → Nat
  | .hbm => 13
  | .vmem => 8
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S1x2x16, .f32⟩
  | .hbm, ⟨5, _⟩ => ⟨S1x2x16, .f32⟩
  | .hbm, ⟨6, _⟩ => ⟨S1x2x16, .f32⟩
  | .hbm, ⟨7, _⟩ => ⟨S1x2x16, .f32⟩
  | .hbm, ⟨8, _⟩ => ⟨S1x2x16, .f32⟩
  | .hbm, ⟨9, _⟩ => ⟨S1x2x16, .f32⟩
  | .hbm, ⟨10, _⟩ => ⟨S1x2x16, .f32⟩
  | .hbm, ⟨11, _⟩ => ⟨S1x2x16, .f32⟩
  | .hbm, ⟨12, _⟩ => ⟨S1x2x16, .f32⟩
  | .local _ .vmem, ⟨0, _⟩ => ⟨S1x2x16, .f32⟩
  | .local _ .vmem, ⟨1, _⟩ => ⟨S1x2x16, .f32⟩
  | .local _ .vmem, ⟨2, _⟩ => ⟨S1x2x16, .f32⟩
  | .local _ .vmem, ⟨3, _⟩ => ⟨S1x2x16, .f32⟩
  | .local _ .vmem, ⟨4, _⟩ => ⟨S1x2x16, .f32⟩
  | .local _ .vmem, ⟨5, _⟩ => ⟨S1x2x16, .f32⟩
  | .local _ .vmem, ⟨6, _⟩ => ⟨S1x2x16, .f32⟩
  | .local _ .vmem, ⟨7, _⟩ => ⟨S1x2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference26Ideal.lean ====
abbrev S2x16 : Shape := ⟨2, ![2, 16]⟩
abbrev S_ : Shape := ⟨0, ![]⟩
abbrev S1x2x16 : Shape := ⟨3, ![1, 2, 16]⟩

abbrev nBuf : Space → Nat
  | .hbm => 41
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | .hbm, ⟨37, _⟩ => ⟨S1x2x16, .f32⟩
  | .hbm, ⟨38, _⟩ => ⟨S1x2x16, .f32⟩
  | .hbm, ⟨39, _⟩ => ⟨S1x2x16, .f32⟩
  | .hbm, ⟨40, _⟩ => ⟨S1x2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel27.lean ====
abbrev S2x3x512 : Shape := ⟨3, ![2, 3, 512]⟩
abbrev S1x6x512 : Shape := ⟨3, ![1, 6, 512]⟩
abbrev S6x512 : Shape := ⟨2, ![6, 512]⟩

abbrev nBuf : Space → Nat
  | .hbm => 13
  | .vmem => 8
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S2x3x512, .f32⟩
  | .hbm, ⟨4, _⟩ => ⟨S1x6x512, .f32⟩
  | .hbm, ⟨5, _⟩ => ⟨S1x6x512, .f32⟩
  | .hbm, ⟨6, _⟩ => ⟨S1x6x512, .f32⟩
  | .hbm, ⟨7, _⟩ => ⟨S1x6x512, .f32⟩
  | .hbm, ⟨8, _⟩ => ⟨S1x6x512, .f32⟩
  | .hbm, ⟨9, _⟩ => ⟨S1x6x512, .f32⟩
  | .hbm, ⟨10, _⟩ => ⟨S1x6x512, .f32⟩
  | .hbm, ⟨11, _⟩ => ⟨S1x6x512, .f32⟩
  | .hbm, ⟨12, _⟩ => ⟨S1x6x512, .f32⟩
  | .local _ .vmem, ⟨0, _⟩ => ⟨S1x6x512, .f32⟩
  | .local _ .vmem, ⟨1, _⟩ => ⟨S1x6x512, .f32⟩
  | .local _ .vmem, ⟨2, _⟩ => ⟨S1x6x512, .f32⟩
  | .local _ .vmem, ⟨3, _⟩ => ⟨S1x6x512, .f32⟩
  | .local _ .vmem, ⟨4, _⟩ => ⟨S1x6x512, .f32⟩
  | .local _ .vmem, ⟨5, _⟩ => ⟨S1x6x512, .f32⟩
  | .local _ .vmem, ⟨6, _⟩ => ⟨S1x6x512, .f32⟩
  | .local _ .vmem, ⟨7, _⟩ => ⟨S1x6x512, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x6x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference27Ideal.lean ====
abbrev S2x3x512 : Shape := ⟨3, ![2, 3, 512]⟩
abbrev S_ : Shape := ⟨0, ![]⟩
abbrev S1x6x512 : Shape := ⟨3, ![1, 6, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S2x3x512, .f32⟩
  | .hbm, ⟨4, _⟩ => ⟨S_, .f32⟩
  | .hbm, ⟨5, _⟩ => ⟨S2x3x512, .f32⟩
  | .hbm, ⟨6, _⟩ => ⟨S2x3x512, .f32⟩
  | .hbm, ⟨7, _⟩ => ⟨S_, .f32⟩
  | .hbm, ⟨8, _⟩ => ⟨S2x3x512, .f32⟩
  | .hbm, ⟨9, _⟩ => ⟨S2x3x512, .f32⟩
  | .hbm, ⟨10, _⟩ => ⟨S2x3x512, .f32⟩
  | .hbm, ⟨11, _⟩ => ⟨S_, .f32⟩
  | .hbm, ⟨12, _⟩ => ⟨S2x3x512, .f32⟩
  | .hbm, ⟨13, _⟩ => ⟨S2x3x512, .f32⟩
  | .hbm, ⟨14, _⟩ => ⟨S2x3x512, .f32⟩
  | .hbm, ⟨15, _⟩ => ⟨S_, .f32⟩
  | .hbm, ⟨16, _⟩ => ⟨S2x3x512, .f32⟩
  | .hbm, ⟨17, _⟩ => ⟨S2x3x512, .f32⟩
  | .hbm, ⟨18, _⟩ => ⟨S2x3x512, .f32⟩
  | .hbm, ⟨19, _⟩ => ⟨S_, .f32⟩
  | .hbm, ⟨20, _⟩ => ⟨S2x3x512, .f32⟩
  | .hbm, ⟨21, _⟩ => ⟨S2x3x512, .f32⟩
  | .hbm, ⟨22, _⟩ => ⟨S_, .f32⟩
  | .hbm, ⟨23, _⟩ => ⟨S2x3x512, .f32⟩
  | .hbm, ⟨24, _⟩ => ⟨S2x3x512, .f32⟩
  | .hbm, ⟨25, _⟩ => ⟨S2x3x512, .f32⟩
  | .hbm, ⟨26, _⟩ => ⟨S_, .f32⟩
  | .hbm, ⟨27, _⟩ => ⟨S2x3x512, .f32⟩
  | .hbm, ⟨28, _⟩ => ⟨S2x3x512, .f32⟩
  | .hbm, ⟨29, _⟩ => ⟨S2x3x512, .f32⟩
  | .hbm, ⟨30, _⟩ => ⟨S_, .f32⟩
  | .hbm, ⟨31, _⟩ => ⟨S2x3x512, .f32⟩
  | .hbm, ⟨32, _⟩ => ⟨S2x3x512, .f32⟩
  | .hbm, ⟨33, _⟩ => ⟨S2x3x512, .f32⟩
  | .hbm, ⟨34, _⟩ => ⟨S_, .f32⟩
  | .hbm, ⟨35, _⟩ => ⟨S2x3x512, .f32⟩
  | .hbm, ⟨36, _⟩ => ⟨S2x3x512, .f32⟩
  | .hbm, ⟨37, _⟩ => ⟨S1x6x512, .f32⟩
  | .hbm, ⟨38, _⟩ => ⟨S1x6x512, .f32⟩
  | .hbm, ⟨39, _⟩ => ⟨S1x6x512, .f32⟩
  | .hbm, ⟨40, _⟩ => ⟨S1x6x512, .f32⟩
  | _, _ => ⟨S2x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel28.lean ====
abbrev S4x3x1408 : Shape := ⟨3, ![4, 3, 1408]⟩
abbrev S1x12x1408 : Shape := ⟨3, ![1, 12, 1408]⟩
abbrev S12x1408 : Shape := ⟨2, ![12, 1408]⟩

abbrev nBuf : Space → Nat
  | .hbm => 13
  | .vmem => 8
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S1x12x1408, .f32⟩
  | .hbm, ⟨5, _⟩ => ⟨S1x12x1408, .f32⟩
  | .hbm, ⟨6, _⟩ => ⟨S1x12x1408, .f32⟩
  | .hbm, ⟨7, _⟩ => ⟨S1x12x1408, .f32⟩
  | .hbm, ⟨8, _⟩ => ⟨S1x12x1408, .f32⟩
  | .hbm, ⟨9, _⟩ => ⟨S1x12x1408, .f32⟩
  | .hbm, ⟨10, _⟩ => ⟨S1x12x1408, .f32⟩
  | .hbm, ⟨11, _⟩ => ⟨S1x12x1408, .f32⟩
  | .hbm, ⟨12, _⟩ => ⟨S1x12x1408, .f32⟩
  | .local _ .vmem, ⟨0, _⟩ => ⟨S1x12x1408, .f32⟩
  | .local _ .vmem, ⟨1, _⟩ => ⟨S1x12x1408, .f32⟩
  | .local _ .vmem, ⟨2, _⟩ => ⟨S1x12x1408, .f32⟩
  | .local _ .vmem, ⟨3, _⟩ => ⟨S1x12x1408, .f32⟩
  | .local _ .vmem, ⟨4, _⟩ => ⟨S1x12x1408, .f32⟩
  | .local _ .vmem, ⟨5, _⟩ => ⟨S1x12x1408, .f32⟩
  | .local _ .vmem, ⟨6, _⟩ => ⟨S1x12x1408, .f32⟩
  | .local _ .vmem, ⟨7, _⟩ => ⟨S1x12x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x12x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference28Ideal.lean ====
abbrev S4x3x1408 : Shape := ⟨3, ![4, 3, 1408]⟩
abbrev S_ : Shape := ⟨0, ![]⟩
abbrev S1x12x1408 : Shape := ⟨3, ![1, 12, 1408]⟩

abbrev nBuf : Space → Nat
  | .hbm => 41
  | .vmem => 0
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S_, .f32⟩
  | .hbm, ⟨5, _⟩ => ⟨S4x3x1408, .f32⟩
  | .hbm, ⟨6, _⟩ => ⟨S4x3x1408, .f32⟩
  | .hbm, ⟨7, _⟩ => ⟨S_, .f32⟩
  | .hbm, ⟨8, _⟩ => ⟨S4x3x1408, .f32⟩
  | .hbm, ⟨9, _⟩ => ⟨S4x3x1408, .f32⟩
  | .hbm, ⟨10, _⟩ => ⟨S4x3x1408, .f32⟩
  | .hbm, ⟨11, _⟩ => ⟨S_, .f32⟩
  | .hbm, ⟨12, _⟩ => ⟨S4x3x1408, .f32⟩
  | .hbm, ⟨13, _⟩ => ⟨S4x3x1408, .f32⟩
  | .hbm, ⟨14, _⟩ => ⟨S4x3x1408, .f32⟩
  | .hbm, ⟨15, _⟩ => ⟨S_, .f32⟩
  | .hbm, ⟨16, _⟩ => ⟨S4x3x1408, .f32⟩
  | .hbm, ⟨17, _⟩ => ⟨S4x3x1408, .f32⟩
  | .hbm, ⟨18, _⟩ => ⟨S4x3x1408, .f32⟩
  | .hbm, ⟨19, _⟩ => ⟨S_, .f32⟩
  | .hbm, ⟨20, _⟩ => ⟨S4x3x1408, .f32⟩
  | .hbm, ⟨21, _⟩ => ⟨S4x3x1408, .f32⟩
  | .hbm, ⟨22, _⟩ => ⟨S_, .f32⟩
  | .hbm, ⟨23, _⟩ => ⟨S4x3x1408, .f32⟩
  | .hbm, ⟨24, _⟩ => ⟨S4x3x1408, .f32⟩
  | .hbm, ⟨25, _⟩ => ⟨S4x3x1408, .f32⟩
  | .hbm, ⟨26, _⟩ => ⟨S_, .f32⟩
  | .hbm, ⟨27, _⟩ => ⟨S4x3x1408, .f32⟩
  | .hbm, ⟨28, _⟩ => ⟨S4x3x1408, .f32⟩
  | .hbm, ⟨29, _⟩ => ⟨S4x3x1408, .f32⟩
  | .hbm, ⟨30, _⟩ => ⟨S_, .f32⟩
  | .hbm, ⟨31, _⟩ => ⟨S4x3x1408, .f32⟩
  | .hbm, ⟨32, _⟩ => ⟨S4x3x1408, .f32⟩
  | .hbm, ⟨33, _⟩ => ⟨S4x3x1408, .f32⟩
  | .hbm, ⟨34, _⟩ => ⟨S_, .f32⟩
  | .hbm, ⟨35, _⟩ => ⟨S4x3x1408, .f32⟩
  | .hbm, ⟨36, _⟩ => ⟨S4x3x1408, .f32⟩
  | .hbm, ⟨37, _⟩ => ⟨S1x12x1408, .f32⟩
  | .hbm, ⟨38, _⟩ => ⟨S1x12x1408, .f32⟩
  | .hbm, ⟨39, _⟩ => ⟨S1x12x1408, .f32⟩
  | .hbm, ⟨40, _⟩ => ⟨S1x12x1408, .f32⟩
  | _, _ => ⟨S4x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel29.lean ====
abbrev S4x5632 : Shape := ⟨2, ![4, 5632]⟩
abbrev S1x4x5632 : Shape := ⟨3, ![1, 4, 5632]⟩

abbrev nBuf : Space → Nat
  | .hbm => 13
  | .vmem => 8
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S1x4x5632, .f32⟩
  | .hbm, ⟨5, _⟩ => ⟨S1x4x5632, .f32⟩
  | .hbm, ⟨6, _⟩ => ⟨S1x4x5632, .f32⟩
  | .hbm, ⟨7, _⟩ => ⟨S1x4x5632, .f32⟩
  | .hbm, ⟨8, _⟩ => ⟨S1x4x5632, .f32⟩
  | .hbm, ⟨9, _⟩ => ⟨S1x4x5632, .f32⟩
  | .hbm, ⟨10, _⟩ => ⟨S1x4x5632, .f32⟩
  | .hbm, ⟨11, _⟩ => ⟨S1x4x5632, .f32⟩
  | .hbm, ⟨12, _⟩ => ⟨S1x4x5632, .f32⟩
  | .local _ .vmem, ⟨0, _⟩ => ⟨S1x4x5632, .f32⟩
  | .local _ .vmem, ⟨1, _⟩ => ⟨S1x4x5632, .f32⟩
  | .local _ .vmem, ⟨2, _⟩ => ⟨S1x4x5632, .f32⟩
  | .local _ .vmem, ⟨3, _⟩ => ⟨S1x4x5632, .f32⟩
  | .local _ .vmem, ⟨4, _⟩ => ⟨S1x4x5632, .f32⟩
  | .local _ .vmem, ⟨5, _⟩ => ⟨S1x4x5632, .f32⟩
  | .local _ .vmem, ⟨6, _⟩ => ⟨S1x4x5632, .f32⟩
  | .local _ .vmem, ⟨7, _⟩ => ⟨S1x4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference29Ideal.lean ====
abbrev S4x5632 : Shape := ⟨2, ![4, 5632]⟩
abbrev S_ : Shape := ⟨0, ![]⟩
abbrev S1x4x5632 : Shape := ⟨3, ![1, 4, 5632]⟩

abbrev nBuf : Space → Nat
  | .hbm => 41
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | .hbm, ⟨37, _⟩ => ⟨S1x4x5632, .f32⟩
  | .hbm, ⟨38, _⟩ => ⟨S1x4x5632, .f32⟩
  | .hbm, ⟨39, _⟩ => ⟨S1x4x5632, .f32⟩
  | .hbm, ⟨40, _⟩ => ⟨S1x4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel30.lean ====
abbrev S8448x6144 : Shape := ⟨2, ![8448, 6144]⟩
abbrev S3x2048 : Shape := ⟨2, ![3, 2048]⟩
abbrev S_ : Shape := ⟨0, ![]⟩
abbrev S8x2048 : Shape := ⟨2, ![8, 2048]⟩
abbrev S8448x2048 : Shape := ⟨2, ![8448, 2048]⟩
abbrev S256x6144 : Shape := ⟨2, ![256, 6144]⟩
abbrev S16x6144 : Shape := ⟨2, ![16, 6144]⟩
abbrev S256x2048 : Shape := ⟨2, ![256, 2048]⟩
abbrev S256x512 : Shape := ⟨2, ![256, 512]⟩
abbrev S16x512 : Shape := ⟨2, ![16, 512]⟩
abbrev S512 : Shape := ⟨1, ![512]⟩
abbrev S1x512 : Shape := ⟨2, ![1, 512]⟩
abbrev S256x1 : Shape := ⟨2, ![256, 1]⟩
abbrev S8x512 : Shape := ⟨2, ![8, 512]⟩

abbrev nBuf : Space → Nat
  | .hbm => 6
  | .vmem => 9
  | .smem => 0
  | _ => 0

abbrev bufTy : (tb : Table) → Fin (tcTables nBuf tb) → BufTy
  | .hbm, ⟨0, _⟩ => ⟨S8448x6144, .bf16⟩
  | .hbm, ⟨1, _⟩ => ⟨S3x2048, .f32⟩
  | .hbm, ⟨2, _⟩ => ⟨S_, .i32⟩
  | .hbm, ⟨3, _⟩ => ⟨S_, .f32⟩
  | .hbm, ⟨4, _⟩ => ⟨S8x2048, .f32⟩
  | .hbm, ⟨5, _⟩ => ⟨S8448x2048, .bf16⟩
  | .local _ .vmem, ⟨0, _⟩ => ⟨S256x6144, .bf16⟩
  | .local _ .vmem, ⟨1, _⟩ => ⟨S256x6144, .bf16⟩
  | .local _ .vmem, ⟨2, _⟩ => ⟨S16x6144, .bf16⟩
  | .local _ .vmem, ⟨3, _⟩ => ⟨S16x6144, .bf16⟩
  | .local _ .vmem, ⟨4, _⟩ => ⟨S16x6144, .bf16⟩
  | .local _ .vmem, ⟨5, _⟩ => ⟨S16x6144, .bf16⟩
  | .local _ .vmem, ⟨6, _⟩ => ⟨S8x2048, .f32⟩
  | .local _ .vmem, ⟨7, _⟩ => ⟨S256x2048, .bf16⟩
  | .local _ .vmem, ⟨8, _⟩ => ⟨S256x2048, .bf16⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S8448x6144 : Shape := ⟨2, ![8448, 6144]⟩
abbrev S3x2048 : Shape := ⟨2, ![3, 2048]⟩
abbrev S256x6144 : Shape := ⟨2, ![256, 6144]⟩
abbrev S1x256x6144 : Shape := ⟨3, ![1, 256, 6144]⟩
abbrev S8192x6144 : Shape := ⟨2, ![8192, 6144]⟩
abbrev S1x8192x6144 : Shape := ⟨3, ![1, 8192, 6144]⟩
abbrev S1x256x2048 : Shape := ⟨3, ![1, 256, 2048]⟩
abbrev S1x1x2048 : Shape := ⟨3, ![1, 1, 2048]⟩
abbrev S_ : Shape := ⟨0, ![]⟩
abbrev S1x258x2048 : Shape := ⟨3, ![1, 258, 2048]⟩
abbrev S1x2048 : Shape := ⟨2, ![1, 2048]⟩
abbrev S2048 : Shape := ⟨1, ![2048]⟩
abbrev S1x8192x2048 : Shape := ⟨3, ![1, 8192, 2048]⟩
abbrev S1x8194x2048 : Shape := ⟨3, ![1, 8194, 2048]⟩
abbrev S1x8448x2048 : Shape := ⟨3, ![1, 8448, 2048]⟩
abbrev S8448x2048 : Shape := ⟨2, ![8448, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S3x2048, .f32⟩
  | .hbm, ⟨2, _⟩ => ⟨S8448x6144, .f32⟩
  | .hbm, ⟨3, _⟩ => ⟨S256x6144, .f32⟩
  | .hbm, ⟨4, _⟩ => ⟨S1x256x6144, .f32⟩
  | .hbm, ⟨5, _⟩ => ⟨S8192x6144, .f32⟩
  | .hbm, ⟨6, _⟩ => ⟨S1x8192x6144, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .hbm, ⟨10, _⟩ => ⟨S1x256x2048, .f32⟩
  | .hbm, ⟨11, _⟩ => ⟨S1x1x2048, .f32⟩
  | .hbm, ⟨12, _⟩ => ⟨S_, .f32⟩
  | .hbm, ⟨13, _⟩ => ⟨S1x1x2048, .f32⟩
  | .hbm, ⟨14, _⟩ => ⟨S1x258x2048, .f32⟩
  | .hbm, ⟨15, _⟩ => ⟨S1x256x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S1x256x2048, .f32⟩
  | .hbm, ⟨20, _⟩ => ⟨S1x256x2048, .f32⟩
  | .hbm, ⟨21, _⟩ => ⟨S1x256x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S1x256x2048, .f32⟩
  | .hbm, ⟨26, _⟩ => ⟨S1x256x2048, .f32⟩
  | .hbm, ⟨27, _⟩ => ⟨S1x256x2048, .f32⟩
  | .hbm, ⟨28, _⟩ => ⟨S1x256x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S1x256x2048, .f32⟩
  | .hbm, ⟨33, _⟩ => ⟨S1x256x2048, .f32⟩
  | .hbm, ⟨34, _⟩ => ⟨S1x256x2048, .f32⟩
  | .hbm, ⟨35, _⟩ => ⟨S1x256x2048, .f32⟩
  | .hbm, ⟨36, _⟩ => ⟨S1x8192x2048, .f32⟩
  | .hbm, ⟨37, _⟩ => ⟨S1x8192x2048, .f32⟩
  | .hbm, ⟨38, _⟩ => ⟨S1x8192x2048, .f32⟩
  | .hbm, ⟨39, _⟩ => ⟨S1x8192x2048, .f32⟩
  | .hbm, ⟨40, _⟩ => ⟨S1x1x2048, .f32⟩
  | .hbm, ⟨41, _⟩ => ⟨S_, .f32⟩
  | .hbm, ⟨42, _⟩ => ⟨S1x1x2048, .f32⟩
  | .hbm, ⟨43, _⟩ => ⟨S1x8194x2048, .f32⟩
  | .hbm, ⟨44, _⟩ => ⟨S1x8192x2048, .f32⟩
  | .hbm, ⟨45, _⟩ => ⟨S1x2048, .f32⟩
  | .hbm, ⟨46, _⟩ => ⟨S2048, .f32⟩
  | .hbm, ⟨47, _⟩ => ⟨S1x1x2048, .f32⟩
  | .hbm, ⟨48, _⟩ => ⟨S1x8192x2048, .f32⟩
  | .hbm, ⟨49, _⟩ => ⟨S1x8192x2048, .f32⟩
  | .hbm, ⟨50, _⟩ => ⟨S1x8192x2048, .f32⟩
  | .hbm, ⟨51, _⟩ => ⟨S1x2048, .f32⟩
  | .hbm, ⟨52, _⟩ => ⟨S2048, .f32⟩
  | .hbm, ⟨53, _⟩ => ⟨S1x1x2048, .f32⟩
  | .hbm, ⟨54, _⟩ => ⟨S1x8192x2048, .f32⟩
  | .hbm, ⟨55, _⟩ => ⟨S1x8192x2048, .f32⟩
  | .hbm, ⟨56, _⟩ => ⟨S1x8192x2048, .f32⟩
  | .hbm, ⟨57, _⟩ => ⟨S1x8192x2048, .f32⟩
  | .hbm, ⟨58, _⟩ => ⟨S1x2048, .f32⟩
  | .hbm, ⟨59, _⟩ => ⟨S2048, .f32⟩
  | .hbm, ⟨60, _⟩ => ⟨S1x1x2048, .f32⟩
  | .hbm, ⟨61, _⟩ => ⟨S1x8192x2048, .f32⟩
  | .hbm, ⟨62, _⟩ => ⟨S1x8192x2048, .f32⟩
  | .hbm, ⟨63, _⟩ => ⟨S1x8192x2048, .f32⟩
  | .hbm, ⟨64, _⟩ => ⟨S1x8192x2048, .f32⟩
  | .hbm, ⟨65, _⟩ => ⟨S1x8448x2048, .f32⟩
  | .hbm, ⟨66, _⟩ => ⟨S8448x2048, .f32⟩
  | .hbm, ⟨67, _⟩ => ⟨S8448x2048, .bf16⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_0 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩

abbrev nD : Nat := 1
abbrev τ : Topo := Topo.v7x

variable {F : FTy → Type} [FloatOps F]
-- ==== Kernel31.lean ====
abbrev S8448x2048 : Shape := ⟨2, ![8448, 2048]⟩
abbrev S2x8x2048 : Shape := ⟨3, ![2, 8, 2048]⟩
abbrev S256x2048 : Shape := ⟨2, ![256, 2048]⟩
abbrev S256 : Shape := ⟨1, ![256]⟩
abbrev S256x1 : Shape := ⟨2, ![256, 1]⟩
abbrev S1x8x2048 : Shape := ⟨3, ![1, 8, 2048]⟩
abbrev S8x2048 : Shape := ⟨2, ![8, 2048]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2x8x2048, .f32⟩
  | .hbm, ⟨2, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S2x8x2048, .f32⟩
  | .local _ .vmem, ⟨3, _⟩ => ⟨S256x2048, .bf16⟩
  | .local _ .vmem, ⟨4, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c1_i32 : BitVec 32 := 1#32
  let v0 : BitVec 32 := Scalar.minsi arg0 c1_i32
  let v10 : Index := Scalar.indexCast v0
  let c0_3 : Index := 0#32
  let c0_4 : Index := 0#32
  ![v10.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S8448x2048 : Shape := ⟨2, ![8448, 2048]⟩
abbrev S2x8x2048 : Shape := ⟨3, ![2, 8, 2048]⟩
abbrev S256x2048 : Shape := ⟨2, ![256, 2048]⟩
abbrev S1x1x2048 : Shape := ⟨3, ![1, 1, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S8192x2048 : Shape := ⟨2, ![8192, 2048]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x8x2048, .f32⟩
  | .hbm, ⟨2, _⟩ => ⟨S256x2048, .f32⟩
  | .hbm, ⟨3, _⟩ => ⟨S1x1x2048, .f32⟩
  | .hbm, ⟨4, _⟩ => ⟨S2048, .f32⟩
  | .hbm, ⟨5, _⟩ => ⟨S1x1x2048, .f32⟩
  | .hbm, ⟨6, _⟩ => ⟨S2048, .f32⟩
  | .hbm, ⟨7, _⟩ => ⟨S256x2048, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S8192x2048, .f32⟩
  | .hbm, ⟨30, _⟩ => ⟨S1x1x2048, .f32⟩
  | .hbm, ⟨31, _⟩ => ⟨S2048, .f32⟩
  | .hbm, ⟨32, _⟩ => ⟨S1x1x2048, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8448x2048, .f32⟩
  | .hbm, ⟨57, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel32.lean ====
abbrev S8448x2048 : Shape := ⟨2, ![8448, 2048]⟩
abbrev S2x8x2048 : Shape := ⟨3, ![2, 8, 2048]⟩
abbrev S256x2048 : Shape := ⟨2, ![256, 2048]⟩
abbrev S256 : Shape := ⟨1, ![256]⟩
abbrev S256x1 : Shape := ⟨2, ![256, 1]⟩
abbrev S1x8x2048 : Shape := ⟨3, ![1, 8, 2048]⟩
abbrev S8x2048 : Shape := ⟨2, ![8, 2048]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2x8x2048, .f32⟩
  | .hbm, ⟨2, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S2x8x2048, .f32⟩
  | .local _ .vmem, ⟨3, _⟩ => ⟨S256x2048, .bf16⟩
  | .local _ .vmem, ⟨4, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c1_i32 : BitVec 32 := 1#32
  let v0 : BitVec 32 := Scalar.minsi arg0 c1_i32
  let v10 : Index := Scalar.indexCast v0
  let c0_3 : Index := 0#32
  let c0_4 : Index := 0#32
  ![v10.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S8448x2048 : Shape := ⟨2, ![8448, 2048]⟩
abbrev S2x8x2048 : Shape := ⟨3, ![2, 8, 2048]⟩
abbrev S256x2048 : Shape := ⟨2, ![256, 2048]⟩
abbrev S1x1x2048 : Shape := ⟨3, ![1, 1, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S8192x2048 : Shape := ⟨2, ![8192, 2048]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x8x2048, .f32⟩
  | .hbm, ⟨2, _⟩ => ⟨S256x2048, .f32⟩
  | .hbm, ⟨3, _⟩ => ⟨S1x1x2048, .f32⟩
  | .hbm, ⟨4, _⟩ => ⟨S2048, .f32⟩
  | .hbm, ⟨5, _⟩ => ⟨S1x1x2048, .f32⟩
  | .hbm, ⟨6, _⟩ => ⟨S2048, .f32⟩
  | .hbm, ⟨7, _⟩ => ⟨S256x2048, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S8192x2048, .f32⟩
  | .hbm, ⟨30, _⟩ => ⟨S1x1x2048, .f32⟩
  | .hbm, ⟨31, _⟩ => ⟨S2048, .f32⟩
  | .hbm, ⟨32, _⟩ => ⟨S1x1x2048, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8448x2048, .f32⟩
  | .hbm, ⟨57, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel33.lean ====
abbrev S16x2048 : Shape := ⟨2, ![16, 2048]⟩
abbrev S4x16x3072 : Shape := ⟨3, ![4, 16, 3072]⟩
abbrev S4x2048x3072 : Shape := ⟨3, ![4, 2048, 3072]⟩
abbrev S16x128 : Shape := ⟨2, ![16, 128]⟩
abbrev S1x16x3072 : Shape := ⟨3, ![1, 16, 3072]⟩
abbrev S1x128x3072 : Shape := ⟨3, ![1, 128, 3072]⟩
abbrev S16x3072 : Shape := ⟨2, ![16, 3072]⟩
abbrev S128x3072 : Shape := ⟨2, ![128, 3072]⟩

abbrev nBuf : Space → Nat
  | .hbm => 9
  | .vmem => 18
  | .smem => 0
  | _ => 0

abbrev bufTy : (tb : Table) → Fin (tcTables nBuf tb) → BufTy
  | .hbm, ⟨0, _⟩ => ⟨S16x2048, .f32⟩
  | .hbm, ⟨1, _⟩ => ⟨S4x16x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S4x2048x3072, .f32⟩
  | .hbm, ⟨6, _⟩ => ⟨S4x2048x3072, .f32⟩
  | .hbm, ⟨7, _⟩ => ⟨S4x2048x3072, .f32⟩
  | .hbm, ⟨8, _⟩ => ⟨S4x2048x3072, .f32⟩
  | .local _ .vmem, ⟨0, _⟩ => ⟨S16x128, .f32⟩
  | .local _ .vmem, ⟨1, _⟩ => ⟨S16x128, .f32⟩
  | .local _ .vmem, ⟨2, _⟩ => ⟨S1x16x3072, .f32⟩
  | .local _ .vmem, ⟨3, _⟩ => ⟨S1x16x3072, .f32⟩
  | .local _ .vmem, ⟨4, _⟩ => ⟨S1x128x3072, .f32⟩
  | .local _ .vmem, ⟨5, _⟩ => ⟨S1x128x3072, .f32⟩
  | .local _ .vmem, ⟨6, _⟩ => ⟨S1x128x3072, .f32⟩
  | .local _ .vmem, ⟨7, _⟩ => ⟨S1x128x3072, .f32⟩
  | .local _ .vmem, ⟨8, _⟩ => ⟨S1x128x3072, .f32⟩
  | .local _ .vmem, ⟨9, _⟩ => ⟨S1x128x3072, .f32⟩
  | .local _ .vmem, ⟨10, _⟩ => ⟨S1x128x3072, .f32⟩
  | .local _ .vmem, ⟨11, _⟩ => ⟨S1x128x3072, .f32⟩
  | .local _ .vmem, ⟨12, _⟩ => ⟨S1x128x3072, .f32⟩
  | .local _ .vmem, ⟨13, _⟩ => ⟨S1x128x3072, .f32⟩
  | .local _ .vmem, ⟨14, _⟩ => ⟨S1x128x3072, .f32⟩
  | .local _ .vmem, ⟨15, _⟩ => ⟨S1x128x3072, .f32⟩
  | .local _ .vmem, ⟨16, _⟩ => ⟨S1x128x3072, .f32⟩
  | .local _ .vmem, ⟨17, _⟩ => ⟨S1x128x3072, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference33Ideal.lean ====
abbrev S16x2048 : Shape := ⟨2, ![16, 2048]⟩
abbrev S4x16x3072 : Shape := ⟨3, ![4, 16, 3072]⟩
abbrev S4x2048x3072 : Shape := ⟨3, ![4, 2048, 3072]⟩
abbrev S_ : Shape := ⟨0, ![]⟩
abbrev S4x3072x16 : Shape := ⟨3, ![4, 3072, 16]⟩
abbrev S4x3072x2048 : Shape := ⟨3, ![4, 3072, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x16x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S4x3072x16, .f32⟩
  | .hbm, ⟨15, _⟩ => ⟨S4x16x3072, .f32⟩
  | .hbm, ⟨16, _⟩ => ⟨S4x3072x16, .f32⟩
  | .hbm, ⟨17, _⟩ => ⟨S4x3072x2048, .f32⟩
  | .hbm, ⟨18, _⟩ => ⟨S4x2048x3072, .f32⟩
  | .hbm, ⟨19, _⟩ => ⟨S_, .f32⟩
  | .hbm, ⟨20, _⟩ => ⟨S4x2048x3072, .f32⟩
  | .hbm, ⟨21, _⟩ => ⟨S4x2048x3072, .f32⟩
  | .hbm, ⟨22, _⟩ => ⟨S_, .f32⟩
  | .hbm, ⟨23, _⟩ => ⟨S4x2048x3072, .f32⟩
  | .hbm, ⟨24, _⟩ => ⟨S4x2048x3072, .f32⟩
  | .hbm, ⟨25, _⟩ => ⟨S4x2048x3072, .f32⟩
  | .hbm, ⟨26, _⟩ => ⟨S_, .f32⟩
  | .hbm, ⟨27, _⟩ => ⟨S4x2048x3072, .f32⟩
  | .hbm, ⟨28, _⟩ => ⟨S4x2048x3072, .f32⟩
  | .hbm, ⟨29, _⟩ => ⟨S4x2048x3072, .f32⟩
  | .hbm, ⟨30, _⟩ => ⟨S_, .f32⟩
  | .hbm, ⟨31, _⟩ => ⟨S4x2048x3072, .f32⟩
  | .hbm, ⟨32, _⟩ => ⟨S4x2048x3072, .f32⟩
  | .hbm, ⟨33, _⟩ => ⟨S4x2048x3072, .f32⟩
  | .hbm, ⟨34, _⟩ => ⟨S_, .f32⟩
  | .hbm, ⟨35, _⟩ => ⟨S4x2048x3072, .f32⟩
  | .hbm, ⟨36, _⟩ => ⟨S4x2048x3072, .f32⟩
  | .hbm, ⟨37, _⟩ => ⟨S_, .f32⟩
  | .hbm, ⟨38, _⟩ => ⟨S4x2048x3072, .f32⟩
  | .hbm, ⟨39, _⟩ => ⟨S4x2048x3072, .f32⟩
  | .hbm, ⟨40, _⟩ => ⟨S4x2048x3072, .f32⟩
  | .hbm, ⟨41, _⟩ => ⟨S_, .f32⟩
  | .hbm, ⟨42, _⟩ => ⟨S4x2048x3072, .f32⟩
  | .hbm, ⟨43, _⟩ => ⟨S4x2048x3072, .f32⟩
  | .hbm, ⟨44, _⟩ => ⟨S4x2048x3072, .f32⟩
  | .hbm, ⟨45, _⟩ => ⟨S_, .f32⟩
  | .hbm, ⟨46, _⟩ => ⟨S4x2048x3072, .f32⟩
  | .hbm, ⟨47, _⟩ => ⟨S4x2048x3072, .f32⟩
  | .hbm, ⟨48, _⟩ => ⟨S4x2048x3072, .f32⟩
  | .hbm, ⟨49, _⟩ => ⟨S_, .f32⟩
  | .hbm, ⟨50, _⟩ => ⟨S4x2048x3072, .f32⟩
  | .hbm, ⟨51, _⟩ => ⟨S4x2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel34.lean ====
abbrev S16x2048 : Shape := ⟨2, ![16, 2048]⟩
abbrev S4x2048x3072 : Shape := ⟨3, ![4, 2048, 3072]⟩
abbrev S4x16x3072 : Shape := ⟨3, ![4, 16, 3072]⟩
abbrev S1x2048x1024 : Shape := ⟨3, ![1, 2048, 1024]⟩
abbrev S1x16x1024 : Shape := ⟨3, ![1, 16, 1024]⟩
abbrev S2048x1024 : Shape := ⟨2, ![2048, 1024]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S4x2048x3072, .f32⟩
  | .hbm, ⟨2, _⟩ => ⟨S4x16x3072, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x16x1024, .f32⟩
  | .local _ .vmem, ⟨4, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference34Ideal.lean ====
abbrev S16x2048 : Shape := ⟨2, ![16, 2048]⟩
abbrev S4x2048x3072 : Shape := ⟨3, ![4, 2048, 3072]⟩
abbrev S_ : Shape := ⟨0, ![]⟩
abbrev S4x3072x16 : Shape := ⟨3, ![4, 3072, 16]⟩
abbrev S4x16x3072 : Shape := ⟨3, ![4, 16, 3072]⟩

abbrev nBuf : Space → Nat
  | .hbm => 13
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x3072, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S4x3072x16, .f32⟩
  | .hbm, ⟨12, _⟩ => ⟨S4x16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel35.lean ====
abbrev S4x8x3072 : Shape := ⟨3, ![4, 8, 3072]⟩
abbrev S4x2048x3072 : Shape := ⟨3, ![4, 2048, 3072]⟩
abbrev S8x2048 : Shape := ⟨2, ![8, 2048]⟩
abbrev S1x8x1024 : Shape := ⟨3, ![1, 8, 1024]⟩
abbrev S1x2048x1024 : Shape := ⟨3, ![1, 2048, 1024]⟩
abbrev S8x1024 : Shape := ⟨2, ![8, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x8x3072, .f32⟩
  | .hbm, ⟨1, _⟩ => ⟨S4x2048x3072, .f32⟩
  | .hbm, ⟨2, _⟩ => ⟨S8x2048, .f32⟩
  | .local _ .vmem, ⟨0, _⟩ => ⟨S1x8x1024, .f32⟩
  | .local _ .vmem, ⟨1, _⟩ => ⟨S1x8x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S8x2048, .f32⟩
  | _, _ => ⟨S4x8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference35Ideal.lean ====
abbrev S4x8x3072 : Shape := ⟨3, ![4, 8, 3072]⟩
abbrev S4x2048x3072 : Shape := ⟨3, ![4, 2048, 3072]⟩
abbrev S8x2048 : Shape := ⟨2, ![8, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x8x3072, .f32⟩
  | .hbm, ⟨1, _⟩ => ⟨S4x2048x3072, .f32⟩
  | .hbm, ⟨2, _⟩ => ⟨S8x2048, .f32⟩
  | _, _ => ⟨S4x8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel36.lean ====
abbrev S8448x11264 : Shape := ⟨2, ![8448, 11264]⟩
abbrev S3x5632 : Shape := ⟨2, ![3, 5632]⟩
abbrev S5632 : Shape := ⟨1, ![5632]⟩
abbrev S1x5632 : Shape := ⟨2, ![1, 5632]⟩
abbrev S4x5632 : Shape := ⟨2, ![4, 5632]⟩
abbrev S_ : Shape := ⟨0, ![]⟩
abbrev S8x5632 : Shape := ⟨2, ![8, 5632]⟩
abbrev S8448x5632 : Shape := ⟨2, ![8448, 5632]⟩
abbrev S256x11264 : Shape := ⟨2, ![256, 11264]⟩
abbrev S16x11264 : Shape := ⟨2, ![16, 11264]⟩
abbrev S256x5632 : Shape := ⟨2, ![256, 5632]⟩
abbrev S256x1408 : Shape := ⟨2, ![256, 1408]⟩
abbrev S16x1408 : Shape := ⟨2, ![16, 1408]⟩
abbrev S1408 : Shape := ⟨1, ![1408]⟩
abbrev S1x1408 : Shape := ⟨2, ![1, 1408]⟩
abbrev S256x1 : Shape := ⟨2, ![256, 1]⟩
abbrev S8x1408 : Shape := ⟨2, ![8, 1408]⟩

abbrev nBuf : Space → Nat
  | .hbm => 9
  | .vmem => 9
  | .smem => 0
  | _ => 0

abbrev bufTy : (tb : Table) → Fin (tcTables nBuf tb) → BufTy
  | .hbm, ⟨0, _⟩ => ⟨S8448x11264, .bf16⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S4x5632, .f32⟩
  | .hbm, ⟨5, _⟩ => ⟨S_, .i32⟩
  | .hbm, ⟨6, _⟩ => ⟨S_, .f32⟩
  | .hbm, ⟨7, _⟩ => ⟨S8x5632, .f32⟩
  | .hbm, ⟨8, _⟩ => ⟨S8448x5632, .bf16⟩
  | .local _ .vmem, ⟨0, _⟩ => ⟨S256x11264, .bf16⟩
  | .local _ .vmem, ⟨1, _⟩ => ⟨S256x11264, .bf16⟩
  | .local _ .vmem, ⟨2, _⟩ => ⟨S16x11264, .bf16⟩
  | .local _ .vmem, ⟨3, _⟩ => ⟨S16x11264, .bf16⟩
  | .local _ .vmem, ⟨4, _⟩ => ⟨S16x11264, .bf16⟩
  | .local _ .vmem, ⟨5, _⟩ => ⟨S16x11264, .bf16⟩
  | .local _ .vmem, ⟨6, _⟩ => ⟨S8x5632, .f32⟩
  | .local _ .vmem, ⟨7, _⟩ => ⟨S256x5632, .bf16⟩
  | .local _ .vmem, ⟨8, _⟩ => ⟨S256x5632, .bf16⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference36Ideal.lean ====
abbrev S8448x11264 : Shape := ⟨2, ![8448, 11264]⟩
abbrev S3x5632 : Shape := ⟨2, ![3, 5632]⟩
abbrev S5632 : Shape := ⟨1, ![5632]⟩
abbrev S256x11264 : Shape := ⟨2, ![256, 11264]⟩
abbrev S256x5632 : Shape := ⟨2, ![256, 5632]⟩
abbrev S1x256x5632 : Shape := ⟨3, ![1, 256, 5632]⟩
abbrev S1x1x5632 : Shape := ⟨3, ![1, 1, 5632]⟩
abbrev S_ : Shape := ⟨0, ![]⟩
abbrev S1x258x5632 : Shape := ⟨3, ![1, 258, 5632]⟩
abbrev S1x5632 : Shape := ⟨2, ![1, 5632]⟩
abbrev S8192x11264 : Shape := ⟨2, ![8192, 11264]⟩
abbrev S8192x5632 : Shape := ⟨2, ![8192, 5632]⟩
abbrev S1x8192x5632 : Shape := ⟨3, ![1, 8192, 5632]⟩
abbrev S1x8194x5632 : Shape := ⟨3, ![1, 8194, 5632]⟩
abbrev S8448x5632 : Shape := ⟨2, ![8448, 5632]⟩

abbrev nBuf : Space → Nat
  | .hbm => 90
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S3x5632, .f32⟩
  | .hbm, ⟨2, _⟩ => ⟨S5632, .f32⟩
  | .hbm, ⟨3, _⟩ => ⟨S8448x11264, .f32⟩
  | .hbm, ⟨4, _⟩ => ⟨S256x11264, .f32⟩
  | .hbm, ⟨5, _⟩ => ⟨S256x5632, .f32⟩
  | .hbm, ⟨6, _⟩ => ⟨S256x5632, .f32⟩
  | .hbm, ⟨7, _⟩ => ⟨S1x256x5632, .f32⟩
  | .hbm, ⟨8, _⟩ => ⟨S1x1x5632, .f32⟩
  | .hbm, ⟨9, _⟩ => ⟨S_, .f32⟩
  | .hbm, ⟨10, _⟩ => ⟨S1x1x5632, .f32⟩
  | .hbm, ⟨11, _⟩ => ⟨S1x258x5632, .f32⟩
  | .hbm, ⟨12, _⟩ => ⟨S1x256x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S1x256x5632, .f32⟩
  | .hbm, ⟨17, _⟩ => ⟨S1x256x5632, .f32⟩
  | .hbm, ⟨18, _⟩ => ⟨S1x256x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S1x256x5632, .f32⟩
  | .hbm, ⟨23, _⟩ => ⟨S1x256x5632, .f32⟩
  | .hbm, ⟨24, _⟩ => ⟨S1x256x5632, .f32⟩
  | .hbm, ⟨25, _⟩ => ⟨S1x256x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S1x256x5632, .f32⟩
  | .hbm, ⟨30, _⟩ => ⟨S1x256x5632, .f32⟩
  | .hbm, ⟨31, _⟩ => ⟨S1x256x5632, .f32⟩
  | .hbm, ⟨32, _⟩ => ⟨S256x5632, .f32⟩
  | .hbm, ⟨33, _⟩ => ⟨S1x5632, .f32⟩
  | .hbm, ⟨34, _⟩ => ⟨S256x5632, .f32⟩
  | .hbm, ⟨35, _⟩ => ⟨S256x5632, .f32⟩
  | .hbm, ⟨36, _⟩ => ⟨S256x5632, .f32⟩
  | .hbm, ⟨37, _⟩ => ⟨S256x5632, .f32⟩
  | .hbm, ⟨38, _⟩ => ⟨S_, .f32⟩
  | .hbm, ⟨39, _⟩ => ⟨S256x5632, .f32⟩
  | .hbm, ⟨40, _⟩ => ⟨S256x5632, .f32⟩
  | .hbm, ⟨41, _⟩ => ⟨S_, .f32⟩
  | .hbm, ⟨42, _⟩ => ⟨S256x5632, .f32⟩
  | .hbm, ⟨43, _⟩ => ⟨S256x5632, .f32⟩
  | .hbm, ⟨44, _⟩ => ⟨S256x5632, .f32⟩
  | .hbm, ⟨45, _⟩ => ⟨S256x5632, .f32⟩
  | .hbm, ⟨46, _⟩ => ⟨S8192x11264, .f32⟩
  | .hbm, ⟨47, _⟩ => ⟨S8192x5632, .f32⟩
  | .hbm, ⟨48, _⟩ => ⟨S8192x5632, .f32⟩
  | .hbm, ⟨49, _⟩ => ⟨S1x8192x5632, .f32⟩
  | .hbm, ⟨50, _⟩ => ⟨S1x1x5632, .f32⟩
  | .hbm, ⟨51, _⟩ => ⟨S_, .f32⟩
  | .hbm, ⟨52, _⟩ => ⟨S1x1x5632, .f32⟩
  | .hbm, ⟨53, _⟩ => ⟨S1x8194x5632, .f32⟩
  | .hbm, ⟨54, _⟩ => ⟨S1x8192x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S1x8192x5632, .f32⟩
  | .hbm, ⟨59, _⟩ => ⟨S1x8192x5632, .f32⟩
  | .hbm, ⟨60, _⟩ => ⟨S1x8192x5632, .f32⟩
  | .hbm, ⟨61, _⟩ => ⟨S1x5632, .f32⟩
  | .hbm, ⟨62, _⟩ => ⟨S5632, .f32⟩
  | .hbm, ⟨63, _⟩ => ⟨S1x1x5632, .f32⟩
  | .hbm, ⟨64, _⟩ => ⟨S1x8192x5632, .f32⟩
  | .hbm, ⟨65, _⟩ => ⟨S1x8192x5632, .f32⟩
  | .hbm, ⟨66, _⟩ => ⟨S1x8192x5632, .f32⟩
  | .hbm, ⟨67, _⟩ => ⟨S1x8192x5632, .f32⟩
  | .hbm, ⟨68, _⟩ => ⟨S1x5632, .f32⟩
  | .hbm, ⟨69, _⟩ => ⟨S5632, .f32⟩
  | .hbm, ⟨70, _⟩ => ⟨S1x1x5632, .f32⟩
  | .hbm, ⟨71, _⟩ => ⟨S1x8192x5632, .f32⟩
  | .hbm, ⟨72, _⟩ => ⟨S1x8192x5632, .f32⟩
  | .hbm, ⟨73, _⟩ => ⟨S1x8192x5632, .f32⟩
  | .hbm, ⟨74, _⟩ => ⟨S8192x5632, .f32⟩
  | .hbm, ⟨75, _⟩ => ⟨S1x5632, .f32⟩
  | .hbm, ⟨76, _⟩ => ⟨S8192x5632, .f32⟩
  | .hbm, ⟨77, _⟩ => ⟨S8192x5632, .f32⟩
  | .hbm, ⟨78, _⟩ => ⟨S8192x5632, .f32⟩
  | .hbm, ⟨79, _⟩ => ⟨S8192x5632, .f32⟩
  | .hbm, ⟨80, _⟩ => ⟨S_, .f32⟩
  | .hbm, ⟨81, _⟩ => ⟨S8192x5632, .f32⟩
  | .hbm, ⟨82, _⟩ => ⟨S8192x5632, .f32⟩
  | .hbm, ⟨83, _⟩ => ⟨S_, .f32⟩
  | .hbm, ⟨84, _⟩ => ⟨S8192x5632, .f32⟩
  | .hbm, ⟨85, _⟩ => ⟨S8192x5632, .f32⟩
  | .hbm, ⟨86, _⟩ => ⟨S8192x5632, .f32⟩
  | .hbm, ⟨87, _⟩ => ⟨S8192x5632, .f32⟩
  | .hbm, ⟨88, _⟩ => ⟨S8448x5632, .f32⟩
  | .hbm, ⟨89, _⟩ => ⟨S8448x5632, .bf16⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst_0 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_cst_3 : Ref sig .tc := ⟨.hbm, 80, rfl⟩
abbrev main_v73 : Ref sig .tc := ⟨.hbm, 81, rfl⟩
abbrev main_v74 : Ref sig .tc := ⟨.hbm, 82, rfl⟩
abbrev main_cst_4 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩

abbrev nD : Nat := 1
abbrev τ : Topo := Topo.v7x

variable {F : FTy → Type} [FloatOps F]
-- ==== Kernel38.lean ====
abbrev S8448x2048 : Shape := ⟨2, ![8448, 2048]⟩
abbrev S8192x2048 : Shape := ⟨2, ![8192, 2048]⟩
abbrev S2x8x2048 : Shape := ⟨3, ![2, 8, 2048]⟩
abbrev S8x2048 : Shape := ⟨2, ![8, 2048]⟩
abbrev S256x2048 : Shape := ⟨2, ![256, 2048]⟩
abbrev S1x8x2048 : Shape := ⟨3, ![1, 8, 2048]⟩
abbrev S1x2048 : Shape := ⟨2, ![1, 2048]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8448x2048, .f32⟩
  | .hbm, ⟨1, _⟩ => ⟨S8192x2048, .f32⟩
  | .hbm, ⟨2, _⟩ => ⟨S8448x2048, .bf16⟩
  | .hbm, ⟨3, _⟩ => ⟨S2x8x2048, .f32⟩
  | .hbm, ⟨4, _⟩ => ⟨S8448x2048, .f32⟩
  | .hbm, ⟨5, _⟩ => ⟨S8448x2048, .bf16⟩
  | .hbm, ⟨6, _⟩ => ⟨S2x8x2048, .f32⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S2x8x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S2x8x2048, .f32⟩
  | .local _ .vmem, ⟨12, _⟩ => ⟨S8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c1_i32 : BitVec 32 := 1#32
  let v0 : BitVec 32 := Scalar.minsi arg0 c1_i32
  let v13 : Index := Scalar.indexCast v0
  let c0_8 : Index := 0#32
  let c0_9 : Index := 0#32
  ![v13.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference38Ideal.lean ====
abbrev S8448x2048 : Shape := ⟨2, ![8448, 2048]⟩
abbrev S8192x2048 : Shape := ⟨2, ![8192, 2048]⟩
abbrev S2x8x2048 : Shape := ⟨3, ![2, 8, 2048]⟩
abbrev S_ : Shape := ⟨0, ![]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩
abbrev S2x2048 : Shape := ⟨2, ![2, 2048]⟩
abbrev S5x2048 : Shape := ⟨2, ![5, 2048]⟩
abbrev S8x2048 : Shape := ⟨2, ![8, 2048]⟩
abbrev S1x8x2048 : Shape := ⟨3, ![1, 8, 2048]⟩
abbrev S7x2048 : Shape := ⟨2, ![7, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8192x2048, .f32⟩
  | .hbm, ⟨2, _⟩ => ⟨S8448x2048, .bf16⟩
  | .hbm, ⟨3, _⟩ => ⟨S2x8x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8448x2048, .f32⟩
  | .hbm, ⟨12, _⟩ => ⟨S1x1x2048, .f32⟩
  | .hbm, ⟨13, _⟩ => ⟨S2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S1x1x2048, .f32⟩
  | .hbm, ⟨19, _⟩ => ⟨S2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8448x2048, .f32⟩
  | .hbm, ⟨25, _⟩ => ⟨S8448x2048, .bf16⟩
  | .hbm, ⟨26, _⟩ => ⟨S8448x2048, .f32⟩
  | .hbm, ⟨27, _⟩ => ⟨S8448x2048, .f32⟩
  | .hbm, ⟨28, _⟩ => ⟨S256x2048, .f32⟩
  | .hbm, ⟨29, _⟩ => ⟨S8192x2048, .f32⟩
  | .hbm, ⟨30, _⟩ => ⟨S_, .f32⟩
  | .hbm, ⟨31, _⟩ => ⟨S2x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S_, .f32⟩
  | .hbm, ⟨36, _⟩ => ⟨S5x2048, .f32⟩
  | .hbm, ⟨37, _⟩ => ⟨S8x2048, .f32⟩
  | .hbm, ⟨38, _⟩ => ⟨S_, .f32⟩
  | .hbm, ⟨39, _⟩ => ⟨S2x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S_, .f32⟩
  | .hbm, ⟨44, _⟩ => ⟨S5x2048, .f32⟩
  | .hbm, ⟨45, _⟩ => ⟨S8x2048, .f32⟩
  | .hbm, ⟨46, _⟩ => ⟨S1x8x2048, .f32⟩
  | .hbm, ⟨47, _⟩ => ⟨S1x8x2048, .f32⟩
  | .hbm, ⟨48, _⟩ => ⟨S2x8x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S7x2048, .f32⟩
  | .hbm, ⟨55, _⟩ => ⟨S8x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.Cols.lean ====
/- Reading, at one index, what a list of column-slab stores leaves in a matrix: the newest slab that holds the index
   gives its payload, a slab that misses it is passed over. -/
module
public import Idealize.ShloMosaic.Lib.Pointwise
public import Idealize.ShloMosaic.Lib.Pipeline.Value
public import Idealize.ShloMosaic.Lib.Tactic

@[expose] public section
noncomputable section
open Idealize.ShloMosaic Idealize.ShloMosaic.TcCoe
namespace Cert.Cols

variable {Val : EltTy → Type} [∀ e, Nonempty (Val e)] {e : EltTy} {n N : ℕ}

/-- The slab of columns `o … o + W - 1`, stored last, is what an index in it reads. -/
theorem hit (o W : ℕ) (inb : ∀ a : Fin 2, (![0, o] : Fin 2 → ℕ) a + (![n, W] : Fin 2 → ℕ) a ≤ (![n, N] : Fin 2 → ℕ) a)
    (w : (Rect.unit (s := ⟨2, ![n, N]⟩) ![0, o] ![n, W] inb).shape.Idx → Val e)
    (L : List (View.Piece Val ⟨2, ![n, N]⟩ e)) (r : Fin n) (k : Fin N) (l : Fin W) (hk : k.val = o + l.val) :
    View.canon (⟨Rect.unit (s := ⟨2, ![n, N]⟩) ![0, o] ![n, W] inb, w⟩ :: L) (ix2 r k) = w (ix2 r l) := by
  have he : (Rect.unit (s := ⟨2, ![n, N]⟩) ![0, o] ![n, W] inb).emb (ix2 r l) = ix2 r k := by
    funext a
    apply Fin.ext
    match a with
    | ⟨0, _⟩ => show 0 + 1 * r.val = r.val; omega
    | ⟨1, _⟩ => show o + 1 * l.val = k.val; omega
  exact (congrArg _ he.symm).trans (View.canon_cons_emb _ w L (ix2 r l))

/-- An index outside the last slab reads what the earlier stores left. -/
theorem miss (o W : ℕ) (inb : ∀ a : Fin 2, (![0, o] : Fin 2 → ℕ) a + (![n, W] : Fin 2 → ℕ) a ≤ (![n, N] : Fin 2 → ℕ) a)
    (w : (Rect.unit (s := ⟨2, ![n, N]⟩) ![0, o] ![n, W] inb).shape.Idx → Val e)
    (L : List (View.Piece Val ⟨2, ![n, N]⟩ e)) (r : Fin n) (k : Fin N) (hk : k.val < o ∨ o + W ≤ k.val) :
    View.canon (⟨Rect.unit (s := ⟨2, ![n, N]⟩) ![0, o] ![n, W] inb, w⟩ :: L) (ix2 r k) = View.canon L (ix2 r k) := by
  refine View.canon_cons_of_not_mem _ _ ?_
  rw [Rect.mem_set_unit]
  intro h
  have h1 : o ≤ k.val ∧ k.val < o + W := h 1
  omega

variable {sig : RefSig} {κ : Kind} {sp : Space}

/-- A load of a slab passes over the last store when that went to another slab. -/
theorem read_miss (o W o' W' : ℕ) (v : View sig κ sp ⟨2, ![n, N]⟩ e)
    (inb : ∀ a : Fin 2, (![0, o] : Fin 2 → ℕ) a + (![n, W] : Fin 2 → ℕ) a ≤ (![n, N] : Fin 2 → ℕ) a)
    (inb' : ∀ a : Fin 2, (![0, o'] : Fin 2 → ℕ) a + (![n, W'] : Fin 2 → ℕ) a ≤ (![n, N] : Fin 2 → ℕ) a)
    (w : (Rect.unit (s := ⟨2, ![n, N]⟩) ![0, o] ![n, W] inb).shape.Idx → Val e)
    (L : List (View.Piece Val ⟨2, ![n, N]⟩ e)) (h : o' + W' ≤ o ∨ o + W ≤ o') :
    v.readCov (⟨Rect.unit (s := ⟨2, ![n, N]⟩) ![0, o] ![n, W] inb, w⟩ :: L)
      (Rect.unit (s := ⟨2, ![n, N]⟩) ![0, o'] ![n, W'] inb').toLoadRect
      = v.readCov L (Rect.unit (s := ⟨2, ![n, N]⟩) ![0, o'] ![n, W'] inb').toLoadRect := by
  rw [View.readCov_eq_canon', View.readCov_eq_canon']
  funext j
  refine View.canon_cons_of_not_mem _ _ ?_
  rw [Rect.mem_set_unit]
  intro hm
  have h1 : o ≤ o' + 1 * (j 1).val ∧ o' + 1 * (j 1).val < o + W := hm 1
  have h2 : (j 1).val < W' := (j 1).isLt
  omega

/-- A load of a slab of what one store to the whole left is that slab of the store's payload. -/
theorem read_first (o' W' : ℕ) (v : View sig κ sp ⟨2, ![n, N]⟩ e)
    (inb : ∀ a : Fin 2, (![0, 0] : Fin 2 → ℕ) a + (![n, N] : Fin 2 → ℕ) a ≤ (![n, N] : Fin 2 → ℕ) a)
    (inb' : ∀ a : Fin 2, (![0, o'] : Fin 2 → ℕ) a + (![n, W'] : Fin 2 → ℕ) a ≤ (![n, N] : Fin 2 → ℕ) a)
    (w : (⟨2, ![n, N]⟩ : Shape).Idx → Val e) :
    v.readCov [⟨Rect.unit (s := ⟨2, ![n, N]⟩) ![0, 0] ![n, N] inb, w⟩]
      (Rect.unit (s := ⟨2, ![n, N]⟩) ![0, o'] ![n, W'] inb').toLoadRect
      = View.ld w (Rect.unit (s := ⟨2, ![n, N]⟩) ![0, o'] ![n, W'] inb') := by
  rw [View.readCov_eq_canon']
  funext j
  have hz : (![0, 0] : Fin 2 → ℕ) = fun _ => 0 := funext fun a => by fin_cases a <;> rfl
  rw [View.canon_unit_zero (S := ⟨2, ![n, N]⟩) hz]

end Cert.Cols
-- ==== Proof.Model.lean ====
/- The gated convolution's gradient as a function of whole arrays, element by element, and the same thing said of one
   block of 256 rows with its two neighbouring halos. Nothing here mentions a program. -/
module
public import Idealize.ShloMosaic.Lib.Pointwise

@[expose] public section
noncomputable section
open Idealize.ShloMosaic
namespace Cert.Model

/-! ## Words that select a row -/

/-- A select on the equality of two small numbers written as words. -/
theorem sel_eq {α : Type} (n m : ℕ) (hn : n < 2 ^ 32) (hm : m < 2 ^ 32) (a b : α) :
    Scalar.select (IntOp.cmpi .eq (BitVec.ofNat 32 n) (BitVec.ofNat 32 m)) a b = if n = m then a else b := by
  have h : (BitVec.ofNat 32 n = BitVec.ofNat 32 m) ↔ n = m := by
    constructor
    · intro h
      have := congrArg BitVec.toNat h
      simp only [BitVec.toNat_ofNat] at this
      omega
    · rintro rfl; rfl
  by_cases hnm : n = m
  · subst hnm
    simp [Scalar.select, IntOp.cmpi]
  · have h' : ¬ (BitVec.ofNat 32 n = BitVec.ofNat 32 m) := fun x => hnm (h.mp x)
    have hb : (BitVec.ofNat 32 n == BitVec.ofNat 32 m) = false := beq_eq_false_iff_ne.mpr h'
    simp [Scalar.select, IntOp.cmpi, hnm, hb]

/-- A select on the bit of a proposition. -/
theorem sel_prop {α : Type} (p : Prop) [Decidable p] (a b : α) :
    Scalar.select (BitVec.ofBool (decide p)) a b = if p then a else b := by
  by_cases hp : p <;> simp [Scalar.select, hp]

/-- The word test "point at most one". -/
theorem first_flag {α : Type} : ∀ t : Fin 33, ∀ a b : α,
    Scalar.select (Scalar.cmpi .sle (BitVec.ofNat 32 t.val) 1#32) a b = if t.val ≤ 1 then a else b := by
  intro t a b
  have h : (Scalar.cmpi .sle (BitVec.ofNat 32 t.val) 1#32 : BitVec 1) = BitVec.ofBool (decide (t.val ≤ 1)) := by
    revert t; decide
  rw [h, sel_prop]

/-- The word test "point zero or the last point". -/
theorem last_flag {α : Type} : ∀ t : Fin 33, ∀ a b : α,
    Scalar.select (Scalar.ori (Scalar.cmpi .eq (BitVec.ofNat 32 t.val) 0#32) (Scalar.cmpi .eq (BitVec.ofNat 32 t.val) 32#32)) a b
      = if t.val = 0 ∨ t.val = 32 then a else b := by
  intro t a b
  have h : (Scalar.ori (Scalar.cmpi .eq (BitVec.ofNat 32 t.val) 0#32) (Scalar.cmpi .eq (BitVec.ofNat 32 t.val) 32#32) : BitVec 1)
      = BitVec.ofBool (decide (t.val = 0 ∨ t.val = 32)) := by
    revert t; decide
  rw [h, sel_prop]

/-- A sum that keeps one row of sixteen. -/
theorem sum_row (m : Fin 16) (f : Fin 16 → EReal) : (∑ x : Fin 16, if x.val = m.val then f x else 0) = f m := by
  rw [Finset.sum_eq_single m]
  · rw [if_pos rfl]
  · intro b _ hb
    exact if_neg fun h => hb (Fin.ext h)
  · intro h
    exact absurd (Finset.mem_univ _) h

theorem sel_first {α : Type} (r : Fin 256) (a b : α) :
    Scalar.select (IntOp.cmpi .eq (BitVec.ofNat 32 r.val) 0#32) a b = if r.val = 0 then a else b :=
  sel_eq r.val 0 (by omega) (by omega) a b

theorem sel_last {α : Type} (r : Fin 256) (a b : α) :
    Scalar.select (IntOp.cmpi .eq (BitVec.ofNat 32 r.val) 255#32) a b = if r.val = 255 then a else b :=
  sel_eq r.val 255 (by omega) (by omega) a b

theorem sel_tap_zero {α : Type} (i : Fin 8) (a b : α) :
    Scalar.select (IntOp.cmpi .eq (BitVec.ofNat 32 i.val) 0#32) a b = if i.val = 0 then a else b :=
  sel_eq i.val 0 (by omega) (by omega) a b

theorem sel_tap_one {α : Type} (i : Fin 8) (a b : α) :
    Scalar.select (IntOp.cmpi .eq (BitVec.ofNat 32 i.val) 1#32) a b = if i.val = 1 then a else b :=
  sel_eq i.val 1 (by omega) (by omega) a b

theorem sel_tap_two {α : Type} (i : Fin 8) (a b : α) :
    Scalar.select (IntOp.cmpi .eq (BitVec.ofNat 32 i.val) 2#32) a b = if i.val = 2 then a else b :=
  sel_eq i.val 2 (by omega) (by omega) a b

/-- The masked sum of the halo's first row. -/
theorem halo_first (f : Fin 16 → EReal) :
    (∑ x : Fin 16, Scalar.select (IntOp.cmpi .eq (BitVec.ofNat 32 x.val) 0#32) (f x) 0) = f 0 :=
  (Finset.sum_congr rfl fun x _ => sel_eq x.val 0 (by omega) (by omega) (f x) 0).trans (sum_row 0 f)

/-- The masked sum of the halo's last row. -/
theorem halo_last (f : Fin 16 → EReal) :
    (∑ x : Fin 16, Scalar.select (IntOp.cmpi .eq (BitVec.ofNat 32 x.val) 15#32) (f x) 0) = f 15 :=
  (Finset.sum_congr rfl fun x _ => sel_eq x.val 15 (by omega) (by omega) (f x) 0).trans (sum_row 15 f)

/-! ## The three column groups -/

abbrev c0 (k : Fin 2048) : Fin 6144 := ⟨k.val, by omega⟩
abbrev c1 (k : Fin 2048) : Fin 6144 := ⟨2048 + k.val, by omega⟩
abbrev c2 (k : Fin 2048) : Fin 6144 := ⟨4096 + k.val, by omega⟩

/-- A column of 2048 lies in one of four slabs of 512. -/
theorem split4 (k : Fin 2048) : (∃ l : Fin 512, k = ⟨l.val, by omega⟩) ∨ (∃ l : Fin 512, k = ⟨512 + l.val, by omega⟩)
    ∨ (∃ l : Fin 512, k = ⟨1024 + l.val, by omega⟩) ∨ (∃ l : Fin 512, k = ⟨1536 + l.val, by omega⟩) := by
  rcases Nat.lt_or_ge k.val 512 with h | h
  · exact Or.inl ⟨⟨k.val, h⟩, rfl⟩
  rcases Nat.lt_or_ge k.val 1024 with h' | h'
  · exact Or.inr (Or.inl ⟨⟨k.val - 512, by omega⟩, Fin.ext (by dsimp only; omega)⟩)
  rcases Nat.lt_or_ge k.val 1536 with h'' | h''
  · exact Or.inr (Or.inr (Or.inl ⟨⟨k.val - 1024, by omega⟩, Fin.ext (by dsimp only; omega)⟩))
  · exact Or.inr (Or.inr (Or.inr ⟨⟨k.val - 1536, by omega⟩, Fin.ext (by dsimp only; omega)⟩))

/-! ## Whole arrays -/

section Whole

variable (U : (⟨2, ![8448, 6144]⟩ : Shape).Idx → EReal) (Z : (⟨2, ![8448, 2048]⟩ : Shape).Idx → EReal)
  (C : Fin 3 → Fin 2048 → EReal)

/-- The gated value that the convolution runs over. -/
def w (k : Fin 2048) (R : Fin 8448) : EReal := U (ix2 R (c1 k)) * U (ix2 R (c2 k))

/-- The cotangent of the convolution's result. -/
def e (k : Fin 2048) (R : Fin 8448) : EReal := Z (ix2 R k) * U (ix2 R (c0 k))

/-- The row before, zero at the first row of either segment (rows 0 and 256). -/
def before (f : Fin 8448 → EReal) (R : Fin 8448) : EReal :=
  if h : R.val = 0 ∨ R.val = 256 then 0 else f ⟨R.val - 1, by omega⟩

/-- The row after, zero at the last row of either segment (rows 255 and 8447). -/
def after (f : Fin 8448 → EReal) (R : Fin 8448) : EReal :=
  if h : R.val = 255 ∨ R.val = 8447 then 0 else f ⟨R.val + 1, by omega⟩

/-- The cotangent of the gated value. -/
def dw (k : Fin 2048) (R : Fin 8448) : EReal :=
  C 0 k * after (e U Z k) R + C 1 k * e U Z k R + C 2 k * before (e U Z k) R

/-- The gradient of the output gate's columns. -/
def du0 (k : Fin 2048) (R : Fin 8448) : EReal :=
  Z (ix2 R k) * (before (w U k) R * C 0 k + w U k R * C 1 k + after (w U k) R * C 2 k)

/-- The gradient of the input gate's columns. -/
def du1 (k : Fin 2048) (R : Fin 8448) : EReal := dw U Z C k R * U (ix2 R (c2 k))

/-- The gradient of the value columns. -/
def du2 (k : Fin 2048) (R : Fin 8448) : EReal := dw U Z C k R * U (ix2 R (c1 k))

/-- One row's share of a tap's gradient; rows 3 to 7 of the padded result take nothing. -/
def tap (i : Fin 8) (k : Fin 2048) (R : Fin 8448) : EReal :=
  if i.val = 0 then e U Z k R * before (w U k) R else if i.val = 1 then e U Z k R * w U k R
  else if i.val = 2 then e U Z k R * after (w U k) R else 0

end Whole

/-! ## One block of rows -/

section Block

variable (t : ℕ) (x0 : (⟨2, ![256, 6144]⟩ : Shape).Idx → EReal) (x1 x2 : (⟨2, ![16, 6144]⟩ : Shape).Idx → EReal)
  (x3 : (⟨2, ![256, 2048]⟩ : Shape).Idx → EReal) (x4 x5 : (⟨2, ![16, 2048]⟩ : Shape).Idx → EReal)
  (x6 : (⟨2, ![8, 2048]⟩ : Shape).Idx → EReal)

/-- The row before within a block whose previous row holds `p`. -/
def bBefore (p : EReal) (f : Fin 256 → EReal) (r : Fin 256) : EReal :=
  if r.val = 0 then (if t ≤ 1 then 0 else p) else f ⟨(r.val + 256 - 1) % 256, by omega⟩

/-- The row after within a block whose next row holds `p`. -/
def bAfter (p : EReal) (f : Fin 256 → EReal) (r : Fin 256) : EReal :=
  if r.val = 255 then (if t = 0 ∨ t = 32 then 0 else p) else f ⟨(r.val + 256 - 255) % 256, by omega⟩

def bw (k : Fin 2048) (r : Fin 256) : EReal := x0 (ix2 r (c1 k)) * x0 (ix2 r (c2 k))
def be (k : Fin 2048) (r : Fin 256) : EReal := x3 (ix2 r k) * x0 (ix2 r (c0 k))
def bwd (k : Fin 2048) (r : Fin 256) : EReal := bBefore t (x1 (ix2 15 (c1 k)) * x1 (ix2 15 (c2 k))) (bw x0 k) r
def bwu (k : Fin 2048) (r : Fin 256) : EReal := bAfter t (x2 (ix2 0 (c1 k)) * x2 (ix2 0 (c2 k))) (bw x0 k) r
def bed (k : Fin 2048) (r : Fin 256) : EReal := bBefore t (x4 (ix2 15 k) * x1 (ix2 15 (c0 k))) (be x0 x3 k) r
def beu (k : Fin 2048) (r : Fin 256) : EReal := bAfter t (x5 (ix2 0 k) * x2 (ix2 0 (c0 k))) (be x0 x3 k) r
def bdw (k : Fin 2048) (r : Fin 256) : EReal :=
  x6 (ix2 0 k) * beu t x0 x2 x3 x5 k r + x6 (ix2 1 k) * be x0 x3 k r + x6 (ix2 2 k) * bed t x0 x1 x3 x4 k r
def bdu0 (k : Fin 2048) (r : Fin 256) : EReal :=
  x3 (ix2 r k) * (bwd t x0 x1 k r * x6 (ix2 0 k) + bw x0 k r * x6 (ix2 1 k) + bwu t x0 x2 k r * x6 (ix2 2 k))
def bdu1 (k : Fin 2048) (r : Fin 256) : EReal := bdw t x0 x1 x2 x3 x4 x5 x6 k r * x0 (ix2 r (c2 k))
def bdu2 (k : Fin 2048) (r : Fin 256) : EReal := bdw t x0 x1 x2 x3 x4 x5 x6 k r * x0 (ix2 r (c1 k))
def btap (i : Fin 8) (k : Fin 2048) : EReal :=
  if i.val = 0 then ∑ r : Fin 256, be x0 x3 k r * bwd t x0 x1 k r else if i.val = 1 then ∑ r : Fin 256, be x0 x3 k r * bw x0 k r
  else if i.val = 2 then ∑ r : Fin 256, be x0 x3 k r * bwu t x0 x2 k r else 0

end Block

/-! ## A block of the whole -/

section Meet

/-- Row `r` of block `t`. -/
abbrev row (t : Fin 33) (r : Fin 256) : Fin 8448 := ⟨256 * t.val + r.val, by omega⟩

variable (f : Fin 8448 → EReal)

theorem before_block (t : Fin 33) (r : Fin 256) (p : EReal) (g : Fin 256 → EReal) (hg : ∀ r, g r = f (row t r))
    (hp : ∀ h : t.val ≠ 0, p = f ⟨256 * t.val - 1, by omega⟩) : bBefore t.val p g r = before f (row t r) := by
  unfold bBefore before
  by_cases hr : r.val = 0
  · rw [if_pos hr]
    by_cases ht : t.val ≤ 1
    · rw [if_pos ht, dif_pos (by dsimp only; omega)]
    · rw [if_neg ht, dif_neg (by dsimp only; omega), hp (by omega)]
      exact congrArg f (Fin.ext (by dsimp only; omega))
  · rw [if_neg hr, dif_neg (by dsimp only; omega), hg]
    exact congrArg f (Fin.ext (by dsimp only; omega))

theorem after_block (t : Fin 33) (r : Fin 256) (p : EReal) (g : Fin 256 → EReal) (hg : ∀ r, g r = f (row t r))
    (hp : ∀ h : t.val ≠ 32, p = f ⟨256 * t.val + 256, by omega⟩) : bAfter t.val p g r = after f (row t r) := by
  unfold bAfter after
  by_cases hr : r.val = 255
  · rw [if_pos hr]
    by_cases ht : t.val = 0 ∨ t.val = 32
    · rw [if_pos ht, dif_pos (by dsimp only; omega)]
    · rw [if_neg ht, dif_neg (by dsimp only; omega), hp (by omega)]
      exact congrArg f (Fin.ext (by dsimp only; omega))
  · rw [if_neg hr, dif_neg (by dsimp only; omega), hg]
    exact congrArg f (Fin.ext (by dsimp only; omega))

/-- Block `t` of the arrays: the rows themselves, the row before and the row after where there is one, the taps. -/
structure Is (U : (⟨2, ![8448, 6144]⟩ : Shape).Idx → EReal) (Z : (⟨2, ![8448, 2048]⟩ : Shape).Idx → EReal)
    (C : Fin 3 → Fin 2048 → EReal) (t : Fin 33) (x0 : (⟨2, ![256, 6144]⟩ : Shape).Idx → EReal)
    (x1 x2 : (⟨2, ![16, 6144]⟩ : Shape).Idx → EReal) (x3 : (⟨2, ![256, 2048]⟩ : Shape).Idx → EReal)
    (x4 x5 : (⟨2, ![16, 2048]⟩ : Shape).Idx → EReal) (x6 : (⟨2, ![8, 2048]⟩ : Shape).Idx → EReal) : Prop where
  h0 : ∀ r k, x0 (ix2 r k) = U (ix2 (row t r) k)
  h1 : ∀ (h : t.val ≠ 0) k, x1 (ix2 15 k) = U (ix2 ⟨256 * t.val - 1, by omega⟩ k)
  h2 : ∀ (h : t.val ≠ 32) k, x2 (ix2 0 k) = U (ix2 ⟨256 * t.val + 256, by omega⟩ k)
  h3 : ∀ r k, x3 (ix2 r k) = Z (ix2 (row t r) k)
  h4 : ∀ (h : t.val ≠ 0) k, x4 (ix2 15 k) = Z (ix2 ⟨256 * t.val - 1, by omega⟩ k)
  h5 : ∀ (h : t.val ≠ 32) k, x5 (ix2 0 k) = Z (ix2 ⟨256 * t.val + 256, by omega⟩ k)
  h60 : ∀ k, x6 (ix2 0 k) = C 0 k
  h61 : ∀ k, x6 (ix2 1 k) = C 1 k
  h62 : ∀ k, x6 (ix2 2 k) = C 2 k

namespace Is

variable {U : (⟨2, ![8448, 6144]⟩ : Shape).Idx → EReal} {Z : (⟨2, ![8448, 2048]⟩ : Shape).Idx → EReal}
    {C : Fin 3 → Fin 2048 → EReal} {t : Fin 33} {x0 : (⟨2, ![256, 6144]⟩ : Shape).Idx → EReal}
    {x1 x2 : (⟨2, ![16, 6144]⟩ : Shape).Idx → EReal} {x3 : (⟨2, ![256, 2048]⟩ : Shape).Idx → EReal}
    {x4 x5 : (⟨2, ![16, 2048]⟩ : Shape).Idx → EReal} {x6 : (⟨2, ![8, 2048]⟩ : Shape).Idx → EReal}

theorem bw_eq (H : Is U Z C t x0 x1 x2 x3 x4 x5 x6) (k : Fin 2048) (r : Fin 256) : bw x0 k r = w U k (row t r) := by
  unfold bw w; rw [H.h0, H.h0]

theorem be_eq (H : Is U Z C t x0 x1 x2 x3 x4 x5 x6) (k : Fin 2048) (r : Fin 256) : be x0 x3 k r = e U Z k (row t r) := by
  unfold be e; rw [H.h0, H.h3]

theorem bwd_eq (H : Is U Z C t x0 x1 x2 x3 x4 x5 x6) (k : Fin 2048) (r : Fin 256) :
    bwd t.val x0 x1 k r = before (w U k) (row t r) :=
  before_block _ t r _ _ (fun r => H.bw_eq k r) fun h => by rw [H.h1 h, H.h1 h]; rfl

theorem bwu_eq (H : Is U Z C t x0 x1 x2 x3 x4 x5 x6) (k : Fin 2048) (r : Fin 256) :
    bwu t.val x0 x2 k r = after (w U k) (row t r) :=
  after_block _ t r _ _ (fun r => H.bw_eq k r) fun h => by rw [H.h2 h, H.h2 h]; rfl

theorem bed_eq (H : Is U Z C t x0 x1 x2 x3 x4 x5 x6) (k : Fin 2048) (r : Fin 256) :
    bed t.val x0 x1 x3 x4 k r = before (e U Z k) (row t r) :=
  before_block _ t r _ _ (fun r => H.be_eq k r) fun h => by rw [H.h1 h, H.h4 h]; rfl

theorem beu_eq (H : Is U Z C t x0 x1 x2 x3 x4 x5 x6) (k : Fin 2048) (r : Fin 256) :
    beu t.val x0 x2 x3 x5 k r = after (e U Z k) (row t r) :=
  after_block _ t r _ _ (fun r => H.be_eq k r) fun h => by rw [H.h2 h, H.h5 h]; rfl

theorem bdw_eq (H : Is U Z C t x0 x1 x2 x3 x4 x5 x6) (k : Fin 2048) (r : Fin 256) :
    bdw t.val x0 x1 x2 x3 x4 x5 x6 k r = dw U Z C k (row t r) := by
  unfold bdw dw; rw [H.beu_eq, H.be_eq, H.bed_eq, H.h60, H.h61, H.h62]

theorem bdu0_eq (H : Is U Z C t x0 x1 x2 x3 x4 x5 x6) (k : Fin 2048) (r : Fin 256) :
    bdu0 t.val x0 x1 x2 x3 x6 k r = du0 U Z C k (row t r) := by
  unfold bdu0 du0; rw [H.bwd_eq, H.bw_eq, H.bwu_eq, H.h60, H.h61, H.h62, H.h3]

theorem bdu1_eq (H : Is U Z C t x0 x1 x2 x3 x4 x5 x6) (k : Fin 2048) (r : Fin 256) :
    bdu1 t.val x0 x1 x2 x3 x4 x5 x6 k r = du1 U Z C k (row t r) := by
  unfold bdu1 du1; rw [H.bdw_eq, H.h0]

theorem bdu2_eq (H : Is U Z C t x0 x1 x2 x3 x4 x5 x6) (k : Fin 2048) (r : Fin 256) :
    bdu2 t.val x0 x1 x2 x3 x4 x5 x6 k r = du2 U Z C k (row t r) := by
  unfold bdu2 du2; rw [H.bdw_eq, H.h0]

theorem btap_eq (H : Is U Z C t x0 x1 x2 x3 x4 x5 x6) (i : Fin 8) (k : Fin 2048) :
    btap t.val x0 x1 x2 x3 i k = ∑ r : Fin 256, tap U Z i k (row t r) := by
  unfold btap tap
  simp only [H.be_eq, H.bwd_eq, H.bw_eq, H.bwu_eq]
  split_ifs <;> simp

end Is

/-- All the rows are the blocks' rows. -/
theorem sum_rows (g : Fin 8448 → EReal) : ∑ R : Fin 8448, g R = ∑ t : Fin 33, ∑ r : Fin 256, g (row t r) := by
  rw [← Finset.sum_product', Finset.univ_product_univ]
  refine (Equiv.sum_comp (finProdFinEquiv (m := 33) (n := 256)) g).symm.trans ?_
  refine Finset.sum_congr rfl fun p _ => congrArg g (Fin.ext ?_)
  show p.2.val + 256 * p.1.val = 256 * p.1.val + p.2.val
  omega

end Meet

end Cert.Model
-- ==== Proof.BlockA.lean ====
/- The gradient block that a grid point of case A leaves, read element by element: each store is found by its column offset. -/
module
public import proofs.«01_k».proof.Proof.Gen.KernelIdeal.Value
public import proofs.«01_k».proof.Proof.Cols
public import proofs.«01_k».proof.Proof.Model

@[expose] public section
set_option maxRecDepth 16384
set_option maxHeartbeats 4000000

noncomputable section
open Idealize.ShloMosaic Idealize.ShloMosaic.TcCoe Idealize.SL.Sem
namespace Cert.KernelIdeal.Block
open Cert.KernelIdeal Cert.KernelIdeal.Gen Cert.Model

variable (c : Dev nD) (i : grid0.Coords) (arg1 : Memref sig .tc .vmem S256x6144 .bf16) (harg1 : arg1.IsWhole) (arg2 : Memref sig .tc .vmem S16x6144 .bf16) (harg2 : arg2.IsWhole) (arg3 : Memref sig .tc .vmem S16x6144 .bf16) (harg3 : arg3.IsWhole) (arg4 : Memref sig .tc .vmem S256x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S8x2048 .f32) (harg7 : arg7.IsWhole) (arg8 : Memref sig .tc .vmem S256x6144 .bf16) (harg8 : arg8.IsWhole) (arg9 : Memref sig .tc .vmem S8x2048 .f32) (harg9 : arg9.IsWhole)
  (x0 : Vec Ideal S256x6144 .bf16) (x1 : Vec Ideal S16x6144 .bf16) (x2 : Vec Ideal S16x6144 .bf16) (x3 : Vec Ideal S256x2048 .bf16) (x4 : Vec Ideal S16x2048 .bf16) (x5 : Vec Ideal S16x2048 .bf16) (x6 : Vec Ideal S8x2048 .f32)

/-- Column group 0 of the block that a point of case A leaves. -/
theorem out_A_0 (hc0 : cond0_0 i) (r : Fin 256) (k : Fin 2048) :
    out0_A_7 c i arg1 harg1 arg2 harg2 arg3 harg3 arg4 harg4 arg5 harg5 arg6 harg6 arg7 harg7 arg8 harg8 arg9 harg9 hc0 x0 x1 x2 x3 x4 x5 x6 (ix2 r (c0 k)) = bdu0 (i 0).val x0 x1 x2 x3 x6 k r := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  rcases split4 k with ⟨l, rfl⟩ | ⟨l, rfl⟩ | ⟨l, rfl⟩ | ⟨l, rfl⟩
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.miss 2560 512 _ _ _ _ _ (by dsimp only; omega)]
    rw [Cols.miss 512 512 _ _ _ _ _ (by dsimp only; omega)]
    rw [Cols.miss 4096 512 _ _ _ _ _ (by dsimp only; omega)]
    rw [Cols.miss 2048 512 _ _ _ _ _ (by dsimp only; omega)]
    rw [Cols.hit 0 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.miss 2560 512 _ _ _ _ _ (by dsimp only; omega)]
    rw [Cols.hit 512 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.hit 1024 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.hit 1536 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]

/-- Column group 1 of the block that a point of case A leaves. -/
theorem out_A_1 (hc0 : cond0_0 i) (r : Fin 256) (k : Fin 2048) :
    out0_A_7 c i arg1 harg1 arg2 harg2 arg3 harg3 arg4 harg4 arg5 harg5 arg6 harg6 arg7 harg7 arg8 harg8 arg9 harg9 hc0 x0 x1 x2 x3 x4 x5 x6 (ix2 r (c1 k)) = bdu1 (i 0).val x0 x1 x2 x3 x4 x5 x6 k r := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  rcases split4 k with ⟨l, rfl⟩ | ⟨l, rfl⟩ | ⟨l, rfl⟩ | ⟨l, rfl⟩
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.miss 2560 512 _ _ _ _ _ (by dsimp only; omega)]
    rw [Cols.miss 512 512 _ _ _ _ _ (by dsimp only; omega)]
    rw [Cols.miss 4096 512 _ _ _ _ _ (by dsimp only; omega)]
    rw [Cols.hit 2048 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.hit 2560 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.hit 3072 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.hit 3584 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]

/-- Column group 2 of the block that a point of case A leaves. -/
theorem out_A_2 (hc0 : cond0_0 i) (r : Fin 256) (k : Fin 2048) :
    out0_A_7 c i arg1 harg1 arg2 harg2 arg3 harg3 arg4 harg4 arg5 harg5 arg6 harg6 arg7 harg7 arg8 harg8 arg9 harg9 hc0 x0 x1 x2 x3 x4 x5 x6 (ix2 r (c2 k)) = bdu2 (i 0).val x0 x1 x2 x3 x4 x5 x6 k r := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  rcases split4 k with ⟨l, rfl⟩ | ⟨l, rfl⟩ | ⟨l, rfl⟩ | ⟨l, rfl⟩
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.miss 2560 512 _ _ _ _ _ (by dsimp only; omega)]
    rw [Cols.miss 512 512 _ _ _ _ _ (by dsimp only; omega)]
    rw [Cols.hit 4096 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.hit 4608 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.hit 5120 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.hit 5632 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]

end Cert.KernelIdeal.Block
-- ==== Proof.BlockB.lean ====
/- The gradient block that a grid point of case B leaves, read element by element: each store is found by its column offset. -/
module
public import proofs.«01_k».proof.Proof.Gen.KernelIdeal.Value
public import proofs.«01_k».proof.Proof.Cols
public import proofs.«01_k».proof.Proof.Model

@[expose] public section
set_option maxRecDepth 16384
set_option maxHeartbeats 4000000

noncomputable section
open Idealize.ShloMosaic Idealize.ShloMosaic.TcCoe Idealize.SL.Sem
namespace Cert.KernelIdeal.Block
open Cert.KernelIdeal Cert.KernelIdeal.Gen Cert.Model

variable (c : Dev nD) (i : grid0.Coords) (arg1 : Memref sig .tc .vmem S256x6144 .bf16) (harg1 : arg1.IsWhole) (arg2 : Memref sig .tc .vmem S16x6144 .bf16) (harg2 : arg2.IsWhole) (arg3 : Memref sig .tc .vmem S16x6144 .bf16) (harg3 : arg3.IsWhole) (arg4 : Memref sig .tc .vmem S256x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S8x2048 .f32) (harg7 : arg7.IsWhole) (arg8 : Memref sig .tc .vmem S256x6144 .bf16) (harg8 : arg8.IsWhole) (arg9 : Memref sig .tc .vmem S8x2048 .f32) (harg9 : arg9.IsWhole)
  (x0 : Vec Ideal S256x6144 .bf16) (x1 : Vec Ideal S16x6144 .bf16) (x2 : Vec Ideal S16x6144 .bf16) (x3 : Vec Ideal S256x2048 .bf16) (x4 : Vec Ideal S16x2048 .bf16) (x5 : Vec Ideal S16x2048 .bf16) (x6 : Vec Ideal S8x2048 .f32)

/-- Column group 0 of the block that a point of case B leaves. -/
theorem out_B_0 (hc0 : ¬cond0_0 i) (xo8 : Vec Ideal S8x2048 .f32) (r : Fin 256) (k : Fin 2048) :
    out0_B_7 c i arg1 harg1 arg2 harg2 arg3 harg3 arg4 harg4 arg5 harg5 arg6 harg6 arg7 harg7 arg8 harg8 arg9 harg9 hc0 x0 x1 x2 x3 x4 x5 x6 xo8 (ix2 r (c0 k)) = bdu0 (i 0).val x0 x1 x2 x3 x6 k r := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  simp only [View.readAt_eq_ld, harg1.read_unread, harg2.read_unread, harg3.read_unread, harg4.read_unread, harg5.read_unread, harg6.read_unread, harg7.read_unread]
  rcases split4 k with ⟨l, rfl⟩ | ⟨l, rfl⟩ | ⟨l, rfl⟩ | ⟨l, rfl⟩
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.miss 2560 512 _ _ _ _ _ (by dsimp only; omega)]
    rw [Cols.miss 512 512 _ _ _ _ _ (by dsimp only; omega)]
    rw [Cols.miss 4096 512 _ _ _ _ _ (by dsimp only; omega)]
    rw [Cols.miss 2048 512 _ _ _ _ _ (by dsimp only; omega)]
    rw [Cols.hit 0 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.miss 2560 512 _ _ _ _ _ (by dsimp only; omega)]
    rw [Cols.hit 512 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.hit 1024 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.hit 1536 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]

/-- Column group 1 of the block that a point of case B leaves. -/
theorem out_B_1 (hc0 : ¬cond0_0 i) (xo8 : Vec Ideal S8x2048 .f32) (r : Fin 256) (k : Fin 2048) :
    out0_B_7 c i arg1 harg1 arg2 harg2 arg3 harg3 arg4 harg4 arg5 harg5 arg6 harg6 arg7 harg7 arg8 harg8 arg9 harg9 hc0 x0 x1 x2 x3 x4 x5 x6 xo8 (ix2 r (c1 k)) = bdu1 (i 0).val x0 x1 x2 x3 x4 x5 x6 k r := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  simp only [View.readAt_eq_ld, harg1.read_unread, harg2.read_unread, harg3.read_unread, harg4.read_unread, harg5.read_unread, harg6.read_unread, harg7.read_unread]
  rcases split4 k with ⟨l, rfl⟩ | ⟨l, rfl⟩ | ⟨l, rfl⟩ | ⟨l, rfl⟩
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.miss 2560 512 _ _ _ _ _ (by dsimp only; omega)]
    rw [Cols.miss 512 512 _ _ _ _ _ (by dsimp only; omega)]
    rw [Cols.miss 4096 512 _ _ _ _ _ (by dsimp only; omega)]
    rw [Cols.hit 2048 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.hit 2560 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.hit 3072 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.hit 3584 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]

/-- Column group 2 of the block that a point of case B leaves. -/
theorem out_B_2 (hc0 : ¬cond0_0 i) (xo8 : Vec Ideal S8x2048 .f32) (r : Fin 256) (k : Fin 2048) :
    out0_B_7 c i arg1 harg1 arg2 harg2 arg3 harg3 arg4 harg4 arg5 harg5 arg6 harg6 arg7 harg7 arg8 harg8 arg9 harg9 hc0 x0 x1 x2 x3 x4 x5 x6 xo8 (ix2 r (c2 k)) = bdu2 (i 0).val x0 x1 x2 x3 x4 x5 x6 k r := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  simp only [View.readAt_eq_ld, harg1.read_unread, harg2.read_unread, harg3.read_unread, harg4.read_unread, harg5.read_unread, harg6.read_unread, harg7.read_unread]
  rcases split4 k with ⟨l, rfl⟩ | ⟨l, rfl⟩ | ⟨l, rfl⟩ | ⟨l, rfl⟩
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.miss 4608 512 _ _ _ _ _ (by dsimp only; omega)]
    rw [Cols.miss 2560 512 _ _ _ _ _ (by dsimp only; omega)]
    rw [Cols.miss 512 512 _ _ _ _ _ (by dsimp only; omega)]
    rw [Cols.hit 4096 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.miss 5120 512 _ _ _ _ _ (by dsimp only; omega)]
    rw [Cols.miss 3072 512 _ _ _ _ _ (by dsimp only; omega)]
    rw [Cols.miss 1024 512 _ _ _ _ _ (by dsimp only; omega)]
    rw [Cols.hit 4608 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.miss 5632 512 _ _ _ _ _ (by dsimp only; omega)]
    rw [Cols.miss 3584 512 _ _ _ _ _ (by dsimp only; omega)]
    rw [Cols.miss 1536 512 _ _ _ _ _ (by dsimp only; omega)]
    rw [Cols.hit 5120 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]
  · rw [Cols.hit 5632 512 _ _ _ _ _ l (by first | rfl | (dsimp only; omega))]
    unfold_payloads
    pointwise
    simp only [first_flag (i 0), last_flag (i 0), sel_first, sel_last, sel_tap_zero, sel_tap_one, sel_tap_two, halo_first, halo_last]
    simp only [bdu0, bdu1, bdu2, bdw, bwd, bwu, bed, beu, bBefore, bAfter, bw, be, c0, c1, c2, ← Nat.add_assoc, Nat.reduceAdd, Nat.zero_add]

end Cert.KernelIdeal.Block
-- ==== Proof.BlockTap.lean ====
/- The tap gradients that a grid point leaves: what the point before left, or zero at the first, plus its own rows. -/
module
public import proofs.«01_k».proof.Proof.Gen.KernelIdeal.Value
public import proofs.«01_k».proof.Proof.Cols
public import proofs.«01_k».proof.Proof.Model

@[expose] public section
set_option maxRecDepth 16384
set_option maxHeartbeats 4000000

noncomputable section
open Idealize.ShloMosaic Idealize.ShloMosaic.TcCoe Idealize.SL.Sem
namespace Cert.KernelIdeal.Block
open Cert.KernelIdeal Cert.KernelIdeal.Gen Cert.Model

variable (c : Dev nD) (i : grid0.Coords) (arg1 : Memref sig .tc .vmem S256x6144 .bf16) (harg1 : arg1.IsWhole) (arg2 : Memref sig .tc .vmem S16x6144 .bf16) (harg2 : arg2.IsWhole) (arg3 : Memref sig .tc .vmem S16x6144 .bf16) (harg3 : arg3.IsWhole) (arg4 : Memref sig .tc .vmem S256x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S8x2048 .f32) (harg7 : arg7.IsWhole) (arg8 : Memref sig .tc .vmem S256x6144 .bf16) (harg8 : arg8.IsWhole) (arg9 : Memref sig .tc .vmem S8x2048 .f32) (harg9 : arg9.IsWhole)
  (x0 : Vec Ideal S256x6144 .bf16) (x1 : Vec Ideal S16x6144 .bf16) (x2 : Vec Ideal S16x6144 .bf16) (x3 : Vec Ideal S256x2048 .bf16) (x4 : Vec Ideal S16x2048 .bf16) (x5 : Vec Ideal S16x2048 .bf16) (x6 : Vec Ideal S8x2048 .f32)

/-- The tap gradients that a point of case A leaves. -/
theorem out_A_tap (hc0 : cond0_0 i) (t : Fin 8) (k : Fin 2048) :
    out0_A_8 c i arg1 harg1 arg2 harg2 arg3 harg3 arg4 harg4 arg5 harg5 arg6 harg6 arg7 harg7 arg8 harg8 arg9 harg9 hc0 x0 x1 x2 x3 x4 x5 x6 (ix2 t k) = 0 + btap (i 0).val x0 x1 x2 x3 t k := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg9.read_unread]
  rcases split4 k with ⟨l, rfl⟩ | ⟨l, rfl⟩ | ⟨l, rfl⟩ | ⟨l, rfl⟩
  · rw [Cols.miss 1536 512 _ _ _ _ _ (by dsimp only; omega)]
    rw [Cols.miss 1024 512 _ _ _ _ _ (by dsimp only; omega)]
    rw [Cols.miss 512 512 _ _ _ _ _ (by dsimp only; omega)]
    rw [Cols.hit 0 512 _ _ _ _ _ l (by first | rfl | (dsimp only; omega))]
    rw [Cols.read_first 0 512]
    unfold_payloads
    pointwise
    simp only [first_flag (i 0), last_flag (i 0), sel_first, sel_last, sel_tap_zero, sel_tap_one, sel_tap_two, halo_first, halo_last]
    simp only [btap, bwd, bwu, bBefore, bAfter, bw, be, c0, c1, c2, ← Nat.add_assoc, Nat.reduceAdd, Nat.zero_add]
  · rw [Cols.miss 1536 512 _ _ _ _ _ (by dsimp only; omega)]
    rw [Cols.miss 1024 512 _ _ _ _ _ (by dsimp only; omega)]
    rw [Cols.hit 512 512 _ _ _ _ _ l (by first | rfl | (dsimp only; omega))]
    rw [Cols.read_miss 0 512 512 512 _ _ _ _ _ (by decide)]
    rw [Cols.read_first 512 512]
    unfold_payloads
    pointwise
    simp only [first_flag (i 0), last_flag (i 0), sel_first, sel_last, sel_tap_zero, sel_tap_one, sel_tap_two, halo_first, halo_last]
    simp only [btap, bwd, bwu, bBefore, bAfter, bw, be, c0, c1, c2, ← Nat.add_assoc, Nat.reduceAdd, Nat.zero_add]
  · rw [Cols.miss 1536 512 _ _ _ _ _ (by dsimp only; omega)]
    rw [Cols.hit 1024 512 _ _ _ _ _ l (by first | rfl | (dsimp only; omega))]
    rw [Cols.read_miss 512 512 1024 512 _ _ _ _ _ (by decide)]
    rw [Cols.read_miss 0 512 1024 512 _ _ _ _ _ (by decide)]
    rw [Cols.read_first 1024 512]
    unfold_payloads
    pointwise
    simp only [first_flag (i 0), last_flag (i 0), sel_first, sel_last, sel_tap_zero, sel_tap_one, sel_tap_two, halo_first, halo_last]
    simp only [btap, bwd, bwu, bBefore, bAfter, bw, be, c0, c1, c2, ← Nat.add_assoc, Nat.reduceAdd, Nat.zero_add]
  · rw [Cols.hit 1536 512 _ _ _ _ _ l (by first | rfl | (dsimp only; omega))]
    rw [Cols.read_miss 1024 512 1536 512 _ _ _ _ _ (by decide)]
    rw [Cols.read_miss 512 512 1536 512 _ _ _ _ _ (by decide)]
    rw [Cols.read_miss 0 512 1536 512 _ _ _ _ _ (by decide)]
    rw [Cols.read_first 1536 512]
    unfold_payloads
    pointwise
    simp only [first_flag (i 0), last_flag (i 0), sel_first, sel_last, sel_tap_zero, sel_tap_one, sel_tap_two, halo_first, halo_last]
    simp only [btap, bwd, bwu, bBefore, bAfter, bw, be, c0, c1, c2, ← Nat.add_assoc, Nat.reduceAdd, Nat.zero_add]

/-- The tap gradients that a point of case B leaves. -/
theorem out_B_tap (hc0 : ¬cond0_0 i) (xo8 : Vec Ideal S8x2048 .f32) (t : Fin 8) (k : Fin 2048) :
    out0_B_8 c i arg1 harg1 arg2 harg2 arg3 harg3 arg4 harg4 arg5 harg5 arg6 harg6 arg7 harg7 arg8 harg8 arg9 harg9 hc0 x0 x1 x2 x3 x4 x5 x6 xo8 (ix2 t k) = xo8 (ix2 t k) + btap (i 0).val x0 x1 x2 x3 t k := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  simp only [View.readAt_eq_ld, harg1.read_unread, harg2.read_unread, harg3.read_unread, harg4.read_unread, harg5.read_unread, harg6.read_unread, harg7.read_unread, harg9.read_unread]
  rcases split4 k with ⟨l, rfl⟩ | ⟨l, rfl⟩ | ⟨l, rfl⟩ | ⟨l, rfl⟩
  · rw [Cols.miss 1536 512 _ _ _ _ _ (by dsimp only; omega)]
    rw [Cols.miss 1024 512 _ _ _ _ _ (by dsimp only; omega)]
    rw [Cols.miss 512 512 _ _ _ _ _ (by dsimp only; omega)]
    rw [Cols.hit 0 512 _ _ _ _ _ l (by first | rfl | (dsimp only; omega))]
    unfold_payloads
    pointwise
    simp only [first_flag (i 0), last_flag (i 0), sel_first, sel_last, sel_tap_zero, sel_tap_one, sel_tap_two, halo_first, halo_last]
    simp only [btap, bwd, bwu, bBefore, bAfter, bw, be, c0, c1, c2, ← Nat.add_assoc, Nat.reduceAdd, Nat.zero_add]
  · rw [Cols.miss 1536 512 _ _ _ _ _ (by dsimp only; omega)]
    rw [Cols.miss 1024 512 _ _ _ _ _ (by dsimp only; omega)]
    rw [Cols.hit 512 512 _ _ _ _ _ l (by first | rfl | (dsimp only; omega))]
    unfold_payloads
    pointwise
    simp only [first_flag (i 0), last_flag (i 0), sel_first, sel_last, sel_tap_zero, sel_tap_one, sel_tap_two, halo_first, halo_last]
    simp only [btap, bwd, bwu, bBefore, bAfter, bw, be, c0, c1, c2, ← Nat.add_assoc, Nat.reduceAdd, Nat.zero_add]
  · rw [Cols.miss 1536 512 _ _ _ _ _ (by dsimp only; omega)]
    rw [Cols.hit 1024 512 _ _ _ _ _ l (by first | rfl | (dsimp only; omega))]
    unfold_payloads
    pointwise
    simp only [first_flag (i 0), last_flag (i 0), sel_first, sel_last, sel_tap_zero, sel_tap_one, sel_tap_two, halo_first, halo_last]
    simp only [btap, bwd, bwu, bBefore, bAfter, bw, be, c0, c1, c2, ← Nat.add_assoc, Nat.reduceAdd, Nat.zero_add]
  · rw [Cols.hit 1536 512 _ _ _ _ _ l (by first | rfl | (dsimp only; omega))]
    unfold_payloads
    pointwise
    simp only [first_flag (i 0), last_flag (i 0), sel_first, sel_last, sel_tap_zero, sel_tap_one, sel_tap_two, halo_first, halo_last]
    simp only [btap, bwd, bwu, bBefore, bAfter, bw, be, c0, c1, c2, ← Nat.add_assoc, Nat.reduceAdd, Nat.zero_add]

end Cert.KernelIdeal.Block
-- ==== Proof.KerVal.lean ====
/- The kernel's two results, element by element: the gradient array is the whole-array model at every row and column,
   and the taps' array is the model's sum over all the rows. -/
module
public import proofs.«01_k».proof.Proof.BlockA
public import proofs.«01_k».proof.Proof.BlockB
public import proofs.«01_k».proof.Proof.BlockTap

@[expose] public section
set_option maxRecDepth 16384
set_option maxHeartbeats 1000000
noncomputable section
open Idealize.ShloMosaic Idealize.ShloMosaic.TcCoe Idealize.SL.Sem
namespace Cert.KernelIdeal.Whole
open Cert.KernelIdeal Cert.KernelIdeal.Gen Cert.Model

variable (m : (ℓ : Loc nD τ sig) → Buf (Elt Ideal) ℓ) (c : Dev nD)

/-- The argument arrays. -/
abbrev U : (⟨2, ![8448, 6144]⟩ : Shape).Idx → EReal := m ((c : Thread nD τ).loc main_arg0)
abbrev Z : (⟨2, ![8448, 2048]⟩ : Shape).Idx → EReal := m ((c : Thread nD τ).loc main_arg1)
abbrev C : Fin 3 → Fin 2048 → EReal := fun i k => (m ((c : Thread nD τ).loc main_arg2) : (⟨2, ![3, 2048]⟩ : Shape).Idx → EReal) (ix2 i k)

theorem coord_eq : ∀ t : Fin grid0.N, (grid0.coords t 0).val = t.val := by decide +kernel
theorem idx0 : ∀ t : Fin grid0.N, win0_0.index t 0 = t.val ∧ win0_0.index t 1 = 0 := by decide +kernel
theorem idx1 : ∀ t : Fin grid0.N, win0_1.index t 0 = 16 * t.val - 1 ∧ win0_1.index t 1 = 0 := by decide +kernel
theorem idx2 : ∀ t : Fin grid0.N, (t.val ≠ 32 → win0_2.index t 0 = 16 * t.val + 16) ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = 16 * t.val - 1 ∧ win0_4.index t 1 = 0 := by decide +kernel
theorem idx5 : ∀ t : Fin grid0.N, (t.val ≠ 32 → win0_5.index t 0 = 16 * t.val + 16) ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = 0 ∧ win0_8.index t 1 = 0 := by decide +kernel

/-- A point as a number below 33. -/
abbrev pt (t : Fin cfg0.N) : Fin 33 := ⟨t.val, by have h := t.isLt; have : cfg0.N = 33 := N_0; omega⟩

/-- The taps as the call receives them: the first three of eight rows. -/
theorem padded (i : Fin 3) (k : Fin 2048) :
    (V m c main_v0 : (⟨2, ![8, 2048]⟩ : Shape).Idx → EReal) (ix2 ⟨i.val, by omega⟩ k) = C m c i k := by
  have e : V m c main_v0 = pad S8x2048 ![0, 0] ![5, 0] ![0, 0] (m ((c : Thread nD τ).loc main_arg2) : Vec Ideal S3x2048 .f32)
      (sitofp (F := Ideal) .f32 (constantI S_ 32 0#32)) pads_S3x2048_S8x2048_050_000 h_S_ := by
    unfold V
    simp only [hostOps0, hostOps0_1, List.flatten_cons, List.flatten_nil, List.append_nil, List.cons_append, List.nil_append]
    after_results
    rfl
  rw [e]
  pointwise
  refine (dif_pos fun a => ?_).trans rfl
  match a with
  | ⟨0, _⟩ => show 0 ≤ i.val ∧ (i.val - 0) % (0 + 1) = 0 ∧ (i.val - 0) / (0 + 1) < 3; omega
  | ⟨1, _⟩ => show 0 ≤ k.val ∧ (k.val - 0) % (0 + 1) = 0 ∧ (k.val - 0) / (0 + 1) < 2048; omega

theorem taps (t : Fin cfg0.N) (i : Fin 3) (k : Fin 2048) :
    (iblk m c 6 t : (⟨2, ![8, 2048]⟩ : Shape).Idx → EReal) (ix2 ⟨i.val, by omega⟩ k)
      = (V m c main_v0 : (⟨2, ![8, 2048]⟩ : Shape).Idx → EReal) (ix2 ⟨i.val, by omega⟩ k) := by
  unfold iblk
  rw [View.read_apply]
  show V m c main_v0 _ = _
  refine congrArg (V m c main_v0) (funext fun a => Fin.ext ?_)
  match a with
  | ⟨0, _⟩ => show win0_6.index t 0 * 8 + 1 * i.val = i.val; rw [(idx6 t).1]; omega
  | ⟨1, _⟩ => show win0_6.index t 1 * 2048 + 1 * k.val = k.val; rw [(idx6 t).2]; omega

/-- What the windows hold at a point is that point's block of the arguments. -/
theorem isBlock (t : Fin cfg0.N) : Is (U m c) (Z m c) (C m c) (pt t) (iblk m c 0 t) (iblk m c 1 t) (iblk m c 2 t)
    (iblk m c 3 t) (iblk m c 4 t) (iblk m c 5 t) (iblk m c 6 t) where
  h0 r k := by
    unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 256 + 1 * r.val = 256 * t.val + r.val; rw [(idx0 t).1]; omega
    | ⟨1, _⟩ => show win0_0.index t 1 * 6144 + 1 * k.val = k.val; rw [(idx0 t).2]; omega
  h1 h k := by
    unfold iblk
    rw [View.read_apply]
    show V m c main_arg0 _ = _
    rw [V_main_arg0]
    refine congrArg (m ((c : Thread nD τ).loc main_arg0)) (funext fun a => Fin.ext ?_)
    have h' : t.val ≠ 0 := h
    match a with
    | ⟨0, _⟩ => show win0_1.index t 0 * 16 + 1 * 15 = 256 * t.val - 1; rw [(idx1 t).1]; omega
    | ⟨1, _⟩ => show win0_1.index t 1 * 6144 + 1 * k.val = k.val; rw [(idx1 t).2]; omega
  h2 h k := by
    unfold iblk
    rw [View.read_apply]
    show V m c main_arg0 _ = _
    rw [V_main_arg0]
    refine congrArg (m ((c : Thread nD τ).loc main_arg0)) (funext fun a => Fin.ext ?_)
    match a with
    | ⟨0, _⟩ => show win0_2.index t 0 * 16 + 1 * 0 = 256 * t.val + 256; rw [(idx2 t).1 h]; omega
    | ⟨1, _⟩ => show win0_2.index t 1 * 6144 + 1 * k.val = k.val; rw [(idx2 t).2]; omega
  h3 r k := by
    unfold iblk
    rw [View.read_apply]
    show V m c main_arg1 _ = _
    rw [V_main_arg1]
    refine congrArg (m ((c : Thread nD τ).loc main_arg1)) (funext fun a => Fin.ext ?_)
    match a with
    | ⟨0, _⟩ => show win0_3.index t 0 * 256 + 1 * r.val = 256 * t.val + r.val; rw [(idx3 t).1]; omega
    | ⟨1, _⟩ => show win0_3.index t 1 * 2048 + 1 * k.val = k.val; rw [(idx3 t).2]; omega
  h4 h k := by
    unfold iblk
    rw [View.read_apply]
    show V m c main_arg1 _ = _
    rw [V_main_arg1]
    refine congrArg (m ((c : Thread nD τ).loc main_arg1)) (funext fun a => Fin.ext ?_)
    have h' : t.val ≠ 0 := h
    match a with
    | ⟨0, _⟩ => show win0_4.index t 0 * 16 + 1 * 15 = 256 * t.val - 1; rw [(idx4 t).1]; omega
    | ⟨1, _⟩ => show win0_4.index t 1 * 2048 + 1 * k.val = k.val; rw [(idx4 t).2]; omega
  h5 h k := by
    unfold iblk
    rw [View.read_apply]
    show V m c main_arg1 _ = _
    rw [V_main_arg1]
    refine congrArg (m ((c : Thread nD τ).loc main_arg1)) (funext fun a => Fin.ext ?_)
    match a with
    | ⟨0, _⟩ => show win0_5.index t 0 * 16 + 1 * 0 = 256 * t.val + 256; rw [(idx5 t).1 h]; omega
    | ⟨1, _⟩ => show win0_5.index t 1 * 2048 + 1 * k.val = k.val; rw [(idx5 t).2]; omega
  h60 k := (taps m c t 0 k).trans (padded m c 0 k)
  h61 k := (taps m c t 1 k).trans (padded m c 1 k)
  h62 k := (taps m c t 2 k).trans (padded m c 2 k)

/-- Point `n`'s gradient block. -/
theorem block0 (t : Fin cfg0.N) (r : Fin 256) (k : Fin 2048) :
    (outsAt0 m c t.val t.isLt).1 (ix2 r (c0 k)) = du0 (U m c) (Z m c) (C m c) k (row (pt t) r) := by
  by_cases h : t.val % 33 = 0
  · rw [outsAt0_A m c t h]
    dsimp only
    rw [Block.out_A_0, coord_eq]
    exact (isBlock m c t).bdu0_eq k r
  · rw [outsAt0_B m c t h]
    dsimp only
    rw [Block.out_B_0, coord_eq]
    exact (isBlock m c t).bdu0_eq k r

theorem block1 (t : Fin cfg0.N) (r : Fin 256) (k : Fin 2048) :
    (outsAt0 m c t.val t.isLt).1 (ix2 r (c1 k)) = du1 (U m c) (Z m c) (C m c) k (row (pt t) r) := by
  by_cases h : t.val % 33 = 0
  · rw [outsAt0_A m c t h]
    dsimp only
    rw [Block.out_A_1, coord_eq]
    exact (isBlock m c t).bdu1_eq k r
  · rw [outsAt0_B m c t h]
    dsimp only
    rw [Block.out_B_1, coord_eq]
    exact (isBlock m c t).bdu1_eq k r

theorem block2 (t : Fin cfg0.N) (r : Fin 256) (k : Fin 2048) :
    (outsAt0 m c t.val t.isLt).1 (ix2 r (c2 k)) = du2 (U m c) (Z m c) (C m c) k (row (pt t) r) := by
  by_cases h : t.val % 33 = 0
  · rw [outsAt0_A m c t h]
    dsimp only
    rw [Block.out_A_2, coord_eq]
    exact (isBlock m c t).bdu2_eq k r
  · rw [outsAt0_B m c t h]
    dsimp only
    rw [Block.out_B_2, coord_eq]
    exact (isBlock m c t).bdu2_eq k r

/-- The gradient array holds, at a block's row, what the block's point left. -/
theorem arr7 (t : Fin cfg0.N) (r : Fin 256) (k : Fin 6144) :
    ((Gen.dats m 0 c).arrAt 7 cfg0.N : (⟨2, ![8448, 6144]⟩ : Shape).Idx → EReal) (ix2 (row (pt t) r) k)
      = (outsAt0 m c t.val t.isLt).1 (ix2 r k) := by
  have h := congrFun ((Value.blocks7 m c t (flush0_7 t)).trans (Value.flushed7 m c t)) (ix2 r k)
  rw [View.read_apply] at h
  refine Eq.trans ?_ h
  refine congrArg ((Gen.dats m 0 c).arrAt 7 cfg0.N) (funext fun a => Fin.ext ?_)
  match a with
  | ⟨0, _⟩ => show 256 * t.val + r.val = win0_7.index t 0 * 256 + 1 * r.val; rw [(idx7 t).1]; omega
  | ⟨1, _⟩ => show k.val = win0_7.index t 1 * 6144 + 1 * k.val; rw [(idx7 t).2]; omega

/-- The first point adds its rows to zero. -/
theorem tapA (t : Fin cfg0.N) (h : t.val % 33 = 0) (i : Fin 8) (k : Fin 2048) :
    (outsAt0 m c t.val t.isLt).2 (ix2 i k) = 0 + ∑ r : Fin 256, tap (U m c) (Z m c) i k (row (pt t) r) := by
  rw [outsAt0_A m c t h]
  dsimp only
  rw [Block.out_A_tap, coord_eq]
  exact congrArg _ ((isBlock m c t).btap_eq i k)

/-- Every later point adds its rows to what the point before left. -/
theorem tapB (t : Fin cfg0.N) (h : ¬ t.val % 33 = 0) (i : Fin 8) (k : Fin 2048) :
    (outsAt0 m c t.val t.isLt).2 (ix2 i k) = (outsAt0 m c (t.val - 1) (Nat.lt_of_le_of_lt (Nat.sub_le _ _) t.isLt)).2 (ix2 i k)
      + ∑ r : Fin 256, tap (U m c) (Z m c) i k (row (pt t) r) := by
  rw [outsAt0_B m c t h]
  dsimp only
  rw [Block.out_B_tap, coord_eq]
  exact congrArg _ ((isBlock m c t).btap_eq i k)

/-- The taps' buffer after point `n`: the rows of the blocks so far. -/
theorem acc (i : Fin 8) (k : Fin 2048) : ∀ (n : ℕ) (h : n < cfg0.N),
    (outsAt0 m c n h).2 (ix2 i k)
      = ∑ t : Fin (n + 1), ∑ r : Fin 256, tap (U m c) (Z m c) i k (row ⟨t.val, by have : cfg0.N = 33 := N_0; omega⟩ r)
  | 0, h => by
    refine (tapA m c ⟨0, h⟩ (Nat.zero_mod 33) i k).trans ?_
    rw [zero_add]
    exact (Fin.sum_univ_one fun t : Fin 1 => ∑ r : Fin 256, tap (U m c) (Z m c) i k (row ⟨t.val, by omega⟩ r)).symm
  | n + 1, h => by
    have hN : cfg0.N = 33 := N_0
    refine (tapB m c ⟨n + 1, h⟩ (by dsimp only; omega) i k).trans ?_
    refine Eq.trans ?_ (Fin.sum_univ_castSucc fun t : Fin (n + 1 + 1) => ∑ r : Fin 256, tap (U m c) (Z m c) i k (row ⟨t.val, by omega⟩ r)).symm
    exact congrArg₂ (· + ·) (acc i k n (Nat.lt_of_succ_lt h)) rfl

/-- The taps' array holds the sum over all the rows. -/
theorem arr8 (i : Fin 8) (k : Fin 2048) :
    ((Gen.dats m 0 c).arrAt 8 cfg0.N : (⟨2, ![8, 2048]⟩ : Shape).Idx → EReal) (ix2 i k)
      = ∑ R : Fin 8448, tap (U m c) (Z m c) i k R := by
  have hN : cfg0.N = 33 := N_0
  have h32 : 32 < cfg0.N := by omega
  have hd : ∀ t t' : Fin cfg0.N, (cfg0.win 8).flush t = true → (cfg0.win 8).flush t' = true → t ≠ t' →
      Disjoint ((cfg0.win 8).blk t).view.set ((cfg0.win 8).blk t').view.set := fun t t' ht ht' hne => by
    have h1 := (flush0_8 t).mp ht
    have h2 := (flush0_8 t').mp ht'
    exact absurd (Fin.ext (by have := t.isLt; have := t'.isLt; omega)) hne
  have h := congrFun (((Gen.dats m 0 c).read_blk_arrAt_eq_flushed 8 hd cfg0.N ⟨32, h32⟩ h32 ((flush0_8 _).mpr rfl)).trans
    (Value.flushed8 m c ⟨32, h32⟩)) (ix2 i k)
  rw [View.read_apply] at h
  have hr : ((Gen.dats m 0 c).arrAt 8 cfg0.N : (⟨2, ![8, 2048]⟩ : Shape).Idx → EReal) (ix2 i k)
      = (outsAt0 m c 32 h32).2 (ix2 i k) := by
    refine Eq.trans ?_ h
    refine congrArg ((Gen.dats m 0 c).arrAt 8 cfg0.N) (funext fun a => Fin.ext ?_)
    match a with
    | ⟨0, _⟩ => show i.val = win0_8.index ⟨32, h32⟩ 0 * 8 + 1 * i.val; rw [(idx8 _).1]; omega
    | ⟨1, _⟩ => show k.val = win0_8.index ⟨32, h32⟩ 1 * 2048 + 1 * k.val; rw [(idx8 _).2]; omega
  rw [hr, acc m c i k 32 h32, sum_rows]

end Cert.KernelIdeal.Whole
-- ==== Proof.RefVal.lean ====
/- The reference's two results, element by element: each segment's stages at a row are the whole-array model at that
   segment's rows, and the results are the model's gradient and sums. -/
module
public import proofs.«01_k».proof.Proof.Gen.ReferenceIdeal.Run
public import proofs.«01_k».proof.Proof.Model
public import Idealize.ShloMosaic.Lib.Tactic.CleanTypes

@[expose] public section
set_option maxRecDepth 16384
set_option maxHeartbeats 1000000
noncomputable section
open Idealize.ShloMosaic Idealize.ShloMosaic.TcCoe Idealize.SL.Sem
namespace Cert.ReferenceIdeal.Whole
open Cert.ReferenceIdeal Cert.ReferenceIdeal.Value Cert.Model

variable (V0 : Valuation τ sig (Elt Ideal))

/-- The argument arrays. -/
abbrev U : (⟨2, ![8448, 6144]⟩ : Shape).Idx → EReal := V0 (Proc.devRef .tc main_arg0)
abbrev Z : (⟨2, ![8448, 2048]⟩ : Shape).Idx → EReal := V0 (Proc.devRef .tc main_arg1)
abbrev C : Fin 3 → Fin 2048 → EReal := fun i k => (V0 (Proc.devRef .tc main_arg2) : (⟨2, ![3, 2048]⟩ : Shape).Idx → EReal) (ix2 i k)

/-! ## The ctx segment: rows 0 to 255 -/

abbrev ctx (r : Fin 256) : Fin 8448 := ⟨r.val, by omega⟩

theorem ctx_gb (r : Fin 256) (k : Fin 2048) : (res_main_v5 V0 : (⟨3, ![1, 256, 2048]⟩ : Shape).Idx → EReal) (ix3 0 r k) = U V0 (ix2 (ctx r) (c0 k)) := by
  unfold res_main_v5 res_main_v2 res_main_v0
  clean_types
  pointwise
  first | done | rfl | (simp only [Nat.zero_add]; rfl)

theorem ctx_gc (r : Fin 256) (k : Fin 2048) : (res_main_v6 V0 : (⟨3, ![1, 256, 2048]⟩ : Shape).Idx → EReal) (ix3 0 r k) = U V0 (ix2 (ctx r) (c1 k)) := by
  unfold res_main_v6 res_main_v2 res_main_v0
  clean_types
  pointwise
  first | done | rfl | (simp only [Nat.zero_add]; rfl)

theorem ctx_v (r : Fin 256) (k : Fin 2048) : (res_main_v7 V0 : (⟨3, ![1, 256, 2048]⟩ : Shape).Idx → EReal) (ix3 0 r k) = U V0 (ix2 (ctx r) (c2 k)) := by
  unfold res_main_v7 res_main_v2 res_main_v0
  clean_types
  pointwise
  first | done | rfl | (simp only [Nat.zero_add]; rfl)

theorem ctx_z (r : Fin 256) (k : Fin 2048) : (res_main_v69 V0 : (⟨3, ![1, 256, 2048]⟩ : Shape).Idx → EReal) (ix3 0 r k) = Z V0 (ix2 (ctx r) k) := by
  unfold res_main_v69 res_main_v68
  clean_types
  pointwise
  first | done | rfl | (simp only [Nat.zero_add]; rfl)

theorem ctx_w (r : Fin 256) (k : Fin 2048) : (res_main_v8 V0 : (⟨3, ![1, 256, 2048]⟩ : Shape).Idx → EReal) (ix3 0 r k) = w (U V0) k (ctx r) := by
  unfold res_main_v8 w
  exact congrArg₂ (· * ·) (ctx_gc V0 r k) (ctx_v V0 r k)

theorem ctx_e (r : Fin 256) (k : Fin 2048) : (res_main_v110 V0 : (⟨3, ![1, 256, 2048]⟩ : Shape).Idx → EReal) (ix3 0 r k) = e (U V0) (Z V0) k (ctx r) := by
  unfold res_main_v110 e
  exact (congrArg₂ (fun a b : EReal => a * b) (ctx_gb V0 r k) (ctx_z V0 r k)).trans (mul_comm (U V0 (ix2 (ctx r) (c0 k))) (Z V0 (ix2 (ctx r) k)))

theorem ctx_pad (q : Fin 258) (k : Fin 2048) : (res_main_v11 V0 : (⟨3, ![1, 258, 2048]⟩ : Shape).Idx → EReal) (ix3 0 q k)
    = if h : q.val < 1 then 0 else if h' : q.val - 1 < 256 then w (U V0) k (ctx ⟨q.val - 1, h'⟩) else 0 := by
  unfold res_main_v11
  have hy := fun r => ctx_w V0 r k
  generalize res_main_v8 V0 = y at hy ⊢
  unfold res_main_v10
  clean_types
  pointwise
  simp only [hy]

theorem ctx_wd (r : Fin 256) (k : Fin 2048) : (res_main_v14 V0 : (⟨3, ![1, 256, 2048]⟩ : Shape).Idx → EReal) (ix3 0 r k) = before (w (U V0) k) (ctx r) := by
  have hy := fun q => ctx_pad V0 q k
  unfold res_main_v14
  generalize res_main_v11 V0 = y at hy ⊢
  clean_types
  pointwise
  rw [hy]
  unfold before
  by_cases h : r.val = 0
  · rw [dif_pos (by dsimp only; omega), dif_pos (by dsimp only; omega)]
  · rw [dif_neg (by dsimp only; omega), dif_pos (by dsimp only; omega), dif_neg (by dsimp only; omega)]
    first | done | exact congrArg _ (Fin.ext (by dsimp only; omega))

theorem ctx_wm (r : Fin 256) (k : Fin 2048) : (res_main_v20 V0 : (⟨3, ![1, 256, 2048]⟩ : Shape).Idx → EReal) (ix3 0 r k) = w (U V0) k (ctx r) := by
  have hy := fun q => ctx_pad V0 q k
  unfold res_main_v20
  generalize res_main_v11 V0 = y at hy ⊢
  clean_types
  pointwise
  rw [hy, dif_neg (by dsimp only; omega), dif_pos (by dsimp only; omega)]
  exact congrArg _ (Fin.ext (by dsimp only; omega))

theorem ctx_wu (r : Fin 256) (k : Fin 2048) : (res_main_v27 V0 : (⟨3, ![1, 256, 2048]⟩ : Shape).Idx → EReal) (ix3 0 r k) = after (w (U V0) k) (ctx r) := by
  have hy := fun q => ctx_pad V0 q k
  unfold res_main_v27
  generalize res_main_v11 V0 = y at hy ⊢
  clean_types
  pointwise
  rw [hy, dif_neg (by dsimp only; omega)]
  unfold after
  by_cases h : r.val = 255
  · rw [dif_neg (by dsimp only; omega), dif_pos (by dsimp only; omega)]
  · rw [dif_pos (by dsimp only; omega), dif_neg (by dsimp only; omega)]
    first | done | exact congrArg _ (Fin.ext (by dsimp only; omega))

theorem ctx_conv (r : Fin 256) (k : Fin 2048) : (res_main_v33 V0 : (⟨3, ![1, 256, 2048]⟩ : Shape).Idx → EReal) (ix3 0 r k)
    = before (w (U V0) k) (ctx r) * C V0 0 k + w (U V0) k (ctx r) * C V0 1 k + after (w (U V0) k) (ctx r) * C V0 2 k := by
  rw [← ctx_wd, ← ctx_wm, ← ctx_wu]
  unfold res_main_v33 res_main_v17 res_main_v23 res_main_v30
  generalize res_main_v14 V0 = y0
  generalize res_main_v20 V0 = y1
  generalize res_main_v27 V0 = y2
  clean_types
  pointwise
  first | done | rfl | (simp only [Nat.zero_add]; rfl)

theorem ctx_dw (r : Fin 256) (k : Fin 2048) : (res_main_v145 V0 : (⟨3, ![1, 256, 2048]⟩ : Shape).Idx → EReal) (ix3 0 r k)
    = dw (U V0) (Z V0) (C V0) k (ctx r) := by
  have hy := fun r => ctx_e V0 r k
  unfold res_main_v145 res_main_v143 res_main_v17 res_main_v23 res_main_v30 dw
  generalize res_main_v110 V0 = y at hy ⊢
  clean_types
  pointwise
  simp only [hy]
  have hb : (if h : 2 ≤ 1 + r.val ∧ 1 + r.val - 2 < 256 then e (U V0) (Z V0) k (ctx ⟨1 + r.val - 2, h.2⟩) * C V0 2 k else 0)
      = C V0 2 k * before (e (U V0) (Z V0) k) (ctx r) := by
    unfold before
    by_cases h : r.val = 0
    · rw [dif_neg (by omega), dif_pos (by dsimp only; omega), mul_zero]
    · rw [dif_pos (by omega), dif_neg (by dsimp only; omega), mul_comm]
      exact congrArg _ (congrArg _ (Fin.ext (by dsimp only; omega)))
  have ha : (if h : 1 + r.val < 256 then e (U V0) (Z V0) k (ctx ⟨1 + r.val, h⟩) * C V0 0 k else 0)
      = C V0 0 k * after (e (U V0) (Z V0) k) (ctx r) := by
    unfold after
    by_cases h : r.val = 255
    · rw [dif_neg (by omega), dif_pos (by dsimp only; omega), mul_zero]
    · rw [dif_pos (by omega), dif_neg (by dsimp only; omega), mul_comm]
      exact congrArg _ (congrArg _ (Fin.ext (by dsimp only; omega)))
  refine (congrArg₂ (· + ·) (congrArg₂ (· + ·) hb rfl) ha).trans ?_
  rw [mul_comm (e (U V0) (Z V0) k (ctx r))]
  ac_rfl

/-! ## The lat segment: rows 256 to 8447 -/

abbrev lat (r : Fin 8192) : Fin 8448 := ⟨256 + r.val, by omega⟩

theorem lat_gb (r : Fin 8192) (k : Fin 2048) : (res_main_v35 V0 : (⟨3, ![1, 8192, 2048]⟩ : Shape).Idx → EReal) (ix3 0 r k) = U V0 (ix2 (lat r) (c0 k)) := by
  unfold res_main_v35 res_main_v4 res_main_v0
  clean_types
  pointwise
  first | done | rfl | (simp only [Nat.zero_add]; rfl)

theorem lat_gc (r : Fin 8192) (k : Fin 2048) : (res_main_v36 V0 : (⟨3, ![1, 8192, 2048]⟩ : Shape).Idx → EReal) (ix3 0 r k) = U V0 (ix2 (lat r) (c1 k)) := by
  unfold res_main_v36 res_main_v4 res_main_v0
  clean_types
  pointwise
  first | done | rfl | (simp only [Nat.zero_add]; rfl)

theorem lat_v (r : Fin 8192) (k : Fin 2048) : (res_main_v37 V0 : (⟨3, ![1, 8192, 2048]⟩ : Shape).Idx → EReal) (ix3 0 r k) = U V0 (ix2 (lat r) (c2 k)) := by
  unfold res_main_v37 res_main_v4 res_main_v0
  clean_types
  pointwise
  first | done | rfl | (simp only [Nat.zero_add]; rfl)

theorem lat_z (r : Fin 8192) (k : Fin 2048) : (res_main_v70 V0 : (⟨3, ![1, 8192, 2048]⟩ : Shape).Idx → EReal) (ix3 0 r k) = Z V0 (ix2 (lat r) k) := by
  unfold res_main_v70 res_main_v68
  clean_types
  pointwise
  first | done | rfl | (simp only [Nat.zero_add]; rfl)

theorem lat_w (r : Fin 8192) (k : Fin 2048) : (res_main_v38 V0 : (⟨3, ![1, 8192, 2048]⟩ : Shape).Idx → EReal) (ix3 0 r k) = w (U V0) k (lat r) := by
  unfold res_main_v38 w
  exact congrArg₂ (· * ·) (lat_gc V0 r k) (lat_v V0 r k)

theorem lat_e (r : Fin 8192) (k : Fin 2048) : (res_main_v71 V0 : (⟨3, ![1, 8192, 2048]⟩ : Shape).Idx → EReal) (ix3 0 r k) = e (U V0) (Z V0) k (lat r) := by
  unfold res_main_v71 e
  exact (congrArg₂ (fun a b : EReal => a * b) (lat_gb V0 r k) (lat_z V0 r k)).trans (mul_comm (U V0 (ix2 (lat r) (c0 k))) (Z V0 (ix2 (lat r) k)))

theorem lat_pad (q : Fin 8194) (k : Fin 2048) : (res_main_v41 V0 : (⟨3, ![1, 8194, 2048]⟩ : Shape).Idx → EReal) (ix3 0 q k)
    = if h : q.val < 1 then 0 else if h' : q.val - 1 < 8192 then w (U V0) k (lat ⟨q.val - 1, h'⟩) else 0 := by
  unfold res_main_v41
  have hy := fun r => lat_w V0 r k
  generalize res_main_v38 V0 = y at hy ⊢
  unfold res_main_v40
  clean_types
  pointwise
  simp only [hy]

theorem lat_wd (r : Fin 8192) (k : Fin 2048) : (res_main_v44 V0 : (⟨3, ![1, 8192, 2048]⟩ : Shape).Idx → EReal) (ix3 0 r k) = before (w (U V0) k) (lat r) := by
  have hy := fun q => lat_pad V0 q k
  unfold res_main_v44
  generalize res_main_v41 V0 = y at hy ⊢
  clean_types
  pointwise
  rw [hy]
  unfold before
  by_cases h : r.val = 0
  · rw [dif_pos (by dsimp only; omega), dif_pos (by dsimp only; omega)]
  · rw [dif_neg (by dsimp only; omega), dif_pos (by dsimp only; omega), dif_neg (by dsimp only; omega)]
    first | done | exact congrArg _ (Fin.ext (by dsimp only; omega))

theorem lat_wm (r : Fin 8192) (k : Fin 2048) : (res_main_v50 V0 : (⟨3, ![1, 8192, 2048]⟩ : Shape).Idx → EReal) (ix3 0 r k) = w (U V0) k (lat r) := by
  have hy := fun q => lat_pad V0 q k
  unfold res_main_v50
  generalize res_main_v41 V0 = y at hy ⊢
  clean_types
  pointwise
  rw [hy, dif_neg (by dsimp only; omega), dif_pos (by dsimp only; omega)]
  exact congrArg _ (Fin.ext (by dsimp only; omega))

theorem lat_wu (r : Fin 8192) (k : Fin 2048) : (res_main_v57 V0 : (⟨3, ![1, 8192, 2048]⟩ : Shape).Idx → EReal) (ix3 0 r k) = after (w (U V0) k) (lat r) := by
  have hy := fun q => lat_pad V0 q k
  unfold res_main_v57
  generalize res_main_v41 V0 = y at hy ⊢
  clean_types
  pointwise
  rw [hy, dif_neg (by dsimp only; omega)]
  unfold after
  by_cases h : r.val = 8191
  · rw [dif_neg (by dsimp only; omega), dif_pos (by dsimp only; omega)]
  · rw [dif_pos (by dsimp only; omega), dif_neg (by dsimp only; omega)]
    first | done | exact congrArg _ (Fin.ext (by dsimp only; omega))

theorem lat_conv (r : Fin 8192) (k : Fin 2048) : (res_main_v63 V0 : (⟨3, ![1, 8192, 2048]⟩ : Shape).Idx → EReal) (ix3 0 r k)
    = before (w (U V0) k) (lat r) * C V0 0 k + w (U V0) k (lat r) * C V0 1 k + after (w (U V0) k) (lat r) * C V0 2 k := by
  rw [← lat_wd, ← lat_wm, ← lat_wu]
  unfold res_main_v63 res_main_v47 res_main_v53 res_main_v60
  generalize res_main_v44 V0 = y0
  generalize res_main_v50 V0 = y1
  generalize res_main_v57 V0 = y2
  clean_types
  pointwise
  first | done | rfl | (simp only [Nat.zero_add]; rfl)

theorem lat_dw (r : Fin 8192) (k : Fin 2048) : (res_main_v105 V0 : (⟨3, ![1, 8192, 2048]⟩ : Shape).Idx → EReal) (ix3 0 r k)
    = dw (U V0) (Z V0) (C V0) k (lat r) := by
  have hy := fun r => lat_e V0 r k
  unfold res_main_v105 res_main_v103 res_main_v47 res_main_v53 res_main_v60 dw
  generalize res_main_v71 V0 = y at hy ⊢
  clean_types
  pointwise
  simp only [hy]
  have hb : (if h : 2 ≤ 1 + r.val ∧ 1 + r.val - 2 < 8192 then e (U V0) (Z V0) k (lat ⟨1 + r.val - 2, h.2⟩) * C V0 2 k else 0)
      = C V0 2 k * before (e (U V0) (Z V0) k) (lat r) := by
    unfold before
    by_cases h : r.val = 0
    · rw [dif_neg (by omega), dif_pos (by dsimp only; omega), mul_zero]
    · rw [dif_pos (by omega), dif_neg (by dsimp only; omega), mul_comm]
      exact congrArg _ (congrArg _ (Fin.ext (by dsimp only; omega)))
  have ha : (if h : 1 + r.val < 8192 then e (U V0) (Z V0) k (lat ⟨1 + r.val, h⟩) * C V0 0 k else 0)
      = C V0 0 k * after (e (U V0) (Z V0) k) (lat r) := by
    unfold after
    by_cases h : r.val = 8191
    · rw [dif_neg (by omega), dif_pos (by dsimp only; omega), mul_zero]
    · rw [dif_pos (by omega), dif_neg (by dsimp only; omega), mul_comm]
      exact congrArg _ (congrArg _ (Fin.ext (by dsimp only; omega)))
  refine (congrArg₂ (· + ·) (congrArg₂ (· + ·) hb rfl) ha).trans ?_
  rw [mul_comm (e (U V0) (Z V0) k (lat r))]
  ac_rfl

end Cert.ReferenceIdeal.Whole
-- ==== Proof.RefOut.lean ====
/- The reference's two results, element by element: the gradient is the model's at every row and column, and row `i` of the
   weights' gradient is the model's sum over all rows. -/
module
public import proofs.«01_k».proof.Proof.RefVal

@[expose] public section
set_option maxRecDepth 16384
set_option maxHeartbeats 1000000
noncomputable section
open Idealize.ShloMosaic Idealize.ShloMosaic.TcCoe Idealize.SL.Sem
namespace Cert.ReferenceIdeal.Whole
open Cert.ReferenceIdeal Cert.ReferenceIdeal.Value Cert.Model

variable (V0 : Valuation τ sig (Elt Ideal))

/-- The two results of the reference, as arrays. -/
abbrev du : (⟨2, ![8448, 6144]⟩ : Shape).Idx → EReal := val4 V0 (Proc.devRef .tc main_v155)
abbrev taps : (⟨2, ![8, 2048]⟩ : Shape).Idx → EReal := val4 V0 (Proc.devRef .tc main_v156)

/-- A sum over all rows is the first segment's sum and the second's. -/
theorem sum_segments (f : Fin 8448 → EReal) : ∑ R, f R = ∑ r : Fin 256, f (ctx r) + ∑ r : Fin 8192, f (lat r) :=
  Fin.sum_univ_add (M := EReal) (a := 256) (b := 8192) f

/-- Every row lies in one of the two segments. -/
theorem row_cases (R : Fin 8448) : (∃ r, R = ctx r) ∨ (∃ r, R = lat r) := by
  by_cases h : R.val < 256
  · exact .inl ⟨⟨R.val, h⟩, rfl⟩
  · exact .inr ⟨⟨R.val - 256, by omega⟩, Fin.ext (by dsimp only; omega)⟩

/-- A sum over two leading axes of extent one is the one element. -/
theorem reduce_lead {n : Nat} (h : (⟨3, ![1, 1, n]⟩ : Shape).ReducesTo [0, 1] ⟨1, ![n]⟩) (v : (⟨3, ![1, 1, n]⟩ : Shape).Idx → EReal)
    (b : EReal) (k : Fin n) : Ideal.hostReduceAdd h v b (ix1 k) = b + v (ix3 0 0 k) := by
  have hs : (Finset.univ.filter fun i => h.drop i = ix1 k) = {ix3 0 0 k} := by
    refine Finset.ext fun i => ⟨fun hi => ?_, fun hi => ?_⟩
    · refine Finset.mem_singleton.mpr (funext fun a => Fin.ext ?_)
      have e := (Finset.mem_filter.mp hi).2
      match a with
      | ⟨0, _⟩ => exact Nat.lt_one_iff.mp (i 0).isLt
      | ⟨1, _⟩ => exact Nat.lt_one_iff.mp (i 1).isLt
      | ⟨2, _⟩ => exact congrArg Fin.val (congrFun e 0)
    · rw [Finset.mem_singleton.mp hi]
      refine Finset.mem_filter.mpr ⟨Finset.mem_univ _, funext fun a => Fin.ext ?_⟩
      match a with
      | ⟨0, _⟩ => rfl
  show b + ∑ i ∈ Finset.univ.filter (fun i => h.drop i = ix1 k), v i = _
  rw [hs, Finset.sum_singleton]

theorem ctx_du0 (r : Fin 256) (k : Fin 2048) : du V0 (ix2 (ctx r) (c0 k)) = du0 (U V0) (Z V0) (C V0) k (ctx r) := by
  unfold du
  rw [val4_main_v155]
  have h69 := fun r => ctx_z V0 r k
  have h33 := fun r => ctx_conv V0 r k
  have h145 := fun r => ctx_dw V0 r k
  have h6 := fun r => ctx_gc V0 r k
  have h7 := fun r => ctx_v V0 r k
  generalize res_main_v70 V0 = y70
  generalize res_main_v63 V0 = y63
  generalize res_main_v105 V0 = y105
  generalize res_main_v36 V0 = y36
  generalize res_main_v37 V0 = y37
  generalize res_main_v69 V0 = y69 at h69 ⊢
  generalize res_main_v33 V0 = y33 at h33 ⊢
  generalize res_main_v145 V0 = y145 at h145 ⊢
  generalize res_main_v6 V0 = y6 at h6 ⊢
  generalize res_main_v7 V0 = y7 at h7 ⊢
  clean_types
  pointwise
  rw [dif_neg (fun h => h.1.1), zero_add, dif_pos (by omega)]
  refine (Fin.sum_univ_one _).trans ?_
  rw [h69, h33]
  rfl

theorem lat_du0 (r : Fin 8192) (k : Fin 2048) : du V0 (ix2 (lat r) (c0 k)) = du0 (U V0) (Z V0) (C V0) k (lat r) := by
  unfold du
  rw [val4_main_v155]
  have h70 := fun r => lat_z V0 r k
  have h63 := fun r => lat_conv V0 r k
  have h105 := fun r => lat_dw V0 r k
  have h36 := fun r => lat_gc V0 r k
  have h37 := fun r => lat_v V0 r k
  generalize res_main_v70 V0 = y70 at h70 ⊢
  generalize res_main_v63 V0 = y63 at h63 ⊢
  generalize res_main_v105 V0 = y105 at h105 ⊢
  generalize res_main_v36 V0 = y36 at h36 ⊢
  generalize res_main_v37 V0 = y37 at h37 ⊢
  generalize res_main_v69 V0 = y69
  generalize res_main_v33 V0 = y33
  generalize res_main_v145 V0 = y145
  generalize res_main_v6 V0 = y6
  generalize res_main_v7 V0 = y7
  clean_types
  pointwise
  rw [dif_pos (by omega), dif_neg (fun h => h.1), add_zero]
  refine (Fin.sum_univ_one _).trans ?_
  rw [h70, h63]
  rfl

theorem ctx_du1 (r : Fin 256) (k : Fin 2048) : du V0 (ix2 (ctx r) (c1 k)) = du1 (U V0) (Z V0) (C V0) k (ctx r) := by
  unfold du
  rw [val4_main_v155]
  have h69 := fun r => ctx_z V0 r k
  have h33 := fun r => ctx_conv V0 r k
  have h145 := fun r => ctx_dw V0 r k
  have h6 := fun r => ctx_gc V0 r k
  have h7 := fun r => ctx_v V0 r k
  generalize res_main_v70 V0 = y70
  generalize res_main_v63 V0 = y63
  generalize res_main_v105 V0 = y105
  generalize res_main_v36 V0 = y36
  generalize res_main_v37 V0 = y37
  generalize res_main_v69 V0 = y69 at h69 ⊢
  generalize res_main_v33 V0 = y33 at h33 ⊢
  generalize res_main_v145 V0 = y145 at h145 ⊢
  generalize res_main_v6 V0 = y6 at h6 ⊢
  generalize res_main_v7 V0 = y7 at h7 ⊢
  clean_types
  pointwise
  rw [dif_neg (fun h => h.1.1), zero_add, dif_pos (by omega)]
  refine (Fin.sum_univ_one _).trans ?_
  simp only [Nat.add_sub_cancel_left, Fin.eta, h145, h7]
  rfl

theorem lat_du1 (r : Fin 8192) (k : Fin 2048) : du V0 (ix2 (lat r) (c1 k)) = du1 (U V0) (Z V0) (C V0) k (lat r) := by
  unfold du
  rw [val4_main_v155]
  have h70 := fun r => lat_z V0 r k
  have h63 := fun r => lat_conv V0 r k
  have h105 := fun r => lat_dw V0 r k
  have h36 := fun r => lat_gc V0 r k
  have h37 := fun r => lat_v V0 r k
  generalize res_main_v70 V0 = y70 at h70 ⊢
  generalize res_main_v63 V0 = y63 at h63 ⊢
  generalize res_main_v105 V0 = y105 at h105 ⊢
  generalize res_main_v36 V0 = y36 at h36 ⊢
  generalize res_main_v37 V0 = y37 at h37 ⊢
  generalize res_main_v69 V0 = y69
  generalize res_main_v33 V0 = y33
  generalize res_main_v145 V0 = y145
  generalize res_main_v6 V0 = y6
  generalize res_main_v7 V0 = y7
  clean_types
  pointwise
  rw [dif_pos (by omega), dif_neg (fun h => h.1), add_zero]
  refine (Fin.sum_univ_one _).trans ?_
  simp only [Nat.add_sub_cancel_left, Fin.eta, h105, h37]
  rfl

theorem ctx_du2 (r : Fin 256) (k : Fin 2048) : du V0 (ix2 (ctx r) (c2 k)) = du2 (U V0) (Z V0) (C V0) k (ctx r) := by
  unfold du
  rw [val4_main_v155]
  have h69 := fun r => ctx_z V0 r k
  have h33 := fun r => ctx_conv V0 r k
  have h145 := fun r => ctx_dw V0 r k
  have h6 := fun r => ctx_gc V0 r k
  have h7 := fun r => ctx_v V0 r k
  generalize res_main_v70 V0 = y70
  generalize res_main_v63 V0 = y63
  generalize res_main_v105 V0 = y105
  generalize res_main_v36 V0 = y36
  generalize res_main_v37 V0 = y37
  generalize res_main_v69 V0 = y69 at h69 ⊢
  generalize res_main_v33 V0 = y33 at h33 ⊢
  generalize res_main_v145 V0 = y145 at h145 ⊢
  generalize res_main_v6 V0 = y6 at h6 ⊢
  generalize res_main_v7 V0 = y7 at h7 ⊢
  clean_types
  pointwise
  rw [dif_neg (fun h => h.1.1), zero_add, dif_pos (by omega)]
  refine (Fin.sum_univ_one _).trans ?_
  try dsimp only
  rw [dif_neg (by omega), dif_neg (by omega)]
  simp only [Nat.sub_sub, Nat.reduceAdd, Nat.add_sub_cancel_left, Fin.eta, h145, h6]
  exact mul_comm _ _

theorem lat_du2 (r : Fin 8192) (k : Fin 2048) : du V0 (ix2 (lat r) (c2 k)) = du2 (U V0) (Z V0) (C V0) k (lat r) := by
  unfold du
  rw [val4_main_v155]
  have h70 := fun r => lat_z V0 r k
  have h63 := fun r => lat_conv V0 r k
  have h105 := fun r => lat_dw V0 r k
  have h36 := fun r => lat_gc V0 r k
  have h37 := fun r => lat_v V0 r k
  generalize res_main_v70 V0 = y70 at h70 ⊢
  generalize res_main_v63 V0 = y63 at h63 ⊢
  generalize res_main_v105 V0 = y105 at h105 ⊢
  generalize res_main_v36 V0 = y36 at h36 ⊢
  generalize res_main_v37 V0 = y37 at h37 ⊢
  generalize res_main_v69 V0 = y69
  generalize res_main_v33 V0 = y33
  generalize res_main_v145 V0 = y145
  generalize res_main_v6 V0 = y6
  generalize res_main_v7 V0 = y7
  clean_types
  pointwise
  rw [dif_pos (by omega), dif_neg (fun h => h.1), add_zero]
  refine (Fin.sum_univ_one _).trans ?_
  try dsimp only
  rw [dif_neg (by omega), dif_neg (by omega)]
  simp only [Nat.sub_sub, Nat.reduceAdd, Nat.add_sub_cancel_left, Fin.eta, h105, h36]
  exact mul_comm _ _

theorem taps_at (i : Fin 8) (k : Fin 2048) : taps V0 (ix2 i k) = ∑ R, tap (U V0) (Z V0) i k R := by
  unfold taps
  rw [val4_main_v156, sum_segments]
  have h57 := fun r => lat_wu V0 r k
  have h50 := fun r => lat_wm V0 r k
  have h44 := fun r => lat_wd V0 r k
  have h27 := fun r => ctx_wu V0 r k
  have h20 := fun r => ctx_wm V0 r k
  have h14 := fun r => ctx_wd V0 r k
  have h71 := fun r => lat_e V0 r k
  have h110 := fun r => ctx_e V0 r k
  generalize res_main_v57 V0 = y57 at h57 ⊢
  generalize res_main_v50 V0 = y50 at h50 ⊢
  generalize res_main_v44 V0 = y44 at h44 ⊢
  generalize res_main_v27 V0 = y27 at h27 ⊢
  generalize res_main_v20 V0 = y20 at h20 ⊢
  generalize res_main_v14 V0 = y14 at h14 ⊢
  generalize res_main_v71 V0 = y71 at h71 ⊢
  generalize res_main_v110 V0 = y110 at h110 ⊢
  clean_types
  pointwise
  simp only [reduce_lead]
  pointwise
  simp only [h57, h50, h44, h27, h20, h14, h71, h110]
  unfold tap
  match i with
  | ⟨0, _⟩ =>
    simp [-Fin.isValue, -Finset.sum_const]
    rw [add_comm]
    exact congrArg₂ (fun a b : EReal => a + b) (Finset.sum_congr rfl fun _ _ => mul_comm _ _) (Finset.sum_congr rfl fun _ _ => mul_comm _ _)
  | ⟨1, _⟩ =>
    simp [-Fin.isValue, -Finset.sum_const]
    rw [add_comm]
    exact congrArg₂ (fun a b : EReal => a + b) (Finset.sum_congr rfl fun _ _ => mul_comm _ _) (Finset.sum_congr rfl fun _ _ => mul_comm _ _)
  | ⟨2, _⟩ =>
    simp [-Fin.isValue, -Finset.sum_const]
    rw [add_comm]
    exact congrArg₂ (fun a b : EReal => a + b) (Finset.sum_congr rfl fun _ _ => mul_comm _ _) (Finset.sum_congr rfl fun _ _ => mul_comm _ _)
  | ⟨q + 3, h⟩ =>
    simp
    show ((BitVec.toInt 0#32 : ℝ) : EReal) = 0
    simp

end Cert.ReferenceIdeal.Whole
-- ==== Proof.Equal.lean ====
/- The gate gradient's two results are equal arrays: kernel and reference read at every index. -/
module
public import proofs.«01_k».proof.Proof.KerVal
public import proofs.«01_k».proof.Proof.RefOut
public import proofs.«01_k».proof.Defs

@[expose] public section
set_option maxRecDepth 16384
noncomputable section
open Idealize.ShloMosaic Idealize.ShloMosaic.TcCoe Idealize.SL.Sem
namespace Cert.GateEqual
open Cert.Model

/-- Every row lies in one of the 33 blocks. -/
theorem row_block (R : Fin 8448) : ∃ (t : Fin 33) (r : Fin 256), R = row t r :=
  ⟨⟨R.val / 256, by omega⟩, ⟨R.val % 256, by omega⟩, Fin.ext (by simp only [row]; omega)⟩

/-- Every column lies in one of the three parts. -/
theorem col_part (q : Fin 6144) : (∃ k, q = c0 k) ∨ (∃ k, q = c1 k) ∨ (∃ k, q = c2 k) := by
  by_cases h0 : q.val < 2048
  · exact .inl ⟨⟨q.val, h0⟩, rfl⟩
  · by_cases h1 : q.val < 4096
    · exact .inr (.inl ⟨⟨q.val - 2048, by omega⟩, Fin.ext (by simp only [c1]; omega)⟩)
    · exact .inr (.inr ⟨⟨q.val - 4096, by omega⟩, Fin.ext (by simp only [c2]; omega)⟩)

section
variable (V0 : Valuation Cert.ReferenceIdeal.τ Cert.ReferenceIdeal.sig (Elt Ideal))
open Cert.ReferenceIdeal.Whole

theorem ref0 (R : Fin 8448) (k : Fin 2048) : du V0 (ix2 R (c0 k)) = du0 (U V0) (Z V0) (C V0) k R := by
  rcases row_cases R with ⟨r, rfl⟩ | ⟨r, rfl⟩
  · exact ctx_du0 V0 r k
  · exact lat_du0 V0 r k

theorem ref1 (R : Fin 8448) (k : Fin 2048) : du V0 (ix2 R (c1 k)) = du1 (U V0) (Z V0) (C V0) k R := by
  rcases row_cases R with ⟨r, rfl⟩ | ⟨r, rfl⟩
  · exact ctx_du1 V0 r k
  · exact lat_du1 V0 r k

theorem ref2 (R : Fin 8448) (k : Fin 2048) : du V0 (ix2 R (c2 k)) = du2 (U V0) (Z V0) (C V0) k R := by
  rcases row_cases R with ⟨r, rfl⟩ | ⟨r, rfl⟩
  · exact ctx_du2 V0 r k
  · exact lat_du2 V0 r k
end

variable (m : (ℓ : Loc Cert.KernelIdeal.nD Cert.KernelIdeal.τ Cert.KernelIdeal.sig) → Buf (Elt Ideal) ℓ)
  (c : Dev Cert.KernelIdeal.nD)
  (V0 : Valuation Cert.ReferenceIdeal.τ Cert.ReferenceIdeal.sig (Elt Ideal))
open Cert.KernelIdeal.Whole (pt block0 block1 block2 arr7 arr8)

theorem grad (hU : Cert.ReferenceIdeal.Whole.U V0 = Cert.KernelIdeal.Whole.U m c)
    (hZ : Cert.ReferenceIdeal.Whole.Z V0 = Cert.KernelIdeal.Whole.Z m c)
    (hC : Cert.ReferenceIdeal.Whole.C V0 = Cert.KernelIdeal.Whole.C m c) :
    Cert.ReferenceIdeal.Whole.du V0
      = ((Cert.KernelIdeal.Gen.dats m 0 c).arrAt 7 Cert.KernelIdeal.cfg0.N : (⟨2, ![8448, 6144]⟩ : Shape).Idx → EReal) := by
  funext i
  obtain ⟨R, q, rfl⟩ : ∃ (R : Fin 8448) (q : Fin 6144), i = ix2 R q := ⟨i 0, i 1, by
    funext a
    match a with
    | ⟨0, _⟩ => rfl
    | ⟨1, _⟩ => rfl⟩
  obtain ⟨t, r, rfl⟩ := row_block R
  have hN : Cert.KernelIdeal.cfg0.N = 33 := Cert.KernelIdeal.Gen.N_0
  have e : t = pt ⟨t.val, by omega⟩ := rfl
  rw [e, arr7 m c ⟨t.val, by omega⟩ r q]
  rcases col_part q with ⟨k, rfl⟩ | ⟨k, rfl⟩ | ⟨k, rfl⟩
  · rw [ref0, hU, hZ, hC]
    exact (block0 m c _ r k).symm
  · rw [ref1, hU, hZ, hC]
    exact (block1 m c _ r k).symm
  · rw [ref2, hU, hZ, hC]
    exact (block2 m c _ r k).symm

theorem taps (hU : Cert.ReferenceIdeal.Whole.U V0 = Cert.KernelIdeal.Whole.U m c)
    (hZ : Cert.ReferenceIdeal.Whole.Z V0 = Cert.KernelIdeal.Whole.Z m c) :
    Cert.ReferenceIdeal.Whole.taps V0
      = ((Cert.KernelIdeal.Gen.dats m 0 c).arrAt 8 Cert.KernelIdeal.cfg0.N : (⟨2, ![8, 2048]⟩ : Shape).Idx → EReal) := by
  funext i
  obtain ⟨R, q, rfl⟩ : ∃ (R : Fin 8) (q : Fin 2048), i = ix2 R q := ⟨i 0, i 1, by
    funext a
    match a with
    | ⟨0, _⟩ => rfl
    | ⟨1, _⟩ => rfl⟩
  rw [Cert.ReferenceIdeal.Whole.taps_at, arr8, hU, hZ]

/-- The reference leaves its arguments and its counters as they were. -/
theorem frame_ref : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)

theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨e0, e1, e2⟩ := hargs c
  have hU : Cert.ReferenceIdeal.Whole.U (StableHlo.launchContents m' c) = Cert.KernelIdeal.Whole.U m c := e0
  have hZ : Cert.ReferenceIdeal.Whole.Z (StableHlo.launchContents m' c) = Cert.KernelIdeal.Whole.Z m c := e1
  have hC : Cert.ReferenceIdeal.Whole.C (StableHlo.launchContents m' c) = Cert.KernelIdeal.Whole.C m c :=
    funext fun i => funext fun k => congrFun e2 (ix2 i k)
  obtain ⟨h0, h1, hk⟩ := h c
  exact ⟨(h0.trans (Cert.ReferenceIdeal.Value.val4_main_v155 _).symm).trans (grad m c _ hU hZ hC),
    (h1.trans (Cert.ReferenceIdeal.Value.val4_main_v156 _).symm).trans (taps m c _ hU hZ), hk⟩

end Cert.GateEqual
end
-- ==== Proof.Prod.lean ====
/- Sums that a blocked product runs over: a running sum's last value, and a sum over equal blocks as one sum. -/
module
public import Idealize.ShloMosaic.Lib.Pointwise
public import Idealize.ShloMosaic.Lib.Pipeline.Value
public import Idealize.ShloMosaic.Lib.Tactic

@[expose] public section
noncomputable section
open Idealize.ShloMosaic Idealize.ShloMosaic.TcCoe
namespace Cert.Prod

/-- A running sum that starts at its first term ends at the sum of its terms. -/
theorem running : ∀ {n : ℕ} (acc term : Fin (n + 1) → EReal) (_ : acc 0 = term 0)
    (_ : ∀ i : Fin n, acc i.succ = acc i.castSucc + term i.succ), acc (Fin.last n) = ∑ i, term i
  | 0, acc, term, h0, _ => h0.trans (Fin.sum_univ_one term).symm
  | n + 1, acc, term, h0, hs => by
    rw [Fin.sum_univ_castSucc]
    refine (hs (Fin.last n)).trans (congrArg (· + term (Fin.last (n + 1))) ?_)
    exact running (fun i => acc i.castSucc) (fun i => term i.castSucc) h0 fun i => hs i.castSucc

/-- A sequence that restarts at its term every `n + 1` points and else adds its term to the point before's value holds,
    at the last point of a run, the sum of the run's terms. -/
theorem restarted {n N : ℕ} (S term : (t : ℕ) → t < N → EReal) (h0 : ∀ t h, t % (n + 1) = 0 → S t h = term t h)
    (hs : ∀ t h, ¬t % (n + 1) = 0 → S t h = S (t - 1) (by omega) + term t h) (p : ℕ) (hp : (n + 1) * p + n < N) :
    S ((n + 1) * p + n) hp = ∑ i : Fin (n + 1), term ((n + 1) * p + i.val) (by omega) := by
  refine running (fun i : Fin (n + 1) => S ((n + 1) * p + i.val) (by omega)) (fun i => term ((n + 1) * p + i.val) (by omega))
    (h0 _ _ (by simp)) fun i => ?_
  refine hs ((n + 1) * p + (i.val + 1)) (by omega) ?_
  rw [Nat.mul_add_mod, Nat.mod_eq_of_lt (by omega)]
  omega

/-- A sum over `n` blocks of `b` is the sum over all `N = n * b`. -/
theorem blocks {n b N : ℕ} (hN : n * b = N) (f : Fin N → EReal) (g : Fin n → Fin b → EReal)
    (h : ∀ i j hij, g i j = f ⟨b * i.val + j.val, hij⟩) : ∑ i, ∑ j, g i j = ∑ k, f k := by
  subst hN
  rw [← finProdFinEquiv.sum_comp f, Fintype.sum_prod_type]
  refine Finset.sum_congr rfl fun i _ => Finset.sum_congr rfl fun j _ => ?_
  have hij : b * i.val + j.val < n * b := by
    have := (finProdFinEquiv (i, j)).isLt
    rw [finProdFinEquiv_apply_val] at this
    exact (Nat.add_comm _ _).trans_lt this
  rw [h i j hij]
  refine congrArg f (Fin.ext ?_)
  rw [finProdFinEquiv_apply_val]
  exact Nat.add_comm _ _

/-- A contraction with its factors in the other order, the second factor's column named either way. -/
theorem swapped {n a b : ℕ} (A : (⟨2, ![n, a]⟩ : Shape).Idx → EReal) (B : (⟨2, ![n, b]⟩ : Shape).Idx → EReal) (q q' : Fin b) (r r' : Fin a)
    (hq : q.val = q'.val) (hr : r.val = r'.val) : ∑ j : Fin n, B (ix2 j q) * A (ix2 j r) = ∑ j : Fin n, A (ix2 j r') * B (ix2 j q') := by
  rw [Fin.ext hq, Fin.ext hr]
  exact Finset.sum_congr rfl fun j _ => mul_comm _ _

/-- An index of a matrix is a row and a column. -/
theorem idx2 {a b : ℕ} (i : (⟨2, ![a, b]⟩ : Shape).Idx) : ∃ (r : Fin a) (q : Fin b), i = ix2 r q :=
  ⟨i 0, i 1, funext fun x => match x with
    | ⟨0, _⟩ => rfl
    | ⟨1, _⟩ => rfl⟩

/-- An index of a three-axis array, by axes. -/
theorem idx3 {a b d : ℕ} (i : (⟨3, ![a, b, d]⟩ : Shape).Idx) : ∃ (s : Fin a) (r : Fin b) (q : Fin d), i = ix3 s r q :=
  ⟨i 0, i 1, i 2, funext fun x => match x with
    | ⟨0, _⟩ => rfl
    | ⟨1, _⟩ => rfl
    | ⟨2, _⟩ => rfl⟩

theorem hz2 : (![0, 0] : Fin 2 → Nat) = fun _ => 0 := funext fun a => by fin_cases a <;> rfl
theorem hz3 : (![0, 0, 0] : Fin 3 → Nat) = fun _ => 0 := funext fun a => by fin_cases a <;> rfl

end Cert.Prod
end
-- ==== Proof.Up.lean ====
/- The gradient of the up product's argument, element by element: the four blocks of the product's contraction, added up
   in the scratch, are one sum over all columns of the weights. -/
module
public import proofs.«01_k».proof.Proof.Prod
public import proofs.«01_k».proof.Proof.Gen.Kernel2Ideal.Value

@[expose] public section
set_option maxRecDepth 16384
set_option maxHeartbeats 1000000
noncomputable section
open Idealize.ShloMosaic Idealize.ShloMosaic.TcCoe Idealize.SL.Sem
namespace Cert.Kernel2Ideal.Whole
open Cert.Kernel2Ideal Cert.Kernel2Ideal.Gen Cert.Prod

section Body
variable (c : Dev nD) (i : grid0.Coords) (arg3 : Memref sig .tc .vmem S528x2816 .bf16) (harg3 : arg3.IsWhole) (arg4 : Memref sig .tc .vmem S1x2048x2816 .bf16) (harg4 : arg4.IsWhole) (arg5 : Memref sig .tc .vmem S528x2048 .f32) (harg5 : arg5.IsWhole) (arg6 : Memref sig .tc .vmem S528x2048 .f32) (harg6 : arg6.IsWhole)
  (x0 : Vec Ideal S528x2816 .bf16) (x1 : Vec Ideal S1x2048x2816 .bf16) (acc : Vec Ideal S528x2048 .f32)

/-- One point's product, added to what the scratch held. -/
theorem step (a : Vec Ideal S528x2048 .f32) (r : Fin 528) (q : Fin 2048) :
    k0_pay2 a x1 x0 (ix2 r q) = a (ix2 r q) + ∑ k : Fin 2816, x0 (ix2 r k) * x1 (ix3 0 q k) := by
  unfold k0_pay2
  pointwise

theorem reset (r : Fin 528) (q : Fin 2048) : k0_pay1 (F := Ideal) (ix2 r q) = 0 := by
  unfold k0_pay1
  pointwise

theorem sout_A (hc0 : cond0_0 i) (hc1 : ¬cond0_1 i) :
    sout0_A_0 c i arg3 harg3 arg4 harg4 arg5 harg5 arg6 harg6 hc0 hc1 x0 x1 = k0_pay2 (k0_pay1 (F := Ideal)) x1 x0 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread]
  rw [View.canon_cons_unit_zero (S := S528x2048) hz2, View.readCov_unit_zero (S := S528x2048) _ hz2,
    View.ld_unit_zero (S := S528x2816) hz2, View.ld_unit_zero (S := S1x2048x2816) hz3]

theorem sout_B (hc0 : ¬cond0_0 i) (hc1 : ¬cond0_1 i) :
    sout0_B_0 c i arg3 harg3 arg4 harg4 arg5 harg5 arg6 harg6 hc0 hc1 x0 x1 acc = k0_pay2 acc x1 x0 := by
  unfold sout0_B_0
  rw [View.read_writes_eq_canon _ _ _ (scover0_B_0 c i arg3 harg3 arg4 harg4 arg5 harg5 arg6 harg6 hc0 hc1 x0 x1 acc)]
  unfold kernelRun0_B
  dsimp only
  sl_unfold_words
  simp only [View.readAt_eq_ld, harg3.read_unread, harg4.read_unread, harg6.read_unread]
  rw [View.canon_unit_zero (S := S528x2048) hz2, View.ld_unit_zero (S := S528x2048) hz2,
    View.ld_unit_zero (S := S528x2816) hz2, View.ld_unit_zero (S := S1x2048x2816) hz3]

theorem out_C (hc0 : ¬cond0_0 i) (hc1 : cond0_1 i) :
    out0_C_2 c i arg3 harg3 arg4 harg4 arg5 harg5 arg6 harg6 hc0 hc1 x0 x1 acc = k0_pay2 acc x1 x0 := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  simp only [View.readAt_eq_ld, harg3.read_unread, harg4.read_unread, harg6.read_unread]
  rw [View.canon_unit_zero (S := S528x2048) hz2, View.readCov_unit_zero (S := S528x2048) _ hz2, View.ld_unit_zero (S := S528x2048) hz2,
    View.ld_unit_zero (S := S528x2816) hz2, View.ld_unit_zero (S := S1x2048x2816) hz3]

theorem sout_C (hc0 : ¬cond0_0 i) (hc1 : cond0_1 i) :
    sout0_C_0 c i arg3 harg3 arg4 harg4 arg5 harg5 arg6 harg6 hc0 hc1 x0 x1 acc = k0_pay2 acc x1 x0 := by
  unfold sout0_C_0
  rw [View.read_writes_eq_canon _ _ _ (scover0_C_0 c i arg3 harg3 arg4 harg4 arg5 harg5 arg6 harg6 hc0 hc1 x0 x1 acc)]
  unfold kernelRun0_C
  dsimp only
  sl_unfold_words
  simp only [View.readAt_eq_ld, harg3.read_unread, harg4.read_unread, harg6.read_unread]
  rw [View.canon_unit_zero (S := S528x2048) hz2, View.ld_unit_zero (S := S528x2048) hz2,
    View.ld_unit_zero (S := S528x2816) hz2, View.ld_unit_zero (S := S1x2048x2816) hz3]
end Body

variable (m : (ℓ : Loc nD τ sig) → Buf (Elt Ideal) ℓ) (c : Dev nD)

/-- The argument arrays. -/
abbrev A : (⟨2, ![8448, 11264]⟩ : Shape).Idx → EReal := m ((c : Thread nD τ).loc main_arg0)
abbrev W : (⟨2, ![2048, 11264]⟩ : Shape).Idx → EReal := m ((c : Thread nD τ).loc main_arg1)

/-- The two blocks at a point. -/
abbrev X (t : Fin cfg0.N) : S528x2816.Idx → EReal := iblk m c 0 t
abbrev Y (t : Fin cfg0.N) : S1x2048x2816.Idx → EReal := X0_1 m c t

theorem idx0 : ∀ t : Fin grid0.N, win0_0.index t 0 = t.val / 4 ∧ win0_0.index t 1 = t.val % 4 := by decide +kernel
theorem idx1 : ∀ t : Fin grid0.N, win0_1.index t 0 = t.val % 4 ∧ win0_1.index t 1 = 0 ∧ win0_1.index t 2 = 0 := by decide +kernel

theorem lhs (t : Fin cfg0.N) (r : Fin 528) (k : Fin 2816) (h0 : 528 * (t.val / 4) + r.val < 8448) (h1 : 2816 * (t.val % 4) + k.val < 11264) :
    X m c t (ix2 r k) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 528 + 1 * r.val = 528 * (t.val / 4) + r.val; rw [(idx0 t).1]; omega
  | ⟨1, _⟩ => show win0_0.index t 1 * 2816 + 1 * k.val = 2816 * (t.val % 4) + k.val; rw [(idx0 t).2]; omega

/-- The columns' buffer as the call receives it: slot `s` starts with the up weights' columns `2816 s …`. -/
theorem packed (s : Fin 4) (q : Fin 2048) (k : Fin 2816) (h : 2816 * s.val + k.val < 11264) :
    (V m c main_v6 : (⟨3, ![4, 2048, 4608]⟩ : Shape).Idx → EReal) (ix3 s q ⟨k.val, by omega⟩) = W m c (ix2 q ⟨_, h⟩) := by
  have e : V m c main_v6 = truncf (F := Ideal) .bf16 (concatenate S4x2048x4608 2
      [⟨S4x2048x2816, transpose S4x2048x2816 [1, 0, 2] (shapeCast S2048x4x2816 (m ((c : Thread nD τ).loc main_arg1) : Vec Ideal S2048x11264 .f32) shapeCasts_S2048x11264_S2048x4x2816) transposes_S2048x4x2816_S4x2048x2816_1_0_2⟩,
       ⟨S4x2048x256, broadcastInDim S4x2048x256 ![] bcast_S_S4x2048x256 (constant (F := Ideal) S_ .f32 0x00000000#32)⟩,
       ⟨S4x2048x1536, transpose S4x2048x1536 [1, 0, 2] (shapeCast S2048x4x1536 (m ((c : Thread nD τ).loc main_arg2) : Vec Ideal S2048x6144 .f32) shapeCasts_S2048x6144_S2048x4x1536) transposes_S2048x4x1536_S4x2048x1536_1_0_2⟩]
      concatenates_S4x2048x2816_S4x2048x256_S4x2048x1536_S4x2048x4608_d2) bitsLt_bf16_f32 := by
    unfold V
    simp only [hostOps0, List.flatten_cons, List.flatten_nil, List.append_nil, List.cons_append, List.nil_append]
    after_results
    rfl
  rw [e]
  pointwise
  exact congrArg (fun j => W m c (ix2 q j)) (Fin.ext (by dsimp only; omega))

theorem rhs (t : Fin cfg0.N) (q : Fin 2048) (k : Fin 2816) (h1 : 2816 * (t.val % 4) + k.val < 11264) :
    Y m c t (ix3 0 q k) = W m c (ix2 q ⟨_, h1⟩) := by
  unfold Y X0_1
  rw [Pipeline.Window.fill, dif_pos (moved0_1 t _)]
  unfold iblk
  rw [View.read_apply]
  show V m c main_v6 _ = _
  refine Eq.trans (congrArg (V m c main_v6) (funext fun a => Fin.ext ?_)) (packed m c ⟨t.val % 4, Nat.mod_lt _ (by decide)⟩ q k h1)
  match a with
  | ⟨0, _⟩ => show win0_1.index t 0 * 1 + 1 * 0 = t.val % 4; rw [(idx1 t).1]; omega
  | ⟨1, _⟩ => show win0_1.index t 1 * 2048 + 1 * q.val = q.val; rw [(idx1 t).2.1]; omega
  | ⟨2, _⟩ => show win0_1.index t 2 * 2816 + 1 * k.val = k.val; rw [(idx1 t).2.2]; omega

/-- Point `t`'s product at one element. -/
def term (r : Fin 528) (q : Fin 2048) (t : ℕ) (h : t < cfg0.N) : EReal :=
  ∑ k : Fin 2816, X m c ⟨t, h⟩ (ix2 r k) * Y m c ⟨t, h⟩ (ix3 0 q k)

theorem scratch_first (r : Fin 528) (q : Fin 2048) (t : ℕ) (h : t < cfg0.N) (h0 : t % 4 = 0) :
    (outsAt0 m c t h).2 (ix2 r q) = term m c r q t h := by
  rw [outsAt0_A m c ⟨t, h⟩ h0 (by dsimp only; omega)]
  dsimp only
  rw [sout_A, step, reset, zero_add]
  rfl

theorem scratch_next (r : Fin 528) (q : Fin 2048) (t : ℕ) (h : t < cfg0.N) (h0 : ¬t % 4 = 0) :
    (outsAt0 m c t h).2 (ix2 r q) = (outsAt0 m c (t - 1) (by omega)).2 (ix2 r q) + term m c r q t h := by
  by_cases h1 : t % 4 = 3
  · rw [outsAt0_C m c ⟨t, h⟩ h0 h1]
    dsimp only
    rw [sout_C, step]
    rfl
  · rw [outsAt0_B m c ⟨t, h⟩ h0 h1]
    dsimp only
    rw [sout_B, step]
    rfl

theorem written (t : ℕ) (h : t < cfg0.N) (h1 : t % 4 = 3) : (outsAt0 m c t h).1 = (outsAt0 m c t h).2 := by
  rw [outsAt0_C m c ⟨t, h⟩ (by dsimp only; omega) h1]
  dsimp only
  rw [out_C, sout_C]

/-- The product of the argument arrays at one element. -/
def prod (R : Fin 8448) (q : Fin 2048) : EReal := ∑ k : Fin 11264, A m c (ix2 R k) * W m c (ix2 q k)

theorem array (R : Fin 8448) (q : Fin 2048) :
    ((dats m 0 c).arrAt 2 cfg0.N : (⟨2, ![8448, 2048]⟩ : Shape).Idx → EReal) (ix2 R q) = prod m c R q := by
  have hN : cfg0.N = 64 := N_0
  have hp : (3 + 1) * (R.val / 528) + 3 < cfg0.N := by omega
  have hq : Value.pt2Of (ix2 R q) = (3 + 1) * (R.val / 528) + 3 := by
    show 4 * (1 * (R.val / 528 - 0) + 1 * (q.val / 2048 - 0)) + 3 = _
    omega
  have hl : Value.loc2Of (ix2 R q) = ix2 ⟨R.val % 528, Nat.mod_lt _ (by decide)⟩ q := by
    funext a
    match a with
    | ⟨0, _⟩ => rfl
    | ⟨1, _⟩ => exact Fin.ext (Nat.mod_eq_of_lt q.isLt)
  rw [Value.final2]
  unfold Value.G2
  rw [dif_pos (by rw [hq]; exact hp), hl, Value.fold0_congr m c _ _ ((3 + 1) * (R.val / 528) + 3) (by omega) hq, ← Value.outsAt0_sweep m c _ hp,
    written m c _ hp (by omega),
    restarted (fun t h => (outsAt0 m c t h).2 (ix2 ⟨R.val % 528, _⟩ q)) (term m c ⟨R.val % 528, _⟩ q)
      (scratch_first m c _ q) (scratch_next m c _ q) (R.val / 528) hp]
  refine blocks (by decide) (fun k => A m c (ix2 R k) * W m c (ix2 q k)) _ fun i k hik => ?_
  have e0 : 528 * (((3 + 1) * (R.val / 528) + i.val) / 4) + R.val % 528 = R.val := by omega
  have e1 : 2816 * (((3 + 1) * (R.val / 528) + i.val) % 4) + k.val = 2816 * i.val + k.val := by omega
  rw [lhs m c _ _ k (by dsimp only; omega) (by dsimp only; omega), rhs m c _ q k (by dsimp only; omega)]
  simp only [e0, e1]

end Cert.Kernel2Ideal.Whole
end
-- ==== Proof.Pack.lean ====
/- The packed weight buffers, read at an index: slot `s` of the columns' buffer holds share `s` of each matrix's columns,
   slot `s` of the rows' buffer share `s` of each matrix's rows. -/
module
public import proofs.«01_k».proof.Proof.Prod
public import proofs.«01_k».proof.Proof.Gen.Kernel2Ideal.Value
public import proofs.«01_k».proof.Proof.Gen.Kernel3Ideal.Value
public import proofs.«01_k».proof.Proof.Gen.Kernel4Ideal.Value

@[expose] public section
set_option maxRecDepth 16384
noncomputable section
open Idealize.ShloMosaic Idealize.ShloMosaic.TcCoe

namespace Cert.Kernel2Ideal.Pack
open Cert.Kernel2Ideal Cert.Kernel2Ideal.Gen
variable (W : Vec Ideal S2048x11264 .f32) (U : Vec Ideal S2048x6144 .f32)

/-- A convolution layer's columns' buffer. -/
def cols : Vec Ideal S4x2048x4608 .bf16 :=
  truncf (F := Ideal) .bf16 (concatenate S4x2048x4608 2
    [⟨S4x2048x2816, transpose S4x2048x2816 [1, 0, 2] (shapeCast S2048x4x2816 W shapeCasts_S2048x11264_S2048x4x2816) transposes_S2048x4x2816_S4x2048x2816_1_0_2⟩,
     ⟨S4x2048x256, broadcastInDim S4x2048x256 ![] bcast_S_S4x2048x256 (constant (F := Ideal) S_ .f32 0x00000000#32)⟩,
     ⟨S4x2048x1536, transpose S4x2048x1536 [1, 0, 2] (shapeCast S2048x4x1536 U shapeCasts_S2048x6144_S2048x4x1536) transposes_S2048x4x1536_S4x2048x1536_1_0_2⟩]
    concatenates_S4x2048x2816_S4x2048x256_S4x2048x1536_S4x2048x4608_d2) bitsLt_bf16_f32

theorem cols_up (s : Fin 4) (q : Fin 2048) (k : Fin 2816) (hk : k.val < 4608) (h : 2816 * s.val + k.val < 11264) :
    cols W U (ix3 s q ⟨k.val, hk⟩) = W (ix2 q ⟨_, h⟩) := by
  unfold cols
  pointwise
  exact congrArg (fun j => W (ix2 q j)) (Fin.ext (by dsimp only; omega))

theorem cols_mix (s : Fin 4) (q : Fin 2048) (k : Fin 1536) (hk : 3072 + k.val < 4608) (h : 1536 * s.val + k.val < 6144) :
    cols W U (ix3 s q ⟨3072 + k.val, hk⟩) = U (ix2 q ⟨_, h⟩) := by
  unfold cols
  pointwise
  rw [dif_neg (by omega), dif_neg (by omega)]
  exact congrArg (fun j => U (ix2 q j)) (Fin.ext (by dsimp only; omega))
end Cert.Kernel2Ideal.Pack

namespace Cert.Kernel4Ideal.Pack
open Cert.Kernel4Ideal Cert.Kernel4Ideal.Gen
variable (W : Vec Ideal S2048x11264 .f32) (U : Vec Ideal S2048x3072 .f32)

/-- An attention layer's columns' buffer. -/
def cols : Vec Ideal S4x2048x3840 .bf16 :=
  truncf (F := Ideal) .bf16 (concatenate S4x2048x3840 2
    [⟨S4x2048x2816, transpose S4x2048x2816 [1, 0, 2] (shapeCast S2048x4x2816 W shapeCasts_S2048x11264_S2048x4x2816) transposes_S2048x4x2816_S4x2048x2816_1_0_2⟩,
     ⟨S4x2048x256, broadcastInDim S4x2048x256 ![] bcast_S_S4x2048x256 (constant (F := Ideal) S_ .f32 0x00000000#32)⟩,
     ⟨S4x2048x768, transpose S4x2048x768 [1, 0, 2] (shapeCast S2048x4x768 U shapeCasts_S2048x3072_S2048x4x768) transposes_S2048x4x768_S4x2048x768_1_0_2⟩]
    concatenates_S4x2048x2816_S4x2048x256_S4x2048x768_S4x2048x3840_d2) bitsLt_bf16_f32

theorem cols_up (s : Fin 4) (q : Fin 2048) (k : Fin 2816) (hk : k.val < 3840) (h : 2816 * s.val + k.val < 11264) :
    cols W U (ix3 s q ⟨k.val, hk⟩) = W (ix2 q ⟨_, h⟩) := by
  unfold cols
  pointwise
  exact congrArg (fun j => W (ix2 q j)) (Fin.ext (by dsimp only; omega))

theorem cols_mix (s : Fin 4) (q : Fin 2048) (k : Fin 768) (hk : 3072 + k.val < 3840) (h : 768 * s.val + k.val < 3072) :
    cols W U (ix3 s q ⟨3072 + k.val, hk⟩) = U (ix2 q ⟨_, h⟩) := by
  unfold cols
  pointwise
  rw [dif_neg (by omega), dif_neg (by omega)]
  exact congrArg (fun j => U (ix2 q j)) (Fin.ext (by dsimp only; omega))
end Cert.Kernel4Ideal.Pack

namespace Cert.Kernel3Ideal.Pack
open Cert.Kernel3Ideal Cert.Kernel3Ideal.Gen
variable (W : Vec Ideal S5632x2048 .f32) (U : Vec Ideal S2048x2048 .f32)

/-- The rows' buffer. -/
def rows : Vec Ideal S4x2048x2048 .bf16 :=
  truncf (F := Ideal) .bf16 (concatenate S4x2048x2048 1
    [⟨S4x1408x2048, shapeCast S4x1408x2048 W shapeCasts_S5632x2048_S4x1408x2048⟩,
     ⟨S4x128x2048, broadcastInDim S4x128x2048 ![] bcast_S_S4x128x2048 (constant (F := Ideal) S_ .f32 0x00000000#32)⟩,
     ⟨S4x512x2048, shapeCast S4x512x2048 U shapeCasts_S2048x2048_S4x512x2048⟩]
    concatenates_S4x1408x2048_S4x128x2048_S4x512x2048_S4x2048x2048_d1) bitsLt_bf16_f32

theorem rows_down (s : Fin 4) (k : Fin 1408) (q : Fin 2048) (hk : k.val < 2048) (h : 1408 * s.val + k.val < 5632) :
    rows W U (ix3 s ⟨k.val, hk⟩ q) = W (ix2 ⟨_, h⟩ q) := by
  unfold rows
  pointwise
  exact congrArg (fun j => W (ix2 j q)) (Fin.ext (by dsimp only; omega))

theorem rows_out (s : Fin 4) (k : Fin 512) (q : Fin 2048) (hk : 1536 + k.val < 2048) (h : 512 * s.val + k.val < 2048) :
    rows W U (ix3 s ⟨1536 + k.val, hk⟩ q) = U (ix2 ⟨_, h⟩ q) := by
  unfold rows
  pointwise
  rw [dif_neg (by omega), dif_neg (by omega)]
  exact congrArg (fun j => U (ix2 j q)) (Fin.ext (by dsimp only; omega))
end Cert.Kernel3Ideal.Pack
end
-- ==== Proof.Act.lean ====
/- The gradients of the down product's and of the out product's arguments, element by element: every block of rows times a
   share of the weights' rows, each element one sum over the model's width. -/
module
public import proofs.«01_k».proof.Proof.Pack
public import proofs.«01_k».proof.Proof.Gen.Kernel6Ideal.Value

@[expose] public section
set_option maxRecDepth 16384
set_option maxHeartbeats 1000000
noncomputable section
open Idealize.ShloMosaic Idealize.ShloMosaic.TcCoe Idealize.SL.Sem

namespace Cert.Kernel3Ideal.Whole
open Cert.Kernel3Ideal Cert.Kernel3Ideal.Gen Cert.Prod

section Body
variable (c : Dev nD) (i : grid0.Coords) (arg3 : Memref sig .tc .vmem S528x2048 .bf16) (harg3 : arg3.IsWhole) (arg4 : Memref sig .tc .vmem S2x1408x2048 .bf16) (harg4 : arg4.IsWhole) (arg5 : Memref sig .tc .vmem S528x2816 .bf16) (harg5 : arg5.IsWhole)
  (x0 : Vec Ideal S528x2048 .bf16) (x1 : Vec Ideal S2x1408x2048 .bf16)

/-- A point's product at one element. -/
theorem step (r : Fin 528) (k : Fin 2816) (h0 : k.val / 1408 < 2) (h1 : k.val % 1408 < 1408) :
    k0_pay1 x1 x0 (ix2 r k) = ∑ j : Fin 2048, x0 (ix2 r j) * x1 (ix3 ⟨_, h0⟩ ⟨_, h1⟩ j) := by
  unfold k0_pay1
  pointwise

theorem out_A : out0_A_2 c i arg3 harg3 arg4 harg4 arg5 harg5 x0 x1 = k0_pay1 x1 x0 := by
  unfold out0_A_2
  rw [View.read_writes_eq_canon _ _ _ (cover0_A_2 c i arg3 harg3 arg4 harg4 arg5 harg5 x0 x1)]
  unfold kernelRun0_A
  dsimp only
  sl_unfold_words
  simp only [View.readAt_eq_ld, harg3.read_unread, harg4.read_unread]
  rw [View.canon_unit_zero (S := S528x2816) hz2, View.ld_unit_zero (S := S528x2048) hz2, View.ld_unit_zero (S := S2x1408x2048) hz3]
end Body

variable (m : (ℓ : Loc nD τ sig) → Buf (Elt Ideal) ℓ) (c : Dev nD)

/-- The argument arrays. -/
abbrev A : (⟨2, ![8448, 2048]⟩ : Shape).Idx → EReal := m ((c : Thread nD τ).loc main_arg0)
abbrev W : (⟨2, ![5632, 2048]⟩ : Shape).Idx → EReal := m ((c : Thread nD τ).loc main_arg1)

/-- The two blocks at a point. -/
abbrev X (t : Fin cfg0.N) : S528x2048.Idx → EReal := iblk m c 0 t
abbrev Y (t : Fin cfg0.N) : S2x1408x2048.Idx → EReal := X0_1 m c t

theorem idx0 : ∀ t : Fin grid0.N, win0_0.index t 0 = t.val % 16 ∧ win0_0.index t 1 = 0 := by decide +kernel
theorem idx1 : ∀ t : Fin grid0.N, win0_1.index t 0 = t.val / 16 ∧ win0_1.index t 1 = 0 ∧ win0_1.index t 2 = 0 := by decide +kernel
theorem idx2' : ∀ t : Fin grid0.N, win0_2.index t 0 = t.val % 16 ∧ win0_2.index t 1 = t.val / 16 ∧ win0_2.flush t = true := by decide +kernel

theorem lhs (t : Fin cfg0.N) (r : Fin 528) (j : Fin 2048) (h0 : 528 * (t.val % 16) + r.val < 8448) :
    X m c t (ix2 r j) = A m c (ix2 ⟨_, h0⟩ j) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 528 + 1 * r.val = 528 * (t.val % 16) + r.val; rw [(idx0 t).1]; omega
  | ⟨1, _⟩ => show win0_0.index t 1 * 2048 + 1 * j.val = j.val; rw [(idx0 t).2]; omega

theorem packed : V m c main_v4 = Pack.rows (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (s : Fin 2) (k : Fin 1408) (j : Fin 2048) (h : 1408 * (2 * (t.val / 16) + s.val) + k.val < 5632) :
    Y m c t (ix3 s k j) = W m c (ix2 ⟨_, h⟩ j) := by
  unfold Y X0_1
  rw [Pipeline.Window.fill, dif_pos (moved0_1 t _)]
  unfold iblk
  rw [View.read_apply]
  show V m c main_v4 _ = _
  rw [packed]
  refine Eq.trans (congrArg (Pack.rows _ _) (funext fun a => Fin.ext ?_)) (Pack.rows_down _ _ ⟨2 * (t.val / 16) + s.val, by omega⟩ k j (by omega) h)
  match a with
  | ⟨0, _⟩ => show win0_1.index t 0 * 2 + 1 * s.val = 2 * (t.val / 16) + s.val; rw [(idx1 t).1]; omega
  | ⟨1, _⟩ => show win0_1.index t 1 * 1408 + 1 * k.val = k.val; rw [(idx1 t).2.1]; omega
  | ⟨2, _⟩ => show win0_1.index t 2 * 2048 + 1 * j.val = j.val; rw [(idx1 t).2.2]; omega

/-- The product of the argument arrays at one element. -/
def prod (R : Fin 8448) (q : Fin 5632) : EReal := ∑ j : Fin 2048, A m c (ix2 R j) * W m c (ix2 q j)

theorem point (t : Fin cfg0.N) (r : Fin 528) (k : Fin 2816) (R : Fin 8448) (q : Fin 5632) (hR : R.val = 528 * (t.val % 16) + r.val)
    (hq : q.val = 2816 * (t.val / 16) + k.val) : (dats m 0 c).flushed 2 t (ix2 r k) = prod m c R q := by
  rw [Value.flushed2_A]
  show out0_A_2 _ _ _ _ _ _ _ _ _ _ (ix2 r k) = _
  rw [out_A, step _ _ r k (by omega) (by omega)]
  refine Finset.sum_congr rfl fun j _ => ?_
  have h := rhs m c t ⟨k.val / 1408, by omega⟩ ⟨k.val % 1408, by omega⟩ j (by dsimp only; omega)
  have hl := lhs m c t r j (by omega)
  unfold X at hl; unfold Y at h
  rw [hl, h]
  congr 3
  · exact Fin.ext hR.symm
  · exact Fin.ext (by dsimp only; omega)

theorem array (R : Fin 8448) (q : Fin 5632) :
    ((dats m 0 c).arrAt 2 cfg0.N : (⟨2, ![8448, 5632]⟩ : Shape).Idx → EReal) (ix2 R q) = prod m c R q := by
  have hN : cfg0.N = 32 := N_0
  refine (dats m 0 c).arrAt_forall_of_flushed 2 (fun i v => v = prod m c (i 0) (i 1)) (fun t _ y => ?_) cfg0.N
    ⟨16 * (q.val / 2816) + R.val / 528, by omega⟩ (ix2 R q) (by dsimp only; omega) (idx2' _).2.2 ?_
  · obtain ⟨r, k, rfl⟩ := idx2 y
    exact point m c t r k _ _ (by show win0_2.index t 0 * 528 + 1 * r.val = _; rw [(idx2' t).1]; omega)
      (by show win0_2.index t 1 * 2816 + 1 * k.val = _; rw [(idx2' t).2.1]; omega)
  · show _ ∈ ((View.whole main_v5).slice (win0_2.rect _)).set
    rw [View.set_slice_whole, Rect.mem_set_unit]
    intro a
    match a with
    | ⟨0, _⟩ => show win0_2.index _ 0 * 528 ≤ R.val ∧ R.val < win0_2.index _ 0 * 528 + 528; rw [(idx2' _).1]; dsimp only; omega
    | ⟨1, _⟩ => show win0_2.index _ 1 * 2816 ≤ q.val ∧ q.val < win0_2.index _ 1 * 2816 + 2816; rw [(idx2' _).2.1]; dsimp only; omega

end Cert.Kernel3Ideal.Whole

namespace Cert.Kernel6Ideal.Whole
open Cert.Kernel6Ideal Cert.Kernel6Ideal.Gen Cert.Prod

section Body
variable (x0 : Vec Ideal S1056x2048 .bf16) (x1 : Vec Ideal S4x512x2048 .bf16)

theorem step (r : Fin 1056) (k : Fin 2048) (h0 : k.val / 512 < 4) (h1 : k.val % 512 < 512) :
    k0_pay1 x1 x0 (ix2 r k) = ∑ j : Fin 2048, x0 (ix2 r j) * x1 (ix3 ⟨_, h0⟩ ⟨_, h1⟩ j) := by
  unfold k0_pay1
  pointwise

theorem out : out0_2 x0 x1 = k0_pay1 x1 x0 := by
  unfold out0_2
  rw [View.canon_unit_zero (S := S1056x2048) hz2, View.ld_unit_zero (S := S1056x2048) hz2, View.ld_unit_zero (S := S4x512x2048) hz3]
end Body

variable (m : (ℓ : Loc nD τ sig) → Buf (Elt Ideal) ℓ) (c : Dev nD)

/-- The argument arrays. -/
abbrev A : (⟨2, ![8448, 2048]⟩ : Shape).Idx → EReal := m ((c : Thread nD τ).loc main_arg0)
abbrev W : (⟨2, ![2048, 2048]⟩ : Shape).Idx → EReal := m ((c : Thread nD τ).loc main_arg2)

/-- The two blocks at a point. -/
abbrev X (t : Fin cfg0.N) : S1056x2048.Idx → EReal := iblk m c 0 t
abbrev Y (t : Fin cfg0.N) : S4x512x2048.Idx → EReal := iblk m c 1 t

theorem idx0 : ∀ t : Fin grid0.N, win0_0.index t 0 = t.val % 8 ∧ win0_0.index t 1 = 0 := by decide +kernel
theorem idx1 : ∀ t : Fin grid0.N, win0_1.index t 0 = 0 ∧ win0_1.index t 1 = 3 ∧ win0_1.index t 2 = 0 := by decide +kernel
theorem idx2' : ∀ t : Fin grid0.N, win0_2.index t 0 = t.val % 8 ∧ win0_2.index t 1 = t.val / 8 ∧ win0_2.flush t = true := by decide +kernel

theorem lhs (t : Fin cfg0.N) (r : Fin 1056) (j : Fin 2048) (h0 : 1056 * (t.val % 8) + r.val < 8448) :
    X m c t (ix2 r j) = A m c (ix2 ⟨_, h0⟩ j) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1056 + 1 * r.val = 1056 * (t.val % 8) + r.val; rw [(idx0 t).1]; omega
  | ⟨1, _⟩ => show win0_0.index t 1 * 2048 + 1 * j.val = j.val; rw [(idx0 t).2]; omega

theorem packed : V m c main_v4 = Kernel3Ideal.Pack.rows (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (s : Fin 4) (k : Fin 512) (j : Fin 2048) (h : 512 * s.val + k.val < 2048) :
    Y m c t (ix3 s k j) = W m c (ix2 ⟨_, h⟩ j) := by
  unfold Y iblk
  rw [View.read_apply]
  show V m c main_v4 _ = _
  rw [packed]
  refine Eq.trans (congrArg (Kernel3Ideal.Pack.rows _ _) (funext fun a => Fin.ext ?_)) (Kernel3Ideal.Pack.rows_out _ _ s k j (by omega) h)
  match a with
  | ⟨0, _⟩ => show win0_1.index t 0 * 4 + 1 * s.val = s.val; rw [(idx1 t).1]; omega
  | ⟨1, _⟩ => show win0_1.index t 1 * 512 + 1 * k.val = 1536 + k.val; rw [(idx1 t).2.1]; omega
  | ⟨2, _⟩ => show win0_1.index t 2 * 2048 + 1 * j.val = j.val; rw [(idx1 t).2.2]; omega

/-- The product of the argument arrays at one element. -/
def prod (R : Fin 8448) (q : Fin 2048) : EReal := ∑ j : Fin 2048, A m c (ix2 R j) * W m c (ix2 q j)

theorem point (t : Fin cfg0.N) (r : Fin 1056) (k : Fin 2048) (R : Fin 8448) (q : Fin 2048) (hR : R.val = 1056 * (t.val % 8) + r.val)
    (hq : q.val = 2048 * (t.val / 8) + k.val) : (dats m 0 c).flushed 2 t (ix2 r k) = prod m c R q := by
  rw [Value.flushed2]
  show out0_2 _ _ (ix2 r k) = _
  rw [out, step _ _ r k (by omega) (by omega)]
  refine Finset.sum_congr rfl fun j _ => ?_
  have h := rhs m c t ⟨k.val / 512, by omega⟩ ⟨k.val % 512, by omega⟩ j (by dsimp only; omega)
  have hl := lhs m c t r j (by omega)
  unfold X at hl; unfold Y at h
  rw [hl, h]
  congr 3
  · exact Fin.ext hR.symm
  · exact Fin.ext (by dsimp only; omega)

theorem array (R : Fin 8448) (q : Fin 2048) :
    ((dats m 0 c).arrAt 2 cfg0.N : (⟨2, ![8448, 2048]⟩ : Shape).Idx → EReal) (ix2 R q) = prod m c R q := by
  have hN : cfg0.N = 8 := N_0
  refine (dats m 0 c).arrAt_forall_of_flushed 2 (fun i v => v = prod m c (i 0) (i 1)) (fun t _ y => ?_) cfg0.N
    ⟨8 * (q.val / 2048) + R.val / 1056, by omega⟩ (ix2 R q) (by dsimp only; omega) (idx2' _).2.2 ?_
  · obtain ⟨r, k, rfl⟩ := idx2 y
    exact point m c t r k _ _ (by show win0_2.index t 0 * 1056 + 1 * r.val = _; rw [(idx2' t).1]; omega)
      (by show win0_2.index t 1 * 2048 + 1 * k.val = _; rw [(idx2' t).2.1]; omega)
  · show _ ∈ ((View.whole main_v5).slice (win0_2.rect _)).set
    rw [View.set_slice_whole, Rect.mem_set_unit]
    intro a
    match a with
    | ⟨0, _⟩ => show win0_2.index _ 0 * 1056 ≤ R.val ∧ R.val < win0_2.index _ 0 * 1056 + 1056; rw [(idx2' _).1]; dsimp only; omega
    | ⟨1, _⟩ => show win0_2.index _ 1 * 2048 ≤ q.val ∧ q.val < win0_2.index _ 1 * 2048 + 2048; rw [(idx2' _).2.1]; dsimp only; omega

end Cert.Kernel6Ideal.Whole
end
-- ==== Proof.Back.lean ====
/- The gradients of an attention layer's up product's argument and of the mixers' input products' arguments, element by
   element: the four blocks of each contraction, added up in the scratch, are one sum over all columns of the weights. -/
module
public import proofs.«01_k».proof.Proof.Pack
public import proofs.«01_k».proof.Proof.Gen.Kernel5Ideal.Value
public import proofs.«01_k».proof.Proof.Gen.Kernel11Ideal.Value

@[expose] public section
set_option maxRecDepth 16384
set_option maxHeartbeats 1000000
noncomputable section
open Idealize.ShloMosaic Idealize.ShloMosaic.TcCoe Idealize.SL.Sem
namespace Cert.Kernel4Ideal.Whole
open Cert.Kernel4Ideal Cert.Kernel4Ideal.Gen Cert.Prod

section Body
variable (c : Dev nD) (i : grid0.Coords) (arg3 : Memref sig .tc .vmem S528x2816 .bf16) (harg3 : arg3.IsWhole) (arg4 : Memref sig .tc .vmem S1x2048x2816 .bf16) (harg4 : arg4.IsWhole) (arg5 : Memref sig .tc .vmem S528x2048 .f32) (harg5 : arg5.IsWhole) (arg6 : Memref sig .tc .vmem S528x2048 .f32) (harg6 : arg6.IsWhole)
  (x0 : Vec Ideal S528x2816 .bf16) (x1 : Vec Ideal S1x2048x2816 .bf16) (acc : Vec Ideal S528x2048 .f32)

/-- One point's product, added to what the scratch held. -/
theorem step (a : Vec Ideal S528x2048 .f32) (r : Fin 528) (q : Fin 2048) :
    k0_pay2 a x1 x0 (ix2 r q) = a (ix2 r q) + ∑ k : Fin 2816, x0 (ix2 r k) * x1 (ix3 0 q k) := by
  unfold k0_pay2
  pointwise

theorem reset (r : Fin 528) (q : Fin 2048) : k0_pay1 (F := Ideal) (ix2 r q) = 0 := by
  unfold k0_pay1
  pointwise

theorem sout_A (hc0 : cond0_0 i) (hc1 : ¬cond0_1 i) :
    sout0_A_0 c i arg3 harg3 arg4 harg4 arg5 harg5 arg6 harg6 hc0 hc1 x0 x1 = k0_pay2 (k0_pay1 (F := Ideal)) x1 x0 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread]
  rw [View.canon_cons_unit_zero (S := S528x2048) hz2, View.readCov_unit_zero (S := S528x2048) _ hz2,
    View.ld_unit_zero (S := S528x2816) hz2, View.ld_unit_zero (S := S1x2048x2816) hz3]

theorem sout_B (hc0 : ¬cond0_0 i) (hc1 : ¬cond0_1 i) :
    sout0_B_0 c i arg3 harg3 arg4 harg4 arg5 harg5 arg6 harg6 hc0 hc1 x0 x1 acc = k0_pay2 acc x1 x0 := by
  unfold sout0_B_0
  rw [View.read_writes_eq_canon _ _ _ (scover0_B_0 c i arg3 harg3 arg4 harg4 arg5 harg5 arg6 harg6 hc0 hc1 x0 x1 acc)]
  unfold kernelRun0_B
  dsimp only
  sl_unfold_words
  simp only [View.readAt_eq_ld, harg3.read_unread, harg4.read_unread, harg6.read_unread]
  rw [View.canon_unit_zero (S := S528x2048) hz2, View.ld_unit_zero (S := S528x2048) hz2,
    View.ld_unit_zero (S := S528x2816) hz2, View.ld_unit_zero (S := S1x2048x2816) hz3]

theorem out_C (hc0 : ¬cond0_0 i) (hc1 : cond0_1 i) :
    out0_C_2 c i arg3 harg3 arg4 harg4 arg5 harg5 arg6 harg6 hc0 hc1 x0 x1 acc = k0_pay2 acc x1 x0 := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  simp only [View.readAt_eq_ld, harg3.read_unread, harg4.read_unread, harg6.read_unread]
  rw [View.canon_unit_zero (S := S528x2048) hz2, View.readCov_unit_zero (S := S528x2048) _ hz2, View.ld_unit_zero (S := S528x2048) hz2,
    View.ld_unit_zero (S := S528x2816) hz2, View.ld_unit_zero (S := S1x2048x2816) hz3]

theorem sout_C (hc0 : ¬cond0_0 i) (hc1 : cond0_1 i) :
    sout0_C_0 c i arg3 harg3 arg4 harg4 arg5 harg5 arg6 harg6 hc0 hc1 x0 x1 acc = k0_pay2 acc x1 x0 := by
  unfold sout0_C_0
  rw [View.read_writes_eq_canon _ _ _ (scover0_C_0 c i arg3 harg3 arg4 harg4 arg5 harg5 arg6 harg6 hc0 hc1 x0 x1 acc)]
  unfold kernelRun0_C
  dsimp only
  sl_unfold_words
  simp only [View.readAt_eq_ld, harg3.read_unread, harg4.read_unread, harg6.read_unread]
  rw [View.canon_unit_zero (S := S528x2048) hz2, View.ld_unit_zero (S := S528x2048) hz2,
    View.ld_unit_zero (S := S528x2816) hz2, View.ld_unit_zero (S := S1x2048x2816) hz3]
end Body

variable (m : (ℓ : Loc nD τ sig) → Buf (Elt Ideal) ℓ) (c : Dev nD)

/-- The argument arrays. -/
abbrev A : (⟨2, ![8448, 11264]⟩ : Shape).Idx → EReal := m ((c : Thread nD τ).loc main_arg0)
abbrev W : (⟨2, ![2048, 11264]⟩ : Shape).Idx → EReal := m ((c : Thread nD τ).loc main_arg1)

/-- The two blocks at a point. -/
abbrev X (t : Fin cfg0.N) : S528x2816.Idx → EReal := iblk m c 0 t
abbrev Y (t : Fin cfg0.N) : S1x2048x2816.Idx → EReal := X0_1 m c t

theorem idx0 : ∀ t : Fin grid0.N, win0_0.index t 0 = t.val / 4 ∧ win0_0.index t 1 = t.val % 4 := by decide +kernel
theorem idx1 : ∀ t : Fin grid0.N, win0_1.index t 0 = t.val % 4 ∧ win0_1.index t 1 = 0 ∧ win0_1.index t 2 = 0 := by decide +kernel

theorem lhs (t : Fin cfg0.N) (r : Fin 528) (k : Fin 2816) (h0 : 528 * (t.val / 4) + r.val < 8448) (h1 : 2816 * (t.val % 4) + k.val < 11264) :
    X m c t (ix2 r k) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 528 + 1 * r.val = 528 * (t.val / 4) + r.val; rw [(idx0 t).1]; omega
  | ⟨1, _⟩ => show win0_0.index t 1 * 2816 + 1 * k.val = 2816 * (t.val % 4) + k.val; rw [(idx0 t).2]; omega

/-- The call receives the columns' buffer. -/
theorem packed : V m c main_v6 = Kernel4Ideal.Pack.cols (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (q : Fin 2048) (k : Fin 2816) (h1 : 2816 * (t.val % 4) + k.val < 11264) :
    Y m c t (ix3 0 q k) = W m c (ix2 q ⟨_, h1⟩) := by
  unfold Y X0_1
  rw [Pipeline.Window.fill, dif_pos (moved0_1 t _)]
  unfold iblk
  rw [View.read_apply]
  show V m c main_v6 _ = _
  rw [packed]
  refine Eq.trans (congrArg (Kernel4Ideal.Pack.cols _ _) (funext fun a => Fin.ext ?_))
    (Kernel4Ideal.Pack.cols_up _ _ ⟨t.val % 4, Nat.mod_lt _ (by decide)⟩ q k (by omega) h1)
  match a with
  | ⟨0, _⟩ => show win0_1.index t 0 * 1 + 1 * 0 = t.val % 4; rw [(idx1 t).1]; omega
  | ⟨1, _⟩ => show win0_1.index t 1 * 2048 + 1 * q.val = q.val; rw [(idx1 t).2.1]; omega
  | ⟨2, _⟩ => show win0_1.index t 2 * 2816 + 1 * k.val = k.val; rw [(idx1 t).2.2]; omega

/-- Point `t`'s product at one element. -/
def term (r : Fin 528) (q : Fin 2048) (t : ℕ) (h : t < cfg0.N) : EReal :=
  ∑ k : Fin 2816, X m c ⟨t, h⟩ (ix2 r k) * Y m c ⟨t, h⟩ (ix3 0 q k)

theorem scratch_first (r : Fin 528) (q : Fin 2048) (t : ℕ) (h : t < cfg0.N) (h0 : t % 4 = 0) :
    (outsAt0 m c t h).2 (ix2 r q) = term m c r q t h := by
  rw [outsAt0_A m c ⟨t, h⟩ h0 (by dsimp only; omega)]
  dsimp only
  rw [sout_A, step, reset, zero_add]
  rfl

theorem scratch_next (r : Fin 528) (q : Fin 2048) (t : ℕ) (h : t < cfg0.N) (h0 : ¬t % 4 = 0) :
    (outsAt0 m c t h).2 (ix2 r q) = (outsAt0 m c (t - 1) (by omega)).2 (ix2 r q) + term m c r q t h := by
  by_cases h1 : t % 4 = 3
  · rw [outsAt0_C m c ⟨t, h⟩ h0 h1]
    dsimp only
    rw [sout_C, step]
    rfl
  · rw [outsAt0_B m c ⟨t, h⟩ h0 h1]
    dsimp only
    rw [sout_B, step]
    rfl

theorem written (t : ℕ) (h : t < cfg0.N) (h1 : t % 4 = 3) : (outsAt0 m c t h).1 = (outsAt0 m c t h).2 := by
  rw [outsAt0_C m c ⟨t, h⟩ (by dsimp only; omega) h1]
  dsimp only
  rw [out_C, sout_C]

/-- The product of the argument arrays at one element. -/
def prod (R : Fin 8448) (q : Fin 2048) : EReal := ∑ k : Fin 11264, A m c (ix2 R k) * W m c (ix2 q k)

theorem array (R : Fin 8448) (q : Fin 2048) :
    ((dats m 0 c).arrAt 2 cfg0.N : (⟨2, ![8448, 2048]⟩ : Shape).Idx → EReal) (ix2 R q) = prod m c R q := by
  have hN : cfg0.N = 64 := N_0
  have hp : (3 + 1) * (R.val / 528) + 3 < cfg0.N := by omega
  have hq : Value.pt2Of (ix2 R q) = (3 + 1) * (R.val / 528) + 3 := by
    show 4 * (1 * (R.val / 528 - 0) + 1 * (q.val / 2048 - 0)) + 3 = _
    omega
  have hl : Value.loc2Of (ix2 R q) = ix2 ⟨R.val % 528, Nat.mod_lt _ (by decide)⟩ q := by
    funext a
    match a with
    | ⟨0, _⟩ => rfl
    | ⟨1, _⟩ => exact Fin.ext (Nat.mod_eq_of_lt q.isLt)
  rw [Value.final2]
  unfold Value.G2
  rw [dif_pos (by rw [hq]; exact hp), hl, Value.fold0_congr m c _ _ ((3 + 1) * (R.val / 528) + 3) (by omega) hq, ← Value.outsAt0_sweep m c _ hp,
    written m c _ hp (by omega),
    restarted (fun t h => (outsAt0 m c t h).2 (ix2 ⟨R.val % 528, _⟩ q)) (term m c ⟨R.val % 528, _⟩ q)
      (scratch_first m c _ q) (scratch_next m c _ q) (R.val / 528) hp]
  refine blocks (by decide) (fun k => A m c (ix2 R k) * W m c (ix2 q k)) _ fun i k hik => ?_
  have e0 : 528 * (((3 + 1) * (R.val / 528) + i.val) / 4) + R.val % 528 = R.val := by omega
  have e1 : 2816 * (((3 + 1) * (R.val / 528) + i.val) % 4) + k.val = 2816 * i.val + k.val := by omega
  rw [lhs m c _ _ k (by dsimp only; omega) (by dsimp only; omega), rhs m c _ q k (by dsimp only; omega)]
  simp only [e0, e1]

end Cert.Kernel4Ideal.Whole

namespace Cert.Kernel5Ideal.Whole
open Cert.Kernel5Ideal Cert.Kernel5Ideal.Gen Cert.Prod

section Body
variable (c : Dev nD) (i : grid0.Coords) (arg3 : Memref sig .tc .vmem S768x1536 .bf16) (harg3 : arg3.IsWhole) (arg4 : Memref sig .tc .vmem S1x2048x1536 .bf16) (harg4 : arg4.IsWhole) (arg5 : Memref sig .tc .vmem S768x2048 .f32) (harg5 : arg5.IsWhole) (arg6 : Memref sig .tc .vmem S768x2048 .f32) (harg6 : arg6.IsWhole)
  (x0 : Vec Ideal S768x1536 .bf16) (x1 : Vec Ideal S1x2048x1536 .bf16) (acc : Vec Ideal S768x2048 .f32)

/-- One point's product, added to what the scratch held. -/
theorem step (a : Vec Ideal S768x2048 .f32) (r : Fin 768) (q : Fin 2048) :
    k0_pay2 a x1 x0 (ix2 r q) = a (ix2 r q) + ∑ k : Fin 1536, x0 (ix2 r k) * x1 (ix3 0 q k) := by
  unfold k0_pay2
  pointwise

theorem reset (r : Fin 768) (q : Fin 2048) : k0_pay1 (F := Ideal) (ix2 r q) = 0 := by
  unfold k0_pay1
  pointwise

theorem sout_A (hc0 : cond0_0 i) (hc1 : ¬cond0_1 i) :
    sout0_A_0 c i arg3 harg3 arg4 harg4 arg5 harg5 arg6 harg6 hc0 hc1 x0 x1 = k0_pay2 (k0_pay1 (F := Ideal)) x1 x0 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread]
  rw [View.canon_cons_unit_zero (S := S768x2048) hz2, View.readCov_unit_zero (S := S768x2048) _ hz2,
    View.ld_unit_zero (S := S768x1536) hz2, View.ld_unit_zero (S := S1x2048x1536) hz3]

theorem sout_B (hc0 : ¬cond0_0 i) (hc1 : ¬cond0_1 i) :
    sout0_B_0 c i arg3 harg3 arg4 harg4 arg5 harg5 arg6 harg6 hc0 hc1 x0 x1 acc = k0_pay2 acc x1 x0 := by
  unfold sout0_B_0
  rw [View.read_writes_eq_canon _ _ _ (scover0_B_0 c i arg3 harg3 arg4 harg4 arg5 harg5 arg6 harg6 hc0 hc1 x0 x1 acc)]
  unfold kernelRun0_B
  dsimp only
  sl_unfold_words
  simp only [View.readAt_eq_ld, harg3.read_unread, harg4.read_unread, harg6.read_unread]
  rw [View.canon_unit_zero (S := S768x2048) hz2, View.ld_unit_zero (S := S768x2048) hz2,
    View.ld_unit_zero (S := S768x1536) hz2, View.ld_unit_zero (S := S1x2048x1536) hz3]

theorem out_C (hc0 : ¬cond0_0 i) (hc1 : cond0_1 i) :
    out0_C_2 c i arg3 harg3 arg4 harg4 arg5 harg5 arg6 harg6 hc0 hc1 x0 x1 acc = k0_pay2 acc x1 x0 := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  simp only [View.readAt_eq_ld, harg3.read_unread, harg4.read_unread, harg6.read_unread]
  rw [View.canon_unit_zero (S := S768x2048) hz2, View.readCov_unit_zero (S := S768x2048) _ hz2, View.ld_unit_zero (S := S768x2048) hz2,
    View.ld_unit_zero (S := S768x1536) hz2, View.ld_unit_zero (S := S1x2048x1536) hz3]

theorem sout_C (hc0 : ¬cond0_0 i) (hc1 : cond0_1 i) :
    sout0_C_0 c i arg3 harg3 arg4 harg4 arg5 harg5 arg6 harg6 hc0 hc1 x0 x1 acc = k0_pay2 acc x1 x0 := by
  unfold sout0_C_0
  rw [View.read_writes_eq_canon _ _ _ (scover0_C_0 c i arg3 harg3 arg4 harg4 arg5 harg5 arg6 harg6 hc0 hc1 x0 x1 acc)]
  unfold kernelRun0_C
  dsimp only
  sl_unfold_words
  simp only [View.readAt_eq_ld, harg3.read_unread, harg4.read_unread, harg6.read_unread]
  rw [View.canon_unit_zero (S := S768x2048) hz2, View.ld_unit_zero (S := S768x2048) hz2,
    View.ld_unit_zero (S := S768x1536) hz2, View.ld_unit_zero (S := S1x2048x1536) hz3]
end Body

variable (m : (ℓ : Loc nD τ sig) → Buf (Elt Ideal) ℓ) (c : Dev nD)

/-- The argument arrays. -/
abbrev A : (⟨2, ![8448, 6144]⟩ : Shape).Idx → EReal := m ((c : Thread nD τ).loc main_arg0)
abbrev W : (⟨2, ![2048, 6144]⟩ : Shape).Idx → EReal := m ((c : Thread nD τ).loc main_arg2)

/-- The two blocks at a point. -/
abbrev X (t : Fin cfg0.N) : S768x1536.Idx → EReal := iblk m c 0 t
abbrev Y (t : Fin cfg0.N) : S1x2048x1536.Idx → EReal := iblk m c 1 t

theorem idx0 : ∀ t : Fin grid0.N, win0_0.index t 0 = t.val / 4 ∧ win0_0.index t 1 = t.val % 4 := by decide +kernel
theorem idx1 : ∀ t : Fin grid0.N, win0_1.index t 0 = t.val % 4 ∧ win0_1.index t 1 = 0 ∧ win0_1.index t 2 = 2 := by decide +kernel

theorem lhs (t : Fin cfg0.N) (r : Fin 768) (k : Fin 1536) (h0 : 768 * (t.val / 4) + r.val < 8448) (h1 : 1536 * (t.val % 4) + k.val < 6144) :
    X m c t (ix2 r k) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * r.val = 768 * (t.val / 4) + r.val; rw [(idx0 t).1]; omega
  | ⟨1, _⟩ => show win0_0.index t 1 * 1536 + 1 * k.val = 1536 * (t.val % 4) + k.val; rw [(idx0 t).2]; omega

/-- The call receives the columns' buffer. -/
theorem packed : V m c main_v6 = Kernel2Ideal.Pack.cols (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (q : Fin 2048) (k : Fin 1536) (h1 : 1536 * (t.val % 4) + k.val < 6144) :
    Y m c t (ix3 0 q k) = W m c (ix2 q ⟨_, h1⟩) := by
  unfold Y iblk
  rw [View.read_apply]
  show V m c main_v6 _ = _
  rw [packed]
  refine Eq.trans (congrArg (Kernel2Ideal.Pack.cols _ _) (funext fun a => Fin.ext ?_))
    (Kernel2Ideal.Pack.cols_mix _ _ ⟨t.val % 4, Nat.mod_lt _ (by decide)⟩ q k (by omega) h1)
  match a with
  | ⟨0, _⟩ => show win0_1.index t 0 * 1 + 1 * 0 = t.val % 4; rw [(idx1 t).1]; omega
  | ⟨1, _⟩ => show win0_1.index t 1 * 2048 + 1 * q.val = q.val; rw [(idx1 t).2.1]; omega
  | ⟨2, _⟩ => show win0_1.index t 2 * 1536 + 1 * k.val = 3072 + k.val; rw [(idx1 t).2.2]; omega

/-- Point `t`'s product at one element. -/
def term (r : Fin 768) (q : Fin 2048) (t : ℕ) (h : t < cfg0.N) : EReal :=
  ∑ k : Fin 1536, X m c ⟨t, h⟩ (ix2 r k) * Y m c ⟨t, h⟩ (ix3 0 q k)

theorem scratch_first (r : Fin 768) (q : Fin 2048) (t : ℕ) (h : t < cfg0.N) (h0 : t % 4 = 0) :
    (outsAt0 m c t h).2 (ix2 r q) = term m c r q t h := by
  rw [outsAt0_A m c ⟨t, h⟩ h0 (by dsimp only; omega)]
  dsimp only
  rw [sout_A, step, reset, zero_add]
  rfl

theorem scratch_next (r : Fin 768) (q : Fin 2048) (t : ℕ) (h : t < cfg0.N) (h0 : ¬t % 4 = 0) :
    (outsAt0 m c t h).2 (ix2 r q) = (outsAt0 m c (t - 1) (by omega)).2 (ix2 r q) + term m c r q t h := by
  by_cases h1 : t % 4 = 3
  · rw [outsAt0_C m c ⟨t, h⟩ h0 h1]
    dsimp only
    rw [sout_C, step]
    rfl
  · rw [outsAt0_B m c ⟨t, h⟩ h0 h1]
    dsimp only
    rw [sout_B, step]
    rfl

theorem written (t : ℕ) (h : t < cfg0.N) (h1 : t % 4 = 3) : (outsAt0 m c t h).1 = (outsAt0 m c t h).2 := by
  rw [outsAt0_C m c ⟨t, h⟩ (by dsimp only; omega) h1]
  dsimp only
  rw [out_C, sout_C]

/-- The product of the argument arrays at one element. -/
def prod (R : Fin 8448) (q : Fin 2048) : EReal := ∑ k : Fin 6144, A m c (ix2 R k) * W m c (ix2 q k)

theorem array (R : Fin 8448) (q : Fin 2048) :
    ((dats m 0 c).arrAt 2 cfg0.N : (⟨2, ![8448, 2048]⟩ : Shape).Idx → EReal) (ix2 R q) = prod m c R q := by
  have hN : cfg0.N = 44 := N_0
  have hp : (3 + 1) * (R.val / 768) + 3 < cfg0.N := by omega
  have hq : Value.pt2Of (ix2 R q) = (3 + 1) * (R.val / 768) + 3 := by
    show 4 * (1 * (R.val / 768 - 0) + 1 * (q.val / 2048 - 0)) + 3 = _
    omega
  have hl : Value.loc2Of (ix2 R q) = ix2 ⟨R.val % 768, Nat.mod_lt _ (by decide)⟩ q := by
    funext a
    match a with
    | ⟨0, _⟩ => rfl
    | ⟨1, _⟩ => exact Fin.ext (Nat.mod_eq_of_lt q.isLt)
  rw [Value.final2]
  unfold Value.G2
  rw [dif_pos (by rw [hq]; exact hp), hl, Value.fold0_congr m c _ _ ((3 + 1) * (R.val / 768) + 3) (by omega) hq, ← Value.outsAt0_sweep m c _ hp,
    written m c _ hp (by omega),
    restarted (fun t h => (outsAt0 m c t h).2 (ix2 ⟨R.val % 768, _⟩ q)) (term m c ⟨R.val % 768, _⟩ q)
      (scratch_first m c _ q) (scratch_next m c _ q) (R.val / 768) hp]
  refine blocks (by decide) (fun k => A m c (ix2 R k) * W m c (ix2 q k)) _ fun i k hik => ?_
  have e0 : 768 * (((3 + 1) * (R.val / 768) + i.val) / 4) + R.val % 768 = R.val := by omega
  have e1 : 1536 * (((3 + 1) * (R.val / 768) + i.val) % 4) + k.val = 1536 * i.val + k.val := by omega
  rw [lhs m c _ _ k (by dsimp only; omega) (by dsimp only; omega), rhs m c _ q k (by dsimp only; omega)]
  simp only [e0, e1]

end Cert.Kernel5Ideal.Whole

namespace Cert.Kernel11Ideal.Whole
open Cert.Kernel11Ideal Cert.Kernel11Ideal.Gen Cert.Prod

section Body
variable (c : Dev nD) (i : grid0.Coords) (arg3 : Memref sig .tc .vmem S768x768 .bf16) (harg3 : arg3.IsWhole) (arg4 : Memref sig .tc .vmem S1x2048x768 .bf16) (harg4 : arg4.IsWhole) (arg5 : Memref sig .tc .vmem S768x2048 .f32) (harg5 : arg5.IsWhole) (arg6 : Memref sig .tc .vmem S768x2048 .f32) (harg6 : arg6.IsWhole)
  (x0 : Vec Ideal S768x768 .bf16) (x1 : Vec Ideal S1x2048x768 .bf16) (acc : Vec Ideal S768x2048 .f32)

/-- One point's product, added to what the scratch held. -/
theorem step (a : Vec Ideal S768x2048 .f32) (r : Fin 768) (q : Fin 2048) :
    k0_pay2 a x1 x0 (ix2 r q) = a (ix2 r q) + ∑ k : Fin 768, x0 (ix2 r k) * x1 (ix3 0 q k) := by
  unfold k0_pay2
  pointwise

theorem reset (r : Fin 768) (q : Fin 2048) : k0_pay1 (F := Ideal) (ix2 r q) = 0 := by
  unfold k0_pay1
  pointwise

theorem sout_A (hc0 : cond0_0 i) (hc1 : ¬cond0_1 i) :
    sout0_A_0 c i arg3 harg3 arg4 harg4 arg5 harg5 arg6 harg6 hc0 hc1 x0 x1 = k0_pay2 (k0_pay1 (F := Ideal)) x1 x0 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread]
  rw [View.canon_cons_unit_zero (S := S768x2048) hz2, View.readCov_unit_zero (S := S768x2048) _ hz2,
    View.ld_unit_zero (S := S768x768) hz2, View.ld_unit_zero (S := S1x2048x768) hz3]

theorem sout_B (hc0 : ¬cond0_0 i) (hc1 : ¬cond0_1 i) :
    sout0_B_0 c i arg3 harg3 arg4 harg4 arg5 harg5 arg6 harg6 hc0 hc1 x0 x1 acc = k0_pay2 acc x1 x0 := by
  unfold sout0_B_0
  rw [View.read_writes_eq_canon _ _ _ (scover0_B_0 c i arg3 harg3 arg4 harg4 arg5 harg5 arg6 harg6 hc0 hc1 x0 x1 acc)]
  unfold kernelRun0_B
  dsimp only
  sl_unfold_words
  simp only [View.readAt_eq_ld, harg3.read_unread, harg4.read_unread, harg6.read_unread]
  rw [View.canon_unit_zero (S := S768x2048) hz2, View.ld_unit_zero (S := S768x2048) hz2,
    View.ld_unit_zero (S := S768x768) hz2, View.ld_unit_zero (S := S1x2048x768) hz3]

theorem out_C (hc0 : ¬cond0_0 i) (hc1 : cond0_1 i) :
    out0_C_2 c i arg3 harg3 arg4 harg4 arg5 harg5 arg6 harg6 hc0 hc1 x0 x1 acc = k0_pay2 acc x1 x0 := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  simp only [View.readAt_eq_ld, harg3.read_unread, harg4.read_unread, harg6.read_unread]
  rw [View.canon_unit_zero (S := S768x2048) hz2, View.readCov_unit_zero (S := S768x2048) _ hz2, View.ld_unit_zero (S := S768x2048) hz2,
    View.ld_unit_zero (S := S768x768) hz2, View.ld_unit_zero (S := S1x2048x768) hz3]

theorem sout_C (hc0 : ¬cond0_0 i) (hc1 : cond0_1 i) :
    sout0_C_0 c i arg3 harg3 arg4 harg4 arg5 harg5 arg6 harg6 hc0 hc1 x0 x1 acc = k0_pay2 acc x1 x0 := by
  unfold sout0_C_0
  rw [View.read_writes_eq_canon _ _ _ (scover0_C_0 c i arg3 harg3 arg4 harg4 arg5 harg5 arg6 harg6 hc0 hc1 x0 x1 acc)]
  unfold kernelRun0_C
  dsimp only
  sl_unfold_words
  simp only [View.readAt_eq_ld, harg3.read_unread, harg4.read_unread, harg6.read_unread]
  rw [View.canon_unit_zero (S := S768x2048) hz2, View.ld_unit_zero (S := S768x2048) hz2,
    View.ld_unit_zero (S := S768x768) hz2, View.ld_unit_zero (S := S1x2048x768) hz3]
end Body

variable (m : (ℓ : Loc nD τ sig) → Buf (Elt Ideal) ℓ) (c : Dev nD)

/-- The argument arrays. -/
abbrev A : (⟨2, ![8448, 3072]⟩ : Shape).Idx → EReal := m ((c : Thread nD τ).loc main_arg0)
abbrev W : (⟨2, ![2048, 3072]⟩ : Shape).Idx → EReal := m ((c : Thread nD τ).loc main_arg2)

/-- The two blocks at a point. -/
abbrev X (t : Fin cfg0.N) : S768x768.Idx → EReal := iblk m c 0 t
abbrev Y (t : Fin cfg0.N) : S1x2048x768.Idx → EReal := iblk m c 1 t

theorem idx0 : ∀ t : Fin grid0.N, win0_0.index t 0 = t.val / 4 ∧ win0_0.index t 1 = t.val % 4 := by decide +kernel
theorem idx1 : ∀ t : Fin grid0.N, win0_1.index t 0 = t.val % 4 ∧ win0_1.index t 1 = 0 ∧ win0_1.index t 2 = 4 := by decide +kernel

theorem lhs (t : Fin cfg0.N) (r : Fin 768) (k : Fin 768) (h0 : 768 * (t.val / 4) + r.val < 8448) (h1 : 768 * (t.val % 4) + k.val < 3072) :
    X m c t (ix2 r k) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * r.val = 768 * (t.val / 4) + r.val; rw [(idx0 t).1]; omega
  | ⟨1, _⟩ => show win0_0.index t 1 * 768 + 1 * k.val = 768 * (t.val % 4) + k.val; rw [(idx0 t).2]; omega

/-- The call receives the columns' buffer. -/
theorem packed : V m c main_v6 = Kernel4Ideal.Pack.cols (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (q : Fin 2048) (k : Fin 768) (h1 : 768 * (t.val % 4) + k.val < 3072) :
    Y m c t (ix3 0 q k) = W m c (ix2 q ⟨_, h1⟩) := by
  unfold Y iblk
  rw [View.read_apply]
  show V m c main_v6 _ = _
  rw [packed]
  refine Eq.trans (congrArg (Kernel4Ideal.Pack.cols _ _) (funext fun a => Fin.ext ?_))
    (Kernel4Ideal.Pack.cols_mix _ _ ⟨t.val % 4, Nat.mod_lt _ (by decide)⟩ q k (by omega) h1)
  match a with
  | ⟨0, _⟩ => show win0_1.index t 0 * 1 + 1 * 0 = t.val % 4; rw [(idx1 t).1]; omega
  | ⟨1, _⟩ => show win0_1.index t 1 * 2048 + 1 * q.val = q.val; rw [(idx1 t).2.1]; omega
  | ⟨2, _⟩ => show win0_1.index t 2 * 768 + 1 * k.val = 3072 + k.val; rw [(idx1 t).2.2]; omega

/-- Point `t`'s product at one element. -/
def term (r : Fin 768) (q : Fin 2048) (t : ℕ) (h : t < cfg0.N) : EReal :=
  ∑ k : Fin 768, X m c ⟨t, h⟩ (ix2 r k) * Y m c ⟨t, h⟩ (ix3 0 q k)

theorem scratch_first (r : Fin 768) (q : Fin 2048) (t : ℕ) (h : t < cfg0.N) (h0 : t % 4 = 0) :
    (outsAt0 m c t h).2 (ix2 r q) = term m c r q t h := by
  rw [outsAt0_A m c ⟨t, h⟩ h0 (by dsimp only; omega)]
  dsimp only
  rw [sout_A, step, reset, zero_add]
  rfl

theorem scratch_next (r : Fin 768) (q : Fin 2048) (t : ℕ) (h : t < cfg0.N) (h0 : ¬t % 4 = 0) :
    (outsAt0 m c t h).2 (ix2 r q) = (outsAt0 m c (t - 1) (by omega)).2 (ix2 r q) + term m c r q t h := by
  by_cases h1 : t % 4 = 3
  · rw [outsAt0_C m c ⟨t, h⟩ h0 h1]
    dsimp only
    rw [sout_C, step]
    rfl
  · rw [outsAt0_B m c ⟨t, h⟩ h0 h1]
    dsimp only
    rw [sout_B, step]
    rfl

theorem written (t : ℕ) (h : t < cfg0.N) (h1 : t % 4 = 3) : (outsAt0 m c t h).1 = (outsAt0 m c t h).2 := by
  rw [outsAt0_C m c ⟨t, h⟩ (by dsimp only; omega) h1]
  dsimp only
  rw [out_C, sout_C]

/-- The product of the argument arrays at one element. -/
def prod (R : Fin 8448) (q : Fin 2048) : EReal := ∑ k : Fin 3072, A m c (ix2 R k) * W m c (ix2 q k)

theorem array (R : Fin 8448) (q : Fin 2048) :
    ((dats m 0 c).arrAt 2 cfg0.N : (⟨2, ![8448, 2048]⟩ : Shape).Idx → EReal) (ix2 R q) = prod m c R q := by
  have hN : cfg0.N = 44 := N_0
  have hp : (3 + 1) * (R.val / 768) + 3 < cfg0.N := by omega
  have hq : Value.pt2Of (ix2 R q) = (3 + 1) * (R.val / 768) + 3 := by
    show 4 * (1 * (R.val / 768 - 0) + 1 * (q.val / 2048 - 0)) + 3 = _
    omega
  have hl : Value.loc2Of (ix2 R q) = ix2 ⟨R.val % 768, Nat.mod_lt _ (by decide)⟩ q := by
    funext a
    match a with
    | ⟨0, _⟩ => rfl
    | ⟨1, _⟩ => exact Fin.ext (Nat.mod_eq_of_lt q.isLt)
  rw [Value.final2]
  unfold Value.G2
  rw [dif_pos (by rw [hq]; exact hp), hl, Value.fold0_congr m c _ _ ((3 + 1) * (R.val / 768) + 3) (by omega) hq, ← Value.outsAt0_sweep m c _ hp,
    written m c _ hp (by omega),
    restarted (fun t h => (outsAt0 m c t h).2 (ix2 ⟨R.val % 768, _⟩ q)) (term m c ⟨R.val % 768, _⟩ q)
      (scratch_first m c _ q) (scratch_next m c _ q) (R.val / 768) hp]
  refine blocks (by decide) (fun k => A m c (ix2 R k) * W m c (ix2 q k)) _ fun i k hik => ?_
  have e0 : 768 * (((3 + 1) * (R.val / 768) + i.val) / 4) + R.val % 768 = R.val := by omega
  have e1 : 768 * (((3 + 1) * (R.val / 768) + i.val) % 4) + k.val = 768 * i.val + k.val := by omega
  rw [lhs m c _ _ k (by dsimp only; omega) (by dsimp only; omega), rhs m c _ q k (by dsimp only; omega)]
  simp only [e0, e1]

end Cert.Kernel11Ideal.Whole

end
-- ==== Proof.Fwd.lean ====
/- The forward products of a convolution's input, of the gate's argument and of the attention's projections, element by
   element: a block of rows times a share of the weights' columns, each element one sum over the model's width. -/
module
public import proofs.«01_k».proof.Proof.Pack
public import proofs.«01_k».proof.Proof.Gen.Kernel13Ideal.Value
public import proofs.«01_k».proof.Proof.Gen.Kernel14Ideal.Value
public import proofs.«01_k».proof.Proof.Gen.Kernel15Ideal.Value

@[expose] public section
set_option maxRecDepth 16384
set_option maxHeartbeats 1000000
noncomputable section
open Idealize.ShloMosaic Idealize.ShloMosaic.TcCoe Idealize.SL.Sem

namespace Cert.Kernel13Ideal.Whole
open Cert.Kernel13Ideal Cert.Kernel13Ideal.Gen Cert.Prod

section Body
variable (x0 : Vec Ideal S1056x2048 .bf16) (x1 : Vec Ideal S1x2048x1536 .bf16)

/-- A point's product at one element. -/
theorem step (r : Fin 1056) (k : Fin 1536) : k0_pay1 x1 x0 (ix2 r k) = ∑ j : Fin 2048, x0 (ix2 r j) * x1 (ix3 0 j k) := by
  unfold k0_pay1
  pointwise

theorem out : out0_2 x0 x1 = k0_pay1 x1 x0 := by
  unfold out0_2
  rw [View.canon_unit_zero (S := S1056x1536) hz2, View.ld_unit_zero (S := S1056x2048) hz2, View.ld_unit_zero (S := S1x2048x1536) hz3]
end Body

variable (m : (ℓ : Loc nD τ sig) → Buf (Elt Ideal) ℓ) (c : Dev nD)

/-- The argument arrays. -/
abbrev A : (⟨2, ![8448, 2048]⟩ : Shape).Idx → EReal := m ((c : Thread nD τ).loc main_arg0)
abbrev W : (⟨2, ![2048, 6144]⟩ : Shape).Idx → EReal := m ((c : Thread nD τ).loc main_arg2)

/-- The two blocks at a point. -/
abbrev X (t : Fin cfg0.N) : S1056x2048.Idx → EReal := iblk m c 0 t
abbrev Y (t : Fin cfg0.N) : S1x2048x1536.Idx → EReal := iblk m c 1 t

theorem idx0 : ∀ t : Fin grid0.N, win0_0.index t 0 = t.val % 8 ∧ win0_0.index t 1 = 0 := by decide +kernel
theorem idx1 : ∀ t : Fin grid0.N, win0_1.index t 0 = t.val / 8 ∧ win0_1.index t 1 = 0 ∧ win0_1.index t 2 = 2 := by decide +kernel
theorem idx2' : ∀ t : Fin grid0.N, win0_2.index t 0 = t.val % 8 ∧ win0_2.index t 1 = t.val / 8 ∧ win0_2.flush t = true := by decide +kernel

theorem lhs (t : Fin cfg0.N) (r : Fin 1056) (j : Fin 2048) (h0 : 1056 * (t.val % 8) + r.val < 8448) :
    X m c t (ix2 r j) = A m c (ix2 ⟨_, h0⟩ j) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1056 + 1 * r.val = 1056 * (t.val % 8) + r.val; rw [(idx0 t).1]; omega
  | ⟨1, _⟩ => show win0_0.index t 1 * 2048 + 1 * j.val = j.val; rw [(idx0 t).2]; omega

/-- The call receives the columns' buffer. -/
theorem packed : V m c main_v6 = Kernel2Ideal.Pack.cols (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (j : Fin 2048) (k : Fin 1536) (h : 1536 * (t.val / 8) + k.val < 6144) :
    Y m c t (ix3 0 j k) = W m c (ix2 j ⟨_, h⟩) := by
  unfold Y iblk
  rw [View.read_apply]
  show V m c main_v6 _ = _
  rw [packed]
  refine Eq.trans (congrArg (Kernel2Ideal.Pack.cols _ _) (funext fun a => Fin.ext ?_)) (Kernel2Ideal.Pack.cols_mix _ _ ⟨t.val / 8, by omega⟩ j k (by omega) h)
  match a with
  | ⟨0, _⟩ => show win0_1.index t 0 * 1 + 1 * 0 = t.val / 8; rw [(idx1 t).1]; omega
  | ⟨1, _⟩ => show win0_1.index t 1 * 2048 + 1 * j.val = j.val; rw [(idx1 t).2.1]; omega
  | ⟨2, _⟩ => show win0_1.index t 2 * 1536 + 1 * k.val = 3072 + k.val; rw [(idx1 t).2.2]; omega

/-- The product of the argument arrays at one element. -/
def prod (R : Fin 8448) (q : Fin 6144) : EReal := ∑ j : Fin 2048, A m c (ix2 R j) * W m c (ix2 j q)

theorem point (t : Fin cfg0.N) (r : Fin 1056) (k : Fin 1536) (R : Fin 8448) (q : Fin 6144) (hR : R.val = 1056 * (t.val % 8) + r.val)
    (hq : q.val = 1536 * (t.val / 8) + k.val) : (dats m 0 c).flushed 2 t (ix2 r k) = prod m c R q := by
  rw [Value.flushed2]
  show out0_2 _ _ (ix2 r k) = _
  rw [out, step]
  refine Finset.sum_congr rfl fun j _ => ?_
  have hl := lhs m c t r j (by omega)
  have h := rhs m c t j k (by omega)
  unfold X at hl; unfold Y at h
  rw [hl, h]
  congr 3
  · exact Fin.ext hR.symm
  · exact Fin.ext hq.symm

theorem array (R : Fin 8448) (q : Fin 6144) :
    ((dats m 0 c).arrAt 2 cfg0.N : (⟨2, ![8448, 6144]⟩ : Shape).Idx → EReal) (ix2 R q) = prod m c R q := by
  have hN : cfg0.N = 32 := N_0
  refine (dats m 0 c).arrAt_forall_of_flushed 2 (fun i v => v = prod m c (i 0) (i 1)) (fun t _ y => ?_) cfg0.N
    ⟨8 * (q.val / 1536) + R.val / 1056, by omega⟩ (ix2 R q) (by dsimp only; omega) (idx2' _).2.2 ?_
  · obtain ⟨r, k, rfl⟩ := idx2 y
    exact point m c t r k _ _ (by show win0_2.index t 0 * 1056 + 1 * r.val = _; rw [(idx2' t).1]; omega)
      (by show win0_2.index t 1 * 1536 + 1 * k.val = _; rw [(idx2' t).2.1]; omega)
  · show _ ∈ ((View.whole main_v7).slice (win0_2.rect _)).set
    rw [View.set_slice_whole, Rect.mem_set_unit]
    intro a
    match a with
    | ⟨0, _⟩ => show win0_2.index _ 0 * 1056 ≤ R.val ∧ R.val < win0_2.index _ 0 * 1056 + 1056; rw [(idx2' _).1]; dsimp only; omega
    | ⟨1, _⟩ => show win0_2.index _ 1 * 1536 ≤ q.val ∧ q.val < win0_2.index _ 1 * 1536 + 1536; rw [(idx2' _).2.1]; dsimp only; omega
end Cert.Kernel13Ideal.Whole

namespace Cert.Kernel14Ideal.Whole
open Cert.Kernel14Ideal Cert.Kernel14Ideal.Gen Cert.Prod

section Body
variable (c : Dev nD) (i : grid0.Coords) (arg3 : Memref sig .tc .vmem S528x2048 .bf16) (harg3 : arg3.IsWhole) (arg4 : Memref sig .tc .vmem S1x2048x2816 .bf16) (harg4 : arg4.IsWhole) (arg5 : Memref sig .tc .vmem S528x2816 .bf16) (harg5 : arg5.IsWhole)
  (x0 : Vec Ideal S528x2048 .bf16) (x1 : Vec Ideal S1x2048x2816 .bf16)

/-- A point's product at one element. -/
theorem step (r : Fin 528) (k : Fin 2816) : k0_pay1 x1 x0 (ix2 r k) = ∑ j : Fin 2048, x0 (ix2 r j) * x1 (ix3 0 j k) := by
  unfold k0_pay1
  pointwise

theorem out_A : out0_A_2 c i arg3 harg3 arg4 harg4 arg5 harg5 x0 x1 = k0_pay1 x1 x0 := by
  unfold out0_A_2
  rw [View.read_writes_eq_canon _ _ _ (cover0_A_2 c i arg3 harg3 arg4 harg4 arg5 harg5 x0 x1)]
  unfold kernelRun0_A
  dsimp only
  sl_unfold_words
  simp only [View.readAt_eq_ld, harg3.read_unread, harg4.read_unread]
  rw [View.canon_unit_zero (S := S528x2816) hz2, View.ld_unit_zero (S := S528x2048) hz2, View.ld_unit_zero (S := S1x2048x2816) hz3]
end Body

variable (m : (ℓ : Loc nD τ sig) → Buf (Elt Ideal) ℓ) (c : Dev nD)

/-- The argument arrays. -/
abbrev A : (⟨2, ![8448, 2048]⟩ : Shape).Idx → EReal := m ((c : Thread nD τ).loc main_arg0)
abbrev W : (⟨2, ![2048, 11264]⟩ : Shape).Idx → EReal := m ((c : Thread nD τ).loc main_arg1)

/-- The two blocks at a point. -/
abbrev X (t : Fin cfg0.N) : S528x2048.Idx → EReal := iblk m c 0 t
abbrev Y (t : Fin cfg0.N) : S1x2048x2816.Idx → EReal := X0_1 m c t

theorem idx0 : ∀ t : Fin grid0.N, win0_0.index t 0 = t.val % 16 ∧ win0_0.index t 1 = 0 := by decide +kernel
theorem idx1 : ∀ t : Fin grid0.N, win0_1.index t 0 = t.val / 16 ∧ win0_1.index t 1 = 0 ∧ win0_1.index t 2 = 0 := by decide +kernel
theorem idx2' : ∀ t : Fin grid0.N, win0_2.index t 0 = t.val % 16 ∧ win0_2.index t 1 = t.val / 16 ∧ win0_2.flush t = true := by decide +kernel

theorem lhs (t : Fin cfg0.N) (r : Fin 528) (j : Fin 2048) (h0 : 528 * (t.val % 16) + r.val < 8448) :
    X m c t (ix2 r j) = A m c (ix2 ⟨_, h0⟩ j) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 528 + 1 * r.val = 528 * (t.val % 16) + r.val; rw [(idx0 t).1]; omega
  | ⟨1, _⟩ => show win0_0.index t 1 * 2048 + 1 * j.val = j.val; rw [(idx0 t).2]; omega

/-- The call receives the columns' buffer. -/
theorem packed : V m c main_v6 = Kernel2Ideal.Pack.cols (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (j : Fin 2048) (k : Fin 2816) (h : 2816 * (t.val / 16) + k.val < 11264) :
    Y m c t (ix3 0 j k) = W m c (ix2 j ⟨_, h⟩) := by
  unfold Y X0_1
  rw [Pipeline.Window.fill, dif_pos (moved0_1 t _)]
  unfold iblk
  rw [View.read_apply]
  show V m c main_v6 _ = _
  rw [packed]
  refine Eq.trans (congrArg (Kernel2Ideal.Pack.cols _ _) (funext fun a => Fin.ext ?_)) (Kernel2Ideal.Pack.cols_up _ _ ⟨t.val / 16, by omega⟩ j k (by omega) h)
  match a with
  | ⟨0, _⟩ => show win0_1.index t 0 * 1 + 1 * 0 = t.val / 16; rw [(idx1 t).1]; omega
  | ⟨1, _⟩ => show win0_1.index t 1 * 2048 + 1 * j.val = j.val; rw [(idx1 t).2.1]; omega
  | ⟨2, _⟩ => show win0_1.index t 2 * 2816 + 1 * k.val = k.val; rw [(idx1 t).2.2]; omega

/-- The product of the argument arrays at one element. -/
def prod (R : Fin 8448) (q : Fin 11264) : EReal := ∑ j : Fin 2048, A m c (ix2 R j) * W m c (ix2 j q)

theorem point (t : Fin cfg0.N) (r : Fin 528) (k : Fin 2816) (R : Fin 8448) (q : Fin 11264) (hR : R.val = 528 * (t.val % 16) + r.val)
    (hq : q.val = 2816 * (t.val / 16) + k.val) : (dats m 0 c).flushed 2 t (ix2 r k) = prod m c R q := by
  rw [Value.flushed2_A]
  show out0_A_2 _ _ _ _ _ _ _ _ _ _ (ix2 r k) = _
  rw [out_A, step]
  refine Finset.sum_congr rfl fun j _ => ?_
  have hl := lhs m c t r j (by omega)
  have h := rhs m c t j k (by omega)
  unfold X at hl; unfold Y at h
  rw [hl, h]
  congr 3
  · exact Fin.ext hR.symm
  · exact Fin.ext hq.symm

theorem array (R : Fin 8448) (q : Fin 11264) :
    ((dats m 0 c).arrAt 2 cfg0.N : (⟨2, ![8448, 11264]⟩ : Shape).Idx → EReal) (ix2 R q) = prod m c R q := by
  have hN : cfg0.N = 64 := N_0
  refine (dats m 0 c).arrAt_forall_of_flushed 2 (fun i v => v = prod m c (i 0) (i 1)) (fun t _ y => ?_) cfg0.N
    ⟨16 * (q.val / 2816) + R.val / 528, by omega⟩ (ix2 R q) (by dsimp only; omega) (idx2' _).2.2 ?_
  · obtain ⟨r, k, rfl⟩ := idx2 y
    exact point m c t r k _ _ (by show win0_2.index t 0 * 528 + 1 * r.val = _; rw [(idx2' t).1]; omega)
      (by show win0_2.index t 1 * 2816 + 1 * k.val = _; rw [(idx2' t).2.1]; omega)
  · show _ ∈ ((View.whole main_v7).slice (win0_2.rect _)).set
    rw [View.set_slice_whole, Rect.mem_set_unit]
    intro a
    match a with
    | ⟨0, _⟩ => show win0_2.index _ 0 * 528 ≤ R.val ∧ R.val < win0_2.index _ 0 * 528 + 528; rw [(idx2' _).1]; dsimp only; omega
    | ⟨1, _⟩ => show win0_2.index _ 1 * 2816 ≤ q.val ∧ q.val < win0_2.index _ 1 * 2816 + 2816; rw [(idx2' _).2.1]; dsimp only; omega
end Cert.Kernel14Ideal.Whole

namespace Cert.Kernel15Ideal.Whole
open Cert.Kernel15Ideal Cert.Kernel15Ideal.Gen Cert.Prod

section Body
variable (x0 : Vec Ideal S1056x2048 .bf16) (x1 : Vec Ideal S1x2048x768 .bf16)

/-- A point's product at one element. -/
theorem step (r : Fin 1056) (k : Fin 768) : k0_pay1 x1 x0 (ix2 r k) = ∑ j : Fin 2048, x0 (ix2 r j) * x1 (ix3 0 j k) := by
  unfold k0_pay1
  pointwise

theorem out : out0_2 x0 x1 = k0_pay1 x1 x0 := by
  unfold out0_2
  rw [View.canon_unit_zero (S := S1056x768) hz2, View.ld_unit_zero (S := S1056x2048) hz2, View.ld_unit_zero (S := S1x2048x768) hz3]
end Body

variable (m : (ℓ : Loc nD τ sig) → Buf (Elt Ideal) ℓ) (c : Dev nD)

/-- The argument arrays. -/
abbrev A : (⟨2, ![8448, 2048]⟩ : Shape).Idx → EReal := m ((c : Thread nD τ).loc main_arg0)
abbrev W : (⟨2, ![2048, 3072]⟩ : Shape).Idx → EReal := m ((c : Thread nD τ).loc main_arg2)

/-- The two blocks at a point. -/
abbrev X (t : Fin cfg0.N) : S1056x2048.Idx → EReal := iblk m c 0 t
abbrev Y (t : Fin cfg0.N) : S1x2048x768.Idx → EReal := iblk m c 1 t

theorem idx0 : ∀ t : Fin grid0.N, win0_0.index t 0 = t.val % 8 ∧ win0_0.index t 1 = 0 := by decide +kernel
theorem idx1 : ∀ t : Fin grid0.N, win0_1.index t 0 = t.val / 8 ∧ win0_1.index t 1 = 0 ∧ win0_1.index t 2 = 4 := by decide +kernel
theorem idx2' : ∀ t : Fin grid0.N, win0_2.index t 0 = t.val % 8 ∧ win0_2.index t 1 = t.val / 8 ∧ win0_2.flush t = true := by decide +kernel

theorem lhs (t : Fin cfg0.N) (r : Fin 1056) (j : Fin 2048) (h0 : 1056 * (t.val % 8) + r.val < 8448) :
    X m c t (ix2 r j) = A m c (ix2 ⟨_, h0⟩ j) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1056 + 1 * r.val = 1056 * (t.val % 8) + r.val; rw [(idx0 t).1]; omega
  | ⟨1, _⟩ => show win0_0.index t 1 * 2048 + 1 * j.val = j.val; rw [(idx0 t).2]; omega

/-- The call receives the columns' buffer. -/
theorem packed : V m c main_v6 = Kernel4Ideal.Pack.cols (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (j : Fin 2048) (k : Fin 768) (h : 768 * (t.val / 8) + k.val < 3072) :
    Y m c t (ix3 0 j k) = W m c (ix2 j ⟨_, h⟩) := by
  unfold Y iblk
  rw [View.read_apply]
  show V m c main_v6 _ = _
  rw [packed]
  refine Eq.trans (congrArg (Kernel4Ideal.Pack.cols _ _) (funext fun a => Fin.ext ?_)) (Kernel4Ideal.Pack.cols_mix _ _ ⟨t.val / 8, by omega⟩ j k (by omega) h)
  match a with
  | ⟨0, _⟩ => show win0_1.index t 0 * 1 + 1 * 0 = t.val / 8; rw [(idx1 t).1]; omega
  | ⟨1, _⟩ => show win0_1.index t 1 * 2048 + 1 * j.val = j.val; rw [(idx1 t).2.1]; omega
  | ⟨2, _⟩ => show win0_1.index t 2 * 768 + 1 * k.val = 3072 + k.val; rw [(idx1 t).2.2]; omega

/-- The product of the argument arrays at one element. -/
def prod (R : Fin 8448) (q : Fin 3072) : EReal := ∑ j : Fin 2048, A m c (ix2 R j) * W m c (ix2 j q)

theorem point (t : Fin cfg0.N) (r : Fin 1056) (k : Fin 768) (R : Fin 8448) (q : Fin 3072) (hR : R.val = 1056 * (t.val % 8) + r.val)
    (hq : q.val = 768 * (t.val / 8) + k.val) : (dats m 0 c).flushed 2 t (ix2 r k) = prod m c R q := by
  rw [Value.flushed2]
  show out0_2 _ _ (ix2 r k) = _
  rw [out, step]
  refine Finset.sum_congr rfl fun j _ => ?_
  have hl := lhs m c t r j (by omega)
  have h := rhs m c t j k (by omega)
  unfold X at hl; unfold Y at h
  rw [hl, h]
  congr 3
  · exact Fin.ext hR.symm
  · exact Fin.ext hq.symm

theorem array (R : Fin 8448) (q : Fin 3072) :
    ((dats m 0 c).arrAt 2 cfg0.N : (⟨2, ![8448, 3072]⟩ : Shape).Idx → EReal) (ix2 R q) = prod m c R q := by
  have hN : cfg0.N = 32 := N_0
  refine (dats m 0 c).arrAt_forall_of_flushed 2 (fun i v => v = prod m c (i 0) (i 1)) (fun t _ y => ?_) cfg0.N
    ⟨8 * (q.val / 768) + R.val / 1056, by omega⟩ (ix2 R q) (by dsimp only; omega) (idx2' _).2.2 ?_
  · obtain ⟨r, k, rfl⟩ := idx2 y
    exact point m c t r k _ _ (by show win0_2.index t 0 * 1056 + 1 * r.val = _; rw [(idx2' t).1]; omega)
      (by show win0_2.index t 1 * 768 + 1 * k.val = _; rw [(idx2' t).2.1]; omega)
  · show _ ∈ ((View.whole main_v7).slice (win0_2.rect _)).set
    rw [View.set_slice_whole, Rect.mem_set_unit]
    intro a
    match a with
    | ⟨0, _⟩ => show win0_2.index _ 0 * 1056 ≤ R.val ∧ R.val < win0_2.index _ 0 * 1056 + 1056; rw [(idx2' _).1]; dsimp only; omega
    | ⟨1, _⟩ => show win0_2.index _ 1 * 768 ≤ q.val ∧ q.val < win0_2.index _ 1 * 768 + 768; rw [(idx2' _).2.1]; dsimp only; omega
end Cert.Kernel15Ideal.Whole

end
-- ==== Proof.Equal2.lean ====
/- The products' results are equal arrays: each kernel and its reference read at every index. -/
module
public import proofs.«01_k».proof.Proof.Up
public import proofs.«01_k».proof.Proof.Act
public import proofs.«01_k».proof.Proof.Back
public import proofs.«01_k».proof.Proof.Fwd
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference11Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Defs

@[expose] public section
set_option maxRecDepth 16384
noncomputable section
open Idealize.ShloMosaic Idealize.ShloMosaic.TcCoe Idealize.SL.Sem
namespace Cert.ProductEqual

theorem frame2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨e0, e1, -⟩ := hargs c
  refine ⟨(h c).1.trans (funext fun i => ?_), (h c).2⟩
  obtain ⟨R, q, rfl⟩ := Cert.Prod.idx2 i
  refine Eq.trans ?_ (Cert.Kernel2Ideal.Whole.array m c R q).symm
  rw [e0, e1]
  pointwise
  rfl

theorem frame3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel3Ideal.Whole.array m c R q).symm
  rw [e0, e1]
  pointwise
  rfl

theorem frame4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel4Ideal.Whole.array m c R q).symm
  rw [e0, e1]
  pointwise
  rfl

theorem frame5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel5Ideal.Whole.array m c R q).symm
  rw [e0, e2]
  pointwise
  rfl

theorem frame6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel6Ideal.Whole.array m c R q).symm
  rw [e0, e2]
  pointwise
  rfl

theorem frame11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run m ρ)

theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel11Ideal.Whole.array m c R q).symm
  rw [e0, e2]
  pointwise
  rfl

theorem frame13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run m ρ)

theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨fun c => (Cert.Kernel13Ideal.Gen.dats m 0 c).arrAt 2 Cert.Kernel13Ideal.cfg0.N, Cert.Kernel13Ideal.Value.run_blocks m g, ?_⟩
  refine (θ_run Cert.Reference13Ideal.defs _ _).mono (fun r h c => ?_) (Cert.Reference13Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel13Ideal.Whole.array m c R q).symm
  rw [e0, e2]
  pointwise
  rfl

theorem frame14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run m ρ)

theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨fun c => (Cert.Kernel14Ideal.Gen.dats m 0 c).arrAt 2 Cert.Kernel14Ideal.cfg0.N, Cert.Kernel14Ideal.Value.run_blocks m g, ?_⟩
  refine (θ_run Cert.Reference14Ideal.defs _ _).mono (fun r h c => ?_) (Cert.Reference14Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel14Ideal.Whole.array m c R q).symm
  rw [e0, e1]
  pointwise
  rfl

theorem frame15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run m ρ)

theorem algebraic15 : Cert.algebraic_Kernel15Ideal_Reference15Ideal (hKernel15Ideal := Cert.Kernel15Ideal.Gen.facts)
    (hReference15Ideal := Cert.Reference15Ideal.Gen.facts) := by
  intro m g m' g' _ hargs
  refine ⟨fun c => (Cert.Kernel15Ideal.Gen.dats m 0 c).arrAt 2 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel15Ideal.Whole.array m c R q).symm
  rw [e0, e2]
  pointwise
  rfl

end Cert.ProductEqual
end
-- ==== Proof.Wgt.lean ====
/- The gradients of the weights of the products into the gate and the mixers, element by element: each share of the buffer gets its columns, summed
   over the eleven blocks of tokens in the scratch; the rest of the buffer stays. -/
module
public import proofs.«01_k».proof.Proof.Prod
public import proofs.«01_k».proof.Proof.Gen.Kernel7Ideal.Value
public import proofs.«01_k».proof.Proof.Gen.Kernel8Ideal.Value
public import proofs.«01_k».proof.Proof.Gen.Kernel12Ideal.Value

@[expose] public section
set_option maxRecDepth 16384
set_option maxHeartbeats 1000000
noncomputable section
open Idealize.ShloMosaic Idealize.ShloMosaic.TcCoe Idealize.SL.Sem

namespace Cert.Kernel7Ideal.Whole
open Cert.Kernel7Ideal Cert.Kernel7Ideal.Gen Cert.Prod

section Body
variable (c : Dev nD) (i : grid0.Coords) (arg3 : Memref sig .tc .vmem S768x1024 .bf16) (harg3 : arg3.IsWhole) (arg4 : Memref sig .tc .vmem S768x2816 .bf16) (harg4 : arg4.IsWhole) (arg6 : Memref sig .tc .vmem S1x1024x2816 .bf16) (harg6 : arg6.IsWhole) (arg7 : Memref sig .tc .vmem S1024x2816 .f32) (harg7 : arg7.IsWhole)
  (x0 : Vec Ideal S768x1024 .bf16) (x1 : Vec Ideal S768x2816 .bf16) (acc : Vec Ideal S1024x2816 .f32)

/-- One point's product, added to what the scratch held. -/
theorem step (a : Vec Ideal S1024x2816 .f32) (r : Fin 1024) (k : Fin 2816) :
    k0_pay2 a x1 x0 (ix2 r k) = a (ix2 r k) + ∑ j : Fin 768, x0 (ix2 j r) * x1 (ix2 j k) := by
  unfold k0_pay2
  pointwise

theorem reset (r : Fin 1024) (k : Fin 2816) : k0_pay1 (F := Ideal) (ix2 r k) = 0 := by
  unfold k0_pay1
  pointwise

theorem store (a : Vec Ideal S1024x2816 .f32) (o : Fin 1) (r : Fin 1024) (k : Fin 2816) : k0_pay3 a (ix3 o r k) = a (ix2 r k) := by
  unfold k0_pay3
  pointwise

theorem sout_A (hc0 : cond0_0 i) (hc1 : ¬cond0_1 i) :
    sout0_A_0 c i arg3 harg3 arg4 harg4 arg6 harg6 arg7 harg7 hc0 hc1 x0 x1 = k0_pay2 (k0_pay1 (F := Ideal)) x1 x0 := by
  unfold sout0_A_0
  rw [View.read_writes_eq_canon _ _ _ (scover0_A_0 c i arg3 harg3 arg4 harg4 arg6 harg6 arg7 harg7 hc0 hc1 x0 x1)]
  unfold kernelRun0_A
  dsimp only
  sl_unfold_words
  simp only [View.readAt_eq_ld, harg3.read_unread, harg4.read_unread]
  rw [View.canon_cons_unit_zero (S := S1024x2816) hz2, View.readCov_unit_zero (S := S1024x2816) _ hz2,
    View.ld_unit_zero (S := S768x1024) hz2, View.ld_unit_zero (S := S768x2816) hz2]

theorem sout_B (hc0 : ¬cond0_0 i) (hc1 : ¬cond0_1 i) :
    sout0_B_0 c i arg3 harg3 arg4 harg4 arg6 harg6 arg7 harg7 hc0 hc1 x0 x1 acc = k0_pay2 acc x1 x0 := by
  unfold sout0_B_0
  rw [View.read_writes_eq_canon _ _ _ (scover0_B_0 c i arg3 harg3 arg4 harg4 arg6 harg6 arg7 harg7 hc0 hc1 x0 x1 acc)]
  unfold kernelRun0_B
  dsimp only
  sl_unfold_words
  simp only [View.readAt_eq_ld, harg3.read_unread, harg4.read_unread, harg7.read_unread]
  rw [View.canon_unit_zero (S := S1024x2816) hz2, View.ld_unit_zero (S := S1024x2816) hz2,
    View.ld_unit_zero (S := S768x1024) hz2, View.ld_unit_zero (S := S768x2816) hz2]

theorem sout_C (hc0 : ¬cond0_0 i) (hc1 : cond0_1 i) :
    sout0_C_0 c i arg3 harg3 arg4 harg4 arg6 harg6 arg7 harg7 hc0 hc1 x0 x1 acc = k0_pay2 acc x1 x0 := by
  unfold sout0_C_0
  rw [View.read_writes_eq_canon _ _ _ (scover0_C_0 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S1024x2816) hz2, View.ld_unit_zero (S := S1024x2816) hz2,
    View.ld_unit_zero (S := S768x1024) hz2, View.ld_unit_zero (S := S768x2816) hz2]

theorem out_C (hc0 : ¬cond0_0 i) (hc1 : cond0_1 i) :
    out0_C_2 c i arg3 harg3 arg4 harg4 arg6 harg6 arg7 harg7 hc0 hc1 x0 x1 acc = k0_pay3 (k0_pay2 acc x1 x0) := by
  unfold out0_C_2
  rw [View.read_writes_eq_canon _ _ _ (cover0_C_2 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S1x1024x2816) hz3, View.readCov_unit_zero (S := S1024x2816) _ hz2, View.ld_unit_zero (S := S1024x2816) hz2,
    View.ld_unit_zero (S := S768x1024) hz2, View.ld_unit_zero (S := S768x2816) hz2]
end Body

variable (m : (ℓ : Loc nD τ sig) → Buf (Elt Ideal) ℓ) (c : Dev nD)

/-- The argument arrays, and the buffer the gradient is written into. -/
abbrev A : (⟨2, ![8448, 2048]⟩ : Shape).Idx → EReal := m ((c : Thread nD τ).loc main_arg0)
abbrev B : (⟨2, ![8448, 11264]⟩ : Shape).Idx → EReal := m ((c : Thread nD τ).loc main_arg1)
abbrev Z : (⟨3, ![4, 2048, 4608]⟩ : Shape).Idx → EReal := m ((c : Thread nD τ).loc main_arg2)

/-- The two blocks at a point. -/
abbrev X (t : Fin cfg0.N) : S768x1024.Idx → EReal := iblk m c 0 t
abbrev Y (t : Fin cfg0.N) : S768x2816.Idx → EReal := iblk m c 1 t

theorem idx0 : ∀ t : Fin grid0.N, win0_0.index t 0 = t.val % 11 ∧ win0_0.index t 1 = t.val / 44 := by decide +kernel
theorem idx1 : ∀ t : Fin grid0.N, win0_1.index t 0 = t.val % 11 ∧ win0_1.index t 1 = t.val / 11 % 4 := by decide +kernel
theorem idx2' : ∀ t : Fin grid0.N, win0_2.index t 0 = t.val / 11 % 4 ∧ win0_2.index t 1 = t.val / 44 ∧ win0_2.index t 2 = 0
    ∧ (win0_2.flush t = true ↔ t.val % 11 = 10) := by decide +kernel

theorem size2 : ∀ t : Fin grid0.N, win0_2.xsize (grid0.coords t) 0 = 1 ∧ win0_2.xsize (grid0.coords t) 1 = 1024
    ∧ win0_2.xsize (grid0.coords t) 2 = 2816 := by decide +kernel

theorem lhs (t : Fin cfg0.N) (j : Fin 768) (r : Fin 1024) (h0 : 768 * (t.val % 11) + j.val < 8448) (h1 : 1024 * (t.val / 44) + r.val < 2048) :
    X m c t (ix2 j r) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * j.val = 768 * (t.val % 11) + j.val; rw [(idx0 t).1]; omega
  | ⟨1, _⟩ => show win0_0.index t 1 * 1024 + 1 * r.val = 1024 * (t.val / 44) + r.val; rw [(idx0 t).2]; omega

theorem rhs (t : Fin cfg0.N) (j : Fin 768) (k : Fin 2816) (h0 : 768 * (t.val % 11) + j.val < 8448) (h1 : 2816 * (t.val / 11 % 4) + k.val < 11264) :
    Y m c t (ix2 j k) = B m c (ix2 ⟨_, h0⟩ ⟨_, h1⟩) := by
  unfold Y iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 768 + 1 * j.val = 768 * (t.val % 11) + j.val; rw [(idx1 t).1]; omega
  | ⟨1, _⟩ => show win0_1.index t 1 * 2816 + 1 * k.val = 2816 * (t.val / 11 % 4) + k.val; rw [(idx1 t).2]; omega

/-- Point `t`'s product at one element. -/
def term (r : Fin 1024) (k : Fin 2816) (t : ℕ) (h : t < cfg0.N) : EReal :=
  ∑ j : Fin 768, X m c ⟨t, h⟩ (ix2 j r) * Y m c ⟨t, h⟩ (ix2 j k)

theorem scratch_first (r : Fin 1024) (k : Fin 2816) (t : ℕ) (h : t < cfg0.N) (h0 : t % 11 = 0) :
    (outsAt0 m c t h).2 (ix2 r k) = term m c r k t h := by
  rw [outsAt0_A m c ⟨t, h⟩ h0 (by dsimp only; omega)]
  dsimp only
  rw [sout_A, step, reset, zero_add]
  rfl

theorem scratch_next (r : Fin 1024) (k : Fin 2816) (t : ℕ) (h : t < cfg0.N) (h0 : ¬t % 11 = 0) :
    (outsAt0 m c t h).2 (ix2 r k) = (outsAt0 m c (t - 1) (by omega)).2 (ix2 r k) + term m c r k t h := by
  by_cases h1 : t % 11 = 10
  · rw [outsAt0_C m c ⟨t, h⟩ h0 h1]
    dsimp only
    rw [sout_C, step]
    rfl
  · rw [outsAt0_B m c ⟨t, h⟩ h0 h1]
    dsimp only
    rw [sout_B, step]
    rfl

/-- The product of the argument arrays at one element. -/
def prod (R : Fin 2048) (q : Fin 11264) : EReal := ∑ j : Fin 8448, A m c (ix2 j R) * B m c (ix2 j q)

theorem point (t : ℕ) (h : t < cfg0.N) (h1 : t % 11 = 10) (o : Fin 1) (r : Fin 1024) (k : Fin 2816) (R : Fin 2048) (q : Fin 11264)
    (hR : R.val = 1024 * (t / 44) + r.val) (hq : q.val = 2816 * (t / 11 % 4) + k.val) :
    (outsAt0 m c t h).1 (ix3 o r k) = prod m c R q := by
  have hN : cfg0.N = 88 := N_0
  have hw : (outsAt0 m c t h).1 (ix3 o r k) = (outsAt0 m c t h).2 (ix2 r k) := by
    rw [outsAt0_C m c ⟨t, h⟩ (by dsimp only; omega) h1]
    dsimp only
    rw [out_C, sout_C, store]
  obtain ⟨p, rfl⟩ : ∃ p, t = (10 + 1) * p + 10 := ⟨t / 11, by omega⟩
  rw [hw, restarted (fun t h => (outsAt0 m c t h).2 (ix2 r k)) (term m c r k) (scratch_first m c r k) (scratch_next m c r k) p h]
  refine blocks (by decide) (fun j => A m c (ix2 j R) * B m c (ix2 j q)) _ fun i j hij => ?_
  rw [lhs m c _ j r (by dsimp only; omega) (by dsimp only; omega), rhs m c _ j k (by dsimp only; omega) (by dsimp only; omega)]
  congr 3 <;> exact Fin.ext (by dsimp only; omega)

/-- Where a block of the buffer's share lies: inside the share's columns of the gradient. -/
theorem array_in (s : Fin 4) (R : Fin 2048) (k : Fin 2816) (hk : k.val < 4608) (q : Fin 11264) (hq : q.val = 2816 * s.val + k.val) :
    ((dats m 0 c).arrAt 2 cfg0.N : (⟨3, ![4, 2048, 4608]⟩ : Shape).Idx → EReal) (ix3 s R ⟨k.val, hk⟩) = prod m c R q := by
  have hN : cfg0.N = 88 := N_0
  refine (dats m 0 c).arrAt_forall_of_flushed 2
    (fun i v => ∀ q : Fin 11264, q.val = 2816 * (i 0).val + (i 2).val → v = prod m c (i 1) q) (fun t hf y => ?_) cfg0.N
    ⟨44 * (R.val / 1024) + 11 * s.val + 10, by omega⟩ (ix3 s R ⟨k.val, hk⟩) (by dsimp only; omega) ((idx2' _).2.2.2.2 (by dsimp only; omega)) ?_ q hq
  · intro q hq
    have h1 := (idx2' t).2.2.2.1 hf
    obtain ⟨o, r, k, hy⟩ := idx3 ((cfg0.win 2).xinj (grid0.coords t) y)
    have e0 : o.val = (y 0).val := congrArg (fun z => (z 0).val) hy.symm
    have e1 : r.val = (y 1).val := congrArg (fun z => (z 1).val) hy.symm
    have e2 : k.val = (y 2).val := congrArg (fun z => (z 2).val) hy.symm
    rw [Value.flushed2]
    refine Eq.trans (congrArg (outsAt0 m c t.val t.isLt).1 hy) (point m c t.val t.isLt h1 o r k _ _ ?_ ?_)
    · show win0_2.index t 1 * 1024 + 1 * (y 1).val = _
      rw [(idx2' t).2.1]; omega
    · have hq' : q.val = 2816 * (win0_2.index t 0 * 1 + 1 * (y 0).val) + (win0_2.index t 2 * 2816 + 1 * (y 2).val) := hq
      rw [(idx2' t).1, (idx2' t).2.2.1] at hq'
      omega
  · show _ ∈ ((View.whole main_v0).slice (win0_2.rect _)).set
    rw [View.set_slice_whole, Rect.mem_set_unit]
    intro a
    match a with
    | ⟨0, _⟩ => show win0_2.index _ 0 * 1 ≤ s.val ∧ s.val < win0_2.index _ 0 * 1 + win0_2.xsize _ 0; rw [(idx2' _).1, (size2 _).1]; dsimp only; omega
    | ⟨1, _⟩ => show win0_2.index _ 1 * 1024 ≤ R.val ∧ R.val < win0_2.index _ 1 * 1024 + win0_2.xsize _ 1; rw [(idx2' _).2.1, (size2 _).2.1]; dsimp only; omega
    | ⟨2, _⟩ => show win0_2.index _ 2 * 2816 ≤ k.val ∧ k.val < win0_2.index _ 2 * 2816 + win0_2.xsize _ 2; rw [(idx2' _).2.2.1, (size2 _).2.2]; omega

theorem array_out (s : Fin 4) (R : Fin 2048) (k : Fin 4608) (hk : 2816 ≤ k.val) :
    ((dats m 0 c).arrAt 2 cfg0.N : (⟨3, ![4, 2048, 4608]⟩ : Shape).Idx → EReal) (ix3 s R k) = Z m c (ix3 s R k) := by
  rw [Value.entry2 m c (ix3 s R k) fun t _ h => ?_]
  · show V m c main_v0 _ = _
    unfold V
    simp only [hostOps0, List.flatten_cons, List.flatten_nil, List.append_nil, List.cons_append, List.nil_append]
    after_results
    rfl
  · replace h : _ ∈ ((View.whole main_v0).slice (win0_2.rect t)).set := h
    rw [View.set_slice_whole, Rect.mem_set_unit] at h
    have h2 : k.val < win0_2.index t 2 * 2816 + win0_2.xsize (grid0.coords t) 2 := (h 2).2
    rw [(idx2' t).2.2.1, (size2 t).2.2] at h2
    omega
end Cert.Kernel7Ideal.Whole

namespace Cert.Kernel8Ideal.Whole
open Cert.Kernel8Ideal Cert.Kernel8Ideal.Gen Cert.Prod

section Body
variable (c : Dev nD) (i : grid0.Coords) (arg3 : Memref sig .tc .vmem S768x2048 .bf16) (harg3 : arg3.IsWhole) (arg4 : Memref sig .tc .vmem S768x1536 .bf16) (harg4 : arg4.IsWhole) (arg6 : Memref sig .tc .vmem S1x2048x1536 .bf16) (harg6 : arg6.IsWhole) (arg7 : Memref sig .tc .vmem S2048x1536 .f32) (harg7 : arg7.IsWhole)
  (x0 : Vec Ideal S768x2048 .bf16) (x1 : Vec Ideal S768x1536 .bf16) (acc : Vec Ideal S2048x1536 .f32)

/-- One point's product, added to what the scratch held. -/
theorem step (a : Vec Ideal S2048x1536 .f32) (r : Fin 2048) (k : Fin 1536) :
    k0_pay2 a x1 x0 (ix2 r k) = a (ix2 r k) + ∑ j : Fin 768, x0 (ix2 j r) * x1 (ix2 j k) := by
  unfold k0_pay2
  pointwise

theorem reset (r : Fin 2048) (k : Fin 1536) : k0_pay1 (F := Ideal) (ix2 r k) = 0 := by
  unfold k0_pay1
  pointwise

theorem store (a : Vec Ideal S2048x1536 .f32) (o : Fin 1) (r : Fin 2048) (k : Fin 1536) : k0_pay3 a (ix3 o r k) = a (ix2 r k) := by
  unfold k0_pay3
  pointwise

theorem sout_A (hc0 : cond0_0 i) (hc1 : ¬cond0_1 i) :
    sout0_A_0 c i arg3 harg3 arg4 harg4 arg6 harg6 arg7 harg7 hc0 hc1 x0 x1 = k0_pay2 (k0_pay1 (F := Ideal)) x1 x0 := by
  unfold sout0_A_0
  rw [View.read_writes_eq_canon _ _ _ (scover0_A_0 c i arg3 harg3 arg4 harg4 arg6 harg6 arg7 harg7 hc0 hc1 x0 x1)]
  unfold kernelRun0_A
  dsimp only
  sl_unfold_words
  simp only [View.readAt_eq_ld, harg3.read_unread, harg4.read_unread]
  rw [View.canon_cons_unit_zero (S := S2048x1536) hz2, View.readCov_unit_zero (S := S2048x1536) _ hz2,
    View.ld_unit_zero (S := S768x2048) hz2, View.ld_unit_zero (S := S768x1536) hz2]

theorem sout_B (hc0 : ¬cond0_0 i) (hc1 : ¬cond0_1 i) :
    sout0_B_0 c i arg3 harg3 arg4 harg4 arg6 harg6 arg7 harg7 hc0 hc1 x0 x1 acc = k0_pay2 acc x1 x0 := by
  unfold sout0_B_0
  rw [View.read_writes_eq_canon _ _ _ (scover0_B_0 c i arg3 harg3 arg4 harg4 arg6 harg6 arg7 harg7 hc0 hc1 x0 x1 acc)]
  unfold kernelRun0_B
  dsimp only
  sl_unfold_words
  simp only [View.readAt_eq_ld, harg3.read_unread, harg4.read_unread, harg7.read_unread]
  rw [View.canon_unit_zero (S := S2048x1536) hz2, View.ld_unit_zero (S := S2048x1536) hz2,
    View.ld_unit_zero (S := S768x2048) hz2, View.ld_unit_zero (S := S768x1536) hz2]

theorem sout_C (hc0 : ¬cond0_0 i) (hc1 : cond0_1 i) :
    sout0_C_0 c i arg3 harg3 arg4 harg4 arg6 harg6 arg7 harg7 hc0 hc1 x0 x1 acc = k0_pay2 acc x1 x0 := by
  unfold sout0_C_0
  rw [View.read_writes_eq_canon _ _ _ (scover0_C_0 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S2048x1536) hz2, View.ld_unit_zero (S := S2048x1536) hz2,
    View.ld_unit_zero (S := S768x2048) hz2, View.ld_unit_zero (S := S768x1536) hz2]

theorem out_C (hc0 : ¬cond0_0 i) (hc1 : cond0_1 i) :
    out0_C_2 c i arg3 harg3 arg4 harg4 arg6 harg6 arg7 harg7 hc0 hc1 x0 x1 acc = k0_pay3 (k0_pay2 acc x1 x0) := by
  unfold out0_C_2
  rw [View.read_writes_eq_canon _ _ _ (cover0_C_2 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S1x2048x1536) hz3, View.readCov_unit_zero (S := S2048x1536) _ hz2, View.ld_unit_zero (S := S2048x1536) hz2,
    View.ld_unit_zero (S := S768x2048) hz2, View.ld_unit_zero (S := S768x1536) hz2]
end Body

variable (m : (ℓ : Loc nD τ sig) → Buf (Elt Ideal) ℓ) (c : Dev nD)

/-- The argument arrays, and the buffer the gradient is written into. -/
abbrev A : (⟨2, ![8448, 2048]⟩ : Shape).Idx → EReal := m ((c : Thread nD τ).loc main_arg0)
abbrev B : (⟨2, ![8448, 6144]⟩ : Shape).Idx → EReal := m ((c : Thread nD τ).loc main_arg1)
abbrev Z : (⟨3, ![4, 2048, 4608]⟩ : Shape).Idx → EReal := m ((c : Thread nD τ).loc main_arg2)

/-- The two blocks at a point. -/
abbrev X (t : Fin cfg0.N) : S768x2048.Idx → EReal := iblk m c 0 t
abbrev Y (t : Fin cfg0.N) : S768x1536.Idx → EReal := iblk m c 1 t

theorem idx0 : ∀ t : Fin grid0.N, win0_0.index t 0 = t.val % 11 ∧ win0_0.index t 1 = t.val / 44 := by decide +kernel
theorem idx1 : ∀ t : Fin grid0.N, win0_1.index t 0 = t.val % 11 ∧ win0_1.index t 1 = t.val / 11 % 4 := by decide +kernel
theorem idx2' : ∀ t : Fin grid0.N, win0_2.index t 0 = t.val / 11 % 4 ∧ win0_2.index t 1 = t.val / 44 ∧ win0_2.index t 2 = 2
    ∧ (win0_2.flush t = true ↔ t.val % 11 = 10) := by decide +kernel

theorem size2 : ∀ t : Fin grid0.N, win0_2.xsize (grid0.coords t) 0 = 1 ∧ win0_2.xsize (grid0.coords t) 1 = 2048
    ∧ win0_2.xsize (grid0.coords t) 2 = 1536 := by decide +kernel

theorem lhs (t : Fin cfg0.N) (j : Fin 768) (r : Fin 2048) (h0 : 768 * (t.val % 11) + j.val < 8448) (h1 : 2048 * (t.val / 44) + r.val < 2048) :
    X m c t (ix2 j r) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * j.val = 768 * (t.val % 11) + j.val; rw [(idx0 t).1]; omega
  | ⟨1, _⟩ => show win0_0.index t 1 * 2048 + 1 * r.val = 2048 * (t.val / 44) + r.val; rw [(idx0 t).2]; omega

theorem rhs (t : Fin cfg0.N) (j : Fin 768) (k : Fin 1536) (h0 : 768 * (t.val % 11) + j.val < 8448) (h1 : 1536 * (t.val / 11 % 4) + k.val < 6144) :
    Y m c t (ix2 j k) = B m c (ix2 ⟨_, h0⟩ ⟨_, h1⟩) := by
  unfold Y iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 768 + 1 * j.val = 768 * (t.val % 11) + j.val; rw [(idx1 t).1]; omega
  | ⟨1, _⟩ => show win0_1.index t 1 * 1536 + 1 * k.val = 1536 * (t.val / 11 % 4) + k.val; rw [(idx1 t).2]; omega

/-- Point `t`'s product at one element. -/
def term (r : Fin 2048) (k : Fin 1536) (t : ℕ) (h : t < cfg0.N) : EReal :=
  ∑ j : Fin 768, X m c ⟨t, h⟩ (ix2 j r) * Y m c ⟨t, h⟩ (ix2 j k)

theorem scratch_first (r : Fin 2048) (k : Fin 1536) (t : ℕ) (h : t < cfg0.N) (h0 : t % 11 = 0) :
    (outsAt0 m c t h).2 (ix2 r k) = term m c r k t h := by
  rw [outsAt0_A m c ⟨t, h⟩ h0 (by dsimp only; omega)]
  dsimp only
  rw [sout_A, step, reset, zero_add]
  rfl

theorem scratch_next (r : Fin 2048) (k : Fin 1536) (t : ℕ) (h : t < cfg0.N) (h0 : ¬t % 11 = 0) :
    (outsAt0 m c t h).2 (ix2 r k) = (outsAt0 m c (t - 1) (by omega)).2 (ix2 r k) + term m c r k t h := by
  by_cases h1 : t % 11 = 10
  · rw [outsAt0_C m c ⟨t, h⟩ h0 h1]
    dsimp only
    rw [sout_C, step]
    rfl
  · rw [outsAt0_B m c ⟨t, h⟩ h0 h1]
    dsimp only
    rw [sout_B, step]
    rfl

/-- The product of the argument arrays at one element. -/
def prod (R : Fin 2048) (q : Fin 6144) : EReal := ∑ j : Fin 8448, A m c (ix2 j R) * B m c (ix2 j q)

theorem point (t : ℕ) (h : t < cfg0.N) (h1 : t % 11 = 10) (o : Fin 1) (r : Fin 2048) (k : Fin 1536) (R : Fin 2048) (q : Fin 6144)
    (hR : R.val = 2048 * (t / 44) + r.val) (hq : q.val = 1536 * (t / 11 % 4) + k.val) :
    (outsAt0 m c t h).1 (ix3 o r k) = prod m c R q := by
  have hN : cfg0.N = 44 := N_0
  have hw : (outsAt0 m c t h).1 (ix3 o r k) = (outsAt0 m c t h).2 (ix2 r k) := by
    rw [outsAt0_C m c ⟨t, h⟩ (by dsimp only; omega) h1]
    dsimp only
    rw [out_C, sout_C, store]
  obtain ⟨p, rfl⟩ : ∃ p, t = (10 + 1) * p + 10 := ⟨t / 11, by omega⟩
  rw [hw, restarted (fun t h => (outsAt0 m c t h).2 (ix2 r k)) (term m c r k) (scratch_first m c r k) (scratch_next m c r k) p h]
  refine blocks (by decide) (fun j => A m c (ix2 j R) * B m c (ix2 j q)) _ fun i j hij => ?_
  rw [lhs m c _ j r (by dsimp only; omega) (by dsimp only; omega), rhs m c _ j k (by dsimp only; omega) (by dsimp only; omega)]
  congr 3 <;> exact Fin.ext (by dsimp only; omega)

/-- Where a block of the buffer's share lies: inside the share's columns of the gradient. -/
theorem array_in (s : Fin 4) (R : Fin 2048) (k : Fin 1536) (hk : 3072 + k.val < 4608) (q : Fin 6144) (hq : q.val = 1536 * s.val + k.val) :
    ((dats m 0 c).arrAt 2 cfg0.N : (⟨3, ![4, 2048, 4608]⟩ : Shape).Idx → EReal) (ix3 s R ⟨3072 + k.val, hk⟩) = prod m c R q := by
  have hN : cfg0.N = 44 := N_0
  refine (dats m 0 c).arrAt_forall_of_flushed 2
    (fun i v => ∀ q : Fin 6144, q.val + 3072 = 1536 * (i 0).val + (i 2).val → v = prod m c (i 1) q) (fun t hf y => ?_) cfg0.N
    ⟨44 * (R.val / 2048) + 11 * s.val + 10, by omega⟩ (ix3 s R ⟨3072 + k.val, hk⟩) (by dsimp only; omega) ((idx2' _).2.2.2.2 (by dsimp only; omega)) ?_ q (by show q.val + 3072 = 1536 * s.val + (3072 + k.val); omega)
  · intro q hq
    have h1 := (idx2' t).2.2.2.1 hf
    obtain ⟨o, r, k, hy⟩ := idx3 ((cfg0.win 2).xinj (grid0.coords t) y)
    have e0 : o.val = (y 0).val := congrArg (fun z => (z 0).val) hy.symm
    have e1 : r.val = (y 1).val := congrArg (fun z => (z 1).val) hy.symm
    have e2 : k.val = (y 2).val := congrArg (fun z => (z 2).val) hy.symm
    rw [Value.flushed2]
    refine Eq.trans (congrArg (outsAt0 m c t.val t.isLt).1 hy) (point m c t.val t.isLt h1 o r k _ _ ?_ ?_)
    · show win0_2.index t 1 * 2048 + 1 * (y 1).val = _
      rw [(idx2' t).2.1]; omega
    · have hq' : q.val + 3072 = 1536 * (win0_2.index t 0 * 1 + 1 * (y 0).val) + (win0_2.index t 2 * 1536 + 1 * (y 2).val) := hq
      rw [(idx2' t).1, (idx2' t).2.2.1] at hq'
      omega
  · show _ ∈ ((View.whole main_v0).slice (win0_2.rect _)).set
    rw [View.set_slice_whole, Rect.mem_set_unit]
    intro a
    match a with
    | ⟨0, _⟩ => show win0_2.index _ 0 * 1 ≤ s.val ∧ s.val < win0_2.index _ 0 * 1 + win0_2.xsize _ 0; rw [(idx2' _).1, (size2 _).1]; dsimp only; omega
    | ⟨1, _⟩ => show win0_2.index _ 1 * 2048 ≤ R.val ∧ R.val < win0_2.index _ 1 * 2048 + win0_2.xsize _ 1; rw [(idx2' _).2.1, (size2 _).2.1]; dsimp only; omega
    | ⟨2, _⟩ => show win0_2.index _ 2 * 1536 ≤ 3072 + k.val ∧ 3072 + k.val < win0_2.index _ 2 * 1536 + win0_2.xsize _ 2; rw [(idx2' _).2.2.1, (size2 _).2.2]; omega

theorem array_out (s : Fin 4) (R : Fin 2048) (k : Fin 4608) (hk : k.val < 3072) :
    ((dats m 0 c).arrAt 2 cfg0.N : (⟨3, ![4, 2048, 4608]⟩ : Shape).Idx → EReal) (ix3 s R k) = Z m c (ix3 s R k) := by
  rw [Value.entry2 m c (ix3 s R k) fun t _ h => ?_]
  · show V m c main_v0 _ = _
    unfold V
    simp only [hostOps0, List.flatten_cons, List.flatten_nil, List.append_nil, List.cons_append, List.nil_append]
    after_results
    rfl
  · replace h : _ ∈ ((View.whole main_v0).slice (win0_2.rect t)).set := h
    rw [View.set_slice_whole, Rect.mem_set_unit] at h
    have h2 : win0_2.index t 2 * 1536 ≤ k.val := (h 2).1
    rw [(idx2' t).2.2.1] at h2
    omega
end Cert.Kernel8Ideal.Whole

namespace Cert.Kernel12Ideal.Whole
open Cert.Kernel12Ideal Cert.Kernel12Ideal.Gen Cert.Prod

section Body
variable (c : Dev nD) (i : grid0.Coords) (arg3 : Memref sig .tc .vmem S768x2048 .bf16) (harg3 : arg3.IsWhole) (arg4 : Memref sig .tc .vmem S768x768 .bf16) (harg4 : arg4.IsWhole) (arg6 : Memref sig .tc .vmem S1x2048x768 .bf16) (harg6 : arg6.IsWhole) (arg7 : Memref sig .tc .vmem S2048x768 .f32) (harg7 : arg7.IsWhole)
  (x0 : Vec Ideal S768x2048 .bf16) (x1 : Vec Ideal S768x768 .bf16) (acc : Vec Ideal S2048x768 .f32)

/-- One point's product, added to what the scratch held. -/
theorem step (a : Vec Ideal S2048x768 .f32) (r : Fin 2048) (k : Fin 768) :
    k0_pay2 a x1 x0 (ix2 r k) = a (ix2 r k) + ∑ j : Fin 768, x0 (ix2 j r) * x1 (ix2 j k) := by
  unfold k0_pay2
  pointwise

theorem reset (r : Fin 2048) (k : Fin 768) : k0_pay1 (F := Ideal) (ix2 r k) = 0 := by
  unfold k0_pay1
  pointwise

theorem store (a : Vec Ideal S2048x768 .f32) (o : Fin 1) (r : Fin 2048) (k : Fin 768) : k0_pay3 a (ix3 o r k) = a (ix2 r k) := by
  unfold k0_pay3
  pointwise

theorem sout_A (hc0 : cond0_0 i) (hc1 : ¬cond0_1 i) :
    sout0_A_0 c i arg3 harg3 arg4 harg4 arg6 harg6 arg7 harg7 hc0 hc1 x0 x1 = k0_pay2 (k0_pay1 (F := Ideal)) x1 x0 := by
  unfold sout0_A_0
  rw [View.read_writes_eq_canon _ _ _ (scover0_A_0 c i arg3 harg3 arg4 harg4 arg6 harg6 arg7 harg7 hc0 hc1 x0 x1)]
  unfold kernelRun0_A
  dsimp only
  sl_unfold_words
  simp only [View.readAt_eq_ld, harg3.read_unread, harg4.read_unread]
  rw [View.canon_cons_unit_zero (S := S2048x768) hz2, View.readCov_unit_zero (S := S2048x768) _ hz2,
    View.ld_unit_zero (S := S768x2048) hz2, View.ld_unit_zero (S := S768x768) hz2]

theorem sout_B (hc0 : ¬cond0_0 i) (hc1 : ¬cond0_1 i) :
    sout0_B_0 c i arg3 harg3 arg4 harg4 arg6 harg6 arg7 harg7 hc0 hc1 x0 x1 acc = k0_pay2 acc x1 x0 := by
  unfold sout0_B_0
  rw [View.read_writes_eq_canon _ _ _ (scover0_B_0 c i arg3 harg3 arg4 harg4 arg6 harg6 arg7 harg7 hc0 hc1 x0 x1 acc)]
  unfold kernelRun0_B
  dsimp only
  sl_unfold_words
  simp only [View.readAt_eq_ld, harg3.read_unread, harg4.read_unread, harg7.read_unread]
  rw [View.canon_unit_zero (S := S2048x768) hz2, View.ld_unit_zero (S := S2048x768) hz2,
    View.ld_unit_zero (S := S768x2048) hz2, View.ld_unit_zero (S := S768x768) hz2]

theorem sout_C (hc0 : ¬cond0_0 i) (hc1 : cond0_1 i) :
    sout0_C_0 c i arg3 harg3 arg4 harg4 arg6 harg6 arg7 harg7 hc0 hc1 x0 x1 acc = k0_pay2 acc x1 x0 := by
  unfold sout0_C_0
  rw [View.read_writes_eq_canon _ _ _ (scover0_C_0 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S2048x768) hz2, View.ld_unit_zero (S := S2048x768) hz2,
    View.ld_unit_zero (S := S768x2048) hz2, View.ld_unit_zero (S := S768x768) hz2]

theorem out_C (hc0 : ¬cond0_0 i) (hc1 : cond0_1 i) :
    out0_C_2 c i arg3 harg3 arg4 harg4 arg6 harg6 arg7 harg7 hc0 hc1 x0 x1 acc = k0_pay3 (k0_pay2 acc x1 x0) := by
  unfold out0_C_2
  rw [View.read_writes_eq_canon _ _ _ (cover0_C_2 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S1x2048x768) hz3, View.readCov_unit_zero (S := S2048x768) _ hz2, View.ld_unit_zero (S := S2048x768) hz2,
    View.ld_unit_zero (S := S768x2048) hz2, View.ld_unit_zero (S := S768x768) hz2]
end Body

variable (m : (ℓ : Loc nD τ sig) → Buf (Elt Ideal) ℓ) (c : Dev nD)

/-- The argument arrays, and the buffer the gradient is written into. -/
abbrev A : (⟨2, ![8448, 2048]⟩ : Shape).Idx → EReal := m ((c : Thread nD τ).loc main_arg0)
abbrev B : (⟨2, ![8448, 3072]⟩ : Shape).Idx → EReal := m ((c : Thread nD τ).loc main_arg1)
abbrev Z : (⟨3, ![4, 2048, 3840]⟩ : Shape).Idx → EReal := m ((c : Thread nD τ).loc main_arg2)

/-- The two blocks at a point. -/
abbrev X (t : Fin cfg0.N) : S768x2048.Idx → EReal := iblk m c 0 t
abbrev Y (t : Fin cfg0.N) : S768x768.Idx → EReal := iblk m c 1 t

theorem idx0 : ∀ t : Fin grid0.N, win0_0.index t 0 = t.val % 11 ∧ win0_0.index t 1 = t.val / 44 := by decide +kernel
theorem idx1 : ∀ t : Fin grid0.N, win0_1.index t 0 = t.val % 11 ∧ win0_1.index t 1 = t.val / 11 % 4 := by decide +kernel
theorem idx2' : ∀ t : Fin grid0.N, win0_2.index t 0 = t.val / 11 % 4 ∧ win0_2.index t 1 = t.val / 44 ∧ win0_2.index t 2 = 4
    ∧ (win0_2.flush t = true ↔ t.val % 11 = 10) := by decide +kernel

theorem size2 : ∀ t : Fin grid0.N, win0_2.xsize (grid0.coords t) 0 = 1 ∧ win0_2.xsize (grid0.coords t) 1 = 2048
    ∧ win0_2.xsize (grid0.coords t) 2 = 768 := by decide +kernel

theorem lhs (t : Fin cfg0.N) (j : Fin 768) (r : Fin 2048) (h0 : 768 * (t.val % 11) + j.val < 8448) (h1 : 2048 * (t.val / 44) + r.val < 2048) :
    X m c t (ix2 j r) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * j.val = 768 * (t.val % 11) + j.val; rw [(idx0 t).1]; omega
  | ⟨1, _⟩ => show win0_0.index t 1 * 2048 + 1 * r.val = 2048 * (t.val / 44) + r.val; rw [(idx0 t).2]; omega

theorem rhs (t : Fin cfg0.N) (j : Fin 768) (k : Fin 768) (h0 : 768 * (t.val % 11) + j.val < 8448) (h1 : 768 * (t.val / 11 % 4) + k.val < 3072) :
    Y m c t (ix2 j k) = B m c (ix2 ⟨_, h0⟩ ⟨_, h1⟩) := by
  unfold Y iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 768 + 1 * j.val = 768 * (t.val % 11) + j.val; rw [(idx1 t).1]; omega
  | ⟨1, _⟩ => show win0_1.index t 1 * 768 + 1 * k.val = 768 * (t.val / 11 % 4) + k.val; rw [(idx1 t).2]; omega

/-- Point `t`'s product at one element. -/
def term (r : Fin 2048) (k : Fin 768) (t : ℕ) (h : t < cfg0.N) : EReal :=
  ∑ j : Fin 768, X m c ⟨t, h⟩ (ix2 j r) * Y m c ⟨t, h⟩ (ix2 j k)

theorem scratch_first (r : Fin 2048) (k : Fin 768) (t : ℕ) (h : t < cfg0.N) (h0 : t % 11 = 0) :
    (outsAt0 m c t h).2 (ix2 r k) = term m c r k t h := by
  rw [outsAt0_A m c ⟨t, h⟩ h0 (by dsimp only; omega)]
  dsimp only
  rw [sout_A, step, reset, zero_add]
  rfl

theorem scratch_next (r : Fin 2048) (k : Fin 768) (t : ℕ) (h : t < cfg0.N) (h0 : ¬t % 11 = 0) :
    (outsAt0 m c t h).2 (ix2 r k) = (outsAt0 m c (t - 1) (by omega)).2 (ix2 r k) + term m c r k t h := by
  by_cases h1 : t % 11 = 10
  · rw [outsAt0_C m c ⟨t, h⟩ h0 h1]
    dsimp only
    rw [sout_C, step]
    rfl
  · rw [outsAt0_B m c ⟨t, h⟩ h0 h1]
    dsimp only
    rw [sout_B, step]
    rfl

/-- The product of the argument arrays at one element. -/
def prod (R : Fin 2048) (q : Fin 3072) : EReal := ∑ j : Fin 8448, A m c (ix2 j R) * B m c (ix2 j q)

theorem point (t : ℕ) (h : t < cfg0.N) (h1 : t % 11 = 10) (o : Fin 1) (r : Fin 2048) (k : Fin 768) (R : Fin 2048) (q : Fin 3072)
    (hR : R.val = 2048 * (t / 44) + r.val) (hq : q.val = 768 * (t / 11 % 4) + k.val) :
    (outsAt0 m c t h).1 (ix3 o r k) = prod m c R q := by
  have hN : cfg0.N = 44 := N_0
  have hw : (outsAt0 m c t h).1 (ix3 o r k) = (outsAt0 m c t h).2 (ix2 r k) := by
    rw [outsAt0_C m c ⟨t, h⟩ (by dsimp only; omega) h1]
    dsimp only
    rw [out_C, sout_C, store]
  obtain ⟨p, rfl⟩ : ∃ p, t = (10 + 1) * p + 10 := ⟨t / 11, by omega⟩
  rw [hw, restarted (fun t h => (outsAt0 m c t h).2 (ix2 r k)) (term m c r k) (scratch_first m c r k) (scratch_next m c r k) p h]
  refine blocks (by decide) (fun j => A m c (ix2 j R) * B m c (ix2 j q)) _ fun i j hij => ?_
  rw [lhs m c _ j r (by dsimp only; omega) (by dsimp only; omega), rhs m c _ j k (by dsimp only; omega) (by dsimp only; omega)]
  congr 3 <;> exact Fin.ext (by dsimp only; omega)

/-- Where a block of the buffer's share lies: inside the share's columns of the gradient. -/
theorem array_in (s : Fin 4) (R : Fin 2048) (k : Fin 768) (hk : 3072 + k.val < 3840) (q : Fin 3072) (hq : q.val = 768 * s.val + k.val) :
    ((dats m 0 c).arrAt 2 cfg0.N : (⟨3, ![4, 2048, 3840]⟩ : Shape).Idx → EReal) (ix3 s R ⟨3072 + k.val, hk⟩) = prod m c R q := by
  have hN : cfg0.N = 44 := N_0
  refine (dats m 0 c).arrAt_forall_of_flushed 2
    (fun i v => ∀ q : Fin 3072, q.val + 3072 = 768 * (i 0).val + (i 2).val → v = prod m c (i 1) q) (fun t hf y => ?_) cfg0.N
    ⟨44 * (R.val / 2048) + 11 * s.val + 10, by omega⟩ (ix3 s R ⟨3072 + k.val, hk⟩) (by dsimp only; omega) ((idx2' _).2.2.2.2 (by dsimp only; omega)) ?_ q (by show q.val + 3072 = 768 * s.val + (3072 + k.val); omega)
  · intro q hq
    have h1 := (idx2' t).2.2.2.1 hf
    obtain ⟨o, r, k, hy⟩ := idx3 ((cfg0.win 2).xinj (grid0.coords t) y)
    have e0 : o.val = (y 0).val := congrArg (fun z => (z 0).val) hy.symm
    have e1 : r.val = (y 1).val := congrArg (fun z => (z 1).val) hy.symm
    have e2 : k.val = (y 2).val := congrArg (fun z => (z 2).val) hy.symm
    rw [Value.flushed2]
    refine Eq.trans (congrArg (outsAt0 m c t.val t.isLt).1 hy) (point m c t.val t.isLt h1 o r k _ _ ?_ ?_)
    · show win0_2.index t 1 * 2048 + 1 * (y 1).val = _
      rw [(idx2' t).2.1]; omega
    · have hq' : q.val + 3072 = 768 * (win0_2.index t 0 * 1 + 1 * (y 0).val) + (win0_2.index t 2 * 768 + 1 * (y 2).val) := hq
      rw [(idx2' t).1, (idx2' t).2.2.1] at hq'
      omega
  · show _ ∈ ((View.whole main_v0).slice (win0_2.rect _)).set
    rw [View.set_slice_whole, Rect.mem_set_unit]
    intro a
    match a with
    | ⟨0, _⟩ => show win0_2.index _ 0 * 1 ≤ s.val ∧ s.val < win0_2.index _ 0 * 1 + win0_2.xsize _ 0; rw [(idx2' _).1, (size2 _).1]; dsimp only; omega
    | ⟨1, _⟩ => show win0_2.index _ 1 * 2048 ≤ R.val ∧ R.val < win0_2.index _ 1 * 2048 + win0_2.xsize _ 1; rw [(idx2' _).2.1, (size2 _).2.1]; dsimp only; omega
    | ⟨2, _⟩ => show win0_2.index _ 2 * 768 ≤ 3072 + k.val ∧ 3072 + k.val < win0_2.index _ 2 * 768 + win0_2.xsize _ 2; rw [(idx2' _).2.2.1, (size2 _).2.2]; omega

theorem array_out (s : Fin 4) (R : Fin 2048) (k : Fin 3840) (hk : k.val < 3072) :
    ((dats m 0 c).arrAt 2 cfg0.N : (⟨3, ![4, 2048, 3840]⟩ : Shape).Idx → EReal) (ix3 s R k) = Z m c (ix3 s R k) := by
  rw [Value.entry2 m c (ix3 s R k) fun t _ h => ?_]
  · show V m c main_v0 _ = _
    unfold V
    simp only [hostOps0, List.flatten_cons, List.flatten_nil, List.append_nil, List.cons_append, List.nil_append]
    after_results
    rfl
  · replace h : _ ∈ ((View.whole main_v0).slice (win0_2.rect t)).set := h
    rw [View.set_slice_whole, Rect.mem_set_unit] at h
    have h2 : win0_2.index t 2 * 768 ≤ k.val := (h 2).1
    rw [(idx2' t).2.2.1] at h2
    omega
end Cert.Kernel12Ideal.Whole

end
-- ==== Proof.WgtRow.lean ====
/- The gradients of the down and out products' weights, element by element: each share of the buffer gets its rows, summed
   over the eleven blocks of tokens in the scratch; the rest of the buffer stays. -/
module
public import proofs.«01_k».proof.Proof.Prod
public import proofs.«01_k».proof.Proof.Gen.Kernel9Ideal.Value
public import proofs.«01_k».proof.Proof.Gen.Kernel10Ideal.Value

@[expose] public section
set_option maxRecDepth 16384
set_option maxHeartbeats 1000000
noncomputable section
open Idealize.ShloMosaic Idealize.ShloMosaic.TcCoe Idealize.SL.Sem

namespace Cert.Kernel9Ideal.Whole
open Cert.Kernel9Ideal Cert.Kernel9Ideal.Gen Cert.Prod

section Body
variable (c : Dev nD) (i : grid0.Coords) (arg3 : Memref sig .tc .vmem S768x512 .bf16) (harg3 : arg3.IsWhole) (arg4 : Memref sig .tc .vmem S768x2048 .bf16) (harg4 : arg4.IsWhole) (arg6 : Memref sig .tc .vmem S1x512x2048 .bf16) (harg6 : arg6.IsWhole) (arg7 : Memref sig .tc .vmem S512x2048 .f32) (harg7 : arg7.IsWhole)
  (x0 : Vec Ideal S768x512 .bf16) (x1 : Vec Ideal S768x2048 .bf16) (acc : Vec Ideal S512x2048 .f32)

/-- One point's product, added to what the scratch held. -/
theorem step (a : Vec Ideal S512x2048 .f32) (r : Fin 512) (k : Fin 2048) :
    k0_pay2 a x1 x0 (ix2 r k) = a (ix2 r k) + ∑ j : Fin 768, x0 (ix2 j r) * x1 (ix2 j k) := by
  unfold k0_pay2
  pointwise

theorem reset (r : Fin 512) (k : Fin 2048) : k0_pay1 (F := Ideal) (ix2 r k) = 0 := by
  unfold k0_pay1
  pointwise

theorem store (a : Vec Ideal S512x2048 .f32) (o : Fin 1) (r : Fin 512) (k : Fin 2048) : k0_pay3 a (ix3 o r k) = a (ix2 r k) := by
  unfold k0_pay3
  pointwise

theorem sout_A (hc0 : cond0_0 i) (hc1 : ¬cond0_1 i) :
    sout0_A_0 c i arg3 harg3 arg4 harg4 arg6 harg6 arg7 harg7 hc0 hc1 x0 x1 = k0_pay2 (k0_pay1 (F := Ideal)) x1 x0 := by
  unfold sout0_A_0
  rw [View.read_writes_eq_canon _ _ _ (scover0_A_0 c i arg3 harg3 arg4 harg4 arg6 harg6 arg7 harg7 hc0 hc1 x0 x1)]
  unfold kernelRun0_A
  dsimp only
  sl_unfold_words
  simp only [View.readAt_eq_ld, harg3.read_unread, harg4.read_unread]
  rw [View.canon_cons_unit_zero (S := S512x2048) hz2, View.readCov_unit_zero (S := S512x2048) _ hz2,
    View.ld_unit_zero (S := S768x512) hz2, View.ld_unit_zero (S := S768x2048) hz2]

theorem sout_B (hc0 : ¬cond0_0 i) (hc1 : ¬cond0_1 i) :
    sout0_B_0 c i arg3 harg3 arg4 harg4 arg6 harg6 arg7 harg7 hc0 hc1 x0 x1 acc = k0_pay2 acc x1 x0 := by
  unfold sout0_B_0
  rw [View.read_writes_eq_canon _ _ _ (scover0_B_0 c i arg3 harg3 arg4 harg4 arg6 harg6 arg7 harg7 hc0 hc1 x0 x1 acc)]
  unfold kernelRun0_B
  dsimp only
  sl_unfold_words
  simp only [View.readAt_eq_ld, harg3.read_unread, harg4.read_unread, harg7.read_unread]
  rw [View.canon_unit_zero (S := S512x2048) hz2, View.ld_unit_zero (S := S512x2048) hz2,
    View.ld_unit_zero (S := S768x512) hz2, View.ld_unit_zero (S := S768x2048) hz2]

theorem sout_C (hc0 : ¬cond0_0 i) (hc1 : cond0_1 i) :
    sout0_C_0 c i arg3 harg3 arg4 harg4 arg6 harg6 arg7 harg7 hc0 hc1 x0 x1 acc = k0_pay2 acc x1 x0 := by
  unfold sout0_C_0
  rw [View.read_writes_eq_canon _ _ _ (scover0_C_0 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S512x2048) hz2, View.ld_unit_zero (S := S512x2048) hz2,
    View.ld_unit_zero (S := S768x512) hz2, View.ld_unit_zero (S := S768x2048) hz2]

theorem out_C (hc0 : ¬cond0_0 i) (hc1 : cond0_1 i) :
    out0_C_2 c i arg3 harg3 arg4 harg4 arg6 harg6 arg7 harg7 hc0 hc1 x0 x1 acc = k0_pay3 (k0_pay2 acc x1 x0) := by
  unfold out0_C_2
  rw [View.read_writes_eq_canon _ _ _ (cover0_C_2 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S1x512x2048) hz3, View.readCov_unit_zero (S := S512x2048) _ hz2, View.ld_unit_zero (S := S512x2048) hz2,
    View.ld_unit_zero (S := S768x512) hz2, View.ld_unit_zero (S := S768x2048) hz2]
end Body

variable (m : (ℓ : Loc nD τ sig) → Buf (Elt Ideal) ℓ) (c : Dev nD)

/-- The argument arrays, and the buffer the gradient is written into. -/
abbrev A : (⟨2, ![8448, 2048]⟩ : Shape).Idx → EReal := m ((c : Thread nD τ).loc main_arg0)
abbrev B : (⟨2, ![8448, 2048]⟩ : Shape).Idx → EReal := m ((c : Thread nD τ).loc main_arg1)
abbrev Z : (⟨3, ![4, 2048, 2048]⟩ : Shape).Idx → EReal := m ((c : Thread nD τ).loc main_arg2)

/-- The two blocks at a point. -/
abbrev X (t : Fin cfg0.N) : S768x512.Idx → EReal := iblk m c 0 t
abbrev Y (t : Fin cfg0.N) : S768x2048.Idx → EReal := iblk m c 1 t

theorem idx0 : ∀ t : Fin grid0.N, win0_0.index t 0 = t.val % 11 ∧ win0_0.index t 1 = t.val / 11 := by decide +kernel
theorem idx1 : ∀ t : Fin grid0.N, win0_1.index t 0 = t.val % 11 ∧ win0_1.index t 1 = 0 := by decide +kernel
theorem idx2' : ∀ t : Fin grid0.N, win0_2.index t 0 = t.val / 11 ∧ win0_2.index t 1 = 3 ∧ win0_2.index t 2 = 0
    ∧ (win0_2.flush t = true ↔ t.val % 11 = 10) := by decide +kernel

theorem size2 : ∀ t : Fin grid0.N, win0_2.xsize (grid0.coords t) 0 = 1 ∧ win0_2.xsize (grid0.coords t) 1 = 512
    ∧ win0_2.xsize (grid0.coords t) 2 = 2048 := by decide +kernel

theorem lhs (t : Fin cfg0.N) (j : Fin 768) (r : Fin 512) (h0 : 768 * (t.val % 11) + j.val < 8448) (h1 : 512 * (t.val / 11) + r.val < 2048) :
    X m c t (ix2 j r) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * j.val = 768 * (t.val % 11) + j.val; rw [(idx0 t).1]; omega
  | ⟨1, _⟩ => show win0_0.index t 1 * 512 + 1 * r.val = 512 * (t.val / 11) + r.val; rw [(idx0 t).2]; omega

theorem rhs (t : Fin cfg0.N) (j : Fin 768) (k : Fin 2048) (h0 : 768 * (t.val % 11) + j.val < 8448) :
    Y m c t (ix2 j k) = B m c (ix2 ⟨_, h0⟩ k) := by
  unfold Y iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 768 + 1 * j.val = 768 * (t.val % 11) + j.val; rw [(idx1 t).1]; omega
  | ⟨1, _⟩ => show win0_1.index t 1 * 2048 + 1 * k.val = k.val; rw [(idx1 t).2]; omega

/-- Point `t`'s product at one element. -/
def term (r : Fin 512) (k : Fin 2048) (t : ℕ) (h : t < cfg0.N) : EReal :=
  ∑ j : Fin 768, X m c ⟨t, h⟩ (ix2 j r) * Y m c ⟨t, h⟩ (ix2 j k)

theorem scratch_first (r : Fin 512) (k : Fin 2048) (t : ℕ) (h : t < cfg0.N) (h0 : t % 11 = 0) :
    (outsAt0 m c t h).2 (ix2 r k) = term m c r k t h := by
  rw [outsAt0_A m c ⟨t, h⟩ h0 (by dsimp only; omega)]
  dsimp only
  rw [sout_A, step, reset, zero_add]
  rfl

theorem scratch_next (r : Fin 512) (k : Fin 2048) (t : ℕ) (h : t < cfg0.N) (h0 : ¬t % 11 = 0) :
    (outsAt0 m c t h).2 (ix2 r k) = (outsAt0 m c (t - 1) (by omega)).2 (ix2 r k) + term m c r k t h := by
  by_cases h1 : t % 11 = 10
  · rw [outsAt0_C m c ⟨t, h⟩ h0 h1]
    dsimp only
    rw [sout_C, step]
    rfl
  · rw [outsAt0_B m c ⟨t, h⟩ h0 h1]
    dsimp only
    rw [sout_B, step]
    rfl

/-- The product of the argument arrays at one element. -/
def prod (R : Fin 2048) (q : Fin 2048) : EReal := ∑ j : Fin 8448, A m c (ix2 j R) * B m c (ix2 j q)

theorem point (t : ℕ) (h : t < cfg0.N) (h1 : t % 11 = 10) (o : Fin 1) (r : Fin 512) (k : Fin 2048) (R : Fin 2048) (q : Fin 2048)
    (hR : R.val = 512 * (t / 11) + r.val) (hq : q.val = k.val) :
    (outsAt0 m c t h).1 (ix3 o r k) = prod m c R q := by
  have hN : cfg0.N = 44 := N_0
  have hw : (outsAt0 m c t h).1 (ix3 o r k) = (outsAt0 m c t h).2 (ix2 r k) := by
    rw [outsAt0_C m c ⟨t, h⟩ (by dsimp only; omega) h1]
    dsimp only
    rw [out_C, sout_C, store]
  obtain ⟨p, rfl⟩ : ∃ p, t = (10 + 1) * p + 10 := ⟨t / 11, by omega⟩
  rw [hw, restarted (fun t h => (outsAt0 m c t h).2 (ix2 r k)) (term m c r k) (scratch_first m c r k) (scratch_next m c r k) p h]
  refine blocks (by decide) (fun j => A m c (ix2 j R) * B m c (ix2 j q)) _ fun i j hij => ?_
  rw [lhs m c _ j r (by dsimp only; omega) (by dsimp only; omega), rhs m c _ j k (by dsimp only; omega)]
  have e0 : 768 * (((10 + 1) * p + i.val) % 11) + j.val = 768 * i.val + j.val := by omega
  have e1 : 512 * (((10 + 1) * p + i.val) / 11) + r.val = R.val := by omega
  have e2 : k = q := Fin.ext hq.symm
  subst e2
  simp only [e0, e1]

/-- Where a block of the buffer's share lies: inside the share's columns of the gradient. -/
theorem array_in (s : Fin 4) (r : Fin 512) (q : Fin 2048) (hr : 1536 + r.val < 2048) (R : Fin 2048) (hR : R.val = 512 * s.val + r.val) :
    ((dats m 0 c).arrAt 2 cfg0.N : (⟨3, ![4, 2048, 2048]⟩ : Shape).Idx → EReal) (ix3 s ⟨1536 + r.val, hr⟩ q) = prod m c R q := by
  have hN : cfg0.N = 44 := N_0
  refine (dats m 0 c).arrAt_forall_of_flushed 2
    (fun i v => ∀ R : Fin 2048, R.val + 1536 = 512 * (i 0).val + (i 1).val → v = prod m c R (i 2)) (fun t hf y => ?_) cfg0.N
    ⟨11 * s.val + 10, by omega⟩ (ix3 s ⟨1536 + r.val, hr⟩ q) (by dsimp only; omega) ((idx2' _).2.2.2.2 (by dsimp only; omega)) ?_ R
    (by show R.val + 1536 = 512 * s.val + (1536 + r.val); omega)
  · intro R hR
    have h1 := (idx2' t).2.2.2.1 hf
    obtain ⟨o, r, k, hy⟩ := idx3 ((cfg0.win 2).xinj (grid0.coords t) y)
    have e0 : o.val = (y 0).val := congrArg (fun z => (z 0).val) hy.symm
    have e1 : r.val = (y 1).val := congrArg (fun z => (z 1).val) hy.symm
    have e2 : k.val = (y 2).val := congrArg (fun z => (z 2).val) hy.symm
    rw [Value.flushed2]
    refine Eq.trans (congrArg (outsAt0 m c t.val t.isLt).1 hy) (point m c t.val t.isLt h1 o r k _ _ ?_ ?_)
    · have hR' : R.val + 1536 = 512 * (win0_2.index t 0 * 1 + 1 * (y 0).val) + (win0_2.index t 1 * 512 + 1 * (y 1).val) := hR
      rw [(idx2' t).1, (idx2' t).2.1] at hR'
      omega
    · show win0_2.index t 2 * 2048 + 1 * (y 2).val = _
      rw [(idx2' t).2.2.1]; omega
  · show _ ∈ ((View.whole main_v0).slice (win0_2.rect _)).set
    rw [View.set_slice_whole, Rect.mem_set_unit]
    intro a
    match a with
    | ⟨0, _⟩ => show win0_2.index _ 0 * 1 ≤ s.val ∧ s.val < win0_2.index _ 0 * 1 + win0_2.xsize _ 0; rw [(idx2' _).1, (size2 _).1]; dsimp only; omega
    | ⟨1, _⟩ => show win0_2.index _ 1 * 512 ≤ 1536 + r.val ∧ 1536 + r.val < win0_2.index _ 1 * 512 + win0_2.xsize _ 1; rw [(idx2' _).2.1, (size2 _).2.1]; omega
    | ⟨2, _⟩ => show win0_2.index _ 2 * 2048 ≤ q.val ∧ q.val < win0_2.index _ 2 * 2048 + win0_2.xsize _ 2; rw [(idx2' _).2.2.1, (size2 _).2.2]; omega

theorem array_out (s : Fin 4) (r : Fin 2048) (q : Fin 2048) (hr : r.val < 1536) :
    ((dats m 0 c).arrAt 2 cfg0.N : (⟨3, ![4, 2048, 2048]⟩ : Shape).Idx → EReal) (ix3 s r q) = Z m c (ix3 s r q) := by
  rw [Value.entry2 m c (ix3 s r q) fun t _ h => ?_]
  · show V m c main_v0 _ = _
    unfold V
    simp only [hostOps0, List.flatten_cons, List.flatten_nil, List.append_nil, List.cons_append, List.nil_append]
    after_results
    rfl
  · replace h : _ ∈ ((View.whole main_v0).slice (win0_2.rect t)).set := h
    rw [View.set_slice_whole, Rect.mem_set_unit] at h
    have h2 : win0_2.index t 1 * 512 ≤ r.val := (h 1).1
    rw [(idx2' t).2.1] at h2
    omega
end Cert.Kernel9Ideal.Whole

namespace Cert.Kernel10Ideal.Whole
open Cert.Kernel10Ideal Cert.Kernel10Ideal.Gen Cert.Prod

section Body
variable (c : Dev nD) (i : grid0.Coords) (arg3 : Memref sig .tc .vmem S768x1408 .bf16) (harg3 : arg3.IsWhole) (arg4 : Memref sig .tc .vmem S768x2048 .bf16) (harg4 : arg4.IsWhole) (arg6 : Memref sig .tc .vmem S1x1408x2048 .bf16) (harg6 : arg6.IsWhole) (arg7 : Memref sig .tc .vmem S1408x2048 .f32) (harg7 : arg7.IsWhole)
  (x0 : Vec Ideal S768x1408 .bf16) (x1 : Vec Ideal S768x2048 .bf16) (acc : Vec Ideal S1408x2048 .f32)

/-- One point's product, added to what the scratch held. -/
theorem step (a : Vec Ideal S1408x2048 .f32) (r : Fin 1408) (k : Fin 2048) :
    k0_pay2 a x1 x0 (ix2 r k) = a (ix2 r k) + ∑ j : Fin 768, x0 (ix2 j r) * x1 (ix2 j k) := by
  unfold k0_pay2
  pointwise

theorem reset (r : Fin 1408) (k : Fin 2048) : k0_pay1 (F := Ideal) (ix2 r k) = 0 := by
  unfold k0_pay1
  pointwise

theorem store (a : Vec Ideal S1408x2048 .f32) (o : Fin 1) (r : Fin 1408) (k : Fin 2048) : k0_pay3 a (ix3 o r k) = a (ix2 r k) := by
  unfold k0_pay3
  pointwise

theorem sout_A (hc0 : cond0_0 i) (hc1 : ¬cond0_1 i) :
    sout0_A_0 c i arg3 harg3 arg4 harg4 arg6 harg6 arg7 harg7 hc0 hc1 x0 x1 = k0_pay2 (k0_pay1 (F := Ideal)) x1 x0 := by
  unfold sout0_A_0
  rw [View.read_writes_eq_canon _ _ _ (scover0_A_0 c i arg3 harg3 arg4 harg4 arg6 harg6 arg7 harg7 hc0 hc1 x0 x1)]
  unfold kernelRun0_A
  dsimp only
  sl_unfold_words
  simp only [View.readAt_eq_ld, harg3.read_unread, harg4.read_unread]
  rw [View.canon_cons_unit_zero (S := S1408x2048) hz2, View.readCov_unit_zero (S := S1408x2048) _ hz2,
    View.ld_unit_zero (S := S768x1408) hz2, View.ld_unit_zero (S := S768x2048) hz2]

theorem sout_B (hc0 : ¬cond0_0 i) (hc1 : ¬cond0_1 i) :
    sout0_B_0 c i arg3 harg3 arg4 harg4 arg6 harg6 arg7 harg7 hc0 hc1 x0 x1 acc = k0_pay2 acc x1 x0 := by
  unfold sout0_B_0
  rw [View.read_writes_eq_canon _ _ _ (scover0_B_0 c i arg3 harg3 arg4 harg4 arg6 harg6 arg7 harg7 hc0 hc1 x0 x1 acc)]
  unfold kernelRun0_B
  dsimp only
  sl_unfold_words
  simp only [View.readAt_eq_ld, harg3.read_unread, harg4.read_unread, harg7.read_unread]
  rw [View.canon_unit_zero (S := S1408x2048) hz2, View.ld_unit_zero (S := S1408x2048) hz2,
    View.ld_unit_zero (S := S768x1408) hz2, View.ld_unit_zero (S := S768x2048) hz2]

theorem sout_C (hc0 : ¬cond0_0 i) (hc1 : cond0_1 i) :
    sout0_C_0 c i arg3 harg3 arg4 harg4 arg6 harg6 arg7 harg7 hc0 hc1 x0 x1 acc = k0_pay2 acc x1 x0 := by
  unfold sout0_C_0
  rw [View.read_writes_eq_canon _ _ _ (scover0_C_0 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S1408x2048) hz2, View.ld_unit_zero (S := S1408x2048) hz2,
    View.ld_unit_zero (S := S768x1408) hz2, View.ld_unit_zero (S := S768x2048) hz2]

theorem out_C (hc0 : ¬cond0_0 i) (hc1 : cond0_1 i) :
    out0_C_2 c i arg3 harg3 arg4 harg4 arg6 harg6 arg7 harg7 hc0 hc1 x0 x1 acc = k0_pay3 (k0_pay2 acc x1 x0) := by
  unfold out0_C_2
  rw [View.read_writes_eq_canon _ _ _ (cover0_C_2 c i arg3 harg3 arg4 harg4 arg6 harg6 arg7 harg7 hc0 hc1 x0 x1 acc)]
  unfold kernelRun0_C
  dsimp only
  sl_unfold_words
  simp only [View.readAt_eq_ld, harg3.read_unread, harg4.read_unread, harg7.read_unread]
  rw [View.canon_unit_zero (S := S1x1408x2048) hz3, View.readCov_unit_zero (S := S1408x2048) _ hz2, View.ld_unit_zero (S := S1408x2048) hz2,
    View.ld_unit_zero (S := S768x1408) hz2, View.ld_unit_zero (S := S768x2048) hz2]
end Body

variable (m : (ℓ : Loc nD τ sig) → Buf (Elt Ideal) ℓ) (c : Dev nD)

/-- The argument arrays, and the buffer the gradient is written into. -/
abbrev A : (⟨2, ![8448, 5632]⟩ : Shape).Idx → EReal := m ((c : Thread nD τ).loc main_arg0)
abbrev B : (⟨2, ![8448, 2048]⟩ : Shape).Idx → EReal := m ((c : Thread nD τ).loc main_arg1)
abbrev Z : (⟨3, ![4, 2048, 2048]⟩ : Shape).Idx → EReal := m ((c : Thread nD τ).loc main_arg2)

/-- The two blocks at a point. -/
abbrev X (t : Fin cfg0.N) : S768x1408.Idx → EReal := iblk m c 0 t
abbrev Y (t : Fin cfg0.N) : S768x2048.Idx → EReal := iblk m c 1 t

theorem idx0 : ∀ t : Fin grid0.N, win0_0.index t 0 = t.val % 11 ∧ win0_0.index t 1 = t.val / 11 := by decide +kernel
theorem idx1 : ∀ t : Fin grid0.N, win0_1.index t 0 = t.val % 11 ∧ win0_1.index t 1 = 0 := by decide +kernel
theorem idx2' : ∀ t : Fin grid0.N, win0_2.index t 0 = t.val / 11 ∧ win0_2.index t 1 = 0 ∧ win0_2.index t 2 = 0
    ∧ (win0_2.flush t = true ↔ t.val % 11 = 10) := by decide +kernel

theorem size2 : ∀ t : Fin grid0.N, win0_2.xsize (grid0.coords t) 0 = 1 ∧ win0_2.xsize (grid0.coords t) 1 = 1408
    ∧ win0_2.xsize (grid0.coords t) 2 = 2048 := by decide +kernel

theorem lhs (t : Fin cfg0.N) (j : Fin 768) (r : Fin 1408) (h0 : 768 * (t.val % 11) + j.val < 8448) (h1 : 1408 * (t.val / 11) + r.val < 5632) :
    X m c t (ix2 j r) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * j.val = 768 * (t.val % 11) + j.val; rw [(idx0 t).1]; omega
  | ⟨1, _⟩ => show win0_0.index t 1 * 1408 + 1 * r.val = 1408 * (t.val / 11) + r.val; rw [(idx0 t).2]; omega

theorem rhs (t : Fin cfg0.N) (j : Fin 768) (k : Fin 2048) (h0 : 768 * (t.val % 11) + j.val < 8448) :
    Y m c t (ix2 j k) = B m c (ix2 ⟨_, h0⟩ k) := by
  unfold Y iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 768 + 1 * j.val = 768 * (t.val % 11) + j.val; rw [(idx1 t).1]; omega
  | ⟨1, _⟩ => show win0_1.index t 1 * 2048 + 1 * k.val = k.val; rw [(idx1 t).2]; omega

/-- Point `t`'s product at one element. -/
def term (r : Fin 1408) (k : Fin 2048) (t : ℕ) (h : t < cfg0.N) : EReal :=
  ∑ j : Fin 768, X m c ⟨t, h⟩ (ix2 j r) * Y m c ⟨t, h⟩ (ix2 j k)

theorem scratch_first (r : Fin 1408) (k : Fin 2048) (t : ℕ) (h : t < cfg0.N) (h0 : t % 11 = 0) :
    (outsAt0 m c t h).2 (ix2 r k) = term m c r k t h := by
  rw [outsAt0_A m c ⟨t, h⟩ h0 (by dsimp only; omega)]
  dsimp only
  rw [sout_A, step, reset, zero_add]
  rfl

theorem scratch_next (r : Fin 1408) (k : Fin 2048) (t : ℕ) (h : t < cfg0.N) (h0 : ¬t % 11 = 0) :
    (outsAt0 m c t h).2 (ix2 r k) = (outsAt0 m c (t - 1) (by omega)).2 (ix2 r k) + term m c r k t h := by
  by_cases h1 : t % 11 = 10
  · rw [outsAt0_C m c ⟨t, h⟩ h0 h1]
    dsimp only
    rw [sout_C, step]
    rfl
  · rw [outsAt0_B m c ⟨t, h⟩ h0 h1]
    dsimp only
    rw [sout_B, step]
    rfl

/-- The product of the argument arrays at one element. -/
def prod (R : Fin 5632) (q : Fin 2048) : EReal := ∑ j : Fin 8448, A m c (ix2 j R) * B m c (ix2 j q)

theorem point (t : ℕ) (h : t < cfg0.N) (h1 : t % 11 = 10) (o : Fin 1) (r : Fin 1408) (k : Fin 2048) (R : Fin 5632) (q : Fin 2048)
    (hR : R.val = 1408 * (t / 11) + r.val) (hq : q.val = k.val) :
    (outsAt0 m c t h).1 (ix3 o r k) = prod m c R q := by
  have hN : cfg0.N = 44 := N_0
  have hw : (outsAt0 m c t h).1 (ix3 o r k) = (outsAt0 m c t h).2 (ix2 r k) := by
    rw [outsAt0_C m c ⟨t, h⟩ (by dsimp only; omega) h1]
    dsimp only
    rw [out_C, sout_C, store]
  obtain ⟨p, rfl⟩ : ∃ p, t = (10 + 1) * p + 10 := ⟨t / 11, by omega⟩
  rw [hw, restarted (fun t h => (outsAt0 m c t h).2 (ix2 r k)) (term m c r k) (scratch_first m c r k) (scratch_next m c r k) p h]
  refine blocks (by decide) (fun j => A m c (ix2 j R) * B m c (ix2 j q)) _ fun i j hij => ?_
  rw [lhs m c _ j r (by dsimp only; omega) (by dsimp only; omega), rhs m c _ j k (by dsimp only; omega)]
  have e0 : 768 * (((10 + 1) * p + i.val) % 11) + j.val = 768 * i.val + j.val := by omega
  have e1 : 1408 * (((10 + 1) * p + i.val) / 11) + r.val = R.val := by omega
  have e2 : k = q := Fin.ext hq.symm
  subst e2
  simp only [e0, e1]

/-- Where a block of the buffer's share lies: inside the share's columns of the gradient. -/
theorem array_in (s : Fin 4) (r : Fin 1408) (q : Fin 2048) (hr : r.val < 2048) (R : Fin 5632) (hR : R.val = 1408 * s.val + r.val) :
    ((dats m 0 c).arrAt 2 cfg0.N : (⟨3, ![4, 2048, 2048]⟩ : Shape).Idx → EReal) (ix3 s ⟨r.val, hr⟩ q) = prod m c R q := by
  have hN : cfg0.N = 44 := N_0
  refine (dats m 0 c).arrAt_forall_of_flushed 2
    (fun i v => ∀ R : Fin 5632, R.val = 1408 * (i 0).val + (i 1).val → v = prod m c R (i 2)) (fun t hf y => ?_) cfg0.N
    ⟨11 * s.val + 10, by omega⟩ (ix3 s ⟨r.val, hr⟩ q) (by dsimp only; omega) ((idx2' _).2.2.2.2 (by dsimp only; omega)) ?_ R
    (by show R.val = 1408 * s.val + (r.val); omega)
  · intro R hR
    have h1 := (idx2' t).2.2.2.1 hf
    obtain ⟨o, r, k, hy⟩ := idx3 ((cfg0.win 2).xinj (grid0.coords t) y)
    have e0 : o.val = (y 0).val := congrArg (fun z => (z 0).val) hy.symm
    have e1 : r.val = (y 1).val := congrArg (fun z => (z 1).val) hy.symm
    have e2 : k.val = (y 2).val := congrArg (fun z => (z 2).val) hy.symm
    rw [Value.flushed2]
    refine Eq.trans (congrArg (outsAt0 m c t.val t.isLt).1 hy) (point m c t.val t.isLt h1 o r k _ _ ?_ ?_)
    · have hR' : R.val = 1408 * (win0_2.index t 0 * 1 + 1 * (y 0).val) + (win0_2.index t 1 * 1408 + 1 * (y 1).val) := hR
      rw [(idx2' t).1, (idx2' t).2.1] at hR'
      omega
    · show win0_2.index t 2 * 2048 + 1 * (y 2).val = _
      rw [(idx2' t).2.2.1]; omega
  · show _ ∈ ((View.whole main_v0).slice (win0_2.rect _)).set
    rw [View.set_slice_whole, Rect.mem_set_unit]
    intro a
    match a with
    | ⟨0, _⟩ => show win0_2.index _ 0 * 1 ≤ s.val ∧ s.val < win0_2.index _ 0 * 1 + win0_2.xsize _ 0; rw [(idx2' _).1, (size2 _).1]; dsimp only; omega
    | ⟨1, _⟩ => show win0_2.index _ 1 * 1408 ≤ r.val ∧ r.val < win0_2.index _ 1 * 1408 + win0_2.xsize _ 1; rw [(idx2' _).2.1, (size2 _).2.1]; omega
    | ⟨2, _⟩ => show win0_2.index _ 2 * 2048 ≤ q.val ∧ q.val < win0_2.index _ 2 * 2048 + win0_2.xsize _ 2; rw [(idx2' _).2.2.1, (size2 _).2.2]; omega

theorem array_out (s : Fin 4) (r : Fin 2048) (q : Fin 2048) (hr : 1408 ≤ r.val) :
    ((dats m 0 c).arrAt 2 cfg0.N : (⟨3, ![4, 2048, 2048]⟩ : Shape).Idx → EReal) (ix3 s r q) = Z m c (ix3 s r q) := by
  rw [Value.entry2 m c (ix3 s r q) fun t _ h => ?_]
  · show V m c main_v0 _ = _
    unfold V
    simp only [hostOps0, List.flatten_cons, List.flatten_nil, List.append_nil, List.cons_append, List.nil_append]
    after_results
    rfl
  · replace h : _ ∈ ((View.whole main_v0).slice (win0_2.rect t)).set := h
    rw [View.set_slice_whole, Rect.mem_set_unit] at h
    have h2 : r.val < win0_2.index t 1 * 1408 + win0_2.xsize (grid0.coords t) 1 := (h 1).2
    rw [(idx2' t).2.1, (size2 t).2.1] at h2
    omega
end Cert.Kernel10Ideal.Whole

end
-- ==== Proof.Equal3.lean ====
/- The weights' gradients are equal arrays: each kernel and its reference read at every index of the buffer. -/
module
public import proofs.«01_k».proof.Proof.Wgt
public import proofs.«01_k».proof.Proof.WgtRow
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference12Ideal.Run
public import proofs.«01_k».proof.Defs

@[expose] public section
set_option maxRecDepth 16384
noncomputable section
open Idealize.ShloMosaic Idealize.ShloMosaic.TcCoe Idealize.SL.Sem
namespace Cert.ProductEqual

theorem frame7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ?_) (Cert.Reference7Ideal.Value.run m' g')
  obtain ⟨e0, e1, e2⟩ := hargs c
  refine ⟨(h c).1.trans (funext fun i => ?_), (h c).2⟩
  rw [e0, e1, e2]
  obtain ⟨s, R, k, rfl⟩ := Cert.Prod.idx3 i
  by_cases hk : k.val < 2816
  · refine Eq.trans ?_ (Cert.Kernel7Ideal.Whole.array_in m c s R ⟨k.val, hk⟩ k.isLt ⟨2816 * s.val + k.val, by omega⟩ rfl).symm
    pointwise
    rw [dif_pos hk]
    exact Cert.Prod.swapped (Cert.Kernel7Ideal.Whole.A m c) (Cert.Kernel7Ideal.Whole.B m c) _ _ _ _ (by dsimp only; omega) rfl
  · refine Eq.trans ?_ (Cert.Kernel7Ideal.Whole.array_out m c s R k (by omega)).symm
    pointwise
    rw [dif_neg hk]
    exact congrArg (fun k => Cert.Kernel7Ideal.Whole.Z m c (ix3 s R k)) (Fin.ext (by dsimp only; omega))

theorem frame8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨e0, e1, e2⟩ := hargs c
  refine ⟨(h c).1.trans (funext fun i => ?_), (h c).2⟩
  rw [e0, e1, e2]
  obtain ⟨s, R, k, rfl⟩ := Cert.Prod.idx3 i
  by_cases hk : k.val < 3072
  · refine Eq.trans ?_ (Cert.Kernel8Ideal.Whole.array_out m c s R k hk).symm
    pointwise
    rw [dif_pos hk]
  · obtain ⟨k, h, rfl⟩ : ∃ (l : ℕ) (h : 3072 + l < 4608), k = ⟨3072 + l, h⟩ := ⟨k.val - 3072, by omega, Fin.ext (by dsimp only; omega)⟩
    refine Eq.trans ?_ (Cert.Kernel8Ideal.Whole.array_in m c s R ⟨k, by omega⟩ h ⟨1536 * s.val + k, by omega⟩ rfl).symm
    pointwise
    exact Cert.Prod.swapped (Cert.Kernel8Ideal.Whole.A m c) (Cert.Kernel8Ideal.Whole.B m c) _ _ _ _ (by dsimp only; omega) rfl

theorem frame9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run m ρ)

theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨e0, e1, e2⟩ := hargs c
  refine ⟨(h c).1.trans (funext fun i => ?_), (h c).2⟩
  rw [e0, e1, e2]
  obtain ⟨s, r, q, rfl⟩ := Cert.Prod.idx3 i
  by_cases hr : r.val < 1536
  · refine Eq.trans ?_ (Cert.Kernel9Ideal.Whole.array_out m c s r q hr).symm
    pointwise
    rw [dif_pos hr]
  · obtain ⟨k, h, rfl⟩ : ∃ (k : ℕ) (h : 1536 + k < 2048), r = ⟨1536 + k, h⟩ := ⟨r.val - 1536, by omega, Fin.ext (by dsimp only; omega)⟩
    refine Eq.trans ?_ (Cert.Kernel9Ideal.Whole.array_in m c s ⟨k, by omega⟩ q h ⟨512 * s.val + k, by omega⟩ rfl).symm
    pointwise
    exact Cert.Prod.swapped (Cert.Kernel9Ideal.Whole.A m c) (Cert.Kernel9Ideal.Whole.B m c) _ _ _ _ rfl (by dsimp only; omega)

theorem frame10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run m ρ)

theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ?_) (Cert.Reference10Ideal.Value.run m' g')
  obtain ⟨e0, e1, e2⟩ := hargs c
  refine ⟨(h c).1.trans (funext fun i => ?_), (h c).2⟩
  rw [e0, e1, e2]
  obtain ⟨s, r, q, rfl⟩ := Cert.Prod.idx3 i
  by_cases hr : r.val < 1408
  · refine Eq.trans ?_ (Cert.Kernel10Ideal.Whole.array_in m c s ⟨r.val, hr⟩ q r.isLt ⟨1408 * s.val + r.val, by omega⟩ rfl).symm
    pointwise
    rw [dif_pos hr]
    exact Cert.Prod.swapped (Cert.Kernel10Ideal.Whole.A m c) (Cert.Kernel10Ideal.Whole.B m c) _ _ _ _ rfl (by dsimp only; omega)
  · refine Eq.trans ?_ (Cert.Kernel10Ideal.Whole.array_out m c s r q (by omega)).symm
    pointwise
    rw [dif_neg hr]
    exact congrArg (fun r => Cert.Kernel10Ideal.Whole.Z m c (ix3 s r q)) (Fin.ext (by dsimp only; omega))

theorem frame12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run m ρ)

theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (Cert.Reference12Ideal.Value.run m' g')
  obtain ⟨e0, e1, e2⟩ := hargs c
  refine ⟨(h c).1.trans (funext fun i => ?_), (h c).2⟩
  rw [e0, e1, e2]
  obtain ⟨s, R, k, rfl⟩ := Cert.Prod.idx3 i
  by_cases hk : k.val < 3072
  · refine Eq.trans ?_ (Cert.Kernel12Ideal.Whole.array_out m c s R k hk).symm
    pointwise
    rw [dif_pos hk]
  · obtain ⟨k, h, rfl⟩ : ∃ (l : ℕ) (h : 3072 + l < 3840), k = ⟨3072 + l, h⟩ := ⟨k.val - 3072, by omega, Fin.ext (by dsimp only; omega)⟩
    refine Eq.trans ?_ (Cert.Kernel12Ideal.Whole.array_in m c s R ⟨k, by omega⟩ h ⟨768 * s.val + k, by omega⟩ rfl).symm
    pointwise
    exact Cert.Prod.swapped (Cert.Kernel12Ideal.Whole.A m c) (Cert.Kernel12Ideal.Whole.B m c) _ _ _ _ (by dsimp only; omega) rfl

end Cert.ProductEqual
end
-- ==== Proof.Res.lean ====
/- The two products that a gate adds to the residual stream, element by element: a row block of the argument times a column
   block of the packed weights' rows, each row of the product scaled by the gate of its part of the sequence (the first 256
   rows have one gate, the rest the other) and added to the residual; the second result is the product itself. -/
module
public import proofs.«01_k».proof.Proof.Pack
public import proofs.«01_k».proof.Proof.Gen.Kernel16Ideal.Value
public import proofs.«01_k».proof.Proof.Gen.Kernel17Ideal.Value

@[expose] public section
set_option maxRecDepth 16384
set_option maxHeartbeats 1000000
noncomputable section
open Idealize.ShloMosaic Idealize.ShloMosaic.TcCoe Idealize.SL.Sem

namespace Cert.Prod

/-- Whether a row of a block of 1056 is one of the first 256 rows, as the call compares it. -/
theorem first_rows : ∀ (n : Fin 8) (r : Fin 1056),
    (BitVec.ofNat 32 n.val * 1056#32 + BitVec.ofNat 32 r.val).slt 256#32 = decide (1056 * n.val + r.val < 256) := by
  decide +kernel

theorem chosen (n : Fin 8) (r : Fin 1056) (a b : EReal) :
    Scalar.select (IntOp.cmpi .slt (IntOp.addi (Scalar.muli (BitVec.ofNat 32 n.val) 1056#32) (BitVec.ofNat 32 r.val)) 256#32) a b
      = if 1056 * n.val + r.val < 256 then a else b := by
  show Scalar.select (BitVec.ofBool ((BitVec.ofNat 32 n.val * 1056#32 + BitVec.ofNat 32 r.val).slt 256#32)) a b = _
  rw [first_rows n r]
  by_cases h : 1056 * n.val + r.val < 256
  · rw [if_pos h, decide_eq_true h]
    rfl
  · rw [if_neg h, decide_eq_false h]
    rfl

end Cert.Prod

namespace Cert.Kernel16Ideal.Whole
open Cert.Kernel16Ideal Cert.Kernel16Ideal.Gen Cert.Prod

section Body
variable (i : grid0.Coords) (x0 : Vec Ideal S1056x2048 .bf16) (x1 : Vec Ideal S4x512x1024 .bf16) (x2 : Vec Ideal S1056x1024 .f32) (x3 : Vec Ideal S2x8x1024 .f32)

theorem step (r : Fin 1056) (k : Fin 1024) :
    k0_pay1 x1 x0 (ix2 r k) = ∑ j : Fin 2048, x0 (ix2 r j) * x1 (ix3 ⟨j.val / 512, by omega⟩ ⟨j.val % 512, by omega⟩ k) := by
  unfold k0_pay1
  pointwise

theorem gate (n : Fin 8) (hn : (i 0).val = n.val) (g h : Vec Ideal S1x1x1024 .f32) (r : Fin 1056) (k : Fin 1024) :
    k0_pay2 i x1 x0 g h x2 (ix2 r k) = x2 (ix2 r k) + (if 1056 * n.val + r.val < 256 then g (ix3 0 0 k) else h (ix3 0 0 k)) * k0_pay1 x1 x0 (ix2 r k) := by
  unfold k0_pay2
  rw [hn]
  pointwise
  rw [chosen]

theorem out4 : out0_4 i x0 x1 x2 x3 = k0_pay2 i x1 x0 (View.ld x3 r0_2) (View.ld x3 r0_3) x2 := by
  unfold out0_4
  rw [View.canon_unit_zero (S := S1056x1024) hz2, View.ld_unit_zero (S := S1056x2048) hz2, View.ld_unit_zero (S := S4x512x1024) hz3,
    View.ld_unit_zero (S := S1056x1024) hz2]

theorem out5 : out0_5 i x0 x1 x2 x3 = k0_pay3 x1 x0 := by
  unfold out0_5
  rw [View.canon_unit_zero (S := S1056x1024) hz2, View.ld_unit_zero (S := S1056x2048) hz2, View.ld_unit_zero (S := S4x512x1024) hz3]

theorem first (k : Fin 1024) : View.ld x3 r0_2 (ix3 0 0 k) = x3 (ix3 0 2 k) :=
  congrArg x3 (funext fun a => Fin.ext (match a with
    | ⟨0, _⟩ => rfl
    | ⟨1, _⟩ => rfl
    | ⟨2, _⟩ => by show 0 + 1 * k.val = k.val; omega))
theorem second (k : Fin 1024) : View.ld x3 r0_3 (ix3 0 0 k) = x3 (ix3 1 2 k) :=
  congrArg x3 (funext fun a => Fin.ext (match a with
    | ⟨0, _⟩ => rfl
    | ⟨1, _⟩ => rfl
    | ⟨2, _⟩ => by show 0 + 1 * k.val = k.val; omega))
end Body

variable (m : (ℓ : Loc nD τ sig) → Buf (Elt Ideal) ℓ) (c : Dev nD)

/-- The argument arrays. -/
abbrev A : (⟨2, ![8448, 2048]⟩ : Shape).Idx → EReal := m ((c : Thread nD τ).loc main_arg0)
abbrev W : (⟨2, ![2048, 2048]⟩ : Shape).Idx → EReal := m ((c : Thread nD τ).loc main_arg2)
abbrev R0 : (⟨2, ![8448, 2048]⟩ : Shape).Idx → EReal := m ((c : Thread nD τ).loc main_arg3)
abbrev G : (⟨3, ![2, 8, 2048]⟩ : Shape).Idx → EReal := m ((c : Thread nD τ).loc main_arg4)

/-- The four blocks at a point. -/
abbrev X (t : Fin cfg0.N) : S1056x2048.Idx → EReal := iblk m c 0 t
abbrev Y (t : Fin cfg0.N) : S4x512x1024.Idx → EReal := iblk m c 1 t
abbrev Z (t : Fin cfg0.N) : S1056x1024.Idx → EReal := iblk m c 2 t
abbrev M (t : Fin cfg0.N) : S2x8x1024.Idx → EReal := iblk m c 3 t

theorem idx0 : ∀ t : Fin grid0.N, win0_0.index t 0 = t.val / 2 ∧ win0_0.index t 1 = 0 := by decide +kernel
theorem idx1 : ∀ t : Fin grid0.N, win0_1.index t 0 = 0 ∧ win0_1.index t 1 = 3 ∧ win0_1.index t 2 = t.val % 2 := by decide +kernel
theorem idx2' : ∀ t : Fin grid0.N, win0_2.index t 0 = t.val / 2 ∧ win0_2.index t 1 = t.val % 2 := by decide +kernel
theorem idx3' : ∀ t : Fin grid0.N, win0_3.index t 0 = 0 ∧ win0_3.index t 1 = 0 ∧ win0_3.index t 2 = t.val % 2 := by decide +kernel
theorem idx4 : ∀ t : Fin grid0.N, win0_4.index t 0 = t.val / 2 ∧ win0_4.index t 1 = t.val % 2 ∧ win0_4.flush t = true := by decide +kernel
theorem idx5 : ∀ t : Fin grid0.N, win0_5.index t 0 = t.val / 2 ∧ win0_5.index t 1 = t.val % 2 ∧ win0_5.flush t = true := by decide +kernel
theorem row_block : ∀ t : Fin grid0.N, (grid0.coords t 0).val = t.val / 2 := by decide +kernel

theorem lhs (t : Fin cfg0.N) (r : Fin 1056) (j : Fin 2048) (h0 : 1056 * (t.val / 2) + r.val < 8448) :
    X m c t (ix2 r j) = A m c (ix2 ⟨_, h0⟩ j) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1056 + 1 * r.val = 1056 * (t.val / 2) + r.val; rw [(idx0 t).1]; omega
  | ⟨1, _⟩ => show win0_0.index t 1 * 2048 + 1 * j.val = j.val; rw [(idx0 t).2]; omega

theorem packed : V m c main_v4 = Kernel3Ideal.Pack.rows (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (s : Fin 4) (k : Fin 512) (q : Fin 1024) (h : 512 * s.val + k.val < 2048) (hq : 1024 * (t.val % 2) + q.val < 2048) :
    Y m c t (ix3 s k q) = W m c (ix2 ⟨_, h⟩ ⟨_, hq⟩) := by
  unfold Y iblk
  rw [View.read_apply]
  show V m c main_v4 _ = _
  rw [packed]
  refine Eq.trans (congrArg (Kernel3Ideal.Pack.rows _ _) (funext fun a => Fin.ext ?_)) (Kernel3Ideal.Pack.rows_out _ _ s k ⟨_, hq⟩ (by omega) h)
  match a with
  | ⟨0, _⟩ => show win0_1.index t 0 * 4 + 1 * s.val = s.val; rw [(idx1 t).1]; omega
  | ⟨1, _⟩ => show win0_1.index t 1 * 512 + 1 * k.val = 1536 + k.val; rw [(idx1 t).2.1]; omega
  | ⟨2, _⟩ => show win0_1.index t 2 * 1024 + 1 * q.val = 1024 * (t.val % 2) + q.val; rw [(idx1 t).2.2]; omega

theorem residual (t : Fin cfg0.N) (r : Fin 1056) (k : Fin 1024) (hR : 1056 * (t.val / 2) + r.val < 8448) (hq : 1024 * (t.val % 2) + k.val < 2048) :
    Z m c t (ix2 r k) = R0 m c (ix2 ⟨_, hR⟩ ⟨_, hq⟩) := by
  unfold Z iblk
  rw [View.read_apply]
  show V m c main_arg3 _ = _
  rw [V_main_arg3]
  refine congrArg (m ((c : Thread nD τ).loc main_arg3)) (funext fun a => Fin.ext ?_)
  match a with
  | ⟨0, _⟩ => show win0_2.index t 0 * 1056 + 1 * r.val = 1056 * (t.val / 2) + r.val; rw [(idx2' t).1]; omega
  | ⟨1, _⟩ => show win0_2.index t 1 * 1024 + 1 * k.val = 1024 * (t.val % 2) + k.val; rw [(idx2' t).2]; omega

theorem gates (t : Fin cfg0.N) (b : Fin 2) (g : Fin 8) (k : Fin 1024) (hq : 1024 * (t.val % 2) + k.val < 2048) :
    M m c t (ix3 b g k) = G m c (ix3 b g ⟨_, hq⟩) := by
  unfold M iblk
  rw [View.read_apply]
  show V m c main_arg4 _ = _
  rw [V_main_arg4]
  refine congrArg (m ((c : Thread nD τ).loc main_arg4)) (funext fun a => Fin.ext ?_)
  match a with
  | ⟨0, _⟩ => show win0_3.index t 0 * 2 + 1 * b.val = b.val; rw [(idx3' t).1]; omega
  | ⟨1, _⟩ => show win0_3.index t 1 * 8 + 1 * g.val = g.val; rw [(idx3' t).2.1]; omega
  | ⟨2, _⟩ => show win0_3.index t 2 * 1024 + 1 * k.val = 1024 * (t.val % 2) + k.val; rw [(idx3' t).2.2]; omega

/-- The product of the argument arrays at one element. -/
def prod (R : Fin 8448) (q : Fin 2048) : EReal := ∑ j : Fin 2048, A m c (ix2 R j) * W m c (ix2 j q)

/-- The residual with the gated product added, at one element. -/
def gated (R : Fin 8448) (q : Fin 2048) : EReal :=
  R0 m c (ix2 R q) + (if R.val < 256 then G m c (ix3 0 2 q) else G m c (ix3 1 2 q)) * prod m c R q

theorem product (t : Fin cfg0.N) (r : Fin 1056) (k : Fin 1024) (hR : 1056 * (t.val / 2) + r.val < 8448) (hq : 1024 * (t.val % 2) + k.val < 2048) :
    k0_pay1 (F := Ideal) (Y m c t) (X m c t) (ix2 r k) = prod m c ⟨_, hR⟩ ⟨_, hq⟩ := by
  rw [step]
  refine Finset.sum_congr rfl fun j _ => ?_
  rw [lhs m c t r j hR, rhs m c t _ _ k (by dsimp only; omega) hq]
  congr 3
  exact Fin.ext (by dsimp only; omega)

theorem point4 (t : Fin cfg0.N) (r : Fin 1056) (k : Fin 1024) (hR : 1056 * (t.val / 2) + r.val < 8448) (hq : 1024 * (t.val % 2) + k.val < 2048) :
    ((dats m 0 c).flushed 4 t : S1056x1024.Idx → EReal) (ix2 r k) = gated m c ⟨_, hR⟩ ⟨_, hq⟩ := by
  have hN : cfg0.N = 16 := N_0
  have ht := t.isLt
  rw [Value.flushed4]
  show out0_4 (F := Ideal) (grid0.coords t) (X m c t) (Y m c t) (Z m c t) (M m c t) (ix2 r k) = _
  rw [out4, gate _ _ _ _ ⟨t.val / 2, by omega⟩ (row_block t), first, second, product m c t r k hR hq, residual m c t r k hR hq, gates m c t 0 2 k hq, gates m c t 1 2 k hq]
  rfl

theorem point5 (t : Fin cfg0.N) (r : Fin 1056) (k : Fin 1024) (hR : 1056 * (t.val / 2) + r.val < 8448) (hq : 1024 * (t.val % 2) + k.val < 2048) :
    ((dats m 0 c).flushed 5 t : S1056x1024.Idx → EReal) (ix2 r k) = prod m c ⟨_, hR⟩ ⟨_, hq⟩ := by
  rw [Value.flushed5]
  show out0_5 (F := Ideal) (grid0.coords t) (X m c t) (Y m c t) (Z m c t) (M m c t) (ix2 r k) = _
  rw [out5]
  exact product m c t r k hR hq

theorem array4 (R : Fin 8448) (q : Fin 2048) :
    ((dats m 0 c).arrAt 4 cfg0.N : (⟨2, ![8448, 2048]⟩ : Shape).Idx → EReal) (ix2 R q) = gated m c R q := by
  have hN : cfg0.N = 16 := N_0
  refine (dats m 0 c).arrAt_forall_of_flushed 4 (fun i v => v = gated m c (i 0) (i 1)) (fun t _ y => ?_) cfg0.N
    ⟨2 * (R.val / 1056) + q.val / 1024, by omega⟩ (ix2 R q) (by dsimp only; omega) (idx4 _).2.2 ?_
  · obtain ⟨r, k, rfl⟩ := idx2 y
    have ht : t.val < 16 := t.isLt.trans_eq hN
    have hr : win0_4.index t 0 * 1056 + 1 * r.val = 1056 * (t.val / 2) + r.val := by rw [(idx4 t).1]; omega
    have hk : win0_4.index t 1 * 1024 + 1 * k.val = 1024 * (t.val % 2) + k.val := by rw [(idx4 t).2.1]; omega
    exact (point4 m c t r k (by omega) (by omega)).trans (congrArg₂ (gated m c) (Fin.ext hr.symm) (Fin.ext hk.symm))
  · show _ ∈ ((View.whole main_v5_0).slice (win0_4.rect _)).set
    rw [View.set_slice_whole, Rect.mem_set_unit]
    intro a
    match a with
    | ⟨0, _⟩ => show win0_4.index _ 0 * 1056 ≤ R.val ∧ R.val < win0_4.index _ 0 * 1056 + 1056; rw [(idx4 _).1]; dsimp only; omega
    | ⟨1, _⟩ => show win0_4.index _ 1 * 1024 ≤ q.val ∧ q.val < win0_4.index _ 1 * 1024 + 1024; rw [(idx4 _).2.1]; dsimp only; omega

theorem array5 (R : Fin 8448) (q : Fin 2048) :
    ((dats m 0 c).arrAt 5 cfg0.N : (⟨2, ![8448, 2048]⟩ : Shape).Idx → EReal) (ix2 R q) = prod m c R q := by
  have hN : cfg0.N = 16 := N_0
  refine (dats m 0 c).arrAt_forall_of_flushed 5 (fun i v => v = prod m c (i 0) (i 1)) (fun t _ y => ?_) cfg0.N
    ⟨2 * (R.val / 1056) + q.val / 1024, by omega⟩ (ix2 R q) (by dsimp only; omega) (idx5 _).2.2 ?_
  · obtain ⟨r, k, rfl⟩ := idx2 y
    have ht : t.val < 16 := t.isLt.trans_eq hN
    have hr : win0_5.index t 0 * 1056 + 1 * r.val = 1056 * (t.val / 2) + r.val := by rw [(idx5 t).1]; omega
    have hk : win0_5.index t 1 * 1024 + 1 * k.val = 1024 * (t.val % 2) + k.val := by rw [(idx5 t).2.1]; omega
    exact (point5 m c t r k (by omega) (by omega)).trans (congrArg₂ (prod m c) (Fin.ext hr.symm) (Fin.ext hk.symm))
  · show _ ∈ ((View.whole main_v5_1).slice (win0_5.rect _)).set
    rw [View.set_slice_whole, Rect.mem_set_unit]
    intro a
    match a with
    | ⟨0, _⟩ => show win0_5.index _ 0 * 1056 ≤ R.val ∧ R.val < win0_5.index _ 0 * 1056 + 1056; rw [(idx5 _).1]; dsimp only; omega
    | ⟨1, _⟩ => show win0_5.index _ 1 * 1024 ≤ q.val ∧ q.val < win0_5.index _ 1 * 1024 + 1024; rw [(idx5 _).2.1]; dsimp only; omega

end Cert.Kernel16Ideal.Whole

namespace Cert.Kernel17Ideal.Whole
open Cert.Kernel17Ideal Cert.Kernel17Ideal.Gen Cert.Prod

section Body
variable (c : Dev nD) (i : grid0.Coords) (arg3 : Memref sig .tc .vmem S1056x2816 .bf16) (harg3 : arg3.IsWhole) (arg4 : Memref sig .tc .vmem S2x1408x1024 .bf16) (harg4 : arg4.IsWhole) (arg5 : Memref sig .tc .vmem S1056x1024 .f32) (harg5 : arg5.IsWhole) (arg6 : Memref sig .tc .vmem S2x8x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1056x1024 .f32) (harg9 : arg9.IsWhole)
  (x0 : Vec Ideal S1056x2816 .bf16) (x1 : Vec Ideal S2x1408x1024 .bf16) (x2 : Vec Ideal S1056x1024 .f32) (x3 : Vec Ideal S2x8x1024 .f32) (acc : Vec Ideal S1056x1024 .f32)

/-- One point's product, added to what the scratch held. -/
theorem step (a : Vec Ideal S1056x1024 .f32) (r : Fin 1056) (k : Fin 1024) :
    k0_pay2 a x1 x0 (ix2 r k) = a (ix2 r k) + ∑ j : Fin 2816, x0 (ix2 r j) * x1 (ix3 ⟨j.val / 1408, by omega⟩ ⟨j.val % 1408, by omega⟩ k) := by
  unfold k0_pay2
  pointwise

theorem reset (r : Fin 1056) (k : Fin 1024) : k0_pay1 (F := Ideal) (ix2 r k) = 0 := by
  unfold k0_pay1
  pointwise

theorem gate (n : Fin 8) (hn : (i 0).val = n.val) (a : Vec Ideal S1056x1024 .f32) (g h : Vec Ideal S1x1x1024 .f32) (r : Fin 1056) (k : Fin 1024) :
    k0_pay3 i a g h x2 (ix2 r k) = x2 (ix2 r k) + (if 1056 * n.val + r.val < 256 then g (ix3 0 0 k) else h (ix3 0 0 k)) * a (ix2 r k) := by
  unfold k0_pay3
  rw [hn]
  pointwise
  rw [chosen]

/-- The two gates' rows of the modulation's block. -/
abbrev g0 : Rect S2x8x1024 := Rect.unit (s := S2x8x1024) ![0, 5, 0] S1x1x1024.size inb_S2x8x1024_S1x1x1024_0_5_0
abbrev g1 : Rect S2x8x1024 := Rect.unit (s := S2x8x1024) ![1, 5, 0] S1x1x1024.size inb_S2x8x1024_S1x1x1024_1_5_0

theorem first (k : Fin 1024) : View.ld x3 g0 (ix3 0 0 k) = x3 (ix3 0 5 k) :=
  congrArg x3 (funext fun a => Fin.ext (match a with
    | ⟨0, _⟩ => rfl
    | ⟨1, _⟩ => rfl
    | ⟨2, _⟩ => by show 0 + 1 * k.val = k.val; omega))
theorem second (k : Fin 1024) : View.ld x3 g1 (ix3 0 0 k) = x3 (ix3 1 5 k) :=
  congrArg x3 (funext fun a => Fin.ext (match a with
    | ⟨0, _⟩ => rfl
    | ⟨1, _⟩ => rfl
    | ⟨2, _⟩ => by show 0 + 1 * k.val = k.val; omega))

theorem sout_A (hc0 : cond0_0 i) (hc1 : ¬cond0_1 i) :
    sout0_A_0 c i arg3 harg3 arg4 harg4 arg5 harg5 arg6 harg6 arg7 harg7 arg8 harg8 arg9 harg9 hc0 hc1 x0 x1 x2 x3 = k0_pay2 (k0_pay1 (F := Ideal)) x1 x0 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  simp only [View.readAt_eq_ld, harg3.read_unread, harg4.read_unread]
  rw [View.canon_cons_unit_zero (S := S1056x1024) hz2, View.readCov_unit_zero (S := S1056x1024) _ hz2,
    View.ld_unit_zero (S := S1056x2816) hz2, View.ld_unit_zero (S := S2x1408x1024) hz3]

theorem sout_B (hc0 : ¬cond0_0 i) (hc1 : cond0_1 i) :
    sout0_B_0 c i arg3 harg3 arg4 harg4 arg5 harg5 arg6 harg6 arg7 harg7 arg8 harg8 arg9 harg9 hc0 hc1 x0 x1 x2 x3 acc = k0_pay2 acc x1 x0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 acc)]
  unfold kernelRun0_B
  dsimp only
  sl_unfold_words
  simp only [View.readAt_eq_ld, harg3.read_unread, harg4.read_unread, harg9.read_unread]
  rw [View.canon_unit_zero (S := S1056x1024) hz2, View.ld_unit_zero (S := S1056x1024) hz2,
    View.ld_unit_zero (S := S1056x2816) hz2, View.ld_unit_zero (S := S2x1408x1024) hz3]

theorem out_B4 (hc0 : ¬cond0_0 i) (hc1 : cond0_1 i) :
    out0_B_4 c i arg3 harg3 arg4 harg4 arg5 harg5 arg6 harg6 arg7 harg7 arg8 harg8 arg9 harg9 hc0 hc1 x0 x1 x2 x3 acc = k0_pay3 i (k0_pay2 acc x1 x0) (View.ld x3 g0) (View.ld x3 g1) x2 := by
  unfold out0_B_4
  rw [View.read_writes_eq_canon _ _ _ (cover0_B_4 c i arg3 harg3 arg4 harg4 arg5 harg5 arg6 harg6 arg7 harg7 arg8 harg8 arg9 harg9 hc0 hc1 x0 x1 x2 x3 acc)]
  unfold kernelRun0_B
  dsimp only
  sl_unfold_words
  simp only [View.readAt_eq_ld, harg3.read_unread, harg4.read_unread, harg5.read_unread, harg6.read_unread, harg9.read_unread]
  rw [View.canon_unit_zero (S := S1056x1024) hz2, View.readCov_unit_zero (S := S1056x1024) _ hz2, View.ld_unit_zero (S := S1056x1024) hz2,
    View.ld_unit_zero (S := S1056x2816) hz2, View.ld_unit_zero (S := S2x1408x1024) hz3, View.ld_unit_zero (S := S1056x1024) hz2]

theorem out_B5 (hc0 : ¬cond0_0 i) (hc1 : cond0_1 i) :
    out0_B_5 c i arg3 harg3 arg4 harg4 arg5 harg5 arg6 harg6 arg7 harg7 arg8 harg8 arg9 harg9 hc0 hc1 x0 x1 x2 x3 acc = k0_pay4 (k0_pay2 acc x1 x0) := by
  unfold out0_B_5
  rw [View.read_writes_eq_canon _ _ _ (cover0_B_5 c i arg3 harg3 arg4 harg4 arg5 harg5 arg6 harg6 arg7 harg7 arg8 harg8 arg9 harg9 hc0 hc1 x0 x1 x2 x3 acc)]
  unfold kernelRun0_B
  dsimp only
  sl_unfold_words
  simp only [View.readAt_eq_ld, harg3.read_unread, harg4.read_unread, harg9.read_unread]
  rw [View.canon_unit_zero (S := S1056x1024) hz2, View.readCov_unit_zero (S := S1056x1024) _ hz2, View.ld_unit_zero (S := S1056x1024) hz2,
    View.ld_unit_zero (S := S1056x2816) hz2, View.ld_unit_zero (S := S2x1408x1024) hz3]
end Body

variable (m : (ℓ : Loc nD τ sig) → Buf (Elt Ideal) ℓ) (c : Dev nD)

/-- The argument arrays. -/
abbrev A : (⟨2, ![8448, 5632]⟩ : Shape).Idx → EReal := m ((c : Thread nD τ).loc main_arg0)
abbrev W : (⟨2, ![5632, 2048]⟩ : Shape).Idx → EReal := m ((c : Thread nD τ).loc main_arg1)
abbrev R0 : (⟨2, ![8448, 2048]⟩ : Shape).Idx → EReal := m ((c : Thread nD τ).loc main_arg3)
abbrev G : (⟨3, ![2, 8, 2048]⟩ : Shape).Idx → EReal := m ((c : Thread nD τ).loc main_arg4)

/-- The four blocks at a point. -/
abbrev X (t : Fin cfg0.N) : S1056x2816.Idx → EReal := iblk m c 0 t
abbrev Y (t : Fin cfg0.N) : S2x1408x1024.Idx → EReal := X0_1 m c t
abbrev Z (t : Fin cfg0.N) : S1056x1024.Idx → EReal := iblk m c 2 t
abbrev M (t : Fin cfg0.N) : S2x8x1024.Idx → EReal := iblk m c 3 t

theorem idx0 : ∀ t : Fin grid0.N, win0_0.index t 0 = t.val / 4 ∧ win0_0.index t 1 = t.val % 2 := by decide +kernel
theorem idx1 : ∀ t : Fin grid0.N, win0_1.index t 0 = t.val % 2 ∧ win0_1.index t 1 = 0 ∧ win0_1.index t 2 = t.val / 2 % 2 := by decide +kernel
theorem idx2' : ∀ t : Fin grid0.N, win0_2.index t 0 = t.val / 4 ∧ win0_2.index t 1 = t.val / 2 % 2 := by decide +kernel
theorem idx3' : ∀ t : Fin grid0.N, win0_3.index t 0 = 0 ∧ win0_3.index t 1 = 0 ∧ win0_3.index t 2 = t.val / 2 % 2 := by decide +kernel
theorem idx4 : ∀ t : Fin grid0.N, win0_4.index t 0 = t.val / 4 ∧ win0_4.index t 1 = t.val / 2 % 2 ∧ True := by decide +kernel
theorem idx5 : ∀ t : Fin grid0.N, win0_5.index t 0 = t.val / 4 ∧ win0_5.index t 1 = t.val / 2 % 2 ∧ True := by decide +kernel
theorem flush4 : ∀ t : Fin grid0.N, win0_4.flush t = true ↔ t.val % 2 = 1 := by decide +kernel
theorem flush5 : ∀ t : Fin grid0.N, win0_5.flush t = true ↔ t.val % 2 = 1 := by decide +kernel
theorem row_block : ∀ t : Fin grid0.N, (grid0.coords t 0).val = t.val / 4 := by decide +kernel

theorem lhs (t : Fin cfg0.N) (r : Fin 1056) (j : Fin 2816) (h0 : 1056 * (t.val / 4) + r.val < 8448) (h1 : 2816 * (t.val % 2) + j.val < 5632) :
    X m c t (ix2 r j) = A m c (ix2 ⟨_, h0⟩ ⟨_, h1⟩) := by
  unfold X iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1056 + 1 * r.val = 1056 * (t.val / 4) + r.val; rw [(idx0 t).1]; omega
  | ⟨1, _⟩ => show win0_0.index t 1 * 2816 + 1 * j.val = 2816 * (t.val % 2) + j.val; rw [(idx0 t).2]; omega

theorem packed : V m c main_v4 = Kernel3Ideal.Pack.rows (m ((c : Thread nD τ).loc main_arg1)) (m ((c : Thread nD τ).loc main_arg2)) := by
  unfold V
  simp only [hostOps0, List.flatten_cons, List.flatten_nil, List.append_nil, List.cons_append, List.nil_append]
  after_results
  rfl

theorem rhs (t : Fin cfg0.N) (s : Fin 2) (k : Fin 1408) (q : Fin 1024) (h : 1408 * (2 * (t.val % 2) + s.val) + k.val < 5632)
    (hq : 1024 * (t.val / 2 % 2) + q.val < 2048) : Y m c t (ix3 s k q) = W m c (ix2 ⟨_, h⟩ ⟨_, hq⟩) := by
  unfold Y X0_1
  rw [Pipeline.Window.fill, dif_pos (moved0_1 t _)]
  unfold iblk
  rw [View.read_apply]
  show V m c main_v4 _ = _
  rw [packed]
  refine Eq.trans (congrArg (Kernel3Ideal.Pack.rows _ _) (funext fun a => Fin.ext ?_)) (Kernel3Ideal.Pack.rows_down _ _ ⟨2 * (t.val % 2) + s.val, by omega⟩ k ⟨_, hq⟩ (by omega) h)
  match a with
  | ⟨0, _⟩ => show win0_1.index t 0 * 2 + 1 * s.val = 2 * (t.val % 2) + s.val; rw [(idx1 t).1]; omega
  | ⟨1, _⟩ => show win0_1.index t 1 * 1408 + 1 * k.val = k.val; rw [(idx1 t).2.1]; omega
  | ⟨2, _⟩ => show win0_1.index t 2 * 1024 + 1 * q.val = 1024 * (t.val / 2 % 2) + q.val; rw [(idx1 t).2.2]; omega

theorem residual (t : Fin cfg0.N) (r : Fin 1056) (k : Fin 1024) (hR : 1056 * (t.val / 4) + r.val < 8448) (hq : 1024 * (t.val / 2 % 2) + k.val < 2048) :
    Z m c t (ix2 r k) = R0 m c (ix2 ⟨_, hR⟩ ⟨_, hq⟩) := by
  unfold Z iblk
  rw [View.read_apply]
  show V m c main_arg3 _ = _
  rw [V_main_arg3]
  refine congrArg (m ((c : Thread nD τ).loc main_arg3)) (funext fun a => Fin.ext ?_)
  match a with
  | ⟨0, _⟩ => show win0_2.index t 0 * 1056 + 1 * r.val = 1056 * (t.val / 4) + r.val; rw [(idx2' t).1]; omega
  | ⟨1, _⟩ => show win0_2.index t 1 * 1024 + 1 * k.val = 1024 * (t.val / 2 % 2) + k.val; rw [(idx2' t).2]; omega

theorem gates (t : Fin cfg0.N) (b : Fin 2) (g : Fin 8) (k : Fin 1024) (hq : 1024 * (t.val / 2 % 2) + k.val < 2048) :
    M m c t (ix3 b g k) = G m c (ix3 b g ⟨_, hq⟩) := by
  unfold M iblk
  rw [View.read_apply]
  show V m c main_arg4 _ = _
  rw [V_main_arg4]
  refine congrArg (m ((c : Thread nD τ).loc main_arg4)) (funext fun a => Fin.ext ?_)
  match a with
  | ⟨0, _⟩ => show win0_3.index t 0 * 2 + 1 * b.val = b.val; rw [(idx3' t).1]; omega
  | ⟨1, _⟩ => show win0_3.index t 1 * 8 + 1 * g.val = g.val; rw [(idx3' t).2.1]; omega
  | ⟨2, _⟩ => show win0_3.index t 2 * 1024 + 1 * k.val = 1024 * (t.val / 2 % 2) + k.val; rw [(idx3' t).2.2]; omega

/-- Point `t`'s product at one element. -/
def term (r : Fin 1056) (k : Fin 1024) (t : ℕ) (h : t < cfg0.N) : EReal :=
  ∑ j : Fin 2816, X m c ⟨t, h⟩ (ix2 r j) * Y m c ⟨t, h⟩ (ix3 ⟨j.val / 1408, by omega⟩ ⟨j.val % 1408, by omega⟩ k)

theorem scratch_first (r : Fin 1056) (k : Fin 1024) (t : ℕ) (h : t < cfg0.N) (h0 : t % 2 = 0) :
    (outsAt0 m c t h).2.2 (ix2 r k) = term m c r k t h := by
  rw [outsAt0_A m c ⟨t, h⟩ h0 (by dsimp only; omega)]
  dsimp only
  rw [sout_A, step, reset, zero_add]
  rfl

theorem scratch_next (r : Fin 1056) (k : Fin 1024) (t : ℕ) (h : t < cfg0.N) (h0 : ¬t % 2 = 0) :
    (outsAt0 m c t h).2.2 (ix2 r k) = (outsAt0 m c (t - 1) (by omega)).2.2 (ix2 r k) + term m c r k t h := by
  rw [outsAt0_B m c ⟨t, h⟩ h0 (by dsimp only; omega)]
  dsimp only
  rw [sout_B, step]
  rfl

/-- The product of the argument arrays at one element. -/
def prod (R : Fin 8448) (q : Fin 2048) : EReal := ∑ j : Fin 5632, A m c (ix2 R j) * W m c (ix2 j q)

/-- The residual with the gated product added, at one element. -/
def gated (R : Fin 8448) (q : Fin 2048) : EReal :=
  R0 m c (ix2 R q) + (if R.val < 256 then G m c (ix3 0 5 q) else G m c (ix3 1 5 q)) * prod m c R q

/-- What the scratch holds after the second point of a pair: the product. -/
theorem product (t : Fin cfg0.N) (h1 : t.val % 2 = 1) (r : Fin 1056) (k : Fin 1024) (hR : 1056 * (t.val / 4) + r.val < 8448)
    (hq : 1024 * (t.val / 2 % 2) + k.val < 2048) : (outsAt0 m c t.val t.isLt).2.2 (ix2 r k) = prod m c ⟨_, hR⟩ ⟨_, hq⟩ := by
  obtain ⟨t, ht⟩ := t
  dsimp only at h1 hR hq ⊢
  obtain ⟨p, rfl⟩ : ∃ p, t = (1 + 1) * p + 1 := ⟨t / 2, by omega⟩
  rw [restarted (fun t h => (outsAt0 m c t h).2.2 (ix2 r k)) (term m c r k) (scratch_first m c r k) (scratch_next m c r k) p ht]
  refine blocks (by decide) (fun j => A m c (ix2 ⟨_, hR⟩ j) * W m c (ix2 j ⟨_, hq⟩)) _ fun i j hij => ?_
  have e0 : ((1 + 1) * p + i.val) / 4 = ((1 + 1) * p + 1) / 4 := by omega
  have e1 : ((1 + 1) * p + i.val) % 2 = i.val := by omega
  have e2 : ((1 + 1) * p + i.val) / 2 % 2 = ((1 + 1) * p + 1) / 2 % 2 := by omega
  have e3 : 1408 * (2 * i.val + j.val / 1408) + j.val % 1408 = 2816 * i.val + j.val := by omega
  rw [lhs m c _ r j (by dsimp only; omega) (by dsimp only; omega), rhs m c _ _ _ k (by dsimp only; omega) (by dsimp only; omega)]
  simp only [e0, e1, e2, e3]

theorem point4 (t : Fin cfg0.N) (h1 : t.val % 2 = 1) (r : Fin 1056) (k : Fin 1024) (hR : 1056 * (t.val / 4) + r.val < 8448) (hq : 1024 * (t.val / 2 % 2) + k.val < 2048) :
    ((dats m 0 c).flushed 4 t : S1056x1024.Idx → EReal) (ix2 r k) = gated m c ⟨_, hR⟩ ⟨_, hq⟩ := by
  have hN : cfg0.N = 32 := N_0
  have ht := t.isLt
  have h := product m c t h1 r k hR hq
  rw [outsAt0_B m c t (by omega) h1] at h
  dsimp only at h
  rw [sout_B] at h
  rw [Value.flushed4_B m c t (by omega) h1]
  show out0_B_4 (F := Ideal) _ _ _ _ _ _ _ _ _ _ _ _ _ _ _ _ _ _ (X m c t) (Y m c t) (Z m c t) (M m c t) _ (ix2 r k) = _
  rw [out_B4, gate _ _ ⟨t.val / 4, by omega⟩ (row_block t), h, first, second, residual m c t r k hR hq, gates m c t 0 5 k hq, gates m c t 1 5 k hq]
  rfl

theorem point5 (t : Fin cfg0.N) (h1 : t.val % 2 = 1) (r : Fin 1056) (k : Fin 1024) (hR : 1056 * (t.val / 4) + r.val < 8448) (hq : 1024 * (t.val / 2 % 2) + k.val < 2048) :
    ((dats m 0 c).flushed 5 t : S1056x1024.Idx → EReal) (ix2 r k) = prod m c ⟨_, hR⟩ ⟨_, hq⟩ := by
  have h := product m c t h1 r k hR hq
  rw [outsAt0_B m c t (by omega) h1] at h
  dsimp only at h
  rw [sout_B] at h
  rw [Value.flushed5_B m c t (by omega) h1]
  show out0_B_5 (F := Ideal) _ _ _ _ _ _ _ _ _ _ _ _ _ _ _ _ _ _ (X m c t) (Y m c t) (Z m c t) (M m c t) _ (ix2 r k) = _
  rw [out_B5]
  exact h

theorem array4 (R : Fin 8448) (q : Fin 2048) :
    ((dats m 0 c).arrAt 4 cfg0.N : (⟨2, ![8448, 2048]⟩ : Shape).Idx → EReal) (ix2 R q) = gated m c R q := by
  have hN : cfg0.N = 32 := N_0
  refine (dats m 0 c).arrAt_forall_of_flushed 4 (fun i v => v = gated m c (i 0) (i 1)) (fun t hf y => ?_) cfg0.N
    ⟨4 * (R.val / 1056) + 2 * (q.val / 1024) + 1, by omega⟩ (ix2 R q) (by dsimp only; omega) ((flush4 _).2 (by dsimp only; omega)) ?_
  · obtain ⟨r, k, rfl⟩ := idx2 y
    have ht : t.val < 32 := t.isLt.trans_eq hN
    have hr : win0_4.index t 0 * 1056 + 1 * r.val = 1056 * (t.val / 4) + r.val := by rw [(idx4 t).1]; omega
    have hk : win0_4.index t 1 * 1024 + 1 * k.val = 1024 * (t.val / 2 % 2) + k.val := by rw [(idx4 t).2.1]; omega
    exact (point4 m c t ((flush4 t).1 hf) r k (by omega) (by omega)).trans (congrArg₂ (gated m c) (Fin.ext hr.symm) (Fin.ext hk.symm))
  · show _ ∈ ((View.whole main_v5_0).slice (win0_4.rect _)).set
    rw [View.set_slice_whole, Rect.mem_set_unit]
    intro a
    match a with
    | ⟨0, _⟩ => show win0_4.index _ 0 * 1056 ≤ R.val ∧ R.val < win0_4.index _ 0 * 1056 + 1056; rw [(idx4 _).1]; dsimp only; omega
    | ⟨1, _⟩ => show win0_4.index _ 1 * 1024 ≤ q.val ∧ q.val < win0_4.index _ 1 * 1024 + 1024; rw [(idx4 _).2.1]; dsimp only; omega

theorem array5 (R : Fin 8448) (q : Fin 2048) :
    ((dats m 0 c).arrAt 5 cfg0.N : (⟨2, ![8448, 2048]⟩ : Shape).Idx → EReal) (ix2 R q) = prod m c R q := by
  have hN : cfg0.N = 32 := N_0
  refine (dats m 0 c).arrAt_forall_of_flushed 5 (fun i v => v = prod m c (i 0) (i 1)) (fun t hf y => ?_) cfg0.N
    ⟨4 * (R.val / 1056) + 2 * (q.val / 1024) + 1, by omega⟩ (ix2 R q) (by dsimp only; omega) ((flush5 _).2 (by dsimp only; omega)) ?_
  · obtain ⟨r, k, rfl⟩ := idx2 y
    have ht : t.val < 32 := t.isLt.trans_eq hN
    have hr : win0_5.index t 0 * 1056 + 1 * r.val = 1056 * (t.val / 4) + r.val := by rw [(idx5 t).1]; omega
    have hk : win0_5.index t 1 * 1024 + 1 * k.val = 1024 * (t.val / 2 % 2) + k.val := by rw [(idx5 t).2.1]; omega
    exact (point5 m c t ((flush5 t).1 hf) r k (by omega) (by omega)).trans (congrArg₂ (prod m c) (Fin.ext hr.symm) (Fin.ext hk.symm))
  · show _ ∈ ((View.whole main_v5_1).slice (win0_5.rect _)).set
    rw [View.set_slice_whole, Rect.mem_set_unit]
    intro a
    match a with
    | ⟨0, _⟩ => show win0_5.index _ 0 * 1056 ≤ R.val ∧ R.val < win0_5.index _ 0 * 1056 + 1056; rw [(idx5 _).1]; dsimp only; omega
    | ⟨1, _⟩ => show win0_5.index _ 1 * 1024 ≤ q.val ∧ q.val < win0_5.index _ 1 * 1024 + 1024; rw [(idx5 _).2.1]; dsimp only; omega

end Cert.Kernel17Ideal.Whole
end
-- ==== Proof.Equal4.lean ====
/- The two gated products are equal arrays: each kernel and its reference read at every index of both result buffers. -/
module
public import proofs.«01_k».proof.Proof.Res
public import proofs.«01_k».proof.Proof.Gen.Reference16Ideal.Run
public import proofs.«01_k».proof.Proof.Gen.Reference17Ideal.Run
public import proofs.«01_k».proof.Defs

@[expose] public section
set_option maxRecDepth 16384
noncomputable section
open Idealize.ShloMosaic Idealize.ShloMosaic.TcCoe Idealize.SL.Sem
namespace Cert.ProductEqual

theorem frame16 : Cert.quiescent_Reference16Ideal (hReference16Ideal := Cert.Reference16Ideal.Gen.facts) := fun m ρ _ =>
  (θ_run Cert.Reference16Ideal.defs _ _).mono (fun r h => ⟨fun c => (h c).2.2, sem_eq_zero_of_no_sems (by decide) r.2⟩)
    (Cert.Reference16Ideal.Value.run m ρ)

theorem algebraic16 : Cert.algebraic_Kernel16Ideal_Reference16Ideal (hKernel16Ideal := Cert.Kernel16Ideal.Gen.facts)
    (hReference16Ideal := Cert.Reference16Ideal.Gen.facts) := by
  intro m g m' g' _ hargs
  refine ⟨fun c => (Cert.Kernel16Ideal.Gen.dats m 0 c).arrAt 4 Cert.Kernel16Ideal.cfg0.N,
    fun c => (Cert.Kernel16Ideal.Gen.dats m 0 c).arrAt 5 Cert.Kernel16Ideal.cfg0.N, Cert.Kernel16Ideal.Value.run_blocks m g, ?_⟩
  refine (θ_run Cert.Reference16Ideal.defs _ _).mono (fun r h c => ?_) (Cert.Reference16Ideal.Value.run m' g')
  obtain ⟨e0, e1, e2, e3, e4⟩ := hargs c
  refine ⟨(h c).1.trans (funext fun i => ?_), (h c).2.1.trans (funext fun i => ?_), (h c).2.2⟩
  · obtain ⟨R, q, rfl⟩ := Cert.Prod.idx2 i
    refine Eq.trans ?_ (Cert.Kernel16Ideal.Whole.array4 m c R q).symm
    rw [e0, e2, e3, e4]
    unfold Cert.Kernel16Ideal.Whole.gated Cert.Kernel16Ideal.Whole.prod
    by_cases hR : R.val < 256
    · rw [if_pos hR]
      pointwise
      rw [dif_pos hR]
    · rw [if_neg hR]
      pointwise
      rw [dif_neg hR]
      have e : (⟨256 + (R.val - 256), by omega⟩ : Fin 8448) = R := Fin.ext (by dsimp only; omega)
      simp only [e]
  · obtain ⟨R, q, rfl⟩ := Cert.Prod.idx2 i
    refine Eq.trans ?_ (Cert.Kernel16Ideal.Whole.array5 m c R q).symm
    rw [e0, e2]
    pointwise
    rfl

theorem frame17 : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩)
    (Cert.Reference17Ideal.Value.run m ρ)

theorem algebraic17 : Cert.algebraic_Kernel17Ideal_Reference17Ideal (hKernel17Ideal := Cert.Kernel17Ideal.Gen.facts)
    (hReference17Ideal := Cert.Reference17Ideal.Gen.facts) := by
  intro m g m' g' _ hargs
  refine ⟨fun c => (Cert.Kernel17Ideal.Gen.dats m 0 c).arrAt 4 Cert.Kernel17Ideal.cfg0.N,
    fun c => (Cert.Kernel17Ideal.Gen.dats m 0 c).arrAt 5 Cert.Kernel17Ideal.cfg0.N, Cert.Kernel17Ideal.Value.run_blocks m g, ?_⟩
  refine (θ_run Cert.Reference17Ideal.defs _ _).mono (fun r h c => ?_) (Cert.Reference17Ideal.Value.run m' g')
  obtain ⟨e0, e1, e2, e3, e4⟩ := hargs c
  refine ⟨(h c).1.trans (funext fun i => ?_), (h c).2.1.trans (funext fun i => ?_), (h c).2.2⟩
  · obtain ⟨R, q, rfl⟩ := Cert.Prod.idx2 i
    refine Eq.trans ?_ (Cert.Kernel17Ideal.Whole.array4 m c R q).symm
    rw [e0, e1, e3, e4]
    unfold Cert.Kernel17Ideal.Whole.gated Cert.Kernel17Ideal.Whole.prod
    by_cases hR : R.val < 256
    · rw [if_pos hR]
      pointwise
      rw [dif_pos hR]
    · rw [if_neg hR]
      pointwise
      rw [dif_neg hR]
      have e : (⟨256 + (R.val - 256), by omega⟩ : Fin 8448) = R := Fin.ext (by dsimp only; omega)
      simp only [e]
  · obtain ⟨R, q, rfl⟩ := Cert.Prod.idx2 i
    refine Eq.trans ?_ (Cert.Kernel17Ideal.Whole.array5 m c R q).symm
    rw [e0, e1]
    pointwise
    rfl

end Cert.ProductEqual
end
-- ==== Proof.Adam.lean ====
/- The optimiser's step of one element, and what it takes to read a block of it: the step as a function of the gradient, the
   weight and the two moments, on blocks that the call reads through a shape without the leading axis. -/
module
public import Idealize.ShloMosaic.Lib.Pointwise
public import Idealize.ShloMosaic.Lib.Pipeline.Value

@[expose] public section
noncomputable section
open Idealize.ShloMosaic Idealize.ShloMosaic.TcCoe Idealize.SL.Sem

namespace Cert.Adam

/-- The first moment after the step: 0.9 m + 0.1 g. -/
def newM (g m : EReal) : EReal := Ideal.ofBits .f32 0x3F666666#32 * m + Ideal.ofBits .f32 0x3DCCCCCD#32 * g

/-- The second moment after the step: 0.999 v + 0.001 g². -/
def newV (g v : EReal) : EReal := Ideal.ofBits .f32 0x3F7FBE77#32 * v + Ideal.ofBits .f32 0x3A83126F#32 * (g * g)

/-- The step: the moments corrected for their start, their quotient, and the decay of the weight, times the rate. -/
def delta (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- A function of one element, applied to blocks through another shape and brought back, is applied to each element. -/
theorem back {S T : Shape} (h : S.ShapeCasts T) (h' : T.ShapeCasts S) (φ : EReal → EReal → EReal → EReal → EReal)
    (a b c d : S.Idx → EReal) :
    shapeCast S (fun z => φ (shapeCast T a h z) (shapeCast T b h z) (shapeCast T c h z) (shapeCast T d h z)) h'
      = fun y => φ (a y) (b y) (c y) (d y) := by
  funext y
  show φ (shapeCast S (shapeCast T a h) h' y) (shapeCast S (shapeCast T b h) h' y) (shapeCast S (shapeCast T c h) h' y) (shapeCast S (shapeCast T d h) h' y) = _
  rw [shapeCast_shapeCast, shapeCast_shapeCast, shapeCast_shapeCast, shapeCast_shapeCast]

/-- The four arrays that a step leaves, of the arrays that it takes: the gradient itself, the step and the two moments. -/
structure Stepped {S : Shape} (g w m v go d mo vo : S.Idx → EReal) : Prop where
  gradient : go = g
  step : d = fun i => delta (g i) (w i) (m i) (v i)
  first : mo = fun i => newM (g i) (m i)
  second : vo = fun i => newV (g i) (v i)

/-- The step determines its four arrays. -/
theorem Stepped.unique {S : Shape} {g w m v a b c d a' b' c' d' : S.Idx → EReal} (h : Stepped g w m v a b c d)
    (h' : Stepped g w m v a' b' c' d') : a = a' ∧ b = b' ∧ c = c' ∧ d = d' :=
  ⟨h.gradient.trans h'.gradient.symm, h.step.trans h'.step.symm, h.first.trans h'.first.symm, h.second.trans h'.second.symm⟩

/-- The step of a block, through another shape and back. -/
theorem through {S T : Shape} (h : S.ShapeCasts T) (h' : T.ShapeCasts S) (g w m v : S.Idx → EReal) :
    Stepped g w m v (shapeCast S (shapeCast T g h) h')
      (shapeCast S (fun z => delta (shapeCast T g h z) (shapeCast T w h z) (shapeCast T m h z) (shapeCast T v h z)) h')
      (shapeCast S (fun z => newM (shapeCast T g h z) (shapeCast T m h z)) h')
      (shapeCast S (fun z => newV (shapeCast T g h z) (shapeCast T v h z)) h') :=
  ⟨back h h' (fun g _ _ _ => g) g w m v, back h h' delta g w m v, back h h' (fun g _ m _ => newM g m) g w m v,
    back h h' (fun g _ _ v => newV g v) g w m v⟩

/-- Every index lies in the block at the origin that is as large as the array. -/
theorem within {n : ℕ} (at' size : Fin n → ℕ) (h : ∀ a, at' a = 0) (i : (⟨n, size⟩ : Shape).Idx) :
    ∀ a, at' a * size a ≤ (i a).val ∧ (i a).val < at' a * size a + size a := fun a => by
  rw [h a]
  exact ⟨by omega, by have := (i a).isLt; show (i a).val < 0 * size a + size a; rw [Nat.zero_mul, Nat.zero_add]; exact this⟩

end Cert.Adam
end
-- ==== Proof.AdamWeights.lean ====
/- The optimiser's step on the five large weights: each call's blocks cover its arrays, so the four results are the step of every
   element, and the reference's arrays are the same functions of the arguments. -/
module
public import proofs.«01_k».proof.Proof.Adam
public import proofs.«01_k».proof.Proof.Prod
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Defs

@[expose] public section
set_option maxRecDepth 16384
noncomputable section
open Idealize.ShloMosaic Idealize.ShloMosaic.TcCoe Idealize.SL.Sem

namespace Cert.Kernel18Ideal.Whole
open Cert.Kernel18Ideal Cert.Kernel18Ideal.Gen
variable (m : (ℓ : Loc nD τ sig) → Buf (Elt Ideal) ℓ) (c : Dev nD)

theorem outs (g w m v : S1x512x768.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x512x768) Prod.hz3, View.ld_unit_zero (S := S1x512x768) Prod.hz3]
  exact Adam.through _ _ g w m v

theorem idx : ∀ t : Fin grid0.N, win0_4.index t 0 = t.val / 4 ∧ win0_4.index t 1 = t.val % 4 ∧ win0_4.index t 2 = 0 := by decide +kernel
theorem cover (i : S2x2048x768.Idx) : ∃ t : Fin cfg0.N, i ∈ ((cfg0.win 4).blk t).view.set := by
  have hN : cfg0.N = 8 := N_0
  have h0 : (i 0).val < 2 := (i 0).isLt
  have h1 : (i 1).val < 2048 := (i 1).isLt
  have h2 : (i 2).val < 768 := (i 2).isLt
  refine ⟨⟨4 * (i 0).val + (i 1).val / 512, by omega⟩, ?_⟩
  show _ ∈ ((View.whole main_v0_0).slice (win0_4.rect _)).set
  rw [View.set_slice_whole, Rect.mem_set_unit]
  intro a
  match a with
  | ⟨0, _⟩ => show win0_4.index _ 0 * 1 ≤ (i 0).val ∧ (i 0).val < win0_4.index _ 0 * 1 + 1; rw [(idx _).1]; dsimp only; omega
  | ⟨1, _⟩ => show win0_4.index _ 1 * 512 ≤ (i 1).val ∧ (i 1).val < win0_4.index _ 1 * 512 + 512; rw [(idx _).2.1]; dsimp only; omega
  | ⟨2, _⟩ => show win0_4.index _ 2 * 768 ≤ (i 2).val ∧ (i 2).val < win0_4.index _ 2 * 768 + 768; rw [(idx _).2.2]; omega

theorem flushes : ∀ t : Fin grid0.N, win0_4.flush t = true ∧ win0_5.flush t = true ∧ win0_6.flush t = true ∧ win0_7.flush t = true := by decide +kernel

theorem arrays : Adam.Stepped (V m c main_arg0) (V m c main_arg1) (V m c main_arg2) (V m c main_arg3) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_arg0 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_arg0 i) (V m c main_arg1 i) (V m c main_arg2 i) (V m c main_arg3 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_arg0 i) (V m c main_arg2 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_arg0 i) (V m c main_arg3 i))
    (fun t _ y => (congrFun ((Value.flushed7 m c t).trans (outs _ _ _ _).second) y).trans rfl) fun i => (cover i).imp fun t h => ⟨(flushes t).2.2.2, h⟩)

end Cert.Kernel18Ideal.Whole

namespace Cert.AdamEqual
theorem frame18 : Cert.quiescent_Reference18Ideal (hReference18Ideal := Cert.Reference18Ideal.Gen.facts) := fun m ρ _ =>
  (θ_run Cert.Reference18Ideal.defs _ _).mono (fun r h => ⟨fun c => (h c).2.2.2.2, sem_eq_zero_of_no_sems (by decide) r.2⟩)
    (Cert.Reference18Ideal.Value.run m ρ)

theorem algebraic18 : Cert.algebraic_Kernel18Ideal_Reference18Ideal (hKernel18Ideal := Cert.Kernel18Ideal.Gen.facts)
    (hReference18Ideal := Cert.Reference18Ideal.Gen.facts) := by
  intro m g m' g' _ hargs
  refine ⟨_, _, _, _, Cert.Kernel18Ideal.Value.run_blocks m g, ?_⟩
  refine (θ_run Cert.Reference18Ideal.defs _ _).mono (fun r h c => ?_) (Cert.Reference18Ideal.Value.run m' g')
  obtain ⟨e0, e1, e2, e3⟩ := hargs c
  have k := Cert.Kernel18Ideal.Whole.arrays m c
  rw [Cert.Kernel18Ideal.Gen.V_main_arg0, Cert.Kernel18Ideal.Gen.V_main_arg1, Cert.Kernel18Ideal.Gen.V_main_arg2, Cert.Kernel18Ideal.Gen.V_main_arg3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel19Ideal.Whole
open Cert.Kernel19Ideal Cert.Kernel19Ideal.Gen
variable (m : (ℓ : Loc nD τ sig) → Buf (Elt Ideal) ℓ) (c : Dev nD)

theorem outs (g w m v : S1x128x2048.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x128x2048) Prod.hz3, View.ld_unit_zero (S := S1x128x2048) Prod.hz3]
  exact Adam.through _ _ g w m v

theorem idx : ∀ t : Fin grid0.N, win0_4.index t 0 = t.val / 4 ∧ win0_4.index t 1 = t.val % 4 ∧ win0_4.index t 2 = 0 := by decide +kernel
theorem cover (i : S2x512x2048.Idx) : ∃ t : Fin cfg0.N, i ∈ ((cfg0.win 4).blk t).view.set := by
  have hN : cfg0.N = 8 := N_0
  have h0 : (i 0).val < 2 := (i 0).isLt
  have h1 : (i 1).val < 512 := (i 1).isLt
  have h2 : (i 2).val < 2048 := (i 2).isLt
  refine ⟨⟨4 * (i 0).val + (i 1).val / 128, by omega⟩, ?_⟩
  show _ ∈ ((View.whole main_v0_0).slice (win0_4.rect _)).set
  rw [View.set_slice_whole, Rect.mem_set_unit]
  intro a
  match a with
  | ⟨0, _⟩ => show win0_4.index _ 0 * 1 ≤ (i 0).val ∧ (i 0).val < win0_4.index _ 0 * 1 + 1; rw [(idx _).1]; dsimp only; omega
  | ⟨1, _⟩ => show win0_4.index _ 1 * 128 ≤ (i 1).val ∧ (i 1).val < win0_4.index _ 1 * 128 + 128; rw [(idx _).2.1]; dsimp only; omega
  | ⟨2, _⟩ => show win0_4.index _ 2 * 2048 ≤ (i 2).val ∧ (i 2).val < win0_4.index _ 2 * 2048 + 2048; rw [(idx _).2.2]; omega

theorem flushes : ∀ t : Fin grid0.N, win0_4.flush t = true ∧ win0_5.flush t = true ∧ win0_6.flush t = true ∧ win0_7.flush t = true := by decide +kernel

theorem arrays : Adam.Stepped (V m c main_arg0) (V m c main_arg1) (V m c main_arg2) (V m c main_arg3) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_arg0 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_arg0 i) (V m c main_arg1 i) (V m c main_arg2 i) (V m c main_arg3 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_arg0 i) (V m c main_arg2 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_arg0 i) (V m c main_arg3 i))
    (fun t _ y => (congrFun ((Value.flushed7 m c t).trans (outs _ _ _ _).second) y).trans rfl) fun i => (cover i).imp fun t h => ⟨(flushes t).2.2.2, h⟩)

end Cert.Kernel19Ideal.Whole

namespace Cert.AdamEqual
theorem frame19 : Cert.quiescent_Reference19Ideal (hReference19Ideal := Cert.Reference19Ideal.Gen.facts) := fun m ρ _ =>
  (θ_run Cert.Reference19Ideal.defs _ _).mono (fun r h => ⟨fun c => (h c).2.2.2.2, sem_eq_zero_of_no_sems (by decide) r.2⟩)
    (Cert.Reference19Ideal.Value.run m ρ)

theorem algebraic19 : Cert.algebraic_Kernel19Ideal_Reference19Ideal (hKernel19Ideal := Cert.Kernel19Ideal.Gen.facts)
    (hReference19Ideal := Cert.Reference19Ideal.Gen.facts) := by
  intro m g m' g' _ hargs
  refine ⟨_, _, _, _, Cert.Kernel19Ideal.Value.run_blocks m g, ?_⟩
  refine (θ_run Cert.Reference19Ideal.defs _ _).mono (fun r h c => ?_) (Cert.Reference19Ideal.Value.run m' g')
  obtain ⟨e0, e1, e2, e3⟩ := hargs c
  have k := Cert.Kernel19Ideal.Whole.arrays m c
  rw [Cert.Kernel19Ideal.Gen.V_main_arg0, Cert.Kernel19Ideal.Gen.V_main_arg1, Cert.Kernel19Ideal.Gen.V_main_arg2, Cert.Kernel19Ideal.Gen.V_main_arg3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel20Ideal.Whole
open Cert.Kernel20Ideal Cert.Kernel20Ideal.Gen
variable (m : (ℓ : Loc nD τ sig) → Buf (Elt Ideal) ℓ) (c : Dev nD)

theorem outs (g w m v : S1x256x1536.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x256x1536) Prod.hz3, View.ld_unit_zero (S := S1x256x1536) Prod.hz3]
  exact Adam.through _ _ g w m v

theorem idx : ∀ t : Fin grid0.N, win0_4.index t 0 = t.val / 8 ∧ win0_4.index t 1 = t.val % 8 ∧ win0_4.index t 2 = 0 := by decide +kernel
theorem cover (i : S2x2048x1536.Idx) : ∃ t : Fin cfg0.N, i ∈ ((cfg0.win 4).blk t).view.set := by
  have hN : cfg0.N = 16 := N_0
  have h0 : (i 0).val < 2 := (i 0).isLt
  have h1 : (i 1).val < 2048 := (i 1).isLt
  have h2 : (i 2).val < 1536 := (i 2).isLt
  refine ⟨⟨8 * (i 0).val + (i 1).val / 256, by omega⟩, ?_⟩
  show _ ∈ ((View.whole main_v0_0).slice (win0_4.rect _)).set
  rw [View.set_slice_whole, Rect.mem_set_unit]
  intro a
  match a with
  | ⟨0, _⟩ => show win0_4.index _ 0 * 1 ≤ (i 0).val ∧ (i 0).val < win0_4.index _ 0 * 1 + 1; rw [(idx _).1]; dsimp only; omega
  | ⟨1, _⟩ => show win0_4.index _ 1 * 256 ≤ (i 1).val ∧ (i 1).val < win0_4.index _ 1 * 256 + 256; rw [(idx _).2.1]; dsimp only; omega
  | ⟨2, _⟩ => show win0_4.index _ 2 * 1536 ≤ (i 2).val ∧ (i 2).val < win0_4.index _ 2 * 1536 + 1536; rw [(idx _).2.2]; omega

theorem flushes : ∀ t : Fin grid0.N, win0_4.flush t = true ∧ win0_5.flush t = true ∧ win0_6.flush t = true ∧ win0_7.flush t = true := by decide +kernel

theorem arrays : Adam.Stepped (V m c main_arg0) (V m c main_arg1) (V m c main_arg2) (V m c main_arg3) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_arg0 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_arg0 i) (V m c main_arg1 i) (V m c main_arg2 i) (V m c main_arg3 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_arg0 i) (V m c main_arg2 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_arg0 i) (V m c main_arg3 i))
    (fun t _ y => (congrFun ((Value.flushed7 m c t).trans (outs _ _ _ _).second) y).trans rfl) fun i => (cover i).imp fun t h => ⟨(flushes t).2.2.2, h⟩)

end Cert.Kernel20Ideal.Whole

namespace Cert.AdamEqual
theorem frame20 : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems (by decide) r.2⟩)
    (Cert.Reference20Ideal.Value.run m ρ)

theorem algebraic20 : Cert.algebraic_Kernel20Ideal_Reference20Ideal (hKernel20Ideal := Cert.Kernel20Ideal.Gen.facts)
    (hReference20Ideal := Cert.Reference20Ideal.Gen.facts) := by
  intro m g m' g' _ hargs
  refine ⟨_, _, _, _, Cert.Kernel20Ideal.Value.run_blocks m g, ?_⟩
  refine (θ_run Cert.Reference20Ideal.defs _ _).mono (fun r h c => ?_) (Cert.Reference20Ideal.Value.run m' g')
  obtain ⟨e0, e1, e2, e3⟩ := hargs c
  have k := Cert.Kernel20Ideal.Whole.arrays m c
  rw [Cert.Kernel20Ideal.Gen.V_main_arg0, Cert.Kernel20Ideal.Gen.V_main_arg1, Cert.Kernel20Ideal.Gen.V_main_arg2, Cert.Kernel20Ideal.Gen.V_main_arg3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel21Ideal.Whole
open Cert.Kernel21Ideal Cert.Kernel21Ideal.Gen
variable (m : (ℓ : Loc nD τ sig) → Buf (Elt Ideal) ℓ) (c : Dev nD)

theorem outs (g w m v : S1x128x2816.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x128x2816) Prod.hz3, View.ld_unit_zero (S := S1x128x2816) Prod.hz3]
  exact Adam.through _ _ g w m v

theorem idx : ∀ t : Fin grid0.N, win0_4.index t 0 = t.val / 16 ∧ win0_4.index t 1 = t.val % 16 ∧ win0_4.index t 2 = 0 := by decide +kernel
theorem cover (i : S4x2048x2816.Idx) : ∃ t : Fin cfg0.N, i ∈ ((cfg0.win 4).blk t).view.set := by
  have hN : cfg0.N = 64 := N_0
  have h0 : (i 0).val < 4 := (i 0).isLt
  have h1 : (i 1).val < 2048 := (i 1).isLt
  have h2 : (i 2).val < 2816 := (i 2).isLt
  refine ⟨⟨16 * (i 0).val + (i 1).val / 128, by omega⟩, ?_⟩
  show _ ∈ ((View.whole main_v0_0).slice (win0_4.rect _)).set
  rw [View.set_slice_whole, Rect.mem_set_unit]
  intro a
  match a with
  | ⟨0, _⟩ => show win0_4.index _ 0 * 1 ≤ (i 0).val ∧ (i 0).val < win0_4.index _ 0 * 1 + 1; rw [(idx _).1]; dsimp only; omega
  | ⟨1, _⟩ => show win0_4.index _ 1 * 128 ≤ (i 1).val ∧ (i 1).val < win0_4.index _ 1 * 128 + 128; rw [(idx _).2.1]; dsimp only; omega
  | ⟨2, _⟩ => show win0_4.index _ 2 * 2816 ≤ (i 2).val ∧ (i 2).val < win0_4.index _ 2 * 2816 + 2816; rw [(idx _).2.2]; omega

theorem flushes : ∀ t : Fin grid0.N, win0_4.flush t = true ∧ win0_5.flush t = true ∧ win0_6.flush t = true ∧ win0_7.flush t = true := by decide +kernel

theorem arrays : Adam.Stepped (V m c main_arg0) (V m c main_arg1) (V m c main_arg2) (V m c main_arg3) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_arg0 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_arg0 i) (V m c main_arg1 i) (V m c main_arg2 i) (V m c main_arg3 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_arg0 i) (V m c main_arg2 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_arg0 i) (V m c main_arg3 i))
    (fun t _ y => (congrFun ((Value.flushed7 m c t).trans (outs _ _ _ _).second) y).trans rfl) fun i => (cover i).imp fun t h => ⟨(flushes t).2.2.2, h⟩)

end Cert.Kernel21Ideal.Whole

namespace Cert.AdamEqual
theorem frame21 : Cert.quiescent_Reference21Ideal (hReference21Ideal := Cert.Reference21Ideal.Gen.facts) := fun m ρ _ =>
  (θ_run Cert.Reference21Ideal.defs _ _).mono (fun r h => ⟨fun c => (h c).2.2.2.2, sem_eq_zero_of_no_sems (by decide) r.2⟩)
    (Cert.Reference21Ideal.Value.run m ρ)

theorem algebraic21 : Cert.algebraic_Kernel21Ideal_Reference21Ideal (hKernel21Ideal := Cert.Kernel21Ideal.Gen.facts)
    (hReference21Ideal := Cert.Reference21Ideal.Gen.facts) := by
  intro m g m' g' _ hargs
  refine ⟨_, _, _, _, Cert.Kernel21Ideal.Value.run_blocks m g, ?_⟩
  refine (θ_run Cert.Reference21Ideal.defs _ _).mono (fun r h c => ?_) (Cert.Reference21Ideal.Value.run m' g')
  obtain ⟨e0, e1, e2, e3⟩ := hargs c
  have k := Cert.Kernel21Ideal.Whole.arrays m c
  rw [Cert.Kernel21Ideal.Gen.V_main_arg0, Cert.Kernel21Ideal.Gen.V_main_arg1, Cert.Kernel21Ideal.Gen.V_main_arg2, Cert.Kernel21Ideal.Gen.V_main_arg3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel22Ideal.Whole
open Cert.Kernel22Ideal Cert.Kernel22Ideal.Gen
variable (m : (ℓ : Loc nD τ sig) → Buf (Elt Ideal) ℓ) (c : Dev nD)

theorem outs (g w m v : S1x176x2048.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x176x2048) Prod.hz3, View.ld_unit_zero (S := S1x176x2048) Prod.hz3]
  exact Adam.through _ _ g w m v

theorem idx : ∀ t : Fin grid0.N, win0_4.index t 0 = t.val / 8 ∧ win0_4.index t 1 = t.val % 8 ∧ win0_4.index t 2 = 0 := by decide +kernel
theorem cover (i : S4x1408x2048.Idx) : ∃ t : Fin cfg0.N, i ∈ ((cfg0.win 4).blk t).view.set := by
  have hN : cfg0.N = 32 := N_0
  have h0 : (i 0).val < 4 := (i 0).isLt
  have h1 : (i 1).val < 1408 := (i 1).isLt
  have h2 : (i 2).val < 2048 := (i 2).isLt
  refine ⟨⟨8 * (i 0).val + (i 1).val / 176, by omega⟩, ?_⟩
  show _ ∈ ((View.whole main_v0_0).slice (win0_4.rect _)).set
  rw [View.set_slice_whole, Rect.mem_set_unit]
  intro a
  match a with
  | ⟨0, _⟩ => show win0_4.index _ 0 * 1 ≤ (i 0).val ∧ (i 0).val < win0_4.index _ 0 * 1 + 1; rw [(idx _).1]; dsimp only; omega
  | ⟨1, _⟩ => show win0_4.index _ 1 * 176 ≤ (i 1).val ∧ (i 1).val < win0_4.index _ 1 * 176 + 176; rw [(idx _).2.1]; dsimp only; omega
  | ⟨2, _⟩ => show win0_4.index _ 2 * 2048 ≤ (i 2).val ∧ (i 2).val < win0_4.index _ 2 * 2048 + 2048; rw [(idx _).2.2]; omega

theorem flushes : ∀ t : Fin grid0.N, win0_4.flush t = true ∧ win0_5.flush t = true ∧ win0_6.flush t = true ∧ win0_7.flush t = true := by decide +kernel

theorem arrays : Adam.Stepped (V m c main_arg0) (V m c main_arg1) (V m c main_arg2) (V m c main_arg3) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_arg0 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_arg0 i) (V m c main_arg1 i) (V m c main_arg2 i) (V m c main_arg3 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_arg0 i) (V m c main_arg2 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_arg0 i) (V m c main_arg3 i))
    (fun t _ y => (congrFun ((Value.flushed7 m c t).trans (outs _ _ _ _).second) y).trans rfl) fun i => (cover i).imp fun t h => ⟨(flushes t).2.2.2, h⟩)

end Cert.Kernel22Ideal.Whole

namespace Cert.AdamEqual
theorem frame22 : Cert.quiescent_Reference22Ideal (hReference22Ideal := Cert.Reference22Ideal.Gen.facts) := fun m ρ _ =>
  (θ_run Cert.Reference22Ideal.defs _ _).mono (fun r h => ⟨fun c => (h c).2.2.2.2, sem_eq_zero_of_no_sems (by decide) r.2⟩)
    (Cert.Reference22Ideal.Value.run m ρ)

theorem algebraic22 : Cert.algebraic_Kernel22Ideal_Reference22Ideal (hKernel22Ideal := Cert.Kernel22Ideal.Gen.facts)
    (hReference22Ideal := Cert.Reference22Ideal.Gen.facts) := by
  intro m g m' g' _ hargs
  refine ⟨_, _, _, _, Cert.Kernel22Ideal.Value.run_blocks m g, ?_⟩
  refine (θ_run Cert.Reference22Ideal.defs _ _).mono (fun r h c => ?_) (Cert.Reference22Ideal.Value.run m' g')
  obtain ⟨e0, e1, e2, e3⟩ := hargs c
  have k := Cert.Kernel22Ideal.Whole.arrays m c
  rw [Cert.Kernel22Ideal.Gen.V_main_arg0, Cert.Kernel22Ideal.Gen.V_main_arg1, Cert.Kernel22Ideal.Gen.V_main_arg2, Cert.Kernel22Ideal.Gen.V_main_arg3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual
end
-- ==== Proof.AdamRows.lean ====
/- The optimiser's step on the small weights: each call takes all of its arrays, as rows, in one block. -/
module
public import proofs.«01_k».proof.Proof.Adam
public import proofs.«01_k».proof.Proof.Prod
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Defs

@[expose] public section
set_option maxRecDepth 16384
noncomputable section
open Idealize.ShloMosaic Idealize.ShloMosaic.TcCoe Idealize.SL.Sem

namespace Cert.Kernel23Ideal.Whole
open Cert.Kernel23Ideal Cert.Kernel23Ideal.Gen
variable (m : (ℓ : Loc nD τ sig) → Buf (Elt Ideal) ℓ) (c : Dev nD)

theorem outs (g w m v : S1x1x2048.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x1x2048) Prod.hz3, View.ld_unit_zero (S := S1x1x2048) Prod.hz3]
  exact Adam.through _ _ g w m v

theorem idx : ∀ (t : Fin grid0.N) (a : Fin 3), win0_4.index t a = 0 := by decide +kernel
theorem cover (i : S1x1x2048.Idx) : ∃ t : Fin cfg0.N, i ∈ ((cfg0.win 4).blk t).view.set := by
  refine ⟨⟨0, by decide⟩, ?_⟩
  show _ ∈ ((View.whole main_v5_0).slice (win0_4.rect _)).set
  rw [View.set_slice_whole, Rect.mem_set_unit]
  exact Adam.within _ _ (idx _) i

theorem flushes : ∀ t : Fin grid0.N, win0_4.flush t = true ∧ win0_5.flush t = true ∧ win0_6.flush t = true ∧ win0_7.flush t = true := by decide +kernel

theorem arrays : Adam.Stepped (V m c main_v1) (V m c main_v2) (V m c main_v3) (V m c main_v4) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_v1 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_v1 i) (V m c main_v2 i) (V m c main_v3 i) (V m c main_v4 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_v1 i) (V m c main_v3 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_v1 i) (V m c main_v4 i))
    (fun t _ y => (congrFun ((Value.flushed7 m c t).trans (outs _ _ _ _).second) y).trans rfl) fun i => (cover i).imp fun t h => ⟨(flushes t).2.2.2, h⟩)

/-- The arrays that the call takes: the arguments as rows. -/
theorem rows0 : V m c main_v1 = shapeCast _ (m ((c : Thread nD τ).loc main_arg0)) Gen.shapeCasts_S2048_S1x1x2048 := by
  unfold V
  simp only [hostOps0, List.flatten_cons, List.flatten_nil, List.append_nil, List.cons_append, List.nil_append]
  after_results
  rfl
theorem rows1 : V m c main_v2 = shapeCast _ (m ((c : Thread nD τ).loc main_arg1)) Gen.shapeCasts_S2048_S1x1x2048 := by
  unfold V
  simp only [hostOps0, List.flatten_cons, List.flatten_nil, List.append_nil, List.cons_append, List.nil_append]
  after_results
  rfl
theorem rows2 : V m c main_v3 = shapeCast _ (m ((c : Thread nD τ).loc main_arg2)) Gen.shapeCasts_S2048_S1x1x2048 := by
  unfold V
  simp only [hostOps0, List.flatten_cons, List.flatten_nil, List.append_nil, List.cons_append, List.nil_append]
  after_results
  rfl
theorem rows3 : V m c main_v4 = shapeCast _ (m ((c : Thread nD τ).loc main_arg3)) Gen.shapeCasts_S2048_S1x1x2048 := by
  unfold V
  simp only [hostOps0, List.flatten_cons, List.flatten_nil, List.append_nil, List.cons_append, List.nil_append]
  after_results
  rfl
end Cert.Kernel23Ideal.Whole

namespace Cert.AdamEqual
theorem frame23 : Cert.quiescent_Reference23Ideal (hReference23Ideal := Cert.Reference23Ideal.Gen.facts) := fun m ρ _ =>
  (θ_run Cert.Reference23Ideal.defs _ _).mono (fun r h => ⟨fun c => (h c).2.2.2.2, sem_eq_zero_of_no_sems (by decide) r.2⟩)
    (Cert.Reference23Ideal.Value.run m ρ)

theorem algebraic23 : Cert.algebraic_Kernel23Ideal_Reference23Ideal (hKernel23Ideal := Cert.Kernel23Ideal.Gen.facts)
    (hReference23Ideal := Cert.Reference23Ideal.Gen.facts) := by
  intro m g m' g' _ hargs
  refine ⟨_, _, _, _, Cert.Kernel23Ideal.Value.run_blocks m g, ?_⟩
  refine (θ_run Cert.Reference23Ideal.defs _ _).mono (fun r h c => ?_) (Cert.Reference23Ideal.Value.run m' g')
  obtain ⟨e0, e1, e2, e3⟩ := hargs c
  have k := Cert.Kernel23Ideal.Whole.arrays m c
  rw [Cert.Kernel23Ideal.Whole.rows0, Cert.Kernel23Ideal.Whole.rows1, Cert.Kernel23Ideal.Whole.rows2, Cert.Kernel23Ideal.Whole.rows3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel24Ideal.Whole
open Cert.Kernel24Ideal Cert.Kernel24Ideal.Gen
variable (m : (ℓ : Loc nD τ sig) → Buf (Elt Ideal) ℓ) (c : Dev nD)

theorem outs (g w m v : S1x4x12288.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x4x12288) Prod.hz3, View.ld_unit_zero (S := S1x4x12288) Prod.hz3]
  exact Adam.through _ _ g w m v

theorem idx : ∀ (t : Fin grid0.N) (a : Fin 3), win0_4.index t a = 0 := by decide +kernel
theorem cover (i : S1x4x12288.Idx) : ∃ t : Fin cfg0.N, i ∈ ((cfg0.win 4).blk t).view.set := by
  refine ⟨⟨0, by decide⟩, ?_⟩
  show _ ∈ ((View.whole main_v5_0).slice (win0_4.rect _)).set
  rw [View.set_slice_whole, Rect.mem_set_unit]
  exact Adam.within _ _ (idx _) i

theorem flushes : ∀ t : Fin grid0.N, win0_4.flush t = true ∧ win0_5.flush t = true ∧ win0_6.flush t = true ∧ win0_7.flush t = true := by decide +kernel

theorem arrays : Adam.Stepped (V m c main_v1) (V m c main_v2) (V m c main_v3) (V m c main_v4) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_v1 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_v1 i) (V m c main_v2 i) (V m c main_v3 i) (V m c main_v4 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_v1 i) (V m c main_v3 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_v1 i) (V m c main_v4 i))
    (fun t _ y => (congrFun ((Value.flushed7 m c t).trans (outs _ _ _ _).second) y).trans rfl) fun i => (cover i).imp fun t h => ⟨(flushes t).2.2.2, h⟩)

/-- The arrays that the call takes: the arguments as rows. -/
theorem rows0 : V m c main_v1 = shapeCast _ (m ((c : Thread nD τ).loc main_arg0)) Gen.shapeCasts_S4x12288_S1x4x12288 := by
  unfold V
  simp only [hostOps0, List.flatten_cons, List.flatten_nil, List.append_nil, List.cons_append, List.nil_append]
  after_results
  rfl
theorem rows1 : V m c main_v2 = shapeCast _ (m ((c : Thread nD τ).loc main_arg1)) Gen.shapeCasts_S4x12288_S1x4x12288 := by
  unfold V
  simp only [hostOps0, List.flatten_cons, List.flatten_nil, List.append_nil, List.cons_append, List.nil_append]
  after_results
  rfl
theorem rows2 : V m c main_v3 = shapeCast _ (m ((c : Thread nD τ).loc main_arg2)) Gen.shapeCasts_S4x12288_S1x4x12288 := by
  unfold V
  simp only [hostOps0, List.flatten_cons, List.flatten_nil, List.append_nil, List.cons_append, List.nil_append]
  after_results
  rfl
theorem rows3 : V m c main_v4 = shapeCast _ (m ((c : Thread nD τ).loc main_arg3)) Gen.shapeCasts_S4x12288_S1x4x12288 := by
  unfold V
  simp only [hostOps0, List.flatten_cons, List.flatten_nil, List.append_nil, List.cons_append, List.nil_append]
  after_results
  rfl
end Cert.Kernel24Ideal.Whole

namespace Cert.AdamEqual
theorem frame24 : Cert.quiescent_Reference24Ideal (hReference24Ideal := Cert.Reference24Ideal.Gen.facts) := fun m ρ _ =>
  (θ_run Cert.Reference24Ideal.defs _ _).mono (fun r h => ⟨fun c => (h c).2.2.2.2, sem_eq_zero_of_no_sems (by decide) r.2⟩)
    (Cert.Reference24Ideal.Value.run m ρ)

theorem algebraic24 : Cert.algebraic_Kernel24Ideal_Reference24Ideal (hKernel24Ideal := Cert.Kernel24Ideal.Gen.facts)
    (hReference24Ideal := Cert.Reference24Ideal.Gen.facts) := by
  intro m g m' g' _ hargs
  refine ⟨_, _, _, _, Cert.Kernel24Ideal.Value.run_blocks m g, ?_⟩
  refine (θ_run Cert.Reference24Ideal.defs _ _).mono (fun r h c => ?_) (Cert.Reference24Ideal.Value.run m' g')
  obtain ⟨e0, e1, e2, e3⟩ := hargs c
  have k := Cert.Kernel24Ideal.Whole.arrays m c
  rw [Cert.Kernel24Ideal.Whole.rows0, Cert.Kernel24Ideal.Whole.rows1, Cert.Kernel24Ideal.Whole.rows2, Cert.Kernel24Ideal.Whole.rows3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel25Ideal.Whole
open Cert.Kernel25Ideal Cert.Kernel25Ideal.Gen
variable (m : (ℓ : Loc nD τ sig) → Buf (Elt Ideal) ℓ) (c : Dev nD)

theorem outs (g w m v : S1x2x128.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x2x128) Prod.hz3, View.ld_unit_zero (S := S1x2x128) Prod.hz3]
  exact Adam.through _ _ g w m v

theorem idx : ∀ (t : Fin grid0.N) (a : Fin 3), win0_4.index t a = 0 := by decide +kernel
theorem cover (i : S1x2x128.Idx) : ∃ t : Fin cfg0.N, i ∈ ((cfg0.win 4).blk t).view.set := by
  refine ⟨⟨0, by decide⟩, ?_⟩
  show _ ∈ ((View.whole main_v5_0).slice (win0_4.rect _)).set
  rw [View.set_slice_whole, Rect.mem_set_unit]
  exact Adam.within _ _ (idx _) i

theorem flushes : ∀ t : Fin grid0.N, win0_4.flush t = true ∧ win0_5.flush t = true ∧ win0_6.flush t = true ∧ win0_7.flush t = true := by decide +kernel

theorem arrays : Adam.Stepped (V m c main_v1) (V m c main_v2) (V m c main_v3) (V m c main_v4) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_v1 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_v1 i) (V m c main_v2 i) (V m c main_v3 i) (V m c main_v4 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_v1 i) (V m c main_v3 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_v1 i) (V m c main_v4 i))
    (fun t _ y => (congrFun ((Value.flushed7 m c t).trans (outs _ _ _ _).second) y).trans rfl) fun i => (cover i).imp fun t h => ⟨(flushes t).2.2.2, h⟩)

/-- The arrays that the call takes: the arguments as rows. -/
theorem rows0 : V m c main_v1 = shapeCast _ (m ((c : Thread nD τ).loc main_arg0)) Gen.shapeCasts_S2x128_S1x2x128 := by
  unfold V
  simp only [hostOps0, List.flatten_cons, List.flatten_nil, List.append_nil, List.cons_append, List.nil_append]
  after_results
  rfl
theorem rows1 : V m c main_v2 = shapeCast _ (m ((c : Thread nD τ).loc main_arg1)) Gen.shapeCasts_S2x128_S1x2x128 := by
  unfold V
  simp only [hostOps0, List.flatten_cons, List.flatten_nil, List.append_nil, List.cons_append, List.nil_append]
  after_results
  rfl
theorem rows2 : V m c main_v3 = shapeCast _ (m ((c : Thread nD τ).loc main_arg2)) Gen.shapeCasts_S2x128_S1x2x128 := by
  unfold V
  simp only [hostOps0, List.flatten_cons, List.flatten_nil, List.append_nil, List.cons_append, List.nil_append]
  after_results
  rfl
theorem rows3 : V m c main_v4 = shapeCast _ (m ((c : Thread nD τ).loc main_arg3)) Gen.shapeCasts_S2x128_S1x2x128 := by
  unfold V
  simp only [hostOps0, List.flatten_cons, List.flatten_nil, List.append_nil, List.cons_append, List.nil_append]
  after_results
  rfl
end Cert.Kernel25Ideal.Whole

namespace Cert.AdamEqual
theorem frame25 : Cert.quiescent_Reference25Ideal (hReference25Ideal := Cert.Reference25Ideal.Gen.facts) := fun m ρ _ =>
  (θ_run Cert.Reference25Ideal.defs _ _).mono (fun r h => ⟨fun c => (h c).2.2.2.2, sem_eq_zero_of_no_sems (by decide) r.2⟩)
    (Cert.Reference25Ideal.Value.run m ρ)

theorem algebraic25 : Cert.algebraic_Kernel25Ideal_Reference25Ideal (hKernel25Ideal := Cert.Kernel25Ideal.Gen.facts)
    (hReference25Ideal := Cert.Reference25Ideal.Gen.facts) := by
  intro m g m' g' _ hargs
  refine ⟨_, _, _, _, Cert.Kernel25Ideal.Value.run_blocks m g, ?_⟩
  refine (θ_run Cert.Reference25Ideal.defs _ _).mono (fun r h c => ?_) (Cert.Reference25Ideal.Value.run m' g')
  obtain ⟨e0, e1, e2, e3⟩ := hargs c
  have k := Cert.Kernel25Ideal.Whole.arrays m c
  rw [Cert.Kernel25Ideal.Whole.rows0, Cert.Kernel25Ideal.Whole.rows1, Cert.Kernel25Ideal.Whole.rows2, Cert.Kernel25Ideal.Whole.rows3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel26Ideal.Whole
open Cert.Kernel26Ideal Cert.Kernel26Ideal.Gen
variable (m : (ℓ : Loc nD τ sig) → Buf (Elt Ideal) ℓ) (c : Dev nD)

theorem outs (g w m v : S1x2x16.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x2x16) Prod.hz3, View.ld_unit_zero (S := S1x2x16) Prod.hz3]
  exact Adam.through _ _ g w m v

theorem idx : ∀ (t : Fin grid0.N) (a : Fin 3), win0_4.index t a = 0 := by decide +kernel
theorem cover (i : S1x2x16.Idx) : ∃ t : Fin cfg0.N, i ∈ ((cfg0.win 4).blk t).view.set := by
  refine ⟨⟨0, by decide⟩, ?_⟩
  show _ ∈ ((View.whole main_v5_0).slice (win0_4.rect _)).set
  rw [View.set_slice_whole, Rect.mem_set_unit]
  exact Adam.within _ _ (idx _) i

theorem flushes : ∀ t : Fin grid0.N, win0_4.flush t = true ∧ win0_5.flush t = true ∧ win0_6.flush t = true ∧ win0_7.flush t = true := by decide +kernel

theorem arrays : Adam.Stepped (V m c main_v1) (V m c main_v2) (V m c main_v3) (V m c main_v4) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_v1 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_v1 i) (V m c main_v2 i) (V m c main_v3 i) (V m c main_v4 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_v1 i) (V m c main_v3 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_v1 i) (V m c main_v4 i))
    (fun t _ y => (congrFun ((Value.flushed7 m c t).trans (outs _ _ _ _).second) y).trans rfl) fun i => (cover i).imp fun t h => ⟨(flushes t).2.2.2, h⟩)

/-- The arrays that the call takes: the arguments as rows. -/
theorem rows0 : V m c main_v1 = shapeCast _ (m ((c : Thread nD τ).loc main_arg0)) Gen.shapeCasts_S2x16_S1x2x16 := by
  unfold V
  simp only [hostOps0, List.flatten_cons, List.flatten_nil, List.append_nil, List.cons_append, List.nil_append]
  after_results
  rfl
theorem rows1 : V m c main_v2 = shapeCast _ (m ((c : Thread nD τ).loc main_arg1)) Gen.shapeCasts_S2x16_S1x2x16 := by
  unfold V
  simp only [hostOps0, List.flatten_cons, List.flatten_nil, List.append_nil, List.cons_append, List.nil_append]
  after_results
  rfl
theorem rows2 : V m c main_v3 = shapeCast _ (m ((c : Thread nD τ).loc main_arg2)) Gen.shapeCasts_S2x16_S1x2x16 := by
  unfold V
  simp only [hostOps0, List.flatten_cons, List.flatten_nil, List.append_nil, List.cons_append, List.nil_append]
  after_results
  rfl
theorem rows3 : V m c main_v4 = shapeCast _ (m ((c : Thread nD τ).loc main_arg3)) Gen.shapeCasts_S2x16_S1x2x16 := by
  unfold V
  simp only [hostOps0, List.flatten_cons, List.flatten_nil, List.append_nil, List.cons_append, List.nil_append]
  after_results
  rfl
end Cert.Kernel26Ideal.Whole

namespace Cert.AdamEqual
theorem frame26 : Cert.quiescent_Reference26Ideal (hReference26Ideal := Cert.Reference26Ideal.Gen.facts) := fun m ρ _ =>
  (θ_run Cert.Reference26Ideal.defs _ _).mono (fun r h => ⟨fun c => (h c).2.2.2.2, sem_eq_zero_of_no_sems (by decide) r.2⟩)
    (Cert.Reference26Ideal.Value.run m ρ)

theorem algebraic26 : Cert.algebraic_Kernel26Ideal_Reference26Ideal (hKernel26Ideal := Cert.Kernel26Ideal.Gen.facts)
    (hReference26Ideal := Cert.Reference26Ideal.Gen.facts) := by
  intro m g m' g' _ hargs
  refine ⟨_, _, _, _, Cert.Kernel26Ideal.Value.run_blocks m g, ?_⟩
  refine (θ_run Cert.Reference26Ideal.defs _ _).mono (fun r h c => ?_) (Cert.Reference26Ideal.Value.run m' g')
  obtain ⟨e0, e1, e2, e3⟩ := hargs c
  have k := Cert.Kernel26Ideal.Whole.arrays m c
  rw [Cert.Kernel26Ideal.Whole.rows0, Cert.Kernel26Ideal.Whole.rows1, Cert.Kernel26Ideal.Whole.rows2, Cert.Kernel26Ideal.Whole.rows3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel27Ideal.Whole
open Cert.Kernel27Ideal Cert.Kernel27Ideal.Gen
variable (m : (ℓ : Loc nD τ sig) → Buf (Elt Ideal) ℓ) (c : Dev nD)

theorem outs (g w m v : S1x6x512.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x6x512) Prod.hz3, View.ld_unit_zero (S := S1x6x512) Prod.hz3]
  exact Adam.through _ _ g w m v

theorem idx : ∀ (t : Fin grid0.N) (a : Fin 3), win0_4.index t a = 0 := by decide +kernel
theorem cover (i : S1x6x512.Idx) : ∃ t : Fin cfg0.N, i ∈ ((cfg0.win 4).blk t).view.set := by
  refine ⟨⟨0, by decide⟩, ?_⟩
  show _ ∈ ((View.whole main_v5_0).slice (win0_4.rect _)).set
  rw [View.set_slice_whole, Rect.mem_set_unit]
  exact Adam.within _ _ (idx _) i

theorem flushes : ∀ t : Fin grid0.N, win0_4.flush t = true ∧ win0_5.flush t = true ∧ win0_6.flush t = true ∧ win0_7.flush t = true := by decide +kernel

theorem arrays : Adam.Stepped (V m c main_v1) (V m c main_v2) (V m c main_v3) (V m c main_v4) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_v1 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_v1 i) (V m c main_v2 i) (V m c main_v3 i) (V m c main_v4 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_v1 i) (V m c main_v3 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_v1 i) (V m c main_v4 i))
    (fun t _ y => (congrFun ((Value.flushed7 m c t).trans (outs _ _ _ _).second) y).trans rfl) fun i => (cover i).imp fun t h => ⟨(flushes t).2.2.2, h⟩)

/-- The arrays that the call takes: the arguments as rows. -/
theorem rows0 : V m c main_v1 = shapeCast _ (m ((c : Thread nD τ).loc main_arg0)) Gen.shapeCasts_S2x3x512_S1x6x512 := by
  unfold V
  simp only [hostOps0, List.flatten_cons, List.flatten_nil, List.append_nil, List.cons_append, List.nil_append]
  after_results
  rfl
theorem rows1 : V m c main_v2 = shapeCast _ (m ((c : Thread nD τ).loc main_arg1)) Gen.shapeCasts_S2x3x512_S1x6x512 := by
  unfold V
  simp only [hostOps0, List.flatten_cons, List.flatten_nil, List.append_nil, List.cons_append, List.nil_append]
  after_results
  rfl
theorem rows2 : V m c main_v3 = shapeCast _ (m ((c : Thread nD τ).loc main_arg2)) Gen.shapeCasts_S2x3x512_S1x6x512 := by
  unfold V
  simp only [hostOps0, List.flatten_cons, List.flatten_nil, List.append_nil, List.cons_append, List.nil_append]
  after_results
  rfl
theorem rows3 : V m c main_v4 = shapeCast _ (m ((c : Thread nD τ).loc main_arg3)) Gen.shapeCasts_S2x3x512_S1x6x512 := by
  unfold V
  simp only [hostOps0, List.flatten_cons, List.flatten_nil, List.append_nil, List.cons_append, List.nil_append]
  after_results
  rfl
end Cert.Kernel27Ideal.Whole

namespace Cert.AdamEqual
theorem frame27 : Cert.quiescent_Reference27Ideal (hReference27Ideal := Cert.Reference27Ideal.Gen.facts) := fun m ρ _ =>
  (θ_run Cert.Reference27Ideal.defs _ _).mono (fun r h => ⟨fun c => (h c).2.2.2.2, sem_eq_zero_of_no_sems (by decide) r.2⟩)
    (Cert.Reference27Ideal.Value.run m ρ)

theorem algebraic27 : Cert.algebraic_Kernel27Ideal_Reference27Ideal (hKernel27Ideal := Cert.Kernel27Ideal.Gen.facts)
    (hReference27Ideal := Cert.Reference27Ideal.Gen.facts) := by
  intro m g m' g' _ hargs
  refine ⟨_, _, _, _, Cert.Kernel27Ideal.Value.run_blocks m g, ?_⟩
  refine (θ_run Cert.Reference27Ideal.defs _ _).mono (fun r h c => ?_) (Cert.Reference27Ideal.Value.run m' g')
  obtain ⟨e0, e1, e2, e3⟩ := hargs c
  have k := Cert.Kernel27Ideal.Whole.arrays m c
  rw [Cert.Kernel27Ideal.Whole.rows0, Cert.Kernel27Ideal.Whole.rows1, Cert.Kernel27Ideal.Whole.rows2, Cert.Kernel27Ideal.Whole.rows3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel28Ideal.Whole
open Cert.Kernel28Ideal Cert.Kernel28Ideal.Gen
variable (m : (ℓ : Loc nD τ sig) → Buf (Elt Ideal) ℓ) (c : Dev nD)

theorem outs (g w m v : S1x12x1408.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x12x1408) Prod.hz3, View.ld_unit_zero (S := S1x12x1408) Prod.hz3]
  exact Adam.through _ _ g w m v

theorem idx : ∀ (t : Fin grid0.N) (a : Fin 3), win0_4.index t a = 0 := by decide +kernel
theorem cover (i : S1x12x1408.Idx) : ∃ t : Fin cfg0.N, i ∈ ((cfg0.win 4).blk t).view.set := by
  refine ⟨⟨0, by decide⟩, ?_⟩
  show _ ∈ ((View.whole main_v5_0).slice (win0_4.rect _)).set
  rw [View.set_slice_whole, Rect.mem_set_unit]
  exact Adam.within _ _ (idx _) i

theorem flushes : ∀ t : Fin grid0.N, win0_4.flush t = true ∧ win0_5.flush t = true ∧ win0_6.flush t = true ∧ win0_7.flush t = true := by decide +kernel

theorem arrays : Adam.Stepped (V m c main_v1) (V m c main_v2) (V m c main_v3) (V m c main_v4) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_v1 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_v1 i) (V m c main_v2 i) (V m c main_v3 i) (V m c main_v4 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_v1 i) (V m c main_v3 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_v1 i) (V m c main_v4 i))
    (fun t _ y => (congrFun ((Value.flushed7 m c t).trans (outs _ _ _ _).second) y).trans rfl) fun i => (cover i).imp fun t h => ⟨(flushes t).2.2.2, h⟩)

/-- The arrays that the call takes: the arguments as rows. -/
theorem rows0 : V m c main_v1 = shapeCast _ (m ((c : Thread nD τ).loc main_arg0)) Gen.shapeCasts_S4x3x1408_S1x12x1408 := by
  unfold V
  simp only [hostOps0, List.flatten_cons, List.flatten_nil, List.append_nil, List.cons_append, List.nil_append]
  after_results
  rfl
theorem rows1 : V m c main_v2 = shapeCast _ (m ((c : Thread nD τ).loc main_arg1)) Gen.shapeCasts_S4x3x1408_S1x12x1408 := by
  unfold V
  simp only [hostOps0, List.flatten_cons, List.flatten_nil, List.append_nil, List.cons_append, List.nil_append]
  after_results
  rfl
theorem rows2 : V m c main_v3 = shapeCast _ (m ((c : Thread nD τ).loc main_arg2)) Gen.shapeCasts_S4x3x1408_S1x12x1408 := by
  unfold V
  simp only [hostOps0, List.flatten_cons, List.flatten_nil, List.append_nil, List.cons_append, List.nil_append]
  after_results
  rfl
theorem rows3 : V m c main_v4 = shapeCast _ (m ((c : Thread nD τ).loc main_arg3)) Gen.shapeCasts_S4x3x1408_S1x12x1408 := by
  unfold V
  simp only [hostOps0, List.flatten_cons, List.flatten_nil, List.append_nil, List.cons_append, List.nil_append]
  after_results
  rfl
end Cert.Kernel28Ideal.Whole

namespace Cert.AdamEqual
theorem frame28 : Cert.quiescent_Reference28Ideal (hReference28Ideal := Cert.Reference28Ideal.Gen.facts) := fun m ρ _ =>
  (θ_run Cert.Reference28Ideal.defs _ _).mono (fun r h => ⟨fun c => (h c).2.2.2.2, sem_eq_zero_of_no_sems (by decide) r.2⟩)
    (Cert.Reference28Ideal.Value.run m ρ)

theorem algebraic28 : Cert.algebraic_Kernel28Ideal_Reference28Ideal (hKernel28Ideal := Cert.Kernel28Ideal.Gen.facts)
    (hReference28Ideal := Cert.Reference28Ideal.Gen.facts) := by
  intro m g m' g' _ hargs
  refine ⟨_, _, _, _, Cert.Kernel28Ideal.Value.run_blocks m g, ?_⟩
  refine (θ_run Cert.Reference28Ideal.defs _ _).mono (fun r h c => ?_) (Cert.Reference28Ideal.Value.run m' g')
  obtain ⟨e0, e1, e2, e3⟩ := hargs c
  have k := Cert.Kernel28Ideal.Whole.arrays m c
  rw [Cert.Kernel28Ideal.Whole.rows0, Cert.Kernel28Ideal.Whole.rows1, Cert.Kernel28Ideal.Whole.rows2, Cert.Kernel28Ideal.Whole.rows3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual

namespace Cert.Kernel29Ideal.Whole
open Cert.Kernel29Ideal Cert.Kernel29Ideal.Gen
variable (m : (ℓ : Loc nD τ sig) → Buf (Elt Ideal) ℓ) (c : Dev nD)

theorem outs (g w m v : S1x4x5632.Idx → EReal) : Adam.Stepped g w m v (out0_4 (F := Ideal) g w m v) (out0_5 (F := Ideal) g w m v)
    (out0_6 (F := Ideal) g w m v) (out0_7 (F := Ideal) g w m v) := by
  unfold out0_4 out0_5 out0_6 out0_7
  simp only [View.canon_unit_zero (S := S1x4x5632) Prod.hz3, View.ld_unit_zero (S := S1x4x5632) Prod.hz3]
  exact Adam.through _ _ g w m v

theorem idx : ∀ (t : Fin grid0.N) (a : Fin 3), win0_4.index t a = 0 := by decide +kernel
theorem cover (i : S1x4x5632.Idx) : ∃ t : Fin cfg0.N, i ∈ ((cfg0.win 4).blk t).view.set := by
  refine ⟨⟨0, by decide⟩, ?_⟩
  show _ ∈ ((View.whole main_v5_0).slice (win0_4.rect _)).set
  rw [View.set_slice_whole, Rect.mem_set_unit]
  exact Adam.within _ _ (idx _) i

theorem flushes : ∀ t : Fin grid0.N, win0_4.flush t = true ∧ win0_5.flush t = true ∧ win0_6.flush t = true ∧ win0_7.flush t = true := by decide +kernel

theorem arrays : Adam.Stepped (V m c main_v1) (V m c main_v2) (V m c main_v3) (V m c main_v4) ((dats m 0 c).arrAt 4 cfg0.N) ((dats m 0 c).arrAt 5 cfg0.N)
    ((dats m 0 c).arrAt 6 cfg0.N) ((dats m 0 c).arrAt 7 cfg0.N) where
  gradient := funext ((dats m 0 c).arrAt_forall_of_cover 4 (fun i x => x = V m c main_v1 i)
    (fun t _ y => (congrFun ((Value.flushed4 m c t).trans (outs _ _ _ _).gradient) y).trans rfl) fun i => (cover i).imp fun t h => ⟨(flushes t).1, h⟩)
  step := funext ((dats m 0 c).arrAt_forall_of_cover 5 (fun i x => x = Adam.delta (V m c main_v1 i) (V m c main_v2 i) (V m c main_v3 i) (V m c main_v4 i))
    (fun t _ y => (congrFun ((Value.flushed5 m c t).trans (outs _ _ _ _).step) y).trans rfl) fun i => (cover i).imp fun t h => ⟨(flushes t).2.1, h⟩)
  first := funext ((dats m 0 c).arrAt_forall_of_cover 6 (fun i x => x = Adam.newM (V m c main_v1 i) (V m c main_v3 i))
    (fun t _ y => (congrFun ((Value.flushed6 m c t).trans (outs _ _ _ _).first) y).trans rfl) fun i => (cover i).imp fun t h => ⟨(flushes t).2.2.1, h⟩)
  second := funext ((dats m 0 c).arrAt_forall_of_cover 7 (fun i x => x = Adam.newV (V m c main_v1 i) (V m c main_v4 i))
    (fun t _ y => (congrFun ((Value.flushed7 m c t).trans (outs _ _ _ _).second) y).trans rfl) fun i => (cover i).imp fun t h => ⟨(flushes t).2.2.2, h⟩)

/-- The arrays that the call takes: the arguments as rows. -/
theorem rows0 : V m c main_v1 = shapeCast _ (m ((c : Thread nD τ).loc main_arg0)) Gen.shapeCasts_S4x5632_S1x4x5632 := by
  unfold V
  simp only [hostOps0, List.flatten_cons, List.flatten_nil, List.append_nil, List.cons_append, List.nil_append]
  after_results
  rfl
theorem rows1 : V m c main_v2 = shapeCast _ (m ((c : Thread nD τ).loc main_arg1)) Gen.shapeCasts_S4x5632_S1x4x5632 := by
  unfold V
  simp only [hostOps0, List.flatten_cons, List.flatten_nil, List.append_nil, List.cons_append, List.nil_append]
  after_results
  rfl
theorem rows2 : V m c main_v3 = shapeCast _ (m ((c : Thread nD τ).loc main_arg2)) Gen.shapeCasts_S4x5632_S1x4x5632 := by
  unfold V
  simp only [hostOps0, List.flatten_cons, List.flatten_nil, List.append_nil, List.cons_append, List.nil_append]
  after_results
  rfl
theorem rows3 : V m c main_v4 = shapeCast _ (m ((c : Thread nD τ).loc main_arg3)) Gen.shapeCasts_S4x5632_S1x4x5632 := by
  unfold V
  simp only [hostOps0, List.flatten_cons, List.flatten_nil, List.append_nil, List.cons_append, List.nil_append]
  after_results
  rfl
end Cert.Kernel29Ideal.Whole

namespace Cert.AdamEqual
theorem frame29 : Cert.quiescent_Reference29Ideal (hReference29Ideal := Cert.Reference29Ideal.Gen.facts) := fun m ρ _ =>
  (θ_run Cert.Reference29Ideal.defs _ _).mono (fun r h => ⟨fun c => (h c).2.2.2.2, sem_eq_zero_of_no_sems (by decide) r.2⟩)
    (Cert.Reference29Ideal.Value.run m ρ)

theorem algebraic29 : Cert.algebraic_Kernel29Ideal_Reference29Ideal (hKernel29Ideal := Cert.Kernel29Ideal.Gen.facts)
    (hReference29Ideal := Cert.Reference29Ideal.Gen.facts) := by
  intro m g m' g' _ hargs
  refine ⟨_, _, _, _, Cert.Kernel29Ideal.Value.run_blocks m g, ?_⟩
  refine (θ_run Cert.Reference29Ideal.defs _ _).mono (fun r h c => ?_) (Cert.Reference29Ideal.Value.run m' g')
  obtain ⟨e0, e1, e2, e3⟩ := hargs c
  have k := Cert.Kernel29Ideal.Whole.arrays m c
  rw [Cert.Kernel29Ideal.Whole.rows0, Cert.Kernel29Ideal.Whole.rows1, Cert.Kernel29Ideal.Whole.rows2, Cert.Kernel29Ideal.Whole.rows3, ← e0, ← e1, ← e2, ← e3] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdamEqual
end
-- ==== Proof.GateFwd.lean ====
/- The gated short convolution's forward pass, element by element: each block's store, the array over all the blocks, and the
   reference's rows of either segment are the same gated sum of three taps. -/
module
public import proofs.«01_k».proof.Proof.Gen.Kernel30Ideal.Value
public import proofs.«01_k».proof.Proof.Gen.Reference30Ideal.Run
public import proofs.«01_k».proof.Proof.Cols
public import proofs.«01_k».proof.Proof.Model
public import proofs.«01_k».proof.Proof.Prod
public import proofs.«01_k».proof.Defs

@[expose] public section
set_option maxRecDepth 16384
set_option maxHeartbeats 4000000
noncomputable section
open Idealize.ShloMosaic Idealize.ShloMosaic.TcCoe Idealize.SL.Sem

namespace Cert.Model

/-- The gated convolution at one element. -/
def gated (U : (⟨2, ![8448, 6144]⟩ : Shape).Idx → EReal) (C : Fin 3 → Fin 2048 → EReal) (k : Fin 2048) (R : Fin 8448) : EReal :=
  U (ix2 R (c0 k)) * (before (w U k) R * C 0 k + w U k R * C 1 k + after (w U k) R * C 2 k)

/-- The same within a block. -/
def bgated (t : ℕ) (x0 : (⟨2, ![256, 6144]⟩ : Shape).Idx → EReal) (x1 x2 : (⟨2, ![16, 6144]⟩ : Shape).Idx → EReal)
    (x6 : (⟨2, ![8, 2048]⟩ : Shape).Idx → EReal) (k : Fin 2048) (r : Fin 256) : EReal :=
  x0 (ix2 r (c0 k)) * (bwd t x0 x1 k r * x6 (ix2 0 k) + bw x0 k r * x6 (ix2 1 k) + bwu t x0 x2 k r * x6 (ix2 2 k))

end Cert.Model

namespace Cert.Kernel30Ideal.Whole
open Cert.Kernel30Ideal Cert.Kernel30Ideal.Gen Cert.Model

theorem out (i : grid0.Coords) (x0 : Vec Ideal S256x6144 .bf16) (x1 x2 : Vec Ideal S16x6144 .bf16) (x3 : Vec Ideal S8x2048 .f32)
    (r : Fin 256) (k : Fin 2048) : out0_4 i x0 x1 x2 x3 (ix2 r k) = bgated (i 0).val x0 x1 x2 x3 k r := by
  unfold_out out0_4
  rcases split4 k with ⟨l, rfl⟩ | ⟨l, rfl⟩ | ⟨l, rfl⟩ | ⟨l, rfl⟩
  · rw [Cols.miss 1536 512 _ _ _ _ _ (by dsimp only; omega), Cols.miss 1024 512 _ _ _ _ _ (by dsimp only; omega),
      Cols.miss 512 512 _ _ _ _ _ (by dsimp only; omega), Cols.hit 0 512 _ _ _ _ _ l (by first | rfl | (dsimp only; omega))]
    unfold_payloads
    pointwise
    simp only [first_flag (i 0), last_flag (i 0), sel_first, sel_last, halo_first, halo_last]
    simp only [bgated, bwd, bwu, bBefore, bAfter, bw, c0, c1, c2, ← Nat.add_assoc, Nat.reduceAdd, Nat.zero_add]
  · rw [Cols.miss 1536 512 _ _ _ _ _ (by dsimp only; omega), Cols.miss 1024 512 _ _ _ _ _ (by dsimp only; omega),
      Cols.hit 512 512 _ _ _ _ _ l (by first | rfl | (dsimp only; omega))]
    unfold_payloads
    pointwise
    simp only [first_flag (i 0), last_flag (i 0), sel_first, sel_last, halo_first, halo_last]
    simp only [bgated, bwd, bwu, bBefore, bAfter, bw, c0, c1, c2, ← Nat.add_assoc, Nat.reduceAdd, Nat.zero_add]
  · rw [Cols.miss 1536 512 _ _ _ _ _ (by dsimp only; omega), Cols.hit 1024 512 _ _ _ _ _ l (by first | rfl | (dsimp only; omega))]
    unfold_payloads
    pointwise
    simp only [first_flag (i 0), last_flag (i 0), sel_first, sel_last, halo_first, halo_last]
    simp only [bgated, bwd, bwu, bBefore, bAfter, bw, c0, c1, c2, ← Nat.add_assoc, Nat.reduceAdd, Nat.zero_add]
  · rw [Cols.hit 1536 512 _ _ _ _ _ l (by first | rfl | (dsimp only; omega))]
    unfold_payloads
    pointwise
    simp only [first_flag (i 0), last_flag (i 0), sel_first, sel_last, halo_first, halo_last]
    simp only [bgated, bwd, bwu, bBefore, bAfter, bw, c0, c1, c2, ← Nat.add_assoc, Nat.reduceAdd, Nat.zero_add]

variable (m : (ℓ : Loc nD τ sig) → Buf (Elt Ideal) ℓ) (c : Dev nD)

/-- The argument arrays. -/
abbrev U : (⟨2, ![8448, 6144]⟩ : Shape).Idx → EReal := m ((c : Thread nD τ).loc main_arg0)
abbrev C : Fin 3 → Fin 2048 → EReal := fun i k => (m ((c : Thread nD τ).loc main_arg1) : (⟨2, ![3, 2048]⟩ : Shape).Idx → EReal) (ix2 i k)

theorem coord_eq : ∀ t : Fin grid0.N, (grid0.coords t 0).val = t.val := by decide +kernel
theorem idx0 : ∀ t : Fin grid0.N, win0_0.index t 0 = t.val ∧ win0_0.index t 1 = 0 := by decide +kernel
theorem idx1 : ∀ t : Fin grid0.N, win0_1.index t 0 = 16 * t.val - 1 ∧ win0_1.index t 1 = 0 := by decide +kernel
theorem idx2 : ∀ t : Fin grid0.N, (t.val ≠ 32 → win0_2.index t 0 = 16 * t.val + 16) ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 ∧ win0_4.flush t = true := by decide +kernel

/-- A point as a number below 33. -/
abbrev pt (t : Fin cfg0.N) : Fin 33 := ⟨t.val, by have h := t.isLt; have : cfg0.N = 33 := N_0; omega⟩

/-- The taps as the call receives them: the first three of eight rows. -/
theorem padded (i : Fin 3) (k : Fin 2048) :
    (V m c main_v0 : (⟨2, ![8, 2048]⟩ : Shape).Idx → EReal) (ix2 ⟨i.val, by omega⟩ k) = C m c i k := by
  have e : V m c main_v0 = pad S8x2048 ![0, 0] ![5, 0] ![0, 0] (m ((c : Thread nD τ).loc main_arg1) : Vec Ideal S3x2048 .f32)
      (sitofp (F := Ideal) .f32 (constantI S_ 32 0#32)) pads_S3x2048_S8x2048_050_000 h_S_ := by
    unfold V
    simp only [hostOps0, hostOps0_1, List.flatten_cons, List.flatten_nil, List.append_nil, List.cons_append, List.nil_append]
    after_results
    rfl
  rw [e]
  pointwise
  refine (dif_pos fun a => ?_).trans rfl
  match a with
  | ⟨0, _⟩ => show 0 ≤ i.val ∧ (i.val - 0) % (0 + 1) = 0 ∧ (i.val - 0) / (0 + 1) < 3; omega
  | ⟨1, _⟩ => show 0 ≤ k.val ∧ (k.val - 0) % (0 + 1) = 0 ∧ (k.val - 0) / (0 + 1) < 2048; omega

theorem taps (t : Fin cfg0.N) (i : Fin 3) (k : Fin 2048) :
    (iblk m c 3 t : (⟨2, ![8, 2048]⟩ : Shape).Idx → EReal) (ix2 ⟨i.val, by omega⟩ k) = C m c i k := by
  refine Eq.trans ?_ (padded m c i k)
  unfold iblk
  rw [View.read_apply]
  show V m c main_v0 _ = _
  refine congrArg (V m c main_v0) (funext fun a => Fin.ext ?_)
  match a with
  | ⟨0, _⟩ => show win0_3.index t 0 * 8 + 1 * i.val = i.val; rw [(idx3 t).1]; omega
  | ⟨1, _⟩ => show win0_3.index t 1 * 2048 + 1 * k.val = k.val; rw [(idx3 t).2]; omega

/-- What the windows hold at a point is that point's block of the arguments (there is no cotangent here). -/
theorem isBlock (t : Fin cfg0.N) : Is (U m c) (fun _ => 0) (C m c) (pt t) (iblk m c 0 t) (iblk m c 1 t) (iblk m c 2 t)
    (fun _ => 0) (fun _ => 0) (fun _ => 0) (iblk m c 3 t) where
  h0 r k := by
    unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 256 + 1 * r.val = 256 * t.val + r.val; rw [(idx0 t).1]; omega
    | ⟨1, _⟩ => show win0_0.index t 1 * 6144 + 1 * k.val = k.val; rw [(idx0 t).2]; omega
  h1 h k := by
    unfold iblk
    rw [View.read_apply]
    show V m c main_arg0 _ = _
    rw [V_main_arg0]
    refine congrArg (m ((c : Thread nD τ).loc main_arg0)) (funext fun a => Fin.ext ?_)
    have h' : t.val ≠ 0 := h
    match a with
    | ⟨0, _⟩ => show win0_1.index t 0 * 16 + 1 * 15 = 256 * t.val - 1; rw [(idx1 t).1]; omega
    | ⟨1, _⟩ => show win0_1.index t 1 * 6144 + 1 * k.val = k.val; rw [(idx1 t).2]; omega
  h2 h k := by
    unfold iblk
    rw [View.read_apply]
    show V m c main_arg0 _ = _
    rw [V_main_arg0]
    refine congrArg (m ((c : Thread nD τ).loc main_arg0)) (funext fun a => Fin.ext ?_)
    match a with
    | ⟨0, _⟩ => show win0_2.index t 0 * 16 + 1 * 0 = 256 * t.val + 256; rw [(idx2 t).1 h]; omega
    | ⟨1, _⟩ => show win0_2.index t 1 * 6144 + 1 * k.val = k.val; rw [(idx2 t).2]; omega
  h3 _ _ := rfl
  h4 _ _ := rfl
  h5 _ _ := rfl
  h60 k := taps m c t 0 k
  h61 k := taps m c t 1 k
  h62 k := taps m c t 2 k

theorem point (t : Fin cfg0.N) (r : Fin 256) (k : Fin 2048) (R : Fin 8448) (q : Fin 2048) (hR : R.val = 256 * t.val + r.val) (hq : q = k) :
    ((dats m 0 c).flushed 4 t : S256x2048.Idx → EReal) (ix2 r k) = gated (U m c) (C m c) q R := by
  subst hq
  have e : row (pt t) r = R := Fin.ext hR.symm
  have H := isBlock m c t
  rw [Value.flushed4]
  show out0_4 _ _ _ _ _ (ix2 r q) = _
  rw [out, coord_eq]
  unfold bgated gated
  rw [H.h60, H.h61, H.h62, H.h0]
  refine congrArg₂ (fun a b : EReal => a * b) (by rw [e]) ?_
  rw [← e]
  exact congrArg₂ (· + ·) (congrArg₂ (· + ·) (congrArg (· * _) (H.bwd_eq q r)) (congrArg (· * _) (H.bw_eq q r))) (congrArg (· * _) (H.bwu_eq q r))

theorem array (R : Fin 8448) (q : Fin 2048) :
    ((dats m 0 c).arrAt 4 cfg0.N : (⟨2, ![8448, 2048]⟩ : Shape).Idx → EReal) (ix2 R q) = gated (U m c) (C m c) q R := by
  have hN : cfg0.N = 33 := N_0
  refine (dats m 0 c).arrAt_forall_of_flushed 4 (fun i v => v = gated (U m c) (C m c) (i 1) (i 0)) (fun t _ y => ?_) cfg0.N
    ⟨R.val / 256, by omega⟩ (ix2 R q) (by dsimp only; omega) (idx4 _).2.2 ?_
  · obtain ⟨r, k, rfl⟩ := Cert.Prod.idx2 y
    exact point m c t r k _ _ (by show win0_4.index t 0 * 256 + 1 * r.val = _; rw [(idx4 t).1]; omega)
      (Fin.ext (by show win0_4.index t 1 * 2048 + 1 * k.val = _; rw [(idx4 t).2.1]; omega))
  · show _ ∈ ((View.whole main_v1).slice (win0_4.rect _)).set
    rw [View.set_slice_whole, Rect.mem_set_unit]
    intro a
    match a with
    | ⟨0, _⟩ => show win0_4.index _ 0 * 256 ≤ R.val ∧ R.val < win0_4.index _ 0 * 256 + 256; rw [(idx4 _).1]; dsimp only; omega
    | ⟨1, _⟩ => show win0_4.index _ 1 * 2048 ≤ q.val ∧ q.val < win0_4.index _ 1 * 2048 + 2048; rw [(idx4 _).2.1]; omega
end Cert.Kernel30Ideal.Whole

namespace Cert.GateForward
open Cert.Model

theorem frame30 : Cert.quiescent_Reference30Ideal (hReference30Ideal := Cert.Reference30Ideal.Gen.facts) := fun m ρ _ =>
  (θ_run Cert.Reference30Ideal.defs _ _).mono (fun r h => ⟨fun c => (h c).2, sem_eq_zero_of_no_sems (by decide) r.2⟩)
    (Cert.Reference30Ideal.Value.run m ρ)

theorem algebraic30 : Cert.algebraic_Kernel30Ideal_Reference30Ideal (hKernel30Ideal := Cert.Kernel30Ideal.Gen.facts)
    (hReference30Ideal := Cert.Reference30Ideal.Gen.facts) := by
  intro m g m' g' _ hargs
  refine ⟨_, Cert.Kernel30Ideal.Value.run_blocks m g, ?_⟩
  refine (θ_run Cert.Reference30Ideal.defs _ _).mono (fun r h c => ?_) (Cert.Reference30Ideal.Value.run m' g')
  obtain ⟨e0, e1⟩ := hargs c
  refine ⟨(h c).1.trans (funext fun i => ?_), (h c).2⟩
  obtain ⟨R, q, rfl⟩ := Cert.Prod.idx2 i
  refine Eq.trans ?_ (Cert.Kernel30Ideal.Whole.array m c R q).symm
  unfold Cert.Reference30Ideal.Value.res_main_v63
  rw [e0, e1]
  unfold gated before after w
  by_cases hR : R.val < 256
  · pointwise
    rw [dif_pos hR]
    refine congrArg₂ (fun a b : EReal => a * b) (rfl) (congrArg₂ (fun a b : EReal => a + b) (congrArg₂ (fun a b : EReal => a + b)
      (congrArg (fun a : EReal => a * _) ?_) (congrArg (fun a : EReal => a * _) ?_)) (congrArg (fun a : EReal => a * _) ?_))
    · by_cases h : R.val = 0
      · rw [dif_pos (by omega), dif_pos (by omega)]
      · rw [dif_neg (by omega), dif_pos (by omega), dif_neg (by omega)]
        first | done | exact congrArg (fun n : Fin 8448 => Cert.Kernel30Ideal.Whole.U m c (ix2 n (c1 q)) * Cert.Kernel30Ideal.Whole.U m c (ix2 n (c2 q))) (Fin.ext (by dsimp only; omega))
    · rw [dif_pos (by omega)]
      first | done | exact congrArg (fun n : Fin 8448 => Cert.Kernel30Ideal.Whole.U m c (ix2 n (c1 q)) * Cert.Kernel30Ideal.Whole.U m c (ix2 n (c2 q))) (Fin.ext (by dsimp only; omega))
    · by_cases h : R.val = 255
      · rw [dif_neg (by omega), dif_neg (by omega), dif_pos (by omega)]
      · rw [dif_neg (by omega), dif_pos (by omega), dif_neg (by omega)]
        first | done | exact congrArg (fun n : Fin 8448 => Cert.Kernel30Ideal.Whole.U m c (ix2 n (c1 q)) * Cert.Kernel30Ideal.Whole.U m c (ix2 n (c2 q))) (Fin.ext (by dsimp only; omega))
  · pointwise
    rw [dif_neg hR]
    refine congrArg₂ (fun a b : EReal => a * b) (congrArg (fun n : Fin 8448 => Cert.Kernel30Ideal.Whole.U m c (ix2 n (c0 q))) (Fin.ext (by dsimp only; omega))) (congrArg₂ (fun a b : EReal => a + b) (congrArg₂ (fun a b : EReal => a + b)
      (congrArg (fun a : EReal => a * _) ?_) (congrArg (fun a : EReal => a * _) ?_)) (congrArg (fun a : EReal => a * _) ?_))
    · by_cases h : R.val = 256
      · rw [dif_pos (by omega), dif_pos (by omega)]
      · rw [dif_neg (by omega), dif_pos (by omega), dif_neg (by omega)]
        first | done | exact congrArg (fun n : Fin 8448 => Cert.Kernel30Ideal.Whole.U m c (ix2 n (c1 q)) * Cert.Kernel30Ideal.Whole.U m c (ix2 n (c2 q))) (Fin.ext (by dsimp only; omega))
    · rw [dif_pos (by omega)]
      first | done | exact congrArg (fun n : Fin 8448 => Cert.Kernel30Ideal.Whole.U m c (ix2 n (c1 q)) * Cert.Kernel30Ideal.Whole.U m c (ix2 n (c2 q))) (Fin.ext (by dsimp only; omega))
    · by_cases h : R.val = 8447
      · rw [dif_neg (by omega), dif_neg (by omega), dif_pos (by omega)]
      · rw [dif_neg (by omega), dif_pos (by omega), dif_neg (by omega)]
        first | done | exact congrArg (fun n : Fin 8448 => Cert.Kernel30Ideal.Whole.U m c (ix2 n (c1 q)) * Cert.Kernel30Ideal.Whole.U m c (ix2 n (c2 q))) (Fin.ext (by dsimp only; omega))

end Cert.GateForward
end
-- ==== Proof.Norm.lean ====
/- The two normalisations of the residual stream with their modulation, element by element: each row divided by the root of its
   mean square, scaled and shifted by its part of the sequence (the first 256 rows are one part, the rest the other). -/
module
public import proofs.«01_k».proof.Proof.Prod
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Defs

@[expose] public section
set_option maxRecDepth 16384
set_option maxHeartbeats 1000000
noncomputable section
open Idealize.ShloMosaic Idealize.ShloMosaic.TcCoe Idealize.SL.Sem

namespace Cert.Norm

/-- One element of a normalised row, scaled and shifted. -/
def element (row : Fin 2048 → EReal) (shift scale : EReal) (q : Fin 2048) : EReal :=
  row q * Ideal.rsqrt (Ideal.div (∑ j, row j * row j) (Ideal.ofBits .f32 0x45000000#32) + Ideal.ofBits .f32 0x358637BD#32) * (1 + scale)
    + shift

/-- A row's part of the sequence. -/
def seg (R : ℕ) : Fin 2 := if R < 256 then 0 else 1

theorem seg_first (R : ℕ) (h : R < 256) : seg R = 0 := if_pos h
theorem seg_rest (R : ℕ) (h : ¬R < 256) : seg R = 1 := if_neg h

/-- The rows of a block are of one part. -/
theorem seg_block (t : ℕ) (r : Fin 256) : seg (256 * t) = seg (256 * t + r.val) := by
  by_cases h : t = 0
  · subst h
    rw [seg_first _ (by omega), seg_first _ (by omega)]
  · rw [seg_rest _ (by omega), seg_rest _ (by omega)]

end Cert.Norm

namespace Cert.Kernel31Ideal.Whole
open Cert.Kernel31Ideal Cert.Kernel31Ideal.Gen Cert.Prod

section Body
variable (c : Dev nD) (i : grid0.Coords) (arg1 : Memref sig .tc .vmem S256x2048 .f32) (harg1 : arg1.IsWhole) (arg2 : Memref sig .tc .vmem S2x8x2048 .f32) (harg2 : arg2.IsWhole) (arg3 : Memref sig .tc .vmem S256x2048 .bf16) (harg3 : arg3.IsWhole)
    (x0 : Vec Ideal S256x2048 .f32) (x1 : Vec Ideal S2x8x2048 .f32)

theorem step (y : Vec Ideal S1x8x2048 .f32) (r : Fin 256) (k : Fin 2048) :
    k0_pay1 x0 y (ix2 r k) = Norm.element (fun j => x0 (ix2 r j)) (y (ix3 0 0 k)) (y (ix3 0 1 k)) k := by
  unfold k0_pay1
  pointwise
  rfl

/-- The shift and the scale are those of the block's part of the sequence. -/
theorem part (hi : Fin 2) (h : k0_off1 i 0 = hi.val) (a : Fin 8) (k : Fin 2048) :
    View.ld x1 (Rect.unit (s := S2x8x2048) (k0_off1 i) S1x8x2048.size (k0_off1_inb i)) (ix3 0 a k) = x1 (ix3 hi a k) :=
  congrArg x1 (funext fun b => Fin.ext (match b with
    | ⟨0, _⟩ => by show k0_off1 i 0 + 1 * 0 = hi.val; omega
    | ⟨1, _⟩ => by show 0 + 1 * a.val = a.val; omega
    | ⟨2, _⟩ => by show 0 + 1 * k.val = k.val; omega))

theorem out_A (hi : Fin 2) (h : k0_off1 i 0 = hi.val) (r : Fin 256) (k : Fin 2048) :
    out0_A_2 c i arg1 harg1 arg2 harg2 arg3 harg3 x0 x1 (ix2 r k)
      = Norm.element (fun j => x0 (ix2 r j)) (x1 (ix3 hi 0 k)) (x1 (ix3 hi 1 k)) k := by
  unfold out0_A_2
  rw [View.read_writes_eq_canon _ _ _ (cover0_A_2 c i arg1 harg1 arg2 harg2 arg3 harg3 x0 x1)]
  unfold kernelRun0_A
  dsimp only
  sl_unfold_words
  simp only [View.readAt_eq_ld, harg1.read_unread, harg2.read_unread]
  rw [View.canon_unit_zero (S := S256x2048) hz2, View.ld_unit_zero (S := S256x2048) hz2, step]
  exact congrArg₂ (fun a b => Norm.element (fun j => x0 (ix2 r j)) a b k) (part i x1 hi h 0 k) (part i x1 hi h 1 k)
end Body

variable (m : (ℓ : Loc nD τ sig) → Buf (Elt Ideal) ℓ) (c : Dev nD)

/-- The argument arrays: the residual stream and the modulation. -/
abbrev A : (⟨2, ![8448, 2048]⟩ : Shape).Idx → EReal := m ((c : Thread nD τ).loc main_arg0)
abbrev M : (⟨3, ![2, 8, 2048]⟩ : Shape).Idx → EReal := m ((c : Thread nD τ).loc main_arg1)

theorem idx : ∀ t : Fin grid0.N, win0_0.index t 0 = t.val ∧ win0_0.index t 1 = 0 ∧ win0_2.index t 0 = t.val ∧ win0_2.index t 1 = 0
    ∧ win0_2.flush t = true := by decide +kernel
theorem idx1 : ∀ (t : Fin grid0.N) (a : Fin 3), win0_1.index t a = 0 := by decide +kernel
theorem off : ∀ t : Fin grid0.N, k0_off1 (grid0.coords t) 0 = (Norm.seg (256 * t.val)).val := by decide +kernel

theorem rows (t : Fin cfg0.N) (r : Fin 256) (j : Fin 2048) (h : 256 * t.val + r.val < 8448) :
    (iblk m c 0 t : S256x2048.Idx → EReal) (ix2 r j) = A m c (ix2 ⟨_, h⟩ j) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = 256 * t.val + r.val; rw [(idx t).1]; omega
  | ⟨1, _⟩ => show win0_0.index t 1 * 2048 + 1 * j.val = j.val; rw [(idx t).2.1]; omega

theorem modulation (t : Fin cfg0.N) (b : Fin 2) (g : Fin 8) (k : Fin 2048) :
    (iblk m c 1 t : S2x8x2048.Idx → EReal) (ix3 b g k) = M m c (ix3 b g k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2 + 1 * b.val = b.val; rw [idx1 t 0]; omega
  | ⟨1, _⟩ => show win0_1.index t 1 * 8 + 1 * g.val = g.val; rw [idx1 t 1]; omega
  | ⟨2, _⟩ => show win0_1.index t 2 * 2048 + 1 * k.val = k.val; rw [idx1 t 2]; omega

/-- The normalised and modulated row at one element. -/
def normed (R : Fin 8448) (q : Fin 2048) : EReal :=
  Norm.element (fun j => A m c (ix2 R j)) (M m c (ix3 (Norm.seg R.val) 0 q)) (M m c (ix3 (Norm.seg R.val) 1 q)) q

theorem point (t : Fin cfg0.N) (r : Fin 256) (k : Fin 2048) (R : Fin 8448) (q : Fin 2048) (hR : R.val = 256 * t.val + r.val) (hq : q = k) :
    ((dats m 0 c).flushed 2 t : S256x2048.Idx → EReal) (ix2 r k) = normed m c R q := by
  subst hq
  have e : (⟨256 * t.val + r.val, hR ▸ R.isLt⟩ : Fin 8448) = R := Fin.ext hR.symm
  rw [Value.flushed2_A]
  show out0_A_2 _ _ _ _ _ _ _ _ _ _ (ix2 r q) = _
  rw [out_A _ _ _ _ _ _ _ _ _ _ _ (off t), modulation, modulation, Norm.seg_block t.val r, ← hR]
  simp only [rows m c t r _ (hR ▸ R.isLt), e]
  rfl

theorem array (R : Fin 8448) (q : Fin 2048) :
    ((dats m 0 c).arrAt 2 cfg0.N : (⟨2, ![8448, 2048]⟩ : Shape).Idx → EReal) (ix2 R q) = normed m c R q := by
  have hN : cfg0.N = 33 := N_0
  refine (dats m 0 c).arrAt_forall_of_flushed 2 (fun i v => v = normed m c (i 0) (i 1)) (fun t _ y => ?_) cfg0.N
    ⟨R.val / 256, by omega⟩ (ix2 R q) (by dsimp only; omega) (idx _).2.2.2.2 ?_
  · obtain ⟨r, k, rfl⟩ := idx2 y
    exact point m c t r k _ _ (by show win0_2.index t 0 * 256 + 1 * r.val = _; rw [(idx t).2.2.1]; omega)
      (Fin.ext (by show win0_2.index t 1 * 2048 + 1 * k.val = _; rw [(idx t).2.2.2.1]; omega))
  · show _ ∈ ((View.whole main_v0).slice (win0_2.rect _)).set
    rw [View.set_slice_whole, Rect.mem_set_unit]
    intro a
    match a with
    | ⟨0, _⟩ => show win0_2.index _ 0 * 256 ≤ R.val ∧ R.val < win0_2.index _ 0 * 256 + 256; rw [(idx _).2.2.1]; dsimp only; omega
    | ⟨1, _⟩ => show win0_2.index _ 1 * 2048 ≤ q.val ∧ q.val < win0_2.index _ 1 * 2048 + 2048; rw [(idx _).2.2.2.1]; omega
end Cert.Kernel31Ideal.Whole

namespace Cert.NormEqual
theorem frame31 : Cert.quiescent_Reference31Ideal (hReference31Ideal := Cert.Reference31Ideal.Gen.facts) := fun m ρ _ =>
  (θ_run Cert.Reference31Ideal.defs _ _).mono (fun r h => ⟨fun c => (h c).2, sem_eq_zero_of_no_sems (by decide) r.2⟩)
    (Cert.Reference31Ideal.Value.run m ρ)

theorem algebraic31 : Cert.algebraic_Kernel31Ideal_Reference31Ideal (hKernel31Ideal := Cert.Kernel31Ideal.Gen.facts)
    (hReference31Ideal := Cert.Reference31Ideal.Gen.facts) := by
  intro m g m' g' _ hargs
  refine ⟨_, Cert.Kernel31Ideal.Value.run_blocks m g, ?_⟩
  refine (θ_run Cert.Reference31Ideal.defs _ _).mono (fun r h c => ?_) (Cert.Reference31Ideal.Value.run m' g')
  obtain ⟨e0, e1⟩ := hargs c
  refine ⟨(h c).1.trans (funext fun i => ?_), (h c).2⟩
  obtain ⟨R, q, rfl⟩ := Cert.Prod.idx2 i
  refine Eq.trans ?_ (Cert.Kernel31Ideal.Whole.array m c R q).symm
  rw [e0, e1]
  unfold Cert.Kernel31Ideal.Whole.normed Norm.element
  by_cases hR : R.val < 256
  · rw [Norm.seg_first R.val hR]
    pointwise
    rw [dif_pos hR]
  · rw [Norm.seg_rest R.val hR]
    pointwise
    rw [dif_neg hR]
    have e : (⟨256 + (R.val - 256), by omega⟩ : Fin 8448) = R := Fin.ext (by dsimp only; omega)
    simp only [e]
end Cert.NormEqual

namespace Cert.Kernel32Ideal.Whole
open Cert.Kernel32Ideal Cert.Kernel32Ideal.Gen Cert.Prod

section Body
variable (c : Dev nD) (i : grid0.Coords) (arg1 : Memref sig .tc .vmem S256x2048 .f32) (harg1 : arg1.IsWhole) (arg2 : Memref sig .tc .vmem S2x8x2048 .f32) (harg2 : arg2.IsWhole) (arg3 : Memref sig .tc .vmem S256x2048 .bf16) (harg3 : arg3.IsWhole)
    (x0 : Vec Ideal S256x2048 .f32) (x1 : Vec Ideal S2x8x2048 .f32)

theorem step (y : Vec Ideal S1x8x2048 .f32) (r : Fin 256) (k : Fin 2048) :
    k0_pay1 x0 y (ix2 r k) = Norm.element (fun j => x0 (ix2 r j)) (y (ix3 0 3 k)) (y (ix3 0 4 k)) k := by
  unfold k0_pay1
  pointwise
  rfl

/-- The shift and the scale are those of the block's part of the sequence. -/
theorem part (hi : Fin 2) (h : k0_off1 i 0 = hi.val) (a : Fin 8) (k : Fin 2048) :
    View.ld x1 (Rect.unit (s := S2x8x2048) (k0_off1 i) S1x8x2048.size (k0_off1_inb i)) (ix3 0 a k) = x1 (ix3 hi a k) :=
  congrArg x1 (funext fun b => Fin.ext (match b with
    | ⟨0, _⟩ => by show k0_off1 i 0 + 1 * 0 = hi.val; omega
    | ⟨1, _⟩ => by show 0 + 1 * a.val = a.val; omega
    | ⟨2, _⟩ => by show 0 + 1 * k.val = k.val; omega))

theorem out_A (hi : Fin 2) (h : k0_off1 i 0 = hi.val) (r : Fin 256) (k : Fin 2048) :
    out0_A_2 c i arg1 harg1 arg2 harg2 arg3 harg3 x0 x1 (ix2 r k)
      = Norm.element (fun j => x0 (ix2 r j)) (x1 (ix3 hi 3 k)) (x1 (ix3 hi 4 k)) k := by
  unfold out0_A_2
  rw [View.read_writes_eq_canon _ _ _ (cover0_A_2 c i arg1 harg1 arg2 harg2 arg3 harg3 x0 x1)]
  unfold kernelRun0_A
  dsimp only
  sl_unfold_words
  simp only [View.readAt_eq_ld, harg1.read_unread, harg2.read_unread]
  rw [View.canon_unit_zero (S := S256x2048) hz2, View.ld_unit_zero (S := S256x2048) hz2, step]
  exact congrArg₂ (fun a b => Norm.element (fun j => x0 (ix2 r j)) a b k) (part i x1 hi h 3 k) (part i x1 hi h 4 k)
end Body

variable (m : (ℓ : Loc nD τ sig) → Buf (Elt Ideal) ℓ) (c : Dev nD)

/-- The argument arrays: the residual stream and the modulation. -/
abbrev A : (⟨2, ![8448, 2048]⟩ : Shape).Idx → EReal := m ((c : Thread nD τ).loc main_arg0)
abbrev M : (⟨3, ![2, 8, 2048]⟩ : Shape).Idx → EReal := m ((c : Thread nD τ).loc main_arg1)

theorem idx : ∀ t : Fin grid0.N, win0_0.index t 0 = t.val ∧ win0_0.index t 1 = 0 ∧ win0_2.index t 0 = t.val ∧ win0_2.index t 1 = 0
    ∧ win0_2.flush t = true := by decide +kernel
theorem idx1 : ∀ (t : Fin grid0.N) (a : Fin 3), win0_1.index t a = 0 := by decide +kernel
theorem off : ∀ t : Fin grid0.N, k0_off1 (grid0.coords t) 0 = (Norm.seg (256 * t.val)).val := by decide +kernel

theorem rows (t : Fin cfg0.N) (r : Fin 256) (j : Fin 2048) (h : 256 * t.val + r.val < 8448) :
    (iblk m c 0 t : S256x2048.Idx → EReal) (ix2 r j) = A m c (ix2 ⟨_, h⟩ j) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = 256 * t.val + r.val; rw [(idx t).1]; omega
  | ⟨1, _⟩ => show win0_0.index t 1 * 2048 + 1 * j.val = j.val; rw [(idx t).2.1]; omega

theorem modulation (t : Fin cfg0.N) (b : Fin 2) (g : Fin 8) (k : Fin 2048) :
    (iblk m c 1 t : S2x8x2048.Idx → EReal) (ix3 b g k) = M m c (ix3 b g k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2 + 1 * b.val = b.val; rw [idx1 t 0]; omega
  | ⟨1, _⟩ => show win0_1.index t 1 * 8 + 1 * g.val = g.val; rw [idx1 t 1]; omega
  | ⟨2, _⟩ => show win0_1.index t 2 * 2048 + 1 * k.val = k.val; rw [idx1 t 2]; omega

/-- The normalised and modulated row at one element. -/
def normed (R : Fin 8448) (q : Fin 2048) : EReal :=
  Norm.element (fun j => A m c (ix2 R j)) (M m c (ix3 (Norm.seg R.val) 3 q)) (M m c (ix3 (Norm.seg R.val) 4 q)) q

theorem point (t : Fin cfg0.N) (r : Fin 256) (k : Fin 2048) (R : Fin 8448) (q : Fin 2048) (hR : R.val = 256 * t.val + r.val) (hq : q = k) :
    ((dats m 0 c).flushed 2 t : S256x2048.Idx → EReal) (ix2 r k) = normed m c R q := by
  subst hq
  have e : (⟨256 * t.val + r.val, hR ▸ R.isLt⟩ : Fin 8448) = R := Fin.ext hR.symm
  rw [Value.flushed2_A]
  show out0_A_2 _ _ _ _ _ _ _ _ _ _ (ix2 r q) = _
  rw [out_A _ _ _ _ _ _ _ _ _ _ _ (off t), modulation, modulation, Norm.seg_block t.val r, ← hR]
  simp only [rows m c t r _ (hR ▸ R.isLt), e]
  rfl

theorem array (R : Fin 8448) (q : Fin 2048) :
    ((dats m 0 c).arrAt 2 cfg0.N : (⟨2, ![8448, 2048]⟩ : Shape).Idx → EReal) (ix2 R q) = normed m c R q := by
  have hN : cfg0.N = 33 := N_0
  refine (dats m 0 c).arrAt_forall_of_flushed 2 (fun i v => v = normed m c (i 0) (i 1)) (fun t _ y => ?_) cfg0.N
    ⟨R.val / 256, by omega⟩ (ix2 R q) (by dsimp only; omega) (idx _).2.2.2.2 ?_
  · obtain ⟨r, k, rfl⟩ := idx2 y
    exact point m c t r k _ _ (by show win0_2.index t 0 * 256 + 1 * r.val = _; rw [(idx t).2.2.1]; omega)
      (Fin.ext (by show win0_2.index t 1 * 2048 + 1 * k.val = _; rw [(idx t).2.2.2.1]; omega))
  · show _ ∈ ((View.whole main_v0).slice (win0_2.rect _)).set
    rw [View.set_slice_whole, Rect.mem_set_unit]
    intro a
    match a with
    | ⟨0, _⟩ => show win0_2.index _ 0 * 256 ≤ R.val ∧ R.val < win0_2.index _ 0 * 256 + 256; rw [(idx _).2.2.1]; dsimp only; omega
    | ⟨1, _⟩ => show win0_2.index _ 1 * 2048 ≤ q.val ∧ q.val < win0_2.index _ 1 * 2048 + 2048; rw [(idx _).2.2.2.1]; omega
end Cert.Kernel32Ideal.Whole

namespace Cert.NormEqual
theorem frame32 : Cert.quiescent_Reference32Ideal (hReference32Ideal := Cert.Reference32Ideal.Gen.facts) := fun m ρ _ =>
  (θ_run Cert.Reference32Ideal.defs _ _).mono (fun r h => ⟨fun c => (h c).2, sem_eq_zero_of_no_sems (by decide) r.2⟩)
    (Cert.Reference32Ideal.Value.run m ρ)

theorem algebraic32 : Cert.algebraic_Kernel32Ideal_Reference32Ideal (hKernel32Ideal := Cert.Kernel32Ideal.Gen.facts)
    (hReference32Ideal := Cert.Reference32Ideal.Gen.facts) := by
  intro m g m' g' _ hargs
  refine ⟨_, Cert.Kernel32Ideal.Value.run_blocks m g, ?_⟩
  refine (θ_run Cert.Reference32Ideal.defs _ _).mono (fun r h c => ?_) (Cert.Reference32Ideal.Value.run m' g')
  obtain ⟨e0, e1⟩ := hargs c
  refine ⟨(h c).1.trans (funext fun i => ?_), (h c).2⟩
  obtain ⟨R, q, rfl⟩ := Cert.Prod.idx2 i
  refine Eq.trans ?_ (Cert.Kernel32Ideal.Whole.array m c R q).symm
  rw [e0, e1]
  unfold Cert.Kernel32Ideal.Whole.normed Norm.element
  by_cases hR : R.val < 256
  · rw [Norm.seg_first R.val hR]
    pointwise
    rw [dif_pos hR]
  · rw [Norm.seg_rest R.val hR]
    pointwise
    rw [dif_neg hR]
    have e : (⟨256 + (R.val - 256), by omega⟩ : Fin 8448) = R := Fin.ext (by dsimp only; omega)
    simp only [e]
end Cert.NormEqual
end
-- ==== Proof.Silu.lean ====
/- The logistic function written through the hyperbolic tangent. -/
module
public import Idealize.ShloMosaic.Lib.Pointwise
public import Idealize.ShloMosaic.Lib.IdealHost

@[expose] public section
noncomputable section
open Idealize.ShloMosaic Idealize.ShloMosaic.TcCoe

namespace Cert.Silu

/-- The gate: the argument times its logistic function. -/
def silu (x : EReal) : EReal := x * Ideal.logistic x

theorem half : Ideal.ofBits .f32 0x3F000000#32 = ((1 / 2 : ℝ) : EReal) := by
  simp [Ideal.ofBits, Ideal.ieee, -EReal.coe_mul]; norm_num

theorem real (r : ℝ) : 1 / 2 * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; congr 1; ring
  have p : Real.exp (1 / 2 * r) * Real.exp (-(1 / 2 * r)) = 1 := by rw [← Real.exp_add, add_neg_cancel, Real.exp_zero]
  rw [e]
  have ha := Real.exp_pos (1 / 2 * r)
  have hb := Real.exp_pos (-(1 / 2 * r))
  generalize Real.exp (1 / 2 * r) = a at *
  generalize Real.exp (-(1 / 2 * r)) = b at *
  have h1 : 1 + b * b = b * (a + b) := by rw [mul_add, mul_comm b a, p]
  rw [h1]
  field_simp
  nlinarith [p]

/-- Half the tangent of the half, and a half, is the logistic function. -/
theorem logistic (x : EReal) : Ideal.ofBits .f32 0x3F000000#32 * Ideal.tanh (Ideal.ofBits .f32 0x3F000000#32 * x) + Ideal.ofBits .f32 0x3F000000#32 = Ideal.logistic x := by
  rw [half]
  induction x with
  | bot =>
    rw [EReal.coe_mul_bot_of_pos (by norm_num), Ideal.tanh_bot, Ideal.logistic_bot, ← EReal.coe_one, ← EReal.coe_neg, ← EReal.coe_mul, ← EReal.coe_add,
      ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, real]

end Cert.Silu
end
-- ==== Proof.Ada.lean ====
/- The modulations' calls: the conditions' gated product with the weight forward, the optimiser's step of that weight from the
   gradient that the call makes itself, and the gradient of the gated conditions. -/
module
public import proofs.«01_k».proof.Proof.Adam
public import proofs.«01_k».proof.Proof.Silu
public import proofs.«01_k».proof.Proof.Prod
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Defs

@[expose] public section
set_option maxRecDepth 16384
set_option maxHeartbeats 1000000
noncomputable section
open Idealize.ShloMosaic Idealize.ShloMosaic.TcCoe Idealize.SL.Sem

namespace Cert.Kernel33Ideal.Whole
open Cert.Kernel33Ideal Cert.Kernel33Ideal.Gen

/-- The weight's gradient: over the sixteen conditions, the gated condition times the modulations' gradient. -/
def grad (A : S16x2048.Idx → EReal) (B : S4x16x3072.Idx → EReal) (i : S4x2048x3072.Idx) : EReal :=
  ∑ k : Fin 16, Silu.silu (A (ix2 k (i 1))) * B (ix3 (i 0) k (i 2))

/-- The same of a block. -/
def part (x0 : S16x128.Idx → EReal) (x1 : S1x16x3072.Idx → EReal) (y : S1x128x3072.Idx) : EReal :=
  ∑ k : Fin 16, Silu.silu (x0 (ix2 k (y 1))) * x1 (ix3 0 k (y 2))

theorem outs (x0 : Vec Ideal S16x128 .f32) (x1 : Vec Ideal S1x16x3072 .f32) (w m v : Vec Ideal S1x128x3072 .f32) :
    Adam.Stepped (part x0 x1) w m v (out0_5 (F := Ideal) x0 x1 w m v) (out0_6 (F := Ideal) x0 x1 w m v)
    (out0_7 (F := Ideal) x0 x1 w m v) (out0_8 (F := Ideal) x0 x1 w m v) := by
  unfold out0_5 out0_6 out0_7 out0_8
  simp only [View.canon_unit_zero (S := S1x128x3072) Prod.hz3, View.ld_unit_zero (S := S1x128x3072) Prod.hz3,
    View.ld_unit_zero (S := S16x128) Prod.hz2, View.ld_unit_zero (S := S1x16x3072) Prod.hz3]
  have p : ∀ (r : Fin 128) (q : Fin 3072), k0_pay5 (F := Ideal) x0 x1 (ix2 r q) = part x0 x1 (ix3 0 r q) := fun r q => by
    unfold_payloads
    pointwise
    simp only [Silu.logistic]
    rfl
  refine ⟨funext fun y => ?_, funext fun y => ?_, funext fun y => ?_, funext fun y => ?_⟩ <;>
    obtain ⟨s, r, q, rfl⟩ := Prod.idx3 y <;> obtain rfl : s = 0 := Fin.ext (by omega) <;> rw [← p r q]
  · unfold k0_pay1
    pointwise
  · unfold k0_pay2 k0_pay8 k0_pay9 k0_pay6 k0_pay7
    pointwise
    rfl
  · unfold k0_pay3 k0_pay6
    pointwise
    rfl
  · unfold k0_pay4 k0_pay7
    pointwise
    rfl

variable (m : (ℓ : Loc nD τ sig) → Buf (Elt Ideal) ℓ) (c : Dev nD)

theorem idx : ∀ t : Fin grid0.N, win0_5.index t 0 = t.val / 16 ∧ win0_5.index t 1 = t.val % 16 ∧ win0_5.index t 2 = 0 := by decide +kernel
theorem idx0 : ∀ t : Fin grid0.N, win0_0.index t 0 = 0 ∧ win0_0.index t 1 = t.val % 16 := by decide +kernel
theorem idx1 : ∀ t : Fin grid0.N, win0_1.index t 0 = t.val / 16 ∧ win0_1.index t 1 = 0 ∧ win0_1.index t 2 = 0 := by decide +kernel
theorem flushes : ∀ t : Fin grid0.N, win0_5.flush t = true ∧ win0_6.flush t = true ∧ win0_7.flush t = true ∧ win0_8.flush t = true := by decide +kernel

theorem cover (i : S4x2048x3072.Idx) : ∃ t : Fin cfg0.N, i ∈ ((cfg0.win 5).blk t).view.set := by
  have hN : cfg0.N = 64 := N_0
  have h0 : (i 0).val < 4 := (i 0).isLt
  have h1 : (i 1).val < 2048 := (i 1).isLt
  have h2 : (i 2).val < 3072 := (i 2).isLt
  refine ⟨⟨16 * (i 0).val + (i 1).val / 128, by omega⟩, ?_⟩
  show _ ∈ ((View.whole main_v0_0).slice (win0_5.rect _)).set
  rw [View.set_slice_whole, Rect.mem_set_unit]
  intro a
  match a with
  | ⟨0, _⟩ => show win0_5.index _ 0 * 1 ≤ (i 0).val ∧ (i 0).val < win0_5.index _ 0 * 1 + 1; rw [(idx _).1]; dsimp only; omega
  | ⟨1, _⟩ => show win0_5.index _ 1 * 128 ≤ (i 1).val ∧ (i 1).val < win0_5.index _ 1 * 128 + 128; rw [(idx _).2.1]; dsimp only; omega
  | ⟨2, _⟩ => show win0_5.index _ 2 * 3072 ≤ (i 2).val ∧ (i 2).val < win0_5.index _ 2 * 3072 + 3072; rw [(idx _).2.2]; omega

/-- A block's gradient is the block of the gradient. -/
theorem block (t : Fin cfg0.N) (y : S1x128x3072.Idx) (i : S4x2048x3072.Idx) (h0 : (i 0).val = win0_5.index t 0 * 1 + 1 * (y 0).val)
    (h1 : (i 1).val = win0_5.index t 1 * 128 + 1 * (y 1).val) (h2 : (i 2).val = win0_5.index t 2 * 3072 + 1 * (y 2).val) :
    part (iblk m c 0 t) (iblk m c 1 t) y = grad (V m c main_arg0) (V m c main_arg1) i := by
  have hy : (y 0).val < 1 := (y 0).isLt
  refine Finset.sum_congr rfl fun k _ => congrArg₂ (fun a b : EReal => Silu.silu a * b) ?_ ?_
  · unfold iblk
    rw [View.read_apply]
    show V m c main_arg0 _ = _
    refine congrArg (V m c main_arg0) (funext fun a => Fin.ext ?_)
    match a with
    | ⟨0, _⟩ => show win0_0.index t 0 * 16 + 1 * k.val = k.val; rw [(idx0 t).1]; omega
    | ⟨1, _⟩ => show win0_0.index t 1 * 128 + 1 * (y 1).val = (i 1).val; rw [h1, (idx0 t).2, (idx t).2.1]
  · unfold iblk
    rw [View.read_apply]
    show V m c main_arg1 _ = _
    refine congrArg (V m c main_arg1) (funext fun a => Fin.ext ?_)
    match a with
    | ⟨0, _⟩ => show win0_1.index t 0 * 1 + 1 * 0 = (i 0).val; rw [h0, (idx1 t).1, (idx t).1]; omega
    | ⟨1, _⟩ => show win0_1.index t 1 * 16 + 1 * k.val = k.val; rw [(idx1 t).2.1]; omega
    | ⟨2, _⟩ => show win0_1.index t 2 * 3072 + 1 * (y 2).val = (i 2).val; rw [h2, (idx1 t).2.2, (idx t).2.2]

theorem arrays : Adam.Stepped (grad (V m c main_arg0) (V m c main_arg1)) (V m c main_arg2) (V m c main_arg3) (V m c main_arg4)
    ((dats m 0 c).arrAt 5 cfg0.N) ((dats m 0 c).arrAt 6 cfg0.N) ((dats m 0 c).arrAt 7 cfg0.N) ((dats m 0 c).arrAt 8 cfg0.N) where
  gradient := funext ((dats m 0 c).arrAt_forall_of_cover 5 (fun i x => x = grad (V m c main_arg0) (V m c main_arg1) i)
    (fun t _ y => (congrFun ((Value.flushed5 m c t).trans (outs _ _ _ _ _).gradient) y).trans (block m c t y _ rfl rfl rfl))
    fun i => (cover i).imp fun t h => ⟨(flushes t).1, h⟩)
  step := funext ((dats m 0 c).arrAt_forall_of_cover 6
    (fun i x => x = Adam.delta (grad (V m c main_arg0) (V m c main_arg1) i) (V m c main_arg2 i) (V m c main_arg3 i) (V m c main_arg4 i))
    (fun t _ y => (congrFun ((Value.flushed6 m c t).trans (outs _ _ _ _ _).step) y).trans
      (congrArg (fun g => Adam.delta g _ _ _) (block m c t y _ rfl rfl rfl)))
    fun i => (cover i).imp fun t h => ⟨(flushes t).2.1, h⟩)
  first := funext ((dats m 0 c).arrAt_forall_of_cover 7
    (fun i x => x = Adam.newM (grad (V m c main_arg0) (V m c main_arg1) i) (V m c main_arg3 i))
    (fun t _ y => (congrFun ((Value.flushed7 m c t).trans (outs _ _ _ _ _).first) y).trans
      (congrArg (fun g => Adam.newM g _) (block m c t y _ rfl rfl rfl)))
    fun i => (cover i).imp fun t h => ⟨(flushes t).2.2.1, h⟩)
  second := funext ((dats m 0 c).arrAt_forall_of_cover 8
    (fun i x => x = Adam.newV (grad (V m c main_arg0) (V m c main_arg1) i) (V m c main_arg4 i))
    (fun t _ y => (congrFun ((Value.flushed8 m c t).trans (outs _ _ _ _ _).second) y).trans
      (congrArg (fun g => Adam.newV g _) (block m c t y _ rfl rfl rfl)))
    fun i => (cover i).imp fun t h => ⟨(flushes t).2.2.2, h⟩)
end Cert.Kernel33Ideal.Whole

namespace Cert.AdaEqual
theorem frame33 : Cert.quiescent_Reference33Ideal (hReference33Ideal := Cert.Reference33Ideal.Gen.facts) := fun m ρ _ =>
  (θ_run Cert.Reference33Ideal.defs _ _).mono (fun r h => ⟨fun c => (h c).2.2.2.2, sem_eq_zero_of_no_sems (by decide) r.2⟩)
    (Cert.Reference33Ideal.Value.run m ρ)

open Cert.Reference33Ideal Cert.Reference33Ideal.Gen in
/-- The reference's gradient: the product's own derivative. -/
theorem grad_eq (A : S16x2048.Idx → EReal) (B : S4x16x3072.Idx → EReal) :
    Cert.Kernel33Ideal.Whole.grad A B = transpose S4x2048x3072 [0, 2, 1] (Host.dotGeneral (F := Ideal) (φ₁ := .f32) (φ₂ := .f32)
      dot_S4x3072x16_S16x2048_S4x3072x2048_2_0_01_1_n_n none (transpose S4x3072x16 [0, 2, 1] B transposes_S4x16x3072_S4x3072x16_0_2_1)
      (mulf (F := Ideal) (φ := .f32) A (Host.divf (F := Ideal) (φ := .f32) (broadcastInDim S16x2048 ![] bcast_S_S16x2048 (constant (F := Ideal) S_ .f32 0x3F800000#32))
        (addf (F := Ideal) (φ := .f32) (broadcastInDim S16x2048 ![] bcast_S_S16x2048 (constant (F := Ideal) S_ .f32 0x3F800000#32)) (Host.exp (F := Ideal) (φ := .f32) (Host.negf (F := Ideal) (φ := .f32) A))))))
      transposes_S4x3072x2048_S4x2048x3072_0_2_1 := by
  funext i
  obtain ⟨l, r, q, rfl⟩ := Prod.idx3 i
  pointwise
  refine Finset.sum_congr rfl fun k _ => mul_comm _ _

theorem algebraic33 : Cert.algebraic_Kernel33Ideal_Reference33Ideal (hKernel33Ideal := Cert.Kernel33Ideal.Gen.facts)
    (hReference33Ideal := Cert.Reference33Ideal.Gen.facts) := by
  intro m g m' g' _ hargs
  refine ⟨_, _, _, _, Cert.Kernel33Ideal.Value.run_blocks m g, ?_⟩
  refine (θ_run Cert.Reference33Ideal.defs _ _).mono (fun r h c => ?_) (Cert.Reference33Ideal.Value.run m' g')
  obtain ⟨e0, e1, e2, e3, e4⟩ := hargs c
  have k := Cert.Kernel33Ideal.Whole.arrays m c
  rw [Cert.Kernel33Ideal.Gen.V_main_arg0, Cert.Kernel33Ideal.Gen.V_main_arg1, Cert.Kernel33Ideal.Gen.V_main_arg2,
    Cert.Kernel33Ideal.Gen.V_main_arg3, Cert.Kernel33Ideal.Gen.V_main_arg4, ← e0, ← e1, ← e2, ← e3, ← e4, grad_eq] at k
  obtain ⟨u0, u1, u2, u3⟩ := Adam.Stepped.unique ⟨rfl, rfl, rfl, rfl⟩ k
  exact ⟨(h c).1.trans u0, (h c).2.1.trans u1, (h c).2.2.1.trans u2, (h c).2.2.2.1.trans u3, (h c).2.2.2.2⟩
end Cert.AdaEqual

namespace Cert.Kernel34Ideal.Whole
open Cert.Kernel34Ideal Cert.Kernel34Ideal.Gen

/-- The modulations of a condition: the gated condition times the weight. -/
def ada (A : S16x2048.Idx → EReal) (B : S4x2048x3072.Idx → EReal) (i : S4x16x3072.Idx) : EReal :=
  ∑ k : Fin 2048, Silu.silu (A (ix2 (i 1) k)) * B (ix3 (i 0) k (i 2))

theorem out (x0 : Vec Ideal S16x2048 .f32) (x1 : Vec Ideal S1x2048x1024 .f32) (r : Fin 16) (q : Fin 1024) :
    out0_2 (F := Ideal) x0 x1 (ix3 0 r q) = ∑ k : Fin 2048, Silu.silu (x0 (ix2 r k)) * x1 (ix3 0 k q) := by
  unfold out0_2
  simp only [View.canon_unit_zero (S := S1x16x1024) Prod.hz3, View.ld_unit_zero (S := S16x2048) Prod.hz2, View.ld_unit_zero (S := S1x2048x1024) Prod.hz3]
  unfold_payloads
  pointwise
  simp only [Silu.logistic]
  rfl

variable (m : (ℓ : Loc nD τ sig) → Buf (Elt Ideal) ℓ) (c : Dev nD)

theorem idx : ∀ t : Fin grid0.N, win0_2.index t 0 = t.val / 3 ∧ win0_2.index t 1 = 0 ∧ win0_2.index t 2 = t.val % 3 ∧ win0_2.flush t = true := by decide +kernel
theorem idx0 : ∀ t : Fin grid0.N, win0_0.index t 0 = 0 ∧ win0_0.index t 1 = 0 := by decide +kernel
theorem idx1 : ∀ t : Fin grid0.N, win0_1.index t 0 = t.val / 3 ∧ win0_1.index t 1 = 0 ∧ win0_1.index t 2 = t.val % 3 := by decide +kernel

theorem cover (i : S4x16x3072.Idx) : ∃ t : Fin cfg0.N, i ∈ ((cfg0.win 2).blk t).view.set := by
  have hN : cfg0.N = 12 := N_0
  have h0 : (i 0).val < 4 := (i 0).isLt
  have h1 : (i 1).val < 16 := (i 1).isLt
  have h2 : (i 2).val < 3072 := (i 2).isLt
  refine ⟨⟨3 * (i 0).val + (i 2).val / 1024, by omega⟩, ?_⟩
  show _ ∈ ((View.whole main_v0).slice (win0_2.rect _)).set
  rw [View.set_slice_whole, Rect.mem_set_unit]
  intro a
  match a with
  | ⟨0, _⟩ => show win0_2.index _ 0 * 1 ≤ (i 0).val ∧ (i 0).val < win0_2.index _ 0 * 1 + 1; rw [(idx _).1]; dsimp only; omega
  | ⟨1, _⟩ => show win0_2.index _ 1 * 16 ≤ (i 1).val ∧ (i 1).val < win0_2.index _ 1 * 16 + 16; rw [(idx _).2.1]; omega
  | ⟨2, _⟩ => show win0_2.index _ 2 * 1024 ≤ (i 2).val ∧ (i 2).val < win0_2.index _ 2 * 1024 + 1024; rw [(idx _).2.2.1]; dsimp only; omega

theorem point (t : Fin cfg0.N) (r : Fin 16) (q : Fin 1024) (i : S4x16x3072.Idx) (h0 : (i 0).val = win0_2.index t 0 * 1 + 1 * 0)
    (h1 : (i 1).val = win0_2.index t 1 * 16 + 1 * r.val) (h2 : (i 2).val = win0_2.index t 2 * 1024 + 1 * q.val) :
    ((dats m 0 c).flushed 2 t : S1x16x1024.Idx → EReal) (ix3 0 r q) = ada (V m c main_arg0) (V m c main_arg1) i := by
  rw [Value.flushed2]
  refine (out _ _ r q).trans ?_
  refine Finset.sum_congr rfl fun k _ => congrArg₂ (fun a b : EReal => Silu.silu a * b) ?_ ?_
  · unfold iblk
    rw [View.read_apply]
    show V m c main_arg0 _ = _
    refine congrArg (V m c main_arg0) (funext fun a => Fin.ext ?_)
    match a with
    | ⟨0, _⟩ => show win0_0.index t 0 * 16 + 1 * r.val = (i 1).val; rw [h1, (idx0 t).1, (idx t).2.1]
    | ⟨1, _⟩ => show win0_0.index t 1 * 2048 + 1 * k.val = k.val; rw [(idx0 t).2]; omega
  · unfold iblk
    rw [View.read_apply]
    show V m c main_arg1 _ = _
    refine congrArg (V m c main_arg1) (funext fun a => Fin.ext ?_)
    match a with
    | ⟨0, _⟩ => show win0_1.index t 0 * 1 + 1 * 0 = (i 0).val; rw [h0, (idx1 t).1, (idx t).1]
    | ⟨1, _⟩ => show win0_1.index t 1 * 2048 + 1 * k.val = k.val; rw [(idx1 t).2.1]; omega
    | ⟨2, _⟩ => show win0_1.index t 2 * 1024 + 1 * q.val = (i 2).val; rw [h2, (idx1 t).2.2, (idx t).2.2.1]

theorem array : ((dats m 0 c).arrAt 2 cfg0.N : S4x16x3072.Idx → EReal) = ada (V m c main_arg0) (V m c main_arg1) :=
  funext ((dats m 0 c).arrAt_forall_of_cover 2 (fun i x => x = ada (V m c main_arg0) (V m c main_arg1) i)
    (fun t _ y => by
      obtain ⟨s, r, q, rfl⟩ := Prod.idx3 y
      obtain rfl : s = 0 := Fin.ext (by omega)
      exact point m c t r q _ rfl rfl rfl)
    fun i => (cover i).imp fun t h => ⟨(idx t).2.2.2, h⟩)
end Cert.Kernel34Ideal.Whole

namespace Cert.AdaEqual
theorem frame34 : Cert.quiescent_Reference34Ideal (hReference34Ideal := Cert.Reference34Ideal.Gen.facts) := fun m ρ _ =>
  (θ_run Cert.Reference34Ideal.defs _ _).mono (fun r h => ⟨fun c => (h c).2, sem_eq_zero_of_no_sems (by decide) r.2⟩)
    (Cert.Reference34Ideal.Value.run m ρ)

theorem algebraic34 : Cert.algebraic_Kernel34Ideal_Reference34Ideal (hKernel34Ideal := Cert.Kernel34Ideal.Gen.facts)
    (hReference34Ideal := Cert.Reference34Ideal.Gen.facts) := by
  intro m g m' g' _ hargs
  refine ⟨_, Cert.Kernel34Ideal.Value.run_blocks m g, ?_⟩
  refine (θ_run Cert.Reference34Ideal.defs _ _).mono (fun r h c => ?_) (Cert.Reference34Ideal.Value.run m' g')
  obtain ⟨e0, e1⟩ := hargs c
  refine ⟨(h c).1.trans (funext fun i => ?_), (h c).2⟩
  refine Eq.trans ?_ (congrFun (Cert.Kernel34Ideal.Whole.array m c) i).symm
  rw [Cert.Kernel34Ideal.Gen.V_main_arg0, Cert.Kernel34Ideal.Gen.V_main_arg1, ← e0, ← e1]
  obtain ⟨l, r, q, rfl⟩ := Prod.idx3 i
  pointwise
  refine Finset.sum_congr rfl fun k _ => mul_comm _ _
end Cert.AdaEqual

namespace Cert.Kernel35Ideal.Whole
open Cert.Kernel35Ideal Cert.Kernel35Ideal.Gen
theorem step (a : Vec Ideal S8x2048 .f32) (x0 : Vec Ideal S1x8x1024 .f32) (x1 : Vec Ideal S1x2048x1024 .f32) (r : Fin 8) (q : Fin 2048) :
    k0_pay2 a x0 x1 (ix2 r q) = a (ix2 r q) + ∑ k : Fin 1024, x0 (ix3 0 r k) * x1 (ix3 0 q k) := by
  unfold k0_pay2
  pointwise

theorem reset (r : Fin 8) (q : Fin 2048) : k0_pay1 (F := Ideal) (ix2 r q) = 0 := by
  unfold k0_pay1
  pointwise

variable (m : (ℓ : Loc nD τ sig) → Buf (Elt Ideal) ℓ) (c : Dev nD)

theorem idx0 : ∀ t : Fin grid0.N, win0_0.index t 0 = t.val / 3 ∧ win0_0.index t 1 = 0 ∧ win0_0.index t 2 = t.val % 3 := by decide +kernel
theorem idx1 : ∀ t : Fin grid0.N, win0_1.index t 0 = t.val / 3 ∧ win0_1.index t 1 = 0 ∧ win0_1.index t 2 = t.val % 3 := by decide +kernel

/-- The argument arrays. -/
abbrev A : S4x8x3072.Idx → EReal := V m c main_arg0
abbrev B : S4x2048x3072.Idx → EReal := V m c main_arg1

/-- The blocks of a point. -/
abbrev X (t : ℕ) (h : t < cfg0.N) : S1x8x1024.Idx → EReal := iblk m c 0 ⟨t, h⟩
abbrev Y (t : ℕ) (h : t < cfg0.N) : S1x2048x1024.Idx → EReal := iblk m c 1 ⟨t, h⟩

/-- One point's share of the sum: a layer's third of the columns. -/
def term (r : Fin 8) (q : Fin 2048) (t : ℕ) (h : t < cfg0.N) : EReal :=
  ∑ k : Fin 1024, X m c t h (ix3 0 r k) * Y m c t h (ix3 0 q k)

theorem term_eq (r : Fin 8) (q : Fin 2048) (l : Fin 4) (b : Fin 3) (t : ℕ) (h : t < cfg0.N) (ht : t = 3 * l.val + b.val) :
    term m c r q t h = ∑ k : Fin 1024, A m c (ix3 l r ⟨1024 * b.val + k.val, by omega⟩) * B m c (ix3 l q ⟨1024 * b.val + k.val, by omega⟩) := by
  refine Finset.sum_congr rfl fun k _ => congrArg₂ (fun a b : EReal => a * b) ?_ ?_
  · unfold X iblk
    rw [View.read_apply]
    show V m c main_arg0 _ = _
    refine congrArg (V m c main_arg0) (funext fun a => Fin.ext ?_)
    match a with
    | ⟨0, _⟩ => show win0_0.index ⟨t, h⟩ 0 * 1 + 1 * 0 = l.val; rw [(idx0 _).1]; dsimp only; omega
    | ⟨1, _⟩ => show win0_0.index ⟨t, h⟩ 1 * 8 + 1 * r.val = r.val; rw [(idx0 _).2.1]; omega
    | ⟨2, _⟩ => show win0_0.index ⟨t, h⟩ 2 * 1024 + 1 * k.val = 1024 * b.val + k.val; rw [(idx0 _).2.2]; dsimp only; omega
  · unfold Y iblk
    rw [View.read_apply]
    show V m c main_arg1 _ = _
    refine congrArg (V m c main_arg1) (funext fun a => Fin.ext ?_)
    match a with
    | ⟨0, _⟩ => show win0_1.index ⟨t, h⟩ 0 * 1 + 1 * 0 = l.val; rw [(idx1 _).1]; dsimp only; omega
    | ⟨1, _⟩ => show win0_1.index ⟨t, h⟩ 1 * 2048 + 1 * q.val = q.val; rw [(idx1 _).2.1]; omega
    | ⟨2, _⟩ => show win0_1.index ⟨t, h⟩ 2 * 1024 + 1 * k.val = 1024 * b.val + k.val; rw [(idx1 _).2.2]; dsimp only; omega

theorem fold (r : Fin 8) (q : Fin 2048) (b : ℕ) (hb : b = 0) (h : b + 11 < cfg0.N) :
    Pipeline.accAt (Value.reset2 m c) (Value.step2 m c) b 11 h (ix2 r q) = ∑ l : Fin 4, ∑ n : Fin 3072, A m c (ix3 l r n) * B m c (ix3 l q n) := by
  subst hb
  have hN : cfg0.N = 12 := N_0
  have e := Prod.running (n := 11) (fun i => Pipeline.accAt (Value.reset2 m c) (Value.step2 m c) 0 i.val (by omega) (ix2 r q))
    (fun i => term m c r q (0 + i.val) (by omega)) ((step _ _ _ r q).trans (by rw [reset, zero_add]; rfl))
    (fun i => (congrFun (Pipeline.accAt_succ _ _ 0 i.val (by omega)) (ix2 r q)).trans (step _ _ _ r q))
  refine e.trans (Eq.trans ?_ (Finset.sum_congr rfl fun l _ => Prod.blocks (n := 3) (b := 1024) (N := 3072) (by decide)
    (fun n => A m c (ix3 l r n) * B m c (ix3 l q n)) (fun b k => A m c (ix3 l r ⟨1024 * b.val + k.val, by omega⟩) * B m c (ix3 l q ⟨1024 * b.val + k.val, by omega⟩))
    fun _ _ _ => rfl))
  refine (Prod.blocks (n := 4) (b := 3) (N := 12) (by decide) (fun i => term m c r q (0 + i.val) (by omega)) _ fun l b hij => ?_).symm
  exact (term_eq m c r q l b _ _ (by dsimp only; omega)).symm

theorem array (r : Fin 8) (q : Fin 2048) : ((dats m 0 c).arrAt 2 cfg0.N : S8x2048.Idx → EReal) (ix2 r q)
    = ∑ l : Fin 4, ∑ n : Fin 3072, A m c (ix3 l r n) * B m c (ix3 l q n) := by
  have hN : cfg0.N = 12 := N_0
  have hr : Value.run2Of (ix2 r q) = 0 := by show 1 * (r.val / 8 - 0) + 1 * (q.val / 2048 - 0) = 0; omega
  have hl : Value.loc2Of (ix2 r q) = ix2 r q := funext fun a => Fin.ext (match a with
    | ⟨0, _⟩ => Nat.mod_eq_of_lt r.isLt
    | ⟨1, _⟩ => Nat.mod_eq_of_lt q.isLt)
  rw [Value.final2]
  unfold Value.G2
  rw [dif_pos (by rw [hr]; omega), hl]
  exact fold m c r q _ (by rw [hr]) _
end Cert.Kernel35Ideal.Whole

namespace Cert.AdaEqual
theorem frame35 : Cert.quiescent_Reference35Ideal (hReference35Ideal := Cert.Reference35Ideal.Gen.facts) := fun m ρ _ =>
  (θ_run Cert.Reference35Ideal.defs _ _).mono (fun r h => ⟨fun c => (h c).2, sem_eq_zero_of_no_sems (by decide) r.2⟩)
    (Cert.Reference35Ideal.Value.run m ρ)

theorem algebraic35 : Cert.algebraic_Kernel35Ideal_Reference35Ideal (hKernel35Ideal := Cert.Kernel35Ideal.Gen.facts)
    (hReference35Ideal := Cert.Reference35Ideal.Gen.facts) := by
  intro m g m' g' _ hargs
  refine ⟨_, Cert.Kernel35Ideal.Value.run_blocks m g, ?_⟩
  refine (θ_run Cert.Reference35Ideal.defs _ _).mono (fun r h c => ?_) (Cert.Reference35Ideal.Value.run m' g')
  obtain ⟨e0, e1⟩ := hargs c
  refine ⟨(h c).1.trans (funext fun i => ?_), (h c).2⟩
  obtain ⟨r, q, rfl⟩ := Prod.idx2 i
  refine Eq.trans ?_ (Cert.Kernel35Ideal.Whole.array m c r q).symm
  unfold Cert.Kernel35Ideal.Whole.A Cert.Kernel35Ideal.Whole.B
  rw [Cert.Kernel35Ideal.Gen.V_main_arg0, Cert.Kernel35Ideal.Gen.V_main_arg1, ← e0, ← e1]
  pointwise
end Cert.AdaEqual
end
-- ==== Proof.FfnFwd.lean ====
/- The gated feed-forward activation, element by element: each block's store, the array over all the blocks, and the reference's
   rows of either segment are the same gated value of a biased sum of three taps. -/
module
public import proofs.«01_k».proof.Proof.Gen.Kernel36Ideal.Value
public import proofs.«01_k».proof.Proof.Gen.Reference36Ideal.Run
public import proofs.«01_k».proof.Proof.Cols
public import proofs.«01_k».proof.Proof.Model
public import proofs.«01_k».proof.Proof.Silu
public import proofs.«01_k».proof.Proof.Prod
public import proofs.«01_k».proof.Defs

@[expose] public section
set_option maxRecDepth 16384
set_option maxHeartbeats 4000000
noncomputable section
open Idealize.ShloMosaic Idealize.ShloMosaic.TcCoe Idealize.SL.Sem

namespace Cert.Ffn
open Cert.Model

abbrev gc (k : Fin 5632) : Fin 11264 := ⟨k.val, by omega⟩
abbrev vc (k : Fin 5632) : Fin 11264 := ⟨5632 + k.val, by omega⟩

/-- A column of 5632 lies in one of four slabs of 1408. -/
theorem split (k : Fin 5632) : (∃ l : Fin 1408, k = ⟨l.val, by omega⟩) ∨ (∃ l : Fin 1408, k = ⟨1408 + l.val, by omega⟩)
    ∨ (∃ l : Fin 1408, k = ⟨2816 + l.val, by omega⟩) ∨ (∃ l : Fin 1408, k = ⟨4224 + l.val, by omega⟩) := by
  rcases Nat.lt_or_ge k.val 1408 with h | h
  · exact Or.inl ⟨⟨k.val, h⟩, rfl⟩
  rcases Nat.lt_or_ge k.val 2816 with h' | h'
  · exact Or.inr (Or.inl ⟨⟨k.val - 1408, by omega⟩, Fin.ext (by dsimp only; omega)⟩)
  rcases Nat.lt_or_ge k.val 4224 with h'' | h''
  · exact Or.inr (Or.inr (Or.inl ⟨⟨k.val - 2816, by omega⟩, Fin.ext (by dsimp only; omega)⟩))
  · exact Or.inr (Or.inr (Or.inr ⟨⟨k.val - 4224, by omega⟩, Fin.ext (by dsimp only; omega)⟩))

/-- The gate's columns. -/
def w (U : (⟨2, ![8448, 11264]⟩ : Shape).Idx → EReal) (k : Fin 5632) (R : Fin 8448) : EReal := U (ix2 R (gc k))

/-- The biased convolution of the gate at one element, and the gated value. -/
def g (U : (⟨2, ![8448, 11264]⟩ : Shape).Idx → EReal) (C : Fin 4 → Fin 5632 → EReal) (k : Fin 5632) (R : Fin 8448) : EReal :=
  before (w U k) R * C 0 k + w U k R * C 1 k + after (w U k) R * C 2 k + C 3 k
def act (U : (⟨2, ![8448, 11264]⟩ : Shape).Idx → EReal) (C : Fin 4 → Fin 5632 → EReal) (k : Fin 5632) (R : Fin 8448) : EReal :=
  g U C k R * Ideal.logistic (g U C k R) * U (ix2 R (vc k))

/-- The same within a block. -/
def bg (t : ℕ) (x0 : (⟨2, ![256, 11264]⟩ : Shape).Idx → EReal) (x1 x2 : (⟨2, ![16, 11264]⟩ : Shape).Idx → EReal)
    (x3 : (⟨2, ![8, 5632]⟩ : Shape).Idx → EReal) (k : Fin 5632) (r : Fin 256) : EReal :=
  bBefore t (x1 (ix2 15 (gc k))) (fun r => x0 (ix2 r (gc k))) r * x3 (ix2 0 k) + x0 (ix2 r (gc k)) * x3 (ix2 1 k)
    + bAfter t (x2 (ix2 0 (gc k))) (fun r => x0 (ix2 r (gc k))) r * x3 (ix2 2 k) + x3 (ix2 3 k)
def bact (t : ℕ) (x0 : (⟨2, ![256, 11264]⟩ : Shape).Idx → EReal) (x1 x2 : (⟨2, ![16, 11264]⟩ : Shape).Idx → EReal)
    (x3 : (⟨2, ![8, 5632]⟩ : Shape).Idx → EReal) (k : Fin 5632) (r : Fin 256) : EReal :=
  bg t x0 x1 x2 x3 k r * Ideal.logistic (bg t x0 x1 x2 x3 k r) * x0 (ix2 r (vc k))

end Cert.Ffn

namespace Cert.Kernel36Ideal.Whole
open Cert.Kernel36Ideal Cert.Kernel36Ideal.Gen Cert.Model Cert.Ffn

theorem out (i : grid0.Coords) (x0 : Vec Ideal S256x11264 .bf16) (x1 x2 : Vec Ideal S16x11264 .bf16) (x3 : Vec Ideal S8x5632 .f32)
    (r : Fin 256) (k : Fin 5632) : out0_4 i x0 x1 x2 x3 (ix2 r k) = bact (i 0).val x0 x1 x2 x3 k r := by
  unfold out0_4
  rcases split k with ⟨l, rfl⟩ | ⟨l, rfl⟩ | ⟨l, rfl⟩ | ⟨l, rfl⟩
  · rw [Cols.miss 4224 1408 _ _ _ _ _ (by dsimp only; omega), Cols.miss 2816 1408 _ _ _ _ _ (by dsimp only; omega),
      Cols.miss 1408 1408 _ _ _ _ _ (by dsimp only; omega), Cols.hit 0 1408 _ _ _ _ _ l (by first | rfl | (dsimp only; omega))]
    unfold_payloads
    pointwise
    simp only [first_flag (i 0), last_flag (i 0), sel_first, sel_last, halo_first, halo_last, Silu.logistic]
    simp only [bact, bg, bBefore, bAfter, gc, vc, ← Nat.add_assoc, Nat.reduceAdd, Nat.zero_add]
  · rw [Cols.miss 4224 1408 _ _ _ _ _ (by dsimp only; omega), Cols.miss 2816 1408 _ _ _ _ _ (by dsimp only; omega),
      Cols.hit 1408 1408 _ _ _ _ _ l (by first | rfl | (dsimp only; omega))]
    unfold_payloads
    pointwise
    simp only [first_flag (i 0), last_flag (i 0), sel_first, sel_last, halo_first, halo_last, Silu.logistic]
    simp only [bact, bg, bBefore, bAfter, gc, vc, ← Nat.add_assoc, Nat.reduceAdd, Nat.zero_add]
  · rw [Cols.miss 4224 1408 _ _ _ _ _ (by dsimp only; omega), Cols.hit 2816 1408 _ _ _ _ _ l (by first | rfl | (dsimp only; omega))]
    unfold_payloads
    pointwise
    simp only [first_flag (i 0), last_flag (i 0), sel_first, sel_last, halo_first, halo_last, Silu.logistic]
    simp only [bact, bg, bBefore, bAfter, gc, vc, ← Nat.add_assoc, Nat.reduceAdd, Nat.zero_add]
  · rw [Cols.hit 4224 1408 _ _ _ _ _ l (by first | rfl | (dsimp only; omega))]
    unfold_payloads
    pointwise
    simp only [first_flag (i 0), last_flag (i 0), sel_first, sel_last, halo_first, halo_last, Silu.logistic]
    simp only [bact, bg, bBefore, bAfter, gc, vc, ← Nat.add_assoc, Nat.reduceAdd, Nat.zero_add]

variable (m : (ℓ : Loc nD τ sig) → Buf (Elt Ideal) ℓ) (c : Dev nD)

/-- The argument arrays: the projected rows, and the three taps with the bias after them. -/
abbrev U : (⟨2, ![8448, 11264]⟩ : Shape).Idx → EReal := m ((c : Thread nD τ).loc main_arg0)
abbrev T : (⟨2, ![3, 5632]⟩ : Shape).Idx → EReal := m ((c : Thread nD τ).loc main_arg1)
abbrev B : (⟨1, ![5632]⟩ : Shape).Idx → EReal := m ((c : Thread nD τ).loc main_arg2)
def C : Fin 4 → Fin 5632 → EReal := fun i k => if h : i.val < 3 then T m c (ix2 ⟨i.val, h⟩ k) else B m c (ix1 k)

theorem coord_eq : ∀ t : Fin grid0.N, (grid0.coords t 0).val = t.val := by decide +kernel
theorem idx0 : ∀ t : Fin grid0.N, win0_0.index t 0 = t.val ∧ win0_0.index t 1 = 0 := by decide +kernel
theorem idx1 : ∀ t : Fin grid0.N, win0_1.index t 0 = 16 * t.val - 1 ∧ win0_1.index t 1 = 0 := by decide +kernel
theorem idx2 : ∀ t : Fin grid0.N, (t.val ≠ 32 → win0_2.index t 0 = 16 * t.val + 16) ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 ∧ win0_4.flush t = true := by decide +kernel

/-- A point as a number below 33. -/
abbrev pt (t : Fin cfg0.N) : Fin 33 := ⟨t.val, by have h := t.isLt; have : cfg0.N = 33 := N_0; omega⟩

/-- The taps and the bias as the call receives them: the first four of eight rows. -/
theorem padded (i : Fin 4) (k : Fin 5632) :
    (V m c main_v2 : (⟨2, ![8, 5632]⟩ : Shape).Idx → EReal) (ix2 ⟨i.val, by omega⟩ k) = C m c i k := by
  have e : V m c main_v2 = pad S8x5632 ![0, 0] ![4, 0] ![0, 0] (concatenate S4x5632 0 [⟨S3x5632, (m ((c : Thread nD τ).loc main_arg1) : Vec Ideal S3x5632 .f32)⟩,
        ⟨S1x5632, (broadcastInDim S1x5632 ![1] bcast_S5632_S1x5632_1 (m ((c : Thread nD τ).loc main_arg2) : Vec Ideal S5632 .f32))⟩] concatenates_S3x5632_S1x5632_S4x5632_d0)
      (sitofp (F := Ideal) .f32 (constantI S_ 32 0#32)) pads_S4x5632_S8x5632_040_000 h_S_ := by
    unfold V
    simp only [hostOps0, hostOps0_1, List.flatten_cons, List.flatten_nil, List.append_nil, List.cons_append, List.nil_append]
    after_results
    rfl
  rw [e]
  pointwise
  rfl

theorem taps (t : Fin cfg0.N) (i : Fin 4) (k : Fin 5632) :
    (iblk m c 3 t : (⟨2, ![8, 5632]⟩ : Shape).Idx → EReal) (ix2 ⟨i.val, by omega⟩ k) = C m c i k := by
  refine Eq.trans ?_ (padded m c i k)
  unfold iblk
  rw [View.read_apply]
  show V m c main_v2 _ = _
  refine congrArg (V m c main_v2) (funext fun a => Fin.ext ?_)
  match a with
  | ⟨0, _⟩ => show win0_3.index t 0 * 8 + 1 * i.val = i.val; rw [(idx3 t).1]; omega
  | ⟨1, _⟩ => show win0_3.index t 1 * 5632 + 1 * k.val = k.val; rw [(idx3 t).2]; omega

theorem rows (t : Fin cfg0.N) (r : Fin 256) (k : Fin 11264) :
    (iblk m c 0 t : (⟨2, ![256, 11264]⟩ : Shape).Idx → EReal) (ix2 r k) = U m c (ix2 (row (pt t) r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = 256 * t.val + r.val; rw [(idx0 t).1]; omega
  | ⟨1, _⟩ => show win0_0.index t 1 * 11264 + 1 * k.val = k.val; rw [(idx0 t).2]; omega

theorem previous (t : Fin cfg0.N) (h : (pt t).val ≠ 0) (k : Fin 11264) :
    (iblk m c 1 t : (⟨2, ![16, 11264]⟩ : Shape).Idx → EReal) (ix2 15 k) = U m c (ix2 ⟨256 * (pt t).val - 1, by omega⟩ k) := by
  unfold iblk
  rw [View.read_apply]
  show V m c main_arg0 _ = _
  rw [V_main_arg0]
  refine congrArg (m ((c : Thread nD τ).loc main_arg0)) (funext fun a => Fin.ext ?_)
  have h' : t.val ≠ 0 := h
  match a with
  | ⟨0, _⟩ => show win0_1.index t 0 * 16 + 1 * 15 = 256 * t.val - 1; rw [(idx1 t).1]; omega
  | ⟨1, _⟩ => show win0_1.index t 1 * 11264 + 1 * k.val = k.val; rw [(idx1 t).2]; omega

theorem next (t : Fin cfg0.N) (h : (pt t).val ≠ 32) (k : Fin 11264) :
    (iblk m c 2 t : (⟨2, ![16, 11264]⟩ : Shape).Idx → EReal) (ix2 0 k) = U m c (ix2 ⟨256 * (pt t).val + 256, by omega⟩ k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 16 + 1 * 0 = 256 * t.val + 256; rw [(idx2 t).1 h]; omega
  | ⟨1, _⟩ => show win0_2.index t 1 * 11264 + 1 * k.val = k.val; rw [(idx2 t).2]; omega

theorem bg_eq (t : Fin cfg0.N) (r : Fin 256) (k : Fin 5632) :
    bg (pt t).val (iblk m c 0 t) (iblk m c 1 t) (iblk m c 2 t) (iblk m c 3 t) k r = g (U m c) (C m c) k (row (pt t) r) := by
  unfold bg g
  refine congrArg₂ (fun a b : EReal => a + b) (congrArg₂ (fun a b : EReal => a + b) (congrArg₂ (fun a b : EReal => a + b) ?_ ?_) ?_) (taps m c t 3 k)
  · exact congrArg₂ (fun a b : EReal => a * b) (before_block _ (pt t) r _ _ (fun r => rows m c t r (gc k)) fun h => previous m c t h (gc k)) (taps m c t 0 k)
  · exact congrArg₂ (fun a b : EReal => a * b) (rows m c t r (gc k)) (taps m c t 1 k)
  · exact congrArg₂ (fun a b : EReal => a * b) (after_block _ (pt t) r _ _ (fun r => rows m c t r (gc k)) fun h => next m c t h (gc k)) (taps m c t 2 k)

theorem point (t : Fin cfg0.N) (r : Fin 256) (k : Fin 5632) (R : Fin 8448) (q : Fin 5632) (hR : R.val = 256 * t.val + r.val) (hq : q = k) :
    ((dats m 0 c).flushed 4 t : S256x5632.Idx → EReal) (ix2 r k) = act (U m c) (C m c) q R := by
  subst hq
  have e : row (pt t) r = R := Fin.ext hR.symm
  rw [Value.flushed4]
  show out0_4 _ _ _ _ _ (ix2 r q) = _
  rw [out, coord_eq]
  unfold bact act
  rw [← e]
  exact congrArg₂ (fun a b : EReal => a * Ideal.logistic a * b) (bg_eq m c t r q) (rows m c t r (vc q))

theorem array (R : Fin 8448) (q : Fin 5632) :
    ((dats m 0 c).arrAt 4 cfg0.N : (⟨2, ![8448, 5632]⟩ : Shape).Idx → EReal) (ix2 R q) = act (U m c) (C m c) q R := by
  have hN : cfg0.N = 33 := N_0
  refine (dats m 0 c).arrAt_forall_of_flushed 4 (fun i v => v = act (U m c) (C m c) (i 1) (i 0)) (fun t _ y => ?_) cfg0.N
    ⟨R.val / 256, by omega⟩ (ix2 R q) (by dsimp only; omega) (idx4 _).2.2 ?_
  · obtain ⟨r, k, rfl⟩ := Cert.Prod.idx2 y
    exact point m c t r k _ _ (by show win0_4.index t 0 * 256 + 1 * r.val = _; rw [(idx4 t).1]; omega)
      (Fin.ext (by show win0_4.index t 1 * 5632 + 1 * k.val = _; rw [(idx4 t).2.1]; omega))
  · show _ ∈ ((View.whole main_v3).slice (win0_4.rect _)).set
    rw [View.set_slice_whole, Rect.mem_set_unit]
    intro a
    match a with
    | ⟨0, _⟩ => show win0_4.index _ 0 * 256 ≤ R.val ∧ R.val < win0_4.index _ 0 * 256 + 256; rw [(idx4 _).1]; dsimp only; omega
    | ⟨1, _⟩ => show win0_4.index _ 1 * 5632 ≤ q.val ∧ q.val < win0_4.index _ 1 * 5632 + 5632; rw [(idx4 _).2.1]; omega
end Cert.Kernel36Ideal.Whole

namespace Cert.FfnForward
open Cert.Model Cert.Ffn

theorem frame36 : Cert.quiescent_Reference36Ideal (hReference36Ideal := Cert.Reference36Ideal.Gen.facts) := fun m ρ _ =>
  (θ_run Cert.Reference36Ideal.defs _ _).mono (fun r h => ⟨fun c => (h c).2, sem_eq_zero_of_no_sems (by decide) r.2⟩)
    (Cert.Reference36Ideal.Value.run m ρ)

theorem algebraic36 : Cert.algebraic_Kernel36Ideal_Reference36Ideal (hKernel36Ideal := Cert.Kernel36Ideal.Gen.facts)
    (hReference36Ideal := Cert.Reference36Ideal.Gen.facts) := by
  intro m g m' g' _ hargs
  refine ⟨_, Cert.Kernel36Ideal.Value.run_blocks m g, ?_⟩
  refine (θ_run Cert.Reference36Ideal.defs _ _).mono (fun r h c => ?_) (Cert.Reference36Ideal.Value.run m' g')
  obtain ⟨e0, e1, e2⟩ := hargs c
  refine ⟨(h c).1.trans (funext fun i => ?_), (h c).2⟩
  obtain ⟨R, q, rfl⟩ := Cert.Prod.idx2 i
  refine Eq.trans ?_ (Cert.Kernel36Ideal.Whole.array m c R q).symm
  unfold Cert.Reference36Ideal.Value.res_main_v80
  rw [e0, e1, e2]
  unfold act Ffn.g before after Ffn.w
  by_cases hR : R.val < 256
  · pointwise
    rw [dif_pos hR]
    refine congrArg₂ (fun x u : EReal => x * Ideal.logistic x * u) ?_ ?_
    · refine congrArg₂ (fun a b : EReal => a + b) (congrArg₂ (fun a b : EReal => a + b) (congrArg₂ (fun a b : EReal => a + b)
        (congrArg (fun a : EReal => a * _) ?_) (congrArg (fun a : EReal => a * _) ?_)) (congrArg (fun a : EReal => a * _) ?_)) rfl
      · by_cases h : R.val = 0
        · rw [dif_pos (by omega), dif_pos (by omega)]
        · rw [dif_neg (by omega), dif_pos (by omega), dif_neg (by omega)]
          first | done | exact congrArg (fun n : Fin 8448 => Cert.Kernel36Ideal.Whole.U m c (ix2 n (gc q))) (Fin.ext (by dsimp only; omega))
      · rw [dif_pos (by omega)]
        first | done | exact congrArg (fun n : Fin 8448 => Cert.Kernel36Ideal.Whole.U m c (ix2 n (gc q))) (Fin.ext (by dsimp only; omega))
      · by_cases h : R.val = 255
        · rw [dif_neg (by omega), dif_neg (by omega), dif_pos (by omega)]
        · rw [dif_neg (by omega), dif_pos (by omega), dif_neg (by omega)]
          first | done | exact congrArg (fun n : Fin 8448 => Cert.Kernel36Ideal.Whole.U m c (ix2 n (gc q))) (Fin.ext (by dsimp only; omega))
    · rfl
  · pointwise
    rw [dif_neg hR]
    refine congrArg₂ (fun x u : EReal => x * Ideal.logistic x * u) ?_ ?_
    · refine congrArg₂ (fun a b : EReal => a + b) (congrArg₂ (fun a b : EReal => a + b) (congrArg₂ (fun a b : EReal => a + b)
        (congrArg (fun a : EReal => a * _) ?_) (congrArg (fun a : EReal => a * _) ?_)) (congrArg (fun a : EReal => a * _) ?_)) rfl
      · by_cases h : R.val = 256
        · rw [dif_pos (by omega), dif_pos (by omega)]
        · rw [dif_neg (by omega), dif_pos (by omega), dif_neg (by omega)]
          first | done | exact congrArg (fun n : Fin 8448 => Cert.Kernel36Ideal.Whole.U m c (ix2 n (gc q))) (Fin.ext (by dsimp only; omega))
      · rw [dif_pos (by omega)]
        first | done | exact congrArg (fun n : Fin 8448 => Cert.Kernel36Ideal.Whole.U m c (ix2 n (gc q))) (Fin.ext (by dsimp only; omega))
      · by_cases h : R.val = 8447
        · rw [dif_neg (by omega), dif_neg (by omega), dif_pos (by omega)]
        · rw [dif_neg (by omega), dif_pos (by omega), dif_neg (by omega)]
          first | done | exact congrArg (fun n : Fin 8448 => Cert.Kernel36Ideal.Whole.U m c (ix2 n (gc q))) (Fin.ext (by dsimp only; omega))
    · exact congrArg (fun n : Fin 8448 => Cert.Kernel36Ideal.Whole.U m c (ix2 n (vc q))) (Fin.ext (by dsimp only; omega))

end Cert.FfnForward
end
-- ==== Proof.Slab.lean ====
/- Reading, at one index, what a store of one slab of a three-axis array leaves over it, and a load of such a slab. -/
module
public import Idealize.ShloMosaic.Lib.Pointwise
public import Idealize.ShloMosaic.Lib.Pipeline.Value
public import Idealize.ShloMosaic.Lib.Tactic
public import Idealize.ShloMosaic.Lib.VecWindow

@[expose] public section
noncomputable section
open Idealize.ShloMosaic Idealize.ShloMosaic.TcCoe
namespace Cert.Slab

variable {Val : EltTy → Type} {e : EltTy} {n b d : ℕ} {sig : RefSig} {κ : Kind} {sp : Space}
  (v : View sig κ sp ⟨3, ![n, b, d]⟩ e) (f : v.ty.Contents Val) (off : Fin 3 → ℕ)
  (inb : ∀ a : Fin 3, off a + (![1, b, d] : Fin 3 → ℕ) a ≤ (![n, b, d] : Fin 3 → ℕ) a)
  (w : (Rect.unit (s := ⟨3, ![n, b, d]⟩) off ![1, b, d] inb).shape.Idx → Val e) (L : List (View.Piece Val ⟨3, ![n, b, d]⟩ e))
  (s : Fin n) (j : Fin b) (k : Fin d)

/-- The slab stored last is what an index in it reads. -/
theorem hit (h0 : off 0 = s.val) (h1 : off 1 = 0) (h2 : off 2 = 0) :
    v.read Val (v.writes Val f (⟨Rect.unit (s := ⟨3, ![n, b, d]⟩) off ![1, b, d] inb, w⟩ :: L)) (ix3 s j k) = w (ix3 0 j k) :=
  View.read_writes_cons_unit_of_mem v f inb w L (ix3 s j k) (ix3 0 j k) rfl fun a => match a with
    | ⟨0, _⟩ => by show s.val = off 0 + 0; omega
    | ⟨1, _⟩ => by show j.val = off 1 + j.val; omega
    | ⟨2, _⟩ => by show k.val = off 2 + k.val; omega

/-- An index outside the last slab reads what the earlier stores left. -/
theorem miss (h : s.val < off 0 ∨ off 0 + 1 ≤ s.val) :
    v.read Val (v.writes Val f (⟨Rect.unit (s := ⟨3, ![n, b, d]⟩) off ![1, b, d] inb, w⟩ :: L)) (ix3 s j k)
      = v.read Val (v.writes Val f L) (ix3 s j k) :=
  View.read_writes_cons_unit_of_not_mem v f inb w L (ix3 s j k) rfl 0 h

/-- A load of a slab, at one index. -/
theorem ld (x : (⟨3, ![n, b, d]⟩ : Shape).Idx → Val e) (z : Fin 1) (h0 : off 0 = s.val) (h1 : off 1 = 0) (h2 : off 2 = 0) :
    View.ld x (Rect.unit (s := ⟨3, ![n, b, d]⟩) off ![1, b, d] inb) (ix3 z j k) = x (ix3 s j k) :=
  congrArg x (funext fun a => Fin.ext (match a with
    | ⟨0, _⟩ => by show off 0 + 1 * z.val = s.val; omega
    | ⟨1, _⟩ => by show off 1 + 1 * j.val = j.val; omega
    | ⟨2, _⟩ => by show off 2 + 1 * k.val = k.val; omega))

end Cert.Slab
-- ==== Proof.LossBody.lean ====
/- The loss head, element by element: the residual stream's error against its target, divided by the width, as the gradient of the
   stream, that gradient scaled by the gate of its part of the sequence, and the squared errors' sum over all the rows. -/
module
public import proofs.«01_k».proof.Proof.Prod
public import proofs.«01_k».proof.Proof.Model
public import proofs.«01_k».proof.Proof.Slab
public import Idealize.ShloMosaic.Lib.VecWindow
public import proofs.«01_k».proof.Proof.Gen.Kernel38Ideal.Value

@[expose] public section
set_option maxRecDepth 16384
set_option maxHeartbeats 1000000
noncomputable section
open Idealize.ShloMosaic Idealize.ShloMosaic.TcCoe Idealize.SL.Sem

namespace Cert.Kernel38Ideal.Whole
open Cert.Kernel38Ideal Cert.Kernel38Ideal.Gen Cert.Prod

theorem later {α : Type} : ∀ t : Fin 33, ∀ a b : α,
    Scalar.select (Scalar.cmpi .sge (BitVec.ofNat 32 t.val) 1#32) a b = if 1 ≤ t.val then a else b := by
  intro t a b
  have h : (Scalar.cmpi .sge (BitVec.ofNat 32 t.val) 1#32 : BitVec 1) = BitVec.ofBool (decide (1 ≤ t.val)) := by
    revert t; decide
  rw [h, Model.sel_prop]

section Body
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S2x8x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S2x8x2048 .f32) (harg7 : arg7.IsWhole) (arg8 : Memref sig .tc .vmem S8x2048 .f32) (harg8 : arg8.IsWhole)
    (x0 : Vec Ideal S256x2048 .f32) (x1 : Vec Ideal S256x2048 .f32) (x2 : Vec Ideal S256x2048 .bf16) (x3 : Vec Ideal S2x8x2048 .f32)

/-- The error at an element of a block: the first block has none. -/
def berr (r : Fin 256) (k : Fin 2048) : EReal := if 1 ≤ (i 0).val then x0 (ix2 r k) - x1 (ix2 r k) else 0

theorem err (r : Fin 256) (k : Fin 2048) : k0_pay3 i x0 x1 (ix2 r k) = berr i x0 x1 r k := by
  unfold k0_pay3
  dsimp only
  rw [later (i 0)]
  unfold berr
  split <;> pointwise

theorem scaled (r : Fin 256) (k : Fin 2048) :
    k0_pay4 i x0 x1 (ix2 r k) = Ideal.div (berr i x0 x1 r k) (Ideal.ofBits .f32 0x45000000#32) := by
  unfold k0_pay4
  pointwise
  rw [err]

theorem gated (y : Vec Ideal S1x8x2048 .f32) (r : Fin 256) (k : Fin 2048) :
    k0_pay5 i x0 x1 y (ix2 r k) = y (ix3 0 5 k) * Ideal.div (berr i x0 x1 r k) (Ideal.ofBits .f32 0x45000000#32) := by
  unfold k0_pay5
  pointwise
  rw [scaled]

/-- The block's squared errors, in the first of eight rows. -/
def bsq (s : Fin 8) (k : Fin 2048) : EReal := if s.val = 0 then ∑ r : Fin 256, berr i x0 x1 r k * berr i x0 x1 r k else 0

theorem squares (y : Vec Ideal S8x2048 .f32) (s : Fin 8) (k : Fin 2048) :
    k0_pay12 (F := Ideal) k0_pay6 (k0_pay7 y) (k0_pay8 i x0 x1) (iota .tc S8x2048 32 [0] iota_S8x2048_d0_w32) k0_pay9 k0_pay10 k0_pay11 (ix2 s k) = y (ix2 s k) + bsq i x0 x1 s k := by
  unfold k0_pay12 k0_pay6 k0_pay7 k0_pay8 k0_pay9 k0_pay10 k0_pay11
  pointwise
  simp only [Model.sel_tap_zero, Model.sel_tap_one, Model.sel_tap_two, err, ite_self]
  rfl

/-- The gate's gradient over the block, in the third of eight rows. -/
def bdg (j : Fin 8) (k : Fin 2048) : EReal :=
  if j.val = 2 then ∑ r : Fin 256, Ideal.div (berr i x0 x1 r k) (Ideal.ofBits .f32 0x45000000#32) * x2 (ix2 r k) else 0

theorem gates (y : Vec Ideal S1x8x2048 .f32) (z : Fin 1) (j : Fin 8) (k : Fin 2048) :
    k0_pay13 (F := Ideal) (k0_pay4 i x0 x1) k0_pay6 y x2 (ix3 z j k) = y (ix3 0 j k) + bdg i x0 x1 x2 j k := by
  unfold k0_pay13 k0_pay6
  pointwise
  simp only [Model.sel_tap_zero, Model.sel_tap_one, Model.sel_tap_two, scaled]
  unfold bdg
  by_cases h : j.val = 2
  · simp [h]
  · simp only [h, if_false, ite_self]

theorem zero (y : S2x8x2048.Idx) : (k0_pay1 (F := Ideal)) y = 0 := by
  unfold k0_pay1
  pointwise

/-- The gate is that of the block's part of the sequence. -/
theorem part (hi : Fin 2) (h : k0_off1 i 0 = hi.val) (a : Fin 8) (k : Fin 2048) :
    View.ld x3 (Rect.unit (s := S2x8x2048) (k0_off1 i) S1x8x2048.size (k0_off1_inb i)) (ix3 0 a k) = x3 (ix3 hi a k) :=
  congrArg x3 (funext fun b => Fin.ext (match b with
    | ⟨0, _⟩ => by show k0_off1 i 0 + 1 * 0 = hi.val; omega
    | ⟨1, _⟩ => by show 0 + 1 * a.val = a.val; omega
    | ⟨2, _⟩ => by show 0 + 1 * k.val = k.val; omega))

theorem dx_A (hc0 : cond0_0 i) (r : Fin 256) (k : Fin 2048) :
    out0_A_4 c i arg1 harg1 arg2 harg2 arg3 harg3 arg4 harg4 arg5 harg5 arg6 harg6 arg7 harg7 arg8 harg8 hc0 x0 x1 x2 x3 (ix2 r k) = Ideal.div (berr i x0 x1 r k) (Ideal.ofBits .f32 0x45000000#32) := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_words
  simp only [View.readAt_eq_ld, harg1.read_unread, harg2.read_unread, harg3.read_unread, harg4.read_unread, harg8.read_unread]
  simp only [View.canon_unit_zero (S := S256x2048) hz2, View.ld_unit_zero (S := S256x2048) hz2]
  exact scaled i x0 x1 r k

theorem dy_A (hc0 : cond0_0 i) (hi : Fin 2) (h : k0_off1 i 0 = hi.val) (r : Fin 256) (k : Fin 2048) :
    out0_A_5 c i arg1 harg1 arg2 harg2 arg3 harg3 arg4 harg4 arg5 harg5 arg6 harg6 arg7 harg7 arg8 harg8 hc0 x0 x1 x2 x3 (ix2 r k) = x3 (ix3 hi 5 k) * Ideal.div (berr i x0 x1 r k) (Ideal.ofBits .f32 0x45000000#32) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3)]
  unfold kernelRun0_A
  dsimp only
  sl_unfold_words
  simp only [View.readAt_eq_ld, harg1.read_unread, harg2.read_unread, harg3.read_unread, harg4.read_unread, harg8.read_unread]
  simp only [View.canon_unit_zero (S := S256x2048) hz2, View.ld_unit_zero (S := S256x2048) hz2]
  rw [gated]
  exact congrArg (· * _) (part i x3 hi h 5 k)

theorem lp_A (hc0 : cond0_0 i) (s : Fin 8) (k : Fin 2048) :
    out0_A_7 c i arg1 harg1 arg2 harg2 arg3 harg3 arg4 harg4 arg5 harg5 arg6 harg6 arg7 harg7 arg8 harg8 hc0 x0 x1 x2 x3 (ix2 s k) = 0 + bsq i x0 x1 s k := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3)]
  unfold kernelRun0_A
  dsimp only
  sl_unfold_words
  simp only [View.readAt_eq_ld, harg1.read_unread, harg2.read_unread, harg3.read_unread, harg4.read_unread, harg8.read_unread]
  simp only [View.canon_cons_unit_zero (S := S8x2048) hz2, View.readCov_unit_zero (S := S8x2048) _ hz2, View.ld_unit_zero (S := S256x2048) hz2, View.ld_unit_zero (S := S8x2048) hz2]
  rw [squares]
  unfold k0_pay2
  pointwise

theorem acc_A_same (hc0 : cond0_0 i) (hi : Fin 2) (h : k0_off1 i 0 = hi.val) (j : Fin 8) (k : Fin 2048) :
    out0_A_6 c i arg1 harg1 arg2 harg2 arg3 harg3 arg4 harg4 arg5 harg5 arg6 harg6 arg7 harg7 arg8 harg8 hc0 x0 x1 x2 x3 (ix3 hi j k) = 0 + bdg i x0 x1 x2 j k := by
  unfold out0_A_6 kernelRun0_A
  dsimp only
  refine (Slab.hit _ _ (k0_off1 i) _ _ _ hi j k h rfl rfl).trans ?_
  sl_unfold_words
  simp only [View.readAt_eq_ld, harg1.read_unread, harg2.read_unread, harg3.read_unread, harg4.read_unread, harg7.read_unread]
  simp only [View.ld_unit_zero (S := S256x2048) hz2]
  rw [gates]
  refine congrArg (· + _) ?_
  exact (part i _ hi h j k).trans ((congrFun (View.read_writes_full arg7.view _ _ _ []) (ix3 hi j k)).trans (zero _))

theorem acc_A_other (hc0 : cond0_0 i) (hi : Fin 2) (h : k0_off1 i 0 = hi.val) (s : Fin 2) (hs : s ≠ hi) (j : Fin 8) (k : Fin 2048) :
    out0_A_6 c i arg1 harg1 arg2 harg2 arg3 harg3 arg4 harg4 arg5 harg5 arg6 harg6 arg7 harg7 arg8 harg8 hc0 x0 x1 x2 x3 (ix3 s j k) = 0 := by
  have hv : s.val ≠ hi.val := fun e => hs (Fin.ext e)
  have ho : s.val < k0_off1 i 0 ∨ k0_off1 i 0 + 1 ≤ s.val := by omega
  unfold out0_A_6 kernelRun0_A
  dsimp only
  refine (Slab.miss _ _ (k0_off1 i) _ _ _ s j k ho).trans ?_
  sl_unfold_words
  exact (congrFun (View.read_writes_full VO0_6 _ _ _ []) (ix3 s j k)).trans (zero _)

theorem dx_B (hc0 : ¬cond0_0 i) (xo6 : Vec Ideal S2x8x2048 .f32) (xo7 : Vec Ideal S8x2048 .f32) (r : Fin 256) (k : Fin 2048) :
    out0_B_4 c i arg1 harg1 arg2 harg2 arg3 harg3 arg4 harg4 arg5 harg5 arg6 harg6 arg7 harg7 arg8 harg8 hc0 x0 x1 x2 x3 xo6 xo7 (ix2 r k) = Ideal.div (berr i x0 x1 r k) (Ideal.ofBits .f32 0x45000000#32) := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xo6 xo7)]
  unfold kernelRun0_B
  dsimp only
  sl_unfold_words
  simp only [View.readAt_eq_ld, harg1.read_unread, harg2.read_unread, harg3.read_unread, harg4.read_unread, harg8.read_unread]
  simp only [View.canon_unit_zero (S := S256x2048) hz2, View.ld_unit_zero (S := S256x2048) hz2]
  exact scaled i x0 x1 r k

theorem dy_B (hc0 : ¬cond0_0 i) (xo6 : Vec Ideal S2x8x2048 .f32) (xo7 : Vec Ideal S8x2048 .f32) (hi : Fin 2) (h : k0_off1 i 0 = hi.val) (r : Fin 256) (k : Fin 2048) :
    out0_B_5 c i arg1 harg1 arg2 harg2 arg3 harg3 arg4 harg4 arg5 harg5 arg6 harg6 arg7 harg7 arg8 harg8 hc0 x0 x1 x2 x3 xo6 xo7 (ix2 r k) = x3 (ix3 hi 5 k) * Ideal.div (berr i x0 x1 r k) (Ideal.ofBits .f32 0x45000000#32) := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 xo6 xo7)]
  unfold kernelRun0_B
  dsimp only
  sl_unfold_words
  simp only [View.readAt_eq_ld, harg1.read_unread, harg2.read_unread, harg3.read_unread, harg4.read_unread, harg8.read_unread]
  simp only [View.canon_unit_zero (S := S256x2048) hz2, View.ld_unit_zero (S := S256x2048) hz2]
  rw [gated]
  exact congrArg (· * _) (part i x3 hi h 5 k)

theorem lp_B (hc0 : ¬cond0_0 i) (xo6 : Vec Ideal S2x8x2048 .f32) (xo7 : Vec Ideal S8x2048 .f32) (s : Fin 8) (k : Fin 2048) :
    out0_B_7 c i arg1 harg1 arg2 harg2 arg3 harg3 arg4 harg4 arg5 harg5 arg6 harg6 arg7 harg7 arg8 harg8 hc0 x0 x1 x2 x3 xo6 xo7 (ix2 s k) = xo7 (ix2 s k) + bsq i x0 x1 s k := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 xo6 xo7)]
  unfold kernelRun0_B
  dsimp only
  sl_unfold_words
  simp only [View.readAt_eq_ld, harg1.read_unread, harg2.read_unread, harg3.read_unread, harg4.read_unread, harg8.read_unread]
  simp only [View.canon_unit_zero (S := S8x2048) hz2, View.ld_unit_zero (S := S256x2048) hz2, View.ld_unit_zero (S := S8x2048) hz2]
  rw [squares]

theorem acc_B_same (hc0 : ¬cond0_0 i) (xo6 : Vec Ideal S2x8x2048 .f32) (xo7 : Vec Ideal S8x2048 .f32) (hi : Fin 2) (h : k0_off1 i 0 = hi.val) (j : Fin 8) (k : Fin 2048) :
    out0_B_6 c i arg1 harg1 arg2 harg2 arg3 harg3 arg4 harg4 arg5 harg5 arg6 harg6 arg7 harg7 arg8 harg8 hc0 x0 x1 x2 x3 xo6 xo7 (ix3 hi j k) = xo6 (ix3 hi j k) + bdg i x0 x1 x2 j k := by
  unfold out0_B_6 kernelRun0_B
  dsimp only
  refine (Slab.hit _ _ (k0_off1 i) _ _ _ hi j k h rfl rfl).trans ?_
  sl_unfold_words
  simp only [View.readAt_eq_ld, harg1.read_unread, harg2.read_unread, harg3.read_unread, harg4.read_unread, harg7.read_unread]
  simp only [View.ld_unit_zero (S := S256x2048) hz2]
  rw [gates]
  refine congrArg (· + _) ?_
  exact part i xo6 hi h j k

theorem acc_B_other (hc0 : ¬cond0_0 i) (xo6 : Vec Ideal S2x8x2048 .f32) (xo7 : Vec Ideal S8x2048 .f32) (hi : Fin 2) (h : k0_off1 i 0 = hi.val) (s : Fin 2) (hs : s ≠ hi) (j : Fin 8) (k : Fin 2048) :
    out0_B_6 c i arg1 harg1 arg2 harg2 arg3 harg3 arg4 harg4 arg5 harg5 arg6 harg6 arg7 harg7 arg8 harg8 hc0 x0 x1 x2 x3 xo6 xo7 (ix3 s j k) = xo6 (ix3 s j k) := by
  have hv : s.val ≠ hi.val := fun e => hs (Fin.ext e)
  have ho : s.val < k0_off1 i 0 ∨ k0_off1 i 0 + 1 ≤ s.val := by omega
  unfold out0_B_6 kernelRun0_B
  dsimp only
  refine (Slab.miss _ _ (k0_off1 i) _ _ _ s j k ho).trans ?_
  rw [View.writes_nil, harg7.read_unread]
end Body
end Cert.Kernel38Ideal.Whole
-- ==== Proof.LossVal.lean ====
/- The loss head's four results on whole arrays. -/
module
public import proofs.«01_k».proof.Proof.LossBody
public import proofs.«01_k».proof.Proof.Model
public import proofs.«01_k».proof.Proof.Slab
public import Idealize.ShloMosaic.Lib.VecWindow
public import proofs.«01_k».proof.Proof.Gen.Kernel38Ideal.Value

@[expose] public section
set_option maxRecDepth 16384
set_option maxHeartbeats 1000000
noncomputable section
open Idealize.ShloMosaic Idealize.ShloMosaic.TcCoe Idealize.SL.Sem

namespace Cert.Kernel38Ideal.Whole
open Cert.Kernel38Ideal Cert.Kernel38Ideal.Gen Cert.Prod

variable (m : (ℓ : Loc nD τ sig) → Buf (Elt Ideal) ℓ) (c : Dev nD)

/-- The argument arrays: the residual stream, its target, the last layer's branch and the modulation. -/
abbrev X : (⟨2, ![8448, 2048]⟩ : Shape).Idx → EReal := m ((c : Thread nD τ).loc main_arg0)
abbrev T : (⟨2, ![8192, 2048]⟩ : Shape).Idx → EReal := m ((c : Thread nD τ).loc main_arg1)
abbrev Y : (⟨2, ![8448, 2048]⟩ : Shape).Idx → EReal := m ((c : Thread nD τ).loc main_arg2)
abbrev M : (⟨3, ![2, 8, 2048]⟩ : Shape).Idx → EReal := m ((c : Thread nD τ).loc main_arg3)

/-- The error at an element, and the stream's gradient there. -/
def E (R : Fin 8448) (k : Fin 2048) : EReal := if h : 256 ≤ R.val then X m c (ix2 R k) - T m c (ix2 ⟨R.val - 256, by omega⟩ k) else 0
def G (R : Fin 8448) (k : Fin 2048) : EReal := Ideal.div (E m c R k) (Ideal.ofBits .f32 0x45000000#32)

/-- A block's part of the sequence. -/
def seg (t : ℕ) : Fin 2 := if t = 0 then 0 else 1

theorem idx0 : ∀ t : Fin grid0.N, win0_0.index t 0 = t.val ∧ win0_0.index t 1 = 0 := by decide +kernel
theorem idx1 : ∀ t : Fin grid0.N, win0_1.index t 0 = t.val - 1 ∧ win0_1.index t 1 = 0 := by decide +kernel
theorem idx2' : ∀ t : Fin grid0.N, win0_2.index t 0 = t.val ∧ win0_2.index t 1 = 0 := by decide +kernel
theorem idx3' : ∀ (t : Fin grid0.N) (a : Fin 3), win0_3.index t a = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ (t : Fin grid0.N) (a : Fin 3), win0_6.index t a = 0 := by decide +kernel
theorem idx7 : ∀ (t : Fin grid0.N) (a : Fin 2), win0_7.index t a = 0 := by decide +kernel
theorem off : ∀ t : Fin grid0.N, k0_off1 (grid0.coords t) 0 = (seg t.val).val := by decide +kernel
theorem coord : ∀ t : Fin grid0.N, (grid0.coords t 0).val = t.val := by decide +kernel

theorem rows (t : Fin cfg0.N) (r : Fin 256) (k : Fin 2048) (R : Fin 8448) (hR : R.val = 256 * t.val + r.val) :
    (iblk m c 0 t : S256x2048.Idx → EReal) (ix2 r k) = X m c (ix2 R k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = R.val; rw [(idx0 t).1]; omega
  | ⟨1, _⟩ => show win0_0.index t 1 * 2048 + 1 * k.val = k.val; rw [(idx0 t).2]; omega

theorem branch (t : Fin cfg0.N) (r : Fin 256) (k : Fin 2048) (R : Fin 8448) (hR : R.val = 256 * t.val + r.val) :
    (iblk m c 2 t : S256x2048.Idx → EReal) (ix2 r k) = Y m c (ix2 R k) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 256 + 1 * r.val = R.val; rw [(idx2' t).1]; omega
  | ⟨1, _⟩ => show win0_2.index t 1 * 2048 + 1 * k.val = k.val; rw [(idx2' t).2]; omega

theorem targets (t : Fin cfg0.N) (r : Fin 256) (k : Fin 2048) (R : Fin 8192) (hR : 256 + R.val = 256 * t.val + r.val) :
    (iblk m c 1 t : S256x2048.Idx → EReal) (ix2 r k) = T m c (ix2 R k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 256 + 1 * r.val = R.val; rw [(idx1 t).1]; omega
  | ⟨1, _⟩ => show win0_1.index t 1 * 2048 + 1 * k.val = k.val; rw [(idx1 t).2]; omega

theorem modulation (t : Fin cfg0.N) (b : Fin 2) (g : Fin 8) (k : Fin 2048) :
    (iblk m c 3 t : S2x8x2048.Idx → EReal) (ix3 b g k) = M m c (ix3 b g k) := by
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 2 + 1 * b.val = b.val; rw [idx3' t 0]; omega
  | ⟨1, _⟩ => show win0_3.index t 1 * 8 + 1 * g.val = g.val; rw [idx3' t 1]; omega
  | ⟨2, _⟩ => show win0_3.index t 2 * 2048 + 1 * k.val = k.val; rw [idx3' t 2]; omega

theorem berr_eq (t : Fin cfg0.N) (r : Fin 256) (k : Fin 2048) (R : Fin 8448) (hR : R.val = 256 * t.val + r.val) :
    berr (grid0.coords t) (iblk m c 0 t) (iblk m c 1 t) r k = E m c R k := by
  unfold berr E
  rw [coord t]
  by_cases h : 1 ≤ t.val
  · rw [if_pos h, dif_pos (by omega)]
    exact congrArg₂ (· - ·) (rows m c t r k R hR) (targets m c t r k _ (by dsimp only; omega))
  · rw [if_neg h, dif_neg (by omega)]

/-- A block's row as a row of the array. -/
def row (t : ℕ) (h : t < cfg0.N) (r : Fin 256) : Fin 8448 := ⟨256 * t + r.val, by have : cfg0.N = 33 := N_0; omega⟩

/-- A block's squared errors, and its part of the gate's gradient. -/
def lterm (s : Fin 8) (k : Fin 2048) (t : ℕ) (h : t < cfg0.N) : EReal :=
  if s.val = 0 then ∑ r : Fin 256, E m c (row t h r) k * E m c (row t h r) k else 0
def aterm (s : Fin 2) (j : Fin 8) (k : Fin 2048) (t : ℕ) (h : t < cfg0.N) : EReal :=
  if s = seg t then if j.val = 2 then ∑ r : Fin 256, G m c (row t h r) k * Y m c (ix2 (row t h r) k) else 0 else 0

theorem bsq_eq (t : Fin cfg0.N) (s : Fin 8) (k : Fin 2048) :
    bsq (grid0.coords t) (iblk m c 0 t) (iblk m c 1 t) s k = lterm m c s k t.val t.isLt := by
  unfold bsq lterm
  simp only [fun r => berr_eq m c t r k (row t.val t.isLt r) rfl]

theorem bdg_eq (t : Fin cfg0.N) (j : Fin 8) (k : Fin 2048) :
    bdg (grid0.coords t) (iblk m c 0 t) (iblk m c 1 t) (iblk m c 2 t) j k = aterm m c (seg t.val) j k t.val t.isLt := by
  unfold bdg aterm G
  rw [if_pos rfl]
  simp only [fun r => berr_eq m c t r k (row t.val t.isLt r) rfl, fun r => branch m c t r k (row t.val t.isLt r) rfl]

theorem dx (t : Fin cfg0.N) (r : Fin 256) (k : Fin 2048) (R : Fin 8448) (hR : R.val = 256 * t.val + r.val) :
    (outsAt0 m c t.val t.isLt).1 (ix2 r k) = G m c R k := by
  unfold G
  rw [← berr_eq m c t r k R hR]
  by_cases h : t.val % 33 = 0
  · rw [outsAt0_A m c t h]
    dsimp only
    rw [dx_A]
  · rw [outsAt0_B m c t h]
    dsimp only
    rw [dx_B]

theorem dy (t : Fin cfg0.N) (r : Fin 256) (k : Fin 2048) (R : Fin 8448) (hR : R.val = 256 * t.val + r.val) :
    (outsAt0 m c t.val t.isLt).2.1 (ix2 r k) = M m c (ix3 (seg t.val) 5 k) * G m c R k := by
  unfold G
  rw [← berr_eq m c t r k R hR, ← modulation m c t]
  by_cases h : t.val % 33 = 0
  · rw [outsAt0_A m c t h]
    dsimp only
    exact dy_A _ _ _ _ _ _ _ _ _ _ _ _ _ _ _ _ _ _ _ _ _ _ _ _ (off t) _ _
  · rw [outsAt0_B m c t h]
    dsimp only
    exact dy_B _ _ _ _ _ _ _ _ _ _ _ _ _ _ _ _ _ _ _ _ _ _ _ _ _ _ (off t) _ _

theorem lpA (t : Fin cfg0.N) (h : t.val % 33 = 0) (s : Fin 8) (k : Fin 2048) :
    (outsAt0 m c t.val t.isLt).2.2.2 (ix2 s k) = lterm m c s k t.val t.isLt := by
  rw [outsAt0_A m c t h]
  dsimp only
  rw [lp_A, zero_add]
  exact bsq_eq m c t s k

theorem lpB (t : Fin cfg0.N) (h : ¬t.val % 33 = 0) (s : Fin 8) (k : Fin 2048) :
    (outsAt0 m c t.val t.isLt).2.2.2 (ix2 s k)
      = (outsAt0 m c (t.val - 1) (Nat.lt_of_le_of_lt (Nat.sub_le _ _) t.isLt)).2.2.2 (ix2 s k) + lterm m c s k t.val t.isLt := by
  rw [outsAt0_B m c t h]
  dsimp only
  rw [lp_B]
  exact congrArg _ (bsq_eq m c t s k)

theorem accA (t : Fin cfg0.N) (h : t.val % 33 = 0) (s : Fin 2) (j : Fin 8) (k : Fin 2048) :
    (outsAt0 m c t.val t.isLt).2.2.1 (ix3 s j k) = aterm m c s j k t.val t.isLt := by
  rw [outsAt0_A m c t h]
  dsimp only
  by_cases hs : s = seg t.val
  · subst hs
    refine (acc_A_same _ _ _ _ _ _ _ _ _ _ _ _ _ _ _ _ _ _ _ _ _ _ _ _ (off t) _ _).trans ?_
    rw [zero_add]
    exact bdg_eq m c t j k
  · refine (acc_A_other _ _ _ _ _ _ _ _ _ _ _ _ _ _ _ _ _ _ _ _ _ _ _ _ (off t) _ hs _ _).trans ?_
    unfold aterm
    rw [if_neg hs]

theorem accB (t : Fin cfg0.N) (h : ¬t.val % 33 = 0) (s : Fin 2) (j : Fin 8) (k : Fin 2048) :
    (outsAt0 m c t.val t.isLt).2.2.1 (ix3 s j k)
      = (outsAt0 m c (t.val - 1) (Nat.lt_of_le_of_lt (Nat.sub_le _ _) t.isLt)).2.2.1 (ix3 s j k) + aterm m c s j k t.val t.isLt := by
  rw [outsAt0_B m c t h]
  dsimp only
  by_cases hs : s = seg t.val
  · subst hs
    refine (acc_B_same _ _ _ _ _ _ _ _ _ _ _ _ _ _ _ _ _ _ _ _ _ _ _ _ _ _ (off t) _ _).trans ?_
    exact congrArg _ (bdg_eq m c t j k)
  · refine (acc_B_other _ _ _ _ _ _ _ _ _ _ _ _ _ _ _ _ _ _ _ _ _ _ _ _ _ _ (off t) _ hs _ _).trans ?_
    unfold aterm
    rw [if_neg hs, add_zero]

/-- The squared errors after the last point. -/
theorem lp (s : Fin 8) (k : Fin 2048) (h : 33 * 0 + 32 < cfg0.N) :
    (outsAt0 m c (33 * 0 + 32) h).2.2.2 (ix2 s k) = ∑ t : Fin (32 + 1), lterm m c s k (33 * 0 + t.val) (by omega) :=
  restarted (n := 32) (N := cfg0.N) (fun t h => (outsAt0 m c t h).2.2.2 (ix2 s k)) (lterm m c s k)
    (fun t h h0 => lpA m c ⟨t, h⟩ h0 s k) (fun t h h0 => lpB m c ⟨t, h⟩ h0 s k) 0 h

/-- The gate's gradient after the last point. -/
theorem acc (s : Fin 2) (j : Fin 8) (k : Fin 2048) (h : 33 * 0 + 32 < cfg0.N) :
    (outsAt0 m c (33 * 0 + 32) h).2.2.1 (ix3 s j k) = ∑ t : Fin (32 + 1), aterm m c s j k (33 * 0 + t.val) (by omega) :=
  restarted (n := 32) (N := cfg0.N) (fun t h => (outsAt0 m c t h).2.2.1 (ix3 s j k)) (aterm m c s j k)
    (fun t h h0 => accA m c ⟨t, h⟩ h0 s j k) (fun t h h0 => accB m c ⟨t, h⟩ h0 s j k) 0 h

theorem array4 (R : Fin 8448) (q : Fin 2048) :
    ((dats m 0 c).arrAt 4 cfg0.N : (⟨2, ![8448, 2048]⟩ : Shape).Idx → EReal) (ix2 R q) = G m c R q := by
  have hN : cfg0.N = 33 := N_0
  refine (dats m 0 c).arrAt_forall_of_flushed 4 (fun i v => v = G m c (i 0) (i 1)) (fun t _ y => ?_) cfg0.N
    ⟨R.val / 256, by omega⟩ (ix2 R q) (by dsimp only; omega) (flush0_4 _) ?_
  · obtain ⟨r, k, rfl⟩ := idx2 y
    rw [Value.flushed4]
    show (outsAt0 m c t.val t.isLt).1 (ix2 r k) = _
    have e0 : ∀ h, (((cfg0.win 4).blk t).view.emb (ix2 r k) : S8448x2048.Idx) 0 = row t.val h r := fun h =>
      Fin.ext (by show win0_4.index t 0 * 256 + 1 * r.val = 256 * t.val + r.val; rw [(idx4 t).1]; omega)
    have e1 : (((cfg0.win 4).blk t).view.emb (ix2 r k) : S8448x2048.Idx) 1 = k :=
      Fin.ext (by show win0_4.index t 1 * 2048 + 1 * k.val = k.val; rw [(idx4 t).2]; omega)
    rw [e0 t.isLt, e1]
    exact dx m c t r k _ rfl
  · show _ ∈ ((View.whole main_v0_0).slice (win0_4.rect _)).set
    rw [View.set_slice_whole, Rect.mem_set_unit]
    intro a
    match a with
    | ⟨0, _⟩ => show win0_4.index _ 0 * 256 ≤ R.val ∧ R.val < win0_4.index _ 0 * 256 + 256; rw [(idx4 _).1]; dsimp only; omega
    | ⟨1, _⟩ => show win0_4.index _ 1 * 2048 ≤ q.val ∧ q.val < win0_4.index _ 1 * 2048 + 2048; rw [(idx4 _).2]; omega

theorem array5 (R : Fin 8448) (q : Fin 2048) :
    ((dats m 0 c).arrAt 5 cfg0.N : (⟨2, ![8448, 2048]⟩ : Shape).Idx → EReal) (ix2 R q) = M m c (ix3 (seg (R.val / 256)) 5 q) * G m c R q := by
  have hN : cfg0.N = 33 := N_0
  refine (dats m 0 c).arrAt_forall_of_flushed 5 (fun i v => v = M m c (ix3 (seg ((i 0).val / 256)) 5 (i 1)) * G m c (i 0) (i 1)) (fun t _ y => ?_) cfg0.N
    ⟨R.val / 256, by omega⟩ (ix2 R q) (by dsimp only; omega) (flush0_5 _) ?_
  · obtain ⟨r, k, rfl⟩ := idx2 y
    rw [Value.flushed5]
    show (outsAt0 m c t.val t.isLt).2.1 (ix2 r k) = _
    have e0 : ∀ h, (((cfg0.win 5).blk t).view.emb (ix2 r k) : S8448x2048.Idx) 0 = row t.val h r := fun h =>
      Fin.ext (by show win0_5.index t 0 * 256 + 1 * r.val = 256 * t.val + r.val; rw [(idx5 t).1]; omega)
    have e1 : (((cfg0.win 5).blk t).view.emb (ix2 r k) : S8448x2048.Idx) 1 = k :=
      Fin.ext (by show win0_5.index t 1 * 2048 + 1 * k.val = k.val; rw [(idx5 t).2]; omega)
    rw [e0 t.isLt, e1]
    refine (dy m c t r k (row t.val t.isLt r) rfl).trans ?_
    have e : (row t.val t.isLt r).val / 256 = t.val := by show (256 * t.val + r.val) / 256 = t.val; omega
    rw [e]
  · show _ ∈ ((View.whole main_v0_1).slice (win0_5.rect _)).set
    rw [View.set_slice_whole, Rect.mem_set_unit]
    intro a
    match a with
    | ⟨0, _⟩ => show win0_5.index _ 0 * 256 ≤ R.val ∧ R.val < win0_5.index _ 0 * 256 + 256; rw [(idx5 _).1]; dsimp only; omega
    | ⟨1, _⟩ => show win0_5.index _ 1 * 2048 ≤ q.val ∧ q.val < win0_5.index _ 1 * 2048 + 2048; rw [(idx5 _).2]; omega

theorem array6 (s : Fin 2) (j : Fin 8) (k : Fin 2048) :
    ((dats m 0 c).arrAt 6 cfg0.N : (⟨3, ![2, 8, 2048]⟩ : Shape).Idx → EReal) (ix3 s j k) = ∑ t : Fin 33, aterm m c s j k t.val (t.isLt.trans_eq N_0.symm) := by
  have hN : cfg0.N = 33 := N_0
  have h32 : 32 < cfg0.N := by omega
  have hd : ∀ t t' : Fin cfg0.N, (cfg0.win 6).flush t = true → (cfg0.win 6).flush t' = true → t ≠ t' →
      Disjoint ((cfg0.win 6).blk t).view.set ((cfg0.win 6).blk t').view.set := fun t t' ht ht' hne => by
    have h1 := (flush0_6 t).mp ht
    have h2 := (flush0_6 t').mp ht'
    exact absurd (Fin.ext (by have := t.isLt; have := t'.isLt; omega)) hne
  have h := congrFun (((dats m 0 c).read_blk_arrAt_eq_flushed 6 hd cfg0.N ⟨32, h32⟩ h32 ((flush0_6 _).mpr rfl)).trans
    (Value.flushed6 m c ⟨32, h32⟩)) (ix3 s j k)
  rw [View.read_apply] at h
  refine Eq.trans ?_ (Eq.trans h ((acc m c s j k (by omega)).trans (Finset.sum_congr rfl fun t _ => by simp only [Nat.mul_zero, Nat.zero_add])))
  refine congrArg ((dats m 0 c).arrAt 6 cfg0.N) (funext fun a => Fin.ext ?_)
  match a with
    | ⟨0, _⟩ => show s.val = win0_6.index ⟨32, h32⟩ 0 * 2 + 1 * s.val; rw [idx6 _ 0]; omega
    | ⟨1, _⟩ => show j.val = win0_6.index ⟨32, h32⟩ 1 * 8 + 1 * j.val; rw [idx6 _ 1]; omega
    | ⟨2, _⟩ => show k.val = win0_6.index ⟨32, h32⟩ 2 * 2048 + 1 * k.val; rw [idx6 _ 2]; omega

theorem array7 (s : Fin 8) (k : Fin 2048) :
    ((dats m 0 c).arrAt 7 cfg0.N : (⟨2, ![8, 2048]⟩ : Shape).Idx → EReal) (ix2 s k) = ∑ t : Fin 33, lterm m c s k t.val (t.isLt.trans_eq N_0.symm) := by
  have hN : cfg0.N = 33 := N_0
  have h32 : 32 < cfg0.N := by omega
  have hd : ∀ t t' : Fin cfg0.N, (cfg0.win 7).flush t = true → (cfg0.win 7).flush t' = true → t ≠ t' →
      Disjoint ((cfg0.win 7).blk t).view.set ((cfg0.win 7).blk t').view.set := fun t t' ht ht' hne => by
    have h1 := (flush0_7 t).mp ht
    have h2 := (flush0_7 t').mp ht'
    exact absurd (Fin.ext (by have := t.isLt; have := t'.isLt; omega)) hne
  have h := congrFun (((dats m 0 c).read_blk_arrAt_eq_flushed 7 hd cfg0.N ⟨32, h32⟩ h32 ((flush0_7 _).mpr rfl)).trans
    (Value.flushed7 m c ⟨32, h32⟩)) (ix2 s k)
  rw [View.read_apply] at h
  refine Eq.trans ?_ (Eq.trans h ((lp m c s k (by omega)).trans (Finset.sum_congr rfl fun t _ => by simp only [Nat.mul_zero, Nat.zero_add])))
  refine congrArg ((dats m 0 c).arrAt 7 cfg0.N) (funext fun a => Fin.ext ?_)
  match a with
    | ⟨0, _⟩ => show s.val = win0_7.index ⟨32, h32⟩ 0 * 8 + 1 * s.val; rw [idx7 _ 0]; omega
    | ⟨1, _⟩ => show k.val = win0_7.index ⟨32, h32⟩ 1 * 2048 + 1 * k.val; rw [idx7 _ 1]; omega
end Cert.Kernel38Ideal.Whole
-- ==== Proof.Loss.lean ====
/- The loss head's four results are the reference's. -/
module
public import proofs.«01_k».proof.Proof.LossVal
public import proofs.«01_k».proof.Proof.Model
public import proofs.«01_k».proof.Proof.Slab
public import Idealize.ShloMosaic.Lib.VecWindow
public import proofs.«01_k».proof.Proof.Gen.Kernel38Ideal.Value
public import proofs.«01_k».proof.Proof.Gen.Reference38Ideal.Run
public import proofs.«01_k».proof.Defs

@[expose] public section
set_option maxRecDepth 16384
set_option maxHeartbeats 1000000
noncomputable section
open Idealize.ShloMosaic Idealize.ShloMosaic.TcCoe Idealize.SL.Sem

namespace Cert.LossEqual
open Cert.Kernel38Ideal Cert.Kernel38Ideal.Whole Cert.Kernel38Ideal.Gen Cert.Prod

section Sums
variable (m : (ℓ : Loc nD τ sig) → Buf (Elt Ideal) ℓ) (c : Dev nD)

theorem width : Ideal.ofBits .f32 0x45000000#32 = ((2048 : ℝ) : EReal) := by
  simp [Ideal.ofBits, Ideal.ieee, -EReal.coe_mul]; norm_num

theorem G_first (R : Fin 8448) (k : Fin 2048) (h : R.val < 256) : G m c R k = 0 := by
  unfold G E
  rw [dif_neg (by omega), width]
  exact Ideal.zero_div (by norm_num)

theorem E_rest (R : Fin 8192) (k : Fin 2048) :
    E m c ⟨256 + R.val, by omega⟩ k = X m c (ix2 ⟨256 + R.val, by omega⟩ k) - Whole.T m c (ix2 R k) := by
  unfold E
  rw [dif_pos (by dsimp only; omega)]
  refine congrArg (fun a => X m c (ix2 ⟨256 + R.val, by omega⟩ k) - Whole.T m c (ix2 a k)) (Fin.ext ?_)
  dsimp only
  omega

theorem G_rest (R : Fin 8192) (k : Fin 2048) : G m c ⟨256 + R.val, by omega⟩ k
    = Ideal.div (X m c (ix2 ⟨256 + R.val, by omega⟩ k) - Whole.T m c (ix2 R k)) (Ideal.ofBits .f32 0x45000000#32) := by
  unfold G
  rw [E_rest]

theorem acc0 (j : Fin 8) (k : Fin 2048) : ∑ t : Fin 33, aterm m c 0 j k t.val (t.isLt.trans_eq N_0.symm) = 0 := by
  refine Finset.sum_eq_zero fun t _ => ?_
  unfold aterm
  split
  · next h =>
    have ht : t.val = 0 := by
      by_contra h0
      rw [seg, if_neg h0] at h
      exact absurd h (by decide)
    split
    · refine Finset.sum_eq_zero fun r _ => ?_
      rw [G_first m c _ k (by show 256 * t.val + r.val < 256; omega), zero_mul]
    · rfl
  · rfl

theorem acc1 (j : Fin 8) (k : Fin 2048) : ∑ t : Fin 33, aterm m c 1 j k t.val (t.isLt.trans_eq N_0.symm)
    = if j.val = 2 then ∑ R : Fin 8192, G m c ⟨256 + R.val, by omega⟩ k * Y m c (ix2 ⟨256 + R.val, by omega⟩ k) else 0 := by
  rw [Fin.sum_univ_succ]
  have h0 : aterm m c 1 j k (0 : Fin 33).val ((0 : Fin 33).isLt.trans_eq N_0.symm) = 0 := by
    unfold aterm
    exact if_neg (by decide)
  rw [h0, zero_add]
  by_cases hj : j.val = 2
  · rw [if_pos hj]
    refine blocks (n := 32) (b := 256) (by norm_num) (fun R : Fin 8192 => G m c ⟨256 + R.val, by omega⟩ k * Y m c (ix2 ⟨256 + R.val, by omega⟩ k))
      (fun t r => G m c (row (t.val + 1) (by have : cfg0.N = 33 := N_0; omega) r) k * Y m c (ix2 (row (t.val + 1) (by have : cfg0.N = 33 := N_0; omega) r) k))
      (fun t r hij => ?_) |>.symm.trans ?_ |>.symm
    · have e : row (t.val + 1) (by have : cfg0.N = 33 := N_0; omega) r = ⟨256 + (256 * t.val + r.val), by omega⟩ :=
        Fin.ext (by show 256 * (t.val + 1) + r.val = 256 + (256 * t.val + r.val); omega)
      rw [e]
    · refine Finset.sum_congr rfl fun t _ => ?_
      unfold aterm
      rw [if_pos (by rw [seg, if_neg (by show t.val + 1 ≠ 0; omega)]), if_pos hj]
      rfl
  · rw [if_neg hj]
    refine Finset.sum_eq_zero fun t _ => ?_
    unfold aterm
    rw [if_neg hj, ite_self]

theorem squares (s : Fin 8) (k : Fin 2048) : ∑ t : Fin 33, lterm m c s k t.val (t.isLt.trans_eq N_0.symm)
    = if s.val = 0 then ∑ R : Fin 8192, E m c ⟨256 + R.val, by omega⟩ k * E m c ⟨256 + R.val, by omega⟩ k else 0 := by
  rw [Fin.sum_univ_succ]
  have h0 : lterm m c s k (0 : Fin 33).val ((0 : Fin 33).isLt.trans_eq N_0.symm) = 0 := by
    unfold lterm
    split
    · refine Finset.sum_eq_zero fun r _ => ?_
      unfold E
      rw [dif_neg (by show ¬256 ≤ 256 * 0 + r.val; omega), zero_mul]
    · rfl
  rw [h0, zero_add]
  by_cases hs : s.val = 0
  · rw [if_pos hs]
    refine blocks (n := 32) (b := 256) (by norm_num) (fun R : Fin 8192 => E m c ⟨256 + R.val, by omega⟩ k * E m c ⟨256 + R.val, by omega⟩ k)
      (fun t r => E m c (row (t.val + 1) (by have : cfg0.N = 33 := N_0; omega) r) k * E m c (row (t.val + 1) (by have : cfg0.N = 33 := N_0; omega) r) k)
      (fun t r hij => ?_) |>.symm.trans ?_ |>.symm
    · have e : row (t.val + 1) (by have : cfg0.N = 33 := N_0; omega) r = ⟨256 + (256 * t.val + r.val), by omega⟩ :=
        Fin.ext (by show 256 * (t.val + 1) + r.val = 256 + (256 * t.val + r.val); omega)
      rw [e]
    · refine Finset.sum_congr rfl fun t _ => ?_
      unfold lterm
      rw [if_pos hs]
      rfl
  · rw [if_neg hs]
    refine Finset.sum_eq_zero fun t _ => ?_
    unfold lterm
    rw [if_neg hs]

/-- A row of the rest as its place after the first 256. -/
theorem rest (R : Fin 8448) (h : ¬R.val < 256) : ∃ (S : Fin 8192) (hS : 256 + S.val < 8448), R = ⟨256 + S.val, hS⟩ :=
  ⟨⟨R.val - 256, by omega⟩, by dsimp only; omega, Fin.ext (by dsimp only; omega)⟩
end Sums

theorem frame38 : Cert.quiescent_Reference38Ideal (hReference38Ideal := Cert.Reference38Ideal.Gen.facts) := fun m ρ _ =>
  (θ_run Cert.Reference38Ideal.defs _ _).mono (fun r h => ⟨fun c => (h c).2.2.2.2, sem_eq_zero_of_no_sems (by decide) r.2⟩)
    (Cert.Reference38Ideal.Value.run m ρ)

theorem algebraic38 : Cert.algebraic_Kernel38Ideal_Reference38Ideal (hKernel38Ideal := Cert.Kernel38Ideal.Gen.facts)
    (hReference38Ideal := Cert.Reference38Ideal.Gen.facts) := by
  intro m g m' g' _ hargs
  refine ⟨_, _, _, _, Cert.Kernel38Ideal.Value.run_blocks m g, ?_⟩
  refine (θ_run Cert.Reference38Ideal.defs _ _).mono (fun r h c => ?_) (Cert.Reference38Ideal.Value.run m' g')
  obtain ⟨e0, e1, e2, e3⟩ := hargs c
  have hdx : r.2.mem ((c.tc : Thread Cert.Reference38Ideal.nD Cert.Reference38Ideal.τ).loc Cert.Reference38Ideal.main_v5)
      = fun i : (⟨2, ![8448, 2048]⟩ : Shape).Idx => G m c (i 0) (i 1) := by
    refine (h c).1.trans (funext fun i => ?_)
    obtain ⟨R, q, rfl⟩ := Cert.Prod.idx2 i
    rw [e0, e1]
    clear h
    show _ = G m c R q
    by_cases hR : R.val < 256
    · rw [G_first m c R q hR]
      pointwise
      rw [dif_pos hR]
    · obtain ⟨S, hS, rfl⟩ := rest R hR
      rw [G_rest]
      pointwise
  obtain ⟨h0, h1, h2, h3, h4⟩ := h c
  rw [← h0, hdx] at h1 h2
  refine ⟨hdx.trans (funext fun i => ?_), h1.trans (funext fun i => ?_), h2.trans (funext fun i => ?_), h3.trans (funext fun i => ?_), h4⟩
  all_goals clear h h0 h1 h2 h3 h4 hdx hargs
  · obtain ⟨R, q, rfl⟩ := Cert.Prod.idx2 i
    exact (array4 m c R q).symm
  · obtain ⟨R, q, rfl⟩ := Cert.Prod.idx2 i
    refine Eq.trans ?_ (array5 m c R q).symm
    rw [e3]
    by_cases hR : R.val < 256
    · rw [seg, if_pos (by omega)]
      pointwise
      rw [dif_pos hR]
    · rw [seg, if_neg (by omega)]
      obtain ⟨S, hS, rfl⟩ := rest R hR
      pointwise
  · obtain ⟨s, j, k, rfl⟩ := Cert.Prod.idx3 i
    refine Eq.trans ?_ (array6 m c s j k).symm
    rw [e2]
    match s with
    | 0 =>
      rw [acc0]
      pointwise
      split
      · rfl
      · split
        · refine Finset.sum_eq_zero fun x _ => ?_
          rw [G_first m c _ k x.isLt, zero_mul]
        · rfl
    | 1 =>
      rw [acc1]
      pointwise
      by_cases hj : j.val = 2
      · rw [dif_neg (by omega), dif_pos (by omega), if_pos hj]
      · rw [if_neg hj]
        split
        · rfl
        · rw [dif_neg (by omega)]
  · obtain ⟨s, k, rfl⟩ := Cert.Prod.idx2 i
    refine Eq.trans ?_ (array7 m c s k).symm
    rw [e0, e1, squares]
    simp only [E_rest]
    pointwise
    by_cases hs : s.val = 0
    · rw [dif_pos (by omega), if_pos hs]
    · rw [dif_neg (by omega), if_neg hs]
end Cert.LossEqual
-- ==== Proof.lean ====
/- The proof of the claims: the kernels' frames, and each kernel's results equal to its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Equal
public import proofs.«01_k».proof.Proof.Equal2
public import proofs.«01_k».proof.Proof.Equal3
public import proofs.«01_k».proof.Proof.Equal4
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal
public import proofs.«01_k».proof.Proof.AdamWeights
public import proofs.«01_k».proof.Proof.AdamRows
public import proofs.«01_k».proof.Proof.GateFwd
public import proofs.«01_k».proof.Proof.Norm
public import proofs.«01_k».proof.Proof.Ada
public import proofs.«01_k».proof.Proof.FfnFwd
public import proofs.«01_k».proof.Proof.Loss
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel38.Gen.facts, Cert.Kernel38Ideal.Gen.facts, Cert.Reference38Ideal.Gen.facts,
  fun m ρ _ => Cert.Kernel.Gen.frame m ρ, fun m ρ _ => Cert.KernelIdeal.Gen.frame m ρ, Cert.GateEqual.frame_ref,
  fun m ρ _ => Cert.Kernel2.Gen.frame m ρ, fun m ρ _ => Cert.Kernel2Ideal.Gen.frame m ρ, Cert.ProductEqual.frame2,
  fun m ρ _ => Cert.Kernel3.Gen.frame m ρ, fun m ρ _ => Cert.Kernel3Ideal.Gen.frame m ρ, Cert.ProductEqual.frame3,
  fun m ρ _ => Cert.Kernel4.Gen.frame m ρ, fun m ρ _ => Cert.Kernel4Ideal.Gen.frame m ρ, Cert.ProductEqual.frame4,
  fun m ρ _ => Cert.Kernel5.Gen.frame m ρ, fun m ρ _ => Cert.Kernel5Ideal.Gen.frame m ρ, Cert.ProductEqual.frame5,
  fun m ρ _ => Cert.Kernel6.Gen.frame m ρ, fun m ρ _ => Cert.Kernel6Ideal.Gen.frame m ρ, Cert.ProductEqual.frame6,
  fun m ρ _ => Cert.Kernel7.Gen.frame m ρ, fun m ρ _ => Cert.Kernel7Ideal.Gen.frame m ρ, Cert.ProductEqual.frame7,
  fun m ρ _ => Cert.Kernel8.Gen.frame m ρ, fun m ρ _ => Cert.Kernel8Ideal.Gen.frame m ρ, Cert.ProductEqual.frame8,
  fun m ρ _ => Cert.Kernel9.Gen.frame m ρ, fun m ρ _ => Cert.Kernel9Ideal.Gen.frame m ρ, Cert.ProductEqual.frame9,
  fun m ρ _ => Cert.Kernel10.Gen.frame m ρ, fun m ρ _ => Cert.Kernel10Ideal.Gen.frame m ρ, Cert.ProductEqual.frame10,
  fun m ρ _ => Cert.Kernel11.Gen.frame m ρ, fun m ρ _ => Cert.Kernel11Ideal.Gen.frame m ρ, Cert.ProductEqual.frame11,
  fun m ρ _ => Cert.Kernel12.Gen.frame m ρ, fun m ρ _ => Cert.Kernel12Ideal.Gen.frame m ρ, Cert.ProductEqual.frame12,
  fun m ρ _ => Cert.Kernel13.Gen.frame m ρ, fun m ρ _ => Cert.Kernel13Ideal.Gen.frame m ρ, Cert.ProductEqual.frame13,
  fun m ρ _ => Cert.Kernel14.Gen.frame m ρ, fun m ρ _ => Cert.Kernel14Ideal.Gen.frame m ρ, Cert.ProductEqual.frame14,
  fun m ρ _ => Cert.Kernel15.Gen.frame m ρ, fun m ρ _ => Cert.Kernel15Ideal.Gen.frame m ρ, Cert.ProductEqual.frame15,
  fun m ρ _ => Cert.Kernel16.Gen.frame m ρ, fun m ρ _ => Cert.Kernel16Ideal.Gen.frame m ρ, Cert.ProductEqual.frame16,
  fun m ρ _ => Cert.Kernel17.Gen.frame m ρ, fun m ρ _ => Cert.Kernel17Ideal.Gen.frame m ρ, Cert.ProductEqual.frame17,
  fun m ρ _ => Cert.Kernel18.Gen.frame m ρ, fun m ρ _ => Cert.Kernel18Ideal.Gen.frame m ρ, Cert.AdamEqual.frame18,
  fun m ρ _ => Cert.Kernel19.Gen.frame m ρ, fun m ρ _ => Cert.Kernel19Ideal.Gen.frame m ρ, Cert.AdamEqual.frame19,
  fun m ρ _ => Cert.Kernel20.Gen.frame m ρ, fun m ρ _ => Cert.Kernel20Ideal.Gen.frame m ρ, Cert.AdamEqual.frame20,
  fun m ρ _ => Cert.Kernel21.Gen.frame m ρ, fun m ρ _ => Cert.Kernel21Ideal.Gen.frame m ρ, Cert.AdamEqual.frame21,
  fun m ρ _ => Cert.Kernel22.Gen.frame m ρ, fun m ρ _ => Cert.Kernel22Ideal.Gen.frame m ρ, Cert.AdamEqual.frame22,
  fun m ρ _ => Cert.Kernel23.Gen.frame m ρ, fun m ρ _ => Cert.Kernel23Ideal.Gen.frame m ρ, Cert.AdamEqual.frame23,
  fun m ρ _ => Cert.Kernel24.Gen.frame m ρ, fun m ρ _ => Cert.Kernel24Ideal.Gen.frame m ρ, Cert.AdamEqual.frame24,
  fun m ρ _ => Cert.Kernel25.Gen.frame m ρ, fun m ρ _ => Cert.Kernel25Ideal.Gen.frame m ρ, Cert.AdamEqual.frame25,
  fun m ρ _ => Cert.Kernel26.Gen.frame m ρ, fun m ρ _ => Cert.Kernel26Ideal.Gen.frame m ρ, Cert.AdamEqual.frame26,
  fun m ρ _ => Cert.Kernel27.Gen.frame m ρ, fun m ρ _ => Cert.Kernel27Ideal.Gen.frame m ρ, Cert.AdamEqual.frame27,
  fun m ρ _ => Cert.Kernel28.Gen.frame m ρ, fun m ρ _ => Cert.Kernel28Ideal.Gen.frame m ρ, Cert.AdamEqual.frame28,
  fun m ρ _ => Cert.Kernel29.Gen.frame m ρ, fun m ρ _ => Cert.Kernel29Ideal.Gen.frame m ρ, Cert.AdamEqual.frame29,
  fun m ρ _ => Cert.Kernel30.Gen.frame m ρ, fun m ρ _ => Cert.Kernel30Ideal.Gen.frame m ρ, Cert.GateForward.frame30,
  fun m ρ _ => Cert.Kernel31.Gen.frame m ρ, fun m ρ _ => Cert.Kernel31Ideal.Gen.frame m ρ, Cert.NormEqual.frame31,
  fun m ρ _ => Cert.Kernel32.Gen.frame m ρ, fun m ρ _ => Cert.Kernel32Ideal.Gen.frame m ρ, Cert.NormEqual.frame32,
  fun m ρ _ => Cert.Kernel33.Gen.frame m ρ, fun m ρ _ => Cert.Kernel33Ideal.Gen.frame m ρ, Cert.AdaEqual.frame33,
  fun m ρ _ => Cert.Kernel34.Gen.frame m ρ, fun m ρ _ => Cert.Kernel34Ideal.Gen.frame m ρ, Cert.AdaEqual.frame34,
  fun m ρ _ => Cert.Kernel35.Gen.frame m ρ, fun m ρ _ => Cert.Kernel35Ideal.Gen.frame m ρ, Cert.AdaEqual.frame35,
  fun m ρ _ => Cert.Kernel36.Gen.frame m ρ, fun m ρ _ => Cert.Kernel36Ideal.Gen.frame m ρ, Cert.FfnForward.frame36,
  fun m ρ _ => Cert.Kernel38.Gen.frame m ρ, fun m ρ _ => Cert.Kernel38Ideal.Gen.frame m ρ, Cert.LossEqual.frame38,
  trivial, Cert.GateEqual.algebraic,
  trivial, Cert.ProductEqual.algebraic2,
  trivial, Cert.ProductEqual.algebraic3,
  trivial, Cert.ProductEqual.algebraic4,
  trivial, Cert.ProductEqual.algebraic5,
  trivial, Cert.ProductEqual.algebraic6,
  trivial, Cert.ProductEqual.algebraic7,
  trivial, Cert.ProductEqual.algebraic8,
  trivial, Cert.ProductEqual.algebraic9,
  trivial, Cert.ProductEqual.algebraic10,
  trivial, Cert.ProductEqual.algebraic11,
  trivial, Cert.ProductEqual.algebraic12,
  trivial, Cert.ProductEqual.algebraic13,
  trivial, Cert.ProductEqual.algebraic14,
  trivial, Cert.ProductEqual.algebraic15,
  trivial, Cert.ProductEqual.algebraic16,
  trivial, Cert.ProductEqual.algebraic17,
  trivial, Cert.AdamEqual.algebraic18,
  trivial, Cert.AdamEqual.algebraic19,
  trivial, Cert.AdamEqual.algebraic20,
  trivial, Cert.AdamEqual.algebraic21,
  trivial, Cert.AdamEqual.algebraic22,
  trivial, Cert.AdamEqual.algebraic23,
  trivial, Cert.AdamEqual.algebraic24,
  trivial, Cert.AdamEqual.algebraic25,
  trivial, Cert.AdamEqual.algebraic26,
  trivial, Cert.AdamEqual.algebraic27,
  trivial, Cert.AdamEqual.algebraic28,
  trivial, Cert.AdamEqual.algebraic29,
  trivial, Cert.GateForward.algebraic30,
  trivial, Cert.NormEqual.algebraic31,
  trivial, Cert.NormEqual.algebraic32,
  trivial, Cert.AdaEqual.algebraic33,
  trivial, Cert.AdaEqual.algebraic34,
  trivial, Cert.AdaEqual.algebraic35,
  trivial, Cert.FfnForward.algebraic36,
  trivial, Cert.LossEqual.algebraic38⟩

end Cert.Proof

end
